-- ==== Defs.lean ====
def Pre_Swa (m : (ℓ : Loc Cert.Swa.nD Cert.Swa.τ Cert.Swa.sig) → Buf (Elt Bits) ℓ) : Prop :=
  True

def Pre_SwaIdeal (m : (ℓ : Loc Cert.SwaIdeal.nD Cert.SwaIdeal.τ Cert.SwaIdeal.sig) → Buf (Elt Ideal) ℓ) : Prop :=
  True

def Pre_SwaIdeal_finite_scores [hPre_finite_scores : Cert.Pre_finite_scores.Facts] (m : (ℓ : Loc Cert.SwaIdeal.nD Cert.SwaIdeal.τ Cert.SwaIdeal.sig) → Buf (Elt Ideal) ℓ) : Prop :=
  ∀ c : Dev Cert.SwaIdeal.nD,
    (Cert.Pre_finite_scores.fn (F := Ideal) (m ((c.tc : Thread Cert.SwaIdeal.nD Cert.SwaIdeal.τ).loc Cert.SwaIdeal.main_arg0)) (m ((c.tc : Thread Cert.SwaIdeal.nD Cert.SwaIdeal.τ).loc Cert.SwaIdeal.main_arg1)) (m ((c.tc : Thread Cert.SwaIdeal.nD Cert.SwaIdeal.τ).loc Cert.SwaIdeal.main_arg2)) (m ((c.tc : Thread Cert.SwaIdeal.nD Cert.SwaIdeal.τ).loc Cert.SwaIdeal.main_arg3)) (m ((c.tc : Thread Cert.SwaIdeal.nD Cert.SwaIdeal.τ).loc Cert.SwaIdeal.main_arg4)) (m ((c.tc : Thread Cert.SwaIdeal.nD Cert.SwaIdeal.τ).loc Cert.SwaIdeal.main_arg5)) (m ((c.tc : Thread Cert.SwaIdeal.nD Cert.SwaIdeal.τ).loc Cert.SwaIdeal.main_arg6)) (m ((c.tc : Thread Cert.SwaIdeal.nD Cert.SwaIdeal.τ).loc Cert.SwaIdeal.main_arg7)) (m ((c.tc : Thread Cert.SwaIdeal.nD Cert.SwaIdeal.τ).loc Cert.SwaIdeal.main_arg8))) = (fun _ => 1#1)

def Pre_SwaRefIdeal (m : (ℓ : Loc Cert.SwaRefIdeal.nD Cert.SwaRefIdeal.τ Cert.SwaRefIdeal.sig) → Buf (Elt Ideal) ℓ) : Prop :=
  True

def Pre_SwaRefIdeal_finite_scores [hPre_finite_scores : Cert.Pre_finite_scores.Facts] (m : (ℓ : Loc Cert.SwaRefIdeal.nD Cert.SwaRefIdeal.τ Cert.SwaRefIdeal.sig) → Buf (Elt Ideal) ℓ) : Prop :=
  ∀ c : Dev Cert.SwaRefIdeal.nD,
    (Cert.Pre_finite_scores.fn (F := Ideal) (m ((c.tc : Thread Cert.SwaRefIdeal.nD Cert.SwaRefIdeal.τ).loc Cert.SwaRefIdeal.main_arg0)) (m ((c.tc : Thread Cert.SwaRefIdeal.nD Cert.SwaRefIdeal.τ).loc Cert.SwaRefIdeal.main_arg1)) (m ((c.tc : Thread Cert.SwaRefIdeal.nD Cert.SwaRefIdeal.τ).loc Cert.SwaRefIdeal.main_arg2)) (m ((c.tc : Thread Cert.SwaRefIdeal.nD Cert.SwaRefIdeal.τ).loc Cert.SwaRefIdeal.main_arg3)) (m ((c.tc : Thread Cert.SwaRefIdeal.nD Cert.SwaRefIdeal.τ).loc Cert.SwaRefIdeal.main_arg4)) (m ((c.tc : Thread Cert.SwaRefIdeal.nD Cert.SwaRefIdeal.τ).loc Cert.SwaRefIdeal.main_arg5)) (m ((c.tc : Thread Cert.SwaRefIdeal.nD Cert.SwaRefIdeal.τ).loc Cert.SwaRefIdeal.main_arg6)) (m ((c.tc : Thread Cert.SwaRefIdeal.nD Cert.SwaRefIdeal.τ).loc Cert.SwaRefIdeal.main_arg7)) (m ((c.tc : Thread Cert.SwaRefIdeal.nD Cert.SwaRefIdeal.τ).loc Cert.SwaRefIdeal.main_arg8))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_HgIn (m : (ℓ : Loc Cert.HgIn.nD Cert.HgIn.τ Cert.HgIn.sig) → Buf (Elt Bits) ℓ) : Prop :=
  True

def Pre_HgInIdeal (m : (ℓ : Loc Cert.HgInIdeal.nD Cert.HgInIdeal.τ Cert.HgInIdeal.sig) → Buf (Elt Ideal) ℓ) : Prop :=
  True

def Pre_HgInRefIdeal (m : (ℓ : Loc Cert.HgInRefIdeal.nD Cert.HgInRefIdeal.τ Cert.HgInRefIdeal.sig) → Buf (Elt Ideal) ℓ) : Prop :=
  True

def Pre_GdIn (m : (ℓ : Loc Cert.GdIn.nD Cert.GdIn.τ Cert.GdIn.sig) → Buf (Elt Bits) ℓ) : Prop :=
  True

def Pre_GdInIdeal (m : (ℓ : Loc Cert.GdInIdeal.nD Cert.GdInIdeal.τ Cert.GdInIdeal.sig) → Buf (Elt Ideal) ℓ) : Prop :=
  True

def Pre_GdInRefIdeal (m : (ℓ : Loc Cert.GdInRefIdeal.nD Cert.GdInRefIdeal.τ Cert.GdInRefIdeal.sig) → Buf (Elt Ideal) ℓ) : Prop :=
  True

def Pre_HyIn (m : (ℓ : Loc Cert.HyIn.nD Cert.HyIn.τ Cert.HyIn.sig) → Buf (Elt Bits) ℓ) : Prop :=
  True

def Pre_HyInIdeal (m : (ℓ : Loc Cert.HyInIdeal.nD Cert.HyInIdeal.τ Cert.HyInIdeal.sig) → Buf (Elt Ideal) ℓ) : Prop :=
  True

def Pre_HyInRefIdeal (m : (ℓ : Loc Cert.HyInRefIdeal.nD Cert.HyInRefIdeal.τ Cert.HyInRefIdeal.sig) → Buf (Elt Ideal) ℓ) : Prop :=
  True

def Pre_SwIn (m : (ℓ : Loc Cert.SwIn.nD Cert.SwIn.τ Cert.SwIn.sig) → Buf (Elt Bits) ℓ) : Prop :=
  True

def Pre_SwInIdeal (m : (ℓ : Loc Cert.SwInIdeal.nD Cert.SwInIdeal.τ Cert.SwInIdeal.sig) → Buf (Elt Ideal) ℓ) : Prop :=
  True

def Pre_SwInRefIdeal (m : (ℓ : Loc Cert.SwInRefIdeal.nD Cert.SwInRefIdeal.τ Cert.SwInRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_Mod (m : (ℓ : Loc Cert.Mod.nD Cert.Mod.τ Cert.Mod.sig) → Buf (Elt Bits) ℓ) : Prop :=
  True

def Pre_ModIdeal (m : (ℓ : Loc Cert.ModIdeal.nD Cert.ModIdeal.τ Cert.ModIdeal.sig) → Buf (Elt Ideal) ℓ) : Prop :=
  True

def Pre_ModRefIdeal (m : (ℓ : Loc Cert.ModRefIdeal.nD Cert.ModRefIdeal.τ Cert.ModRefIdeal.sig) → Buf (Elt Ideal) ℓ) : Prop :=
  True

def quiescent_Swa [hSwa : Cert.Swa.Facts] : Prop :=
  ∀ (m : (ℓ : Loc Cert.Swa.nD Cert.Swa.τ Cert.Swa.sig) → Buf (Elt Bits) ℓ) (g : Dev Cert.Swa.nD → PrngReg), Pre_Swa m →
    θ_run (Cert.Swa.defs (F := Bits)) (onTc (τ := Cert.Swa.τ) (Cert.Swa.main (F := Bits))) ⟨m, fun _ => 0, g⟩ (fun r => (∀ c : Dev Cert.Swa.nD,
      r.2.mem ((c.tc : Thread Cert.Swa.nD Cert.Swa.τ).loc Cert.Swa.main_arg0) = m ((c.tc : Thread Cert.Swa.nD Cert.Swa.τ).loc Cert.Swa.main_arg0)
      ∧ r.2.mem ((c.tc : Thread Cert.Swa.nD Cert.Swa.τ).loc Cert.Swa.main_arg1) = m ((c.tc : Thread Cert.Swa.nD Cert.Swa.τ).loc Cert.Swa.main_arg1)
      ∧ r.2.mem ((c.tc : Thread Cert.Swa.nD Cert.Swa.τ).loc Cert.Swa.main_arg2) = m ((c.tc : Thread Cert.Swa.nD Cert.Swa.τ).loc Cert.Swa.main_arg2)
      ∧ r.2.mem ((c.tc : Thread Cert.Swa.nD Cert.Swa.τ).loc Cert.Swa.main_arg3) = m ((c.tc : Thread Cert.Swa.nD Cert.Swa.τ).loc Cert.Swa.main_arg3)
      ∧ r.2.mem ((c.tc : Thread Cert.Swa.nD Cert.Swa.τ).loc Cert.Swa.main_arg4) = m ((c.tc : Thread Cert.Swa.nD Cert.Swa.τ).loc Cert.Swa.main_arg4)
      ∧ r.2.mem ((c.tc : Thread Cert.Swa.nD Cert.Swa.τ).loc Cert.Swa.main_arg5) = m ((c.tc : Thread Cert.Swa.nD Cert.Swa.τ).loc Cert.Swa.main_arg5)
      ∧ r.2.mem ((c.tc : Thread Cert.Swa.nD Cert.Swa.τ).loc Cert.Swa.main_arg6) = m ((c.tc : Thread Cert.Swa.nD Cert.Swa.τ).loc Cert.Swa.main_arg6)
      ∧ r.2.mem ((c.tc : Thread Cert.Swa.nD Cert.Swa.τ).loc Cert.Swa.main_arg7) = m ((c.tc : Thread Cert.Swa.nD Cert.Swa.τ).loc Cert.Swa.main_arg7)
      ∧ r.2.mem ((c.tc : Thread Cert.Swa.nD Cert.Swa.τ).loc Cert.Swa.main_arg8) = m ((c.tc : Thread Cert.Swa.nD Cert.Swa.τ).loc Cert.Swa.main_arg8))
      ∧ r.2.sem = fun _ => 0)

def quiescent_SwaIdeal [hSwaIdeal : Cert.SwaIdeal.Facts] : Prop :=
  ∀ (m : (ℓ : Loc Cert.SwaIdeal.nD Cert.SwaIdeal.τ Cert.SwaIdeal.sig) → Buf (Elt Ideal) ℓ) (g : Dev Cert.SwaIdeal.nD → PrngReg), Pre_SwaIdeal m →
    θ_run (Cert.SwaIdeal.defs (F := Ideal)) (onTc (τ := Cert.SwaIdeal.τ) (Cert.SwaIdeal.main (F := Ideal))) ⟨m, fun _ => 0, g⟩ (fun r => (∀ c : Dev Cert.SwaIdeal.nD,
      r.2.mem ((c.tc : Thread Cert.SwaIdeal.nD Cert.SwaIdeal.τ).loc Cert.SwaIdeal.main_arg0) = m ((c.tc : Thread Cert.SwaIdeal.nD Cert.SwaIdeal.τ).loc Cert.SwaIdeal.main_arg0)
      ∧ r.2.mem ((c.tc : Thread Cert.SwaIdeal.nD Cert.SwaIdeal.τ).loc Cert.SwaIdeal.main_arg1) = m ((c.tc : Thread Cert.SwaIdeal.nD Cert.SwaIdeal.τ).loc Cert.SwaIdeal.main_arg1)
      ∧ r.2.mem ((c.tc : Thread Cert.SwaIdeal.nD Cert.SwaIdeal.τ).loc Cert.SwaIdeal.main_arg2) = m ((c.tc : Thread Cert.SwaIdeal.nD Cert.SwaIdeal.τ).loc Cert.SwaIdeal.main_arg2)
      ∧ r.2.mem ((c.tc : Thread Cert.SwaIdeal.nD Cert.SwaIdeal.τ).loc Cert.SwaIdeal.main_arg3) = m ((c.tc : Thread Cert.SwaIdeal.nD Cert.SwaIdeal.τ).loc Cert.SwaIdeal.main_arg3)
      ∧ r.2.mem ((c.tc : Thread Cert.SwaIdeal.nD Cert.SwaIdeal.τ).loc Cert.SwaIdeal.main_arg4) = m ((c.tc : Thread Cert.SwaIdeal.nD Cert.SwaIdeal.τ).loc Cert.SwaIdeal.main_arg4)
      ∧ r.2.mem ((c.tc : Thread Cert.SwaIdeal.nD Cert.SwaIdeal.τ).loc Cert.SwaIdeal.main_arg5) = m ((c.tc : Thread Cert.SwaIdeal.nD Cert.SwaIdeal.τ).loc Cert.SwaIdeal.main_arg5)
      ∧ r.2.mem ((c.tc : Thread Cert.SwaIdeal.nD Cert.SwaIdeal.τ).loc Cert.SwaIdeal.main_arg6) = m ((c.tc : Thread Cert.SwaIdeal.nD Cert.SwaIdeal.τ).loc Cert.SwaIdeal.main_arg6)
      ∧ r.2.mem ((c.tc : Thread Cert.SwaIdeal.nD Cert.SwaIdeal.τ).loc Cert.SwaIdeal.main_arg7) = m ((c.tc : Thread Cert.SwaIdeal.nD Cert.SwaIdeal.τ).loc Cert.SwaIdeal.main_arg7)
      ∧ r.2.mem ((c.tc : Thread Cert.SwaIdeal.nD Cert.SwaIdeal.τ).loc Cert.SwaIdeal.main_arg8) = m ((c.tc : Thread Cert.SwaIdeal.nD Cert.SwaIdeal.τ).loc Cert.SwaIdeal.main_arg8))
      ∧ r.2.sem = fun _ => 0)

def quiescent_SwaIdeal_pre_finite_scores [hSwaIdeal : Cert.SwaIdeal.Facts] [hPre_finite_scores : Cert.Pre_finite_scores.Facts] : Prop :=
  ∀ (m : (ℓ : Loc Cert.SwaIdeal.nD Cert.SwaIdeal.τ Cert.SwaIdeal.sig) → Buf (Elt Ideal) ℓ) (g : Dev Cert.SwaIdeal.nD → PrngReg), Pre_SwaIdeal_finite_scores m →
    θ_run (Cert.SwaIdeal.defs (F := Ideal)) (onTc (τ := Cert.SwaIdeal.τ) (Cert.SwaIdeal.main (F := Ideal))) ⟨m, fun _ => 0, g⟩ (fun r => (∀ c : Dev Cert.SwaIdeal.nD,
      r.2.mem ((c.tc : Thread Cert.SwaIdeal.nD Cert.SwaIdeal.τ).loc Cert.SwaIdeal.main_arg0) = m ((c.tc : Thread Cert.SwaIdeal.nD Cert.SwaIdeal.τ).loc Cert.SwaIdeal.main_arg0)
      ∧ r.2.mem ((c.tc : Thread Cert.SwaIdeal.nD Cert.SwaIdeal.τ).loc Cert.SwaIdeal.main_arg1) = m ((c.tc : Thread Cert.SwaIdeal.nD Cert.SwaIdeal.τ).loc Cert.SwaIdeal.main_arg1)
      ∧ r.2.mem ((c.tc : Thread Cert.SwaIdeal.nD Cert.SwaIdeal.τ).loc Cert.SwaIdeal.main_arg2) = m ((c.tc : Thread Cert.SwaIdeal.nD Cert.SwaIdeal.τ).loc Cert.SwaIdeal.main_arg2)
      ∧ r.2.mem ((c.tc : Thread Cert.SwaIdeal.nD Cert.SwaIdeal.τ).loc Cert.SwaIdeal.main_arg3) = m ((c.tc : Thread Cert.SwaIdeal.nD Cert.SwaIdeal.τ).loc Cert.SwaIdeal.main_arg3)
      ∧ r.2.mem ((c.tc : Thread Cert.SwaIdeal.nD Cert.SwaIdeal.τ).loc Cert.SwaIdeal.main_arg4) = m ((c.tc : Thread Cert.SwaIdeal.nD Cert.SwaIdeal.τ).loc Cert.SwaIdeal.main_arg4)
      ∧ r.2.mem ((c.tc : Thread Cert.SwaIdeal.nD Cert.SwaIdeal.τ).loc Cert.SwaIdeal.main_arg5) = m ((c.tc : Thread Cert.SwaIdeal.nD Cert.SwaIdeal.τ).loc Cert.SwaIdeal.main_arg5)
      ∧ r.2.mem ((c.tc : Thread Cert.SwaIdeal.nD Cert.SwaIdeal.τ).loc Cert.SwaIdeal.main_arg6) = m ((c.tc : Thread Cert.SwaIdeal.nD Cert.SwaIdeal.τ).loc Cert.SwaIdeal.main_arg6)
      ∧ r.2.mem ((c.tc : Thread Cert.SwaIdeal.nD Cert.SwaIdeal.τ).loc Cert.SwaIdeal.main_arg7) = m ((c.tc : Thread Cert.SwaIdeal.nD Cert.SwaIdeal.τ).loc Cert.SwaIdeal.main_arg7)
      ∧ r.2.mem ((c.tc : Thread Cert.SwaIdeal.nD Cert.SwaIdeal.τ).loc Cert.SwaIdeal.main_arg8) = m ((c.tc : Thread Cert.SwaIdeal.nD Cert.SwaIdeal.τ).loc Cert.SwaIdeal.main_arg8))
      ∧ r.2.sem = fun _ => 0)

def quiescent_SwaRefIdeal [hSwaRefIdeal : Cert.SwaRefIdeal.Facts] : Prop :=
  ∀ (m : (ℓ : Loc Cert.SwaRefIdeal.nD Cert.SwaRefIdeal.τ Cert.SwaRefIdeal.sig) → Buf (Elt Ideal) ℓ) (g : Dev Cert.SwaRefIdeal.nD → PrngReg), Pre_SwaRefIdeal m →
    θ_run (Cert.SwaRefIdeal.defs (F := Ideal)) (onTc (τ := Cert.SwaRefIdeal.τ) (Cert.SwaRefIdeal.main (F := Ideal))) ⟨m, fun _ => 0, g⟩ (fun r => (∀ c : Dev Cert.SwaRefIdeal.nD,
      r.2.mem ((c.tc : Thread Cert.SwaRefIdeal.nD Cert.SwaRefIdeal.τ).loc Cert.SwaRefIdeal.main_arg0) = m ((c.tc : Thread Cert.SwaRefIdeal.nD Cert.SwaRefIdeal.τ).loc Cert.SwaRefIdeal.main_arg0)
      ∧ r.2.mem ((c.tc : Thread Cert.SwaRefIdeal.nD Cert.SwaRefIdeal.τ).loc Cert.SwaRefIdeal.main_arg1) = m ((c.tc : Thread Cert.SwaRefIdeal.nD Cert.SwaRefIdeal.τ).loc Cert.SwaRefIdeal.main_arg1)
      ∧ r.2.mem ((c.tc : Thread Cert.SwaRefIdeal.nD Cert.SwaRefIdeal.τ).loc Cert.SwaRefIdeal.main_arg2) = m ((c.tc : Thread Cert.SwaRefIdeal.nD Cert.SwaRefIdeal.τ).loc Cert.SwaRefIdeal.main_arg2)
      ∧ r.2.mem ((c.tc : Thread Cert.SwaRefIdeal.nD Cert.SwaRefIdeal.τ).loc Cert.SwaRefIdeal.main_arg3) = m ((c.tc : Thread Cert.SwaRefIdeal.nD Cert.SwaRefIdeal.τ).loc Cert.SwaRefIdeal.main_arg3)
      ∧ r.2.mem ((c.tc : Thread Cert.SwaRefIdeal.nD Cert.SwaRefIdeal.τ).loc Cert.SwaRefIdeal.main_arg4) = m ((c.tc : Thread Cert.SwaRefIdeal.nD Cert.SwaRefIdeal.τ).loc Cert.SwaRefIdeal.main_arg4)
      ∧ r.2.mem ((c.tc : Thread Cert.SwaRefIdeal.nD Cert.SwaRefIdeal.τ).loc Cert.SwaRefIdeal.main_arg5) = m ((c.tc : Thread Cert.SwaRefIdeal.nD Cert.SwaRefIdeal.τ).loc Cert.SwaRefIdeal.main_arg5)
      ∧ r.2.mem ((c.tc : Thread Cert.SwaRefIdeal.nD Cert.SwaRefIdeal.τ).loc Cert.SwaRefIdeal.main_arg6) = m ((c.tc : Thread Cert.SwaRefIdeal.nD Cert.SwaRefIdeal.τ).loc Cert.SwaRefIdeal.main_arg6)
      ∧ r.2.mem ((c.tc : Thread Cert.SwaRefIdeal.nD Cert.SwaRefIdeal.τ).loc Cert.SwaRefIdeal.main_arg7) = m ((c.tc : Thread Cert.SwaRefIdeal.nD Cert.SwaRefIdeal.τ).loc Cert.SwaRefIdeal.main_arg7)
      ∧ r.2.mem ((c.tc : Thread Cert.SwaRefIdeal.nD Cert.SwaRefIdeal.τ).loc Cert.SwaRefIdeal.main_arg8) = m ((c.tc : Thread Cert.SwaRefIdeal.nD Cert.SwaRefIdeal.τ).loc Cert.SwaRefIdeal.main_arg8))
      ∧ r.2.sem = fun _ => 0)

def quiescent_SwaRefIdeal_pre_finite_scores [hSwaRefIdeal : Cert.SwaRefIdeal.Facts] [hPre_finite_scores : Cert.Pre_finite_scores.Facts] : Prop :=
  ∀ (m : (ℓ : Loc Cert.SwaRefIdeal.nD Cert.SwaRefIdeal.τ Cert.SwaRefIdeal.sig) → Buf (Elt Ideal) ℓ) (g : Dev Cert.SwaRefIdeal.nD → PrngReg), Pre_SwaRefIdeal_finite_scores m →
    θ_run (Cert.SwaRefIdeal.defs (F := Ideal)) (onTc (τ := Cert.SwaRefIdeal.τ) (Cert.SwaRefIdeal.main (F := Ideal))) ⟨m, fun _ => 0, g⟩ (fun r => (∀ c : Dev Cert.SwaRefIdeal.nD,
      r.2.mem ((c.tc : Thread Cert.SwaRefIdeal.nD Cert.SwaRefIdeal.τ).loc Cert.SwaRefIdeal.main_arg0) = m ((c.tc : Thread Cert.SwaRefIdeal.nD Cert.SwaRefIdeal.τ).loc Cert.SwaRefIdeal.main_arg0)
      ∧ r.2.mem ((c.tc : Thread Cert.SwaRefIdeal.nD Cert.SwaRefIdeal.τ).loc Cert.SwaRefIdeal.main_arg1) = m ((c.tc : Thread Cert.SwaRefIdeal.nD Cert.SwaRefIdeal.τ).loc Cert.SwaRefIdeal.main_arg1)
      ∧ r.2.mem ((c.tc : Thread Cert.SwaRefIdeal.nD Cert.SwaRefIdeal.τ).loc Cert.SwaRefIdeal.main_arg2) = m ((c.tc : Thread Cert.SwaRefIdeal.nD Cert.SwaRefIdeal.τ).loc Cert.SwaRefIdeal.main_arg2)
      ∧ r.2.mem ((c.tc : Thread Cert.SwaRefIdeal.nD Cert.SwaRefIdeal.τ).loc Cert.SwaRefIdeal.main_arg3) = m ((c.tc : Thread Cert.SwaRefIdeal.nD Cert.SwaRefIdeal.τ).loc Cert.SwaRefIdeal.main_arg3)
      ∧ r.2.mem ((c.tc : Thread Cert.SwaRefIdeal.nD Cert.SwaRefIdeal.τ).loc Cert.SwaRefIdeal.main_arg4) = m ((c.tc : Thread Cert.SwaRefIdeal.nD Cert.SwaRefIdeal.τ).loc Cert.SwaRefIdeal.main_arg4)
      ∧ r.2.mem ((c.tc : Thread Cert.SwaRefIdeal.nD Cert.SwaRefIdeal.τ).loc Cert.SwaRefIdeal.main_arg5) = m ((c.tc : Thread Cert.SwaRefIdeal.nD Cert.SwaRefIdeal.τ).loc Cert.SwaRefIdeal.main_arg5)
      ∧ r.2.mem ((c.tc : Thread Cert.SwaRefIdeal.nD Cert.SwaRefIdeal.τ).loc Cert.SwaRefIdeal.main_arg6) = m ((c.tc : Thread Cert.SwaRefIdeal.nD Cert.SwaRefIdeal.τ).loc Cert.SwaRefIdeal.main_arg6)
      ∧ r.2.mem ((c.tc : Thread Cert.SwaRefIdeal.nD Cert.SwaRefIdeal.τ).loc Cert.SwaRefIdeal.main_arg7) = m ((c.tc : Thread Cert.SwaRefIdeal.nD Cert.SwaRefIdeal.τ).loc Cert.SwaRefIdeal.main_arg7)
      ∧ r.2.mem ((c.tc : Thread Cert.SwaRefIdeal.nD Cert.SwaRefIdeal.τ).loc Cert.SwaRefIdeal.main_arg8) = m ((c.tc : Thread Cert.SwaRefIdeal.nD Cert.SwaRefIdeal.τ).loc Cert.SwaRefIdeal.main_arg8))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4))
      ∧ r.2.sem = fun _ => 0)

def quiescent_HgIn [hHgIn : Cert.HgIn.Facts] : Prop :=
  ∀ (m : (ℓ : Loc Cert.HgIn.nD Cert.HgIn.τ Cert.HgIn.sig) → Buf (Elt Bits) ℓ) (g : Dev Cert.HgIn.nD → PrngReg), Pre_HgIn m →
    θ_run (Cert.HgIn.defs (F := Bits)) (onTc (τ := Cert.HgIn.τ) (Cert.HgIn.main (F := Bits))) ⟨m, fun _ => 0, g⟩ (fun r => (∀ c : Dev Cert.HgIn.nD,
      r.2.mem ((c.tc : Thread Cert.HgIn.nD Cert.HgIn.τ).loc Cert.HgIn.main_arg0) = m ((c.tc : Thread Cert.HgIn.nD Cert.HgIn.τ).loc Cert.HgIn.main_arg0)
      ∧ r.2.mem ((c.tc : Thread Cert.HgIn.nD Cert.HgIn.τ).loc Cert.HgIn.main_arg1) = m ((c.tc : Thread Cert.HgIn.nD Cert.HgIn.τ).loc Cert.HgIn.main_arg1)
      ∧ r.2.mem ((c.tc : Thread Cert.HgIn.nD Cert.HgIn.τ).loc Cert.HgIn.main_arg2) = m ((c.tc : Thread Cert.HgIn.nD Cert.HgIn.τ).loc Cert.HgIn.main_arg2)
      ∧ r.2.mem ((c.tc : Thread Cert.HgIn.nD Cert.HgIn.τ).loc Cert.HgIn.main_arg3) = m ((c.tc : Thread Cert.HgIn.nD Cert.HgIn.τ).loc Cert.HgIn.main_arg3)
      ∧ r.2.mem ((c.tc : Thread Cert.HgIn.nD Cert.HgIn.τ).loc Cert.HgIn.main_arg4) = m ((c.tc : Thread Cert.HgIn.nD Cert.HgIn.τ).loc Cert.HgIn.main_arg4)
      ∧ r.2.mem ((c.tc : Thread Cert.HgIn.nD Cert.HgIn.τ).loc Cert.HgIn.main_arg5) = m ((c.tc : Thread Cert.HgIn.nD Cert.HgIn.τ).loc Cert.HgIn.main_arg5))
      ∧ r.2.sem = fun _ => 0)

def quiescent_HgInIdeal [hHgInIdeal : Cert.HgInIdeal.Facts] : Prop :=
  ∀ (m : (ℓ : Loc Cert.HgInIdeal.nD Cert.HgInIdeal.τ Cert.HgInIdeal.sig) → Buf (Elt Ideal) ℓ) (g : Dev Cert.HgInIdeal.nD → PrngReg), Pre_HgInIdeal m →
    θ_run (Cert.HgInIdeal.defs (F := Ideal)) (onTc (τ := Cert.HgInIdeal.τ) (Cert.HgInIdeal.main (F := Ideal))) ⟨m, fun _ => 0, g⟩ (fun r => (∀ c : Dev Cert.HgInIdeal.nD,
      r.2.mem ((c.tc : Thread Cert.HgInIdeal.nD Cert.HgInIdeal.τ).loc Cert.HgInIdeal.main_arg0) = m ((c.tc : Thread Cert.HgInIdeal.nD Cert.HgInIdeal.τ).loc Cert.HgInIdeal.main_arg0)
      ∧ r.2.mem ((c.tc : Thread Cert.HgInIdeal.nD Cert.HgInIdeal.τ).loc Cert.HgInIdeal.main_arg1) = m ((c.tc : Thread Cert.HgInIdeal.nD Cert.HgInIdeal.τ).loc Cert.HgInIdeal.main_arg1)
      ∧ r.2.mem ((c.tc : Thread Cert.HgInIdeal.nD Cert.HgInIdeal.τ).loc Cert.HgInIdeal.main_arg2) = m ((c.tc : Thread Cert.HgInIdeal.nD Cert.HgInIdeal.τ).loc Cert.HgInIdeal.main_arg2)
      ∧ r.2.mem ((c.tc : Thread Cert.HgInIdeal.nD Cert.HgInIdeal.τ).loc Cert.HgInIdeal.main_arg3) = m ((c.tc : Thread Cert.HgInIdeal.nD Cert.HgInIdeal.τ).loc Cert.HgInIdeal.main_arg3)
      ∧ r.2.mem ((c.tc : Thread Cert.HgInIdeal.nD Cert.HgInIdeal.τ).loc Cert.HgInIdeal.main_arg4) = m ((c.tc : Thread Cert.HgInIdeal.nD Cert.HgInIdeal.τ).loc Cert.HgInIdeal.main_arg4)
      ∧ r.2.mem ((c.tc : Thread Cert.HgInIdeal.nD Cert.HgInIdeal.τ).loc Cert.HgInIdeal.main_arg5) = m ((c.tc : Thread Cert.HgInIdeal.nD Cert.HgInIdeal.τ).loc Cert.HgInIdeal.main_arg5))
      ∧ r.2.sem = fun _ => 0)

def quiescent_HgInRefIdeal [hHgInRefIdeal : Cert.HgInRefIdeal.Facts] : Prop :=
  ∀ (m : (ℓ : Loc Cert.HgInRefIdeal.nD Cert.HgInRefIdeal.τ Cert.HgInRefIdeal.sig) → Buf (Elt Ideal) ℓ) (g : Dev Cert.HgInRefIdeal.nD → PrngReg), Pre_HgInRefIdeal m →
    θ_run (Cert.HgInRefIdeal.defs (F := Ideal)) (onTc (τ := Cert.HgInRefIdeal.τ) (Cert.HgInRefIdeal.main (F := Ideal))) ⟨m, fun _ => 0, g⟩ (fun r => (∀ c : Dev Cert.HgInRefIdeal.nD,
      r.2.mem ((c.tc : Thread Cert.HgInRefIdeal.nD Cert.HgInRefIdeal.τ).loc Cert.HgInRefIdeal.main_arg0) = m ((c.tc : Thread Cert.HgInRefIdeal.nD Cert.HgInRefIdeal.τ).loc Cert.HgInRefIdeal.main_arg0)
      ∧ r.2.mem ((c.tc : Thread Cert.HgInRefIdeal.nD Cert.HgInRefIdeal.τ).loc Cert.HgInRefIdeal.main_arg1) = m ((c.tc : Thread Cert.HgInRefIdeal.nD Cert.HgInRefIdeal.τ).loc Cert.HgInRefIdeal.main_arg1)
      ∧ r.2.mem ((c.tc : Thread Cert.HgInRefIdeal.nD Cert.HgInRefIdeal.τ).loc Cert.HgInRefIdeal.main_arg2) = m ((c.tc : Thread Cert.HgInRefIdeal.nD Cert.HgInRefIdeal.τ).loc Cert.HgInRefIdeal.main_arg2)
      ∧ r.2.mem ((c.tc : Thread Cert.HgInRefIdeal.nD Cert.HgInRefIdeal.τ).loc Cert.HgInRefIdeal.main_arg3) = m ((c.tc : Thread Cert.HgInRefIdeal.nD Cert.HgInRefIdeal.τ).loc Cert.HgInRefIdeal.main_arg3)
      ∧ r.2.mem ((c.tc : Thread Cert.HgInRefIdeal.nD Cert.HgInRefIdeal.τ).loc Cert.HgInRefIdeal.main_arg4) = m ((c.tc : Thread Cert.HgInRefIdeal.nD Cert.HgInRefIdeal.τ).loc Cert.HgInRefIdeal.main_arg4)
      ∧ r.2.mem ((c.tc : Thread Cert.HgInRefIdeal.nD Cert.HgInRefIdeal.τ).loc Cert.HgInRefIdeal.main_arg5) = m ((c.tc : Thread Cert.HgInRefIdeal.nD Cert.HgInRefIdeal.τ).loc Cert.HgInRefIdeal.main_arg5))
      ∧ r.2.sem = fun _ => 0)

def quiescent_GdIn [hGdIn : Cert.GdIn.Facts] : Prop :=
  ∀ (m : (ℓ : Loc Cert.GdIn.nD Cert.GdIn.τ Cert.GdIn.sig) → Buf (Elt Bits) ℓ) (g : Dev Cert.GdIn.nD → PrngReg), Pre_GdIn m →
    θ_run (Cert.GdIn.defs (F := Bits)) (onTc (τ := Cert.GdIn.τ) (Cert.GdIn.main (F := Bits))) ⟨m, fun _ => 0, g⟩ (fun r => (∀ c : Dev Cert.GdIn.nD,
      r.2.mem ((c.tc : Thread Cert.GdIn.nD Cert.GdIn.τ).loc Cert.GdIn.main_arg0) = m ((c.tc : Thread Cert.GdIn.nD Cert.GdIn.τ).loc Cert.GdIn.main_arg0)
      ∧ r.2.mem ((c.tc : Thread Cert.GdIn.nD Cert.GdIn.τ).loc Cert.GdIn.main_arg1) = m ((c.tc : Thread Cert.GdIn.nD Cert.GdIn.τ).loc Cert.GdIn.main_arg1)
      ∧ r.2.mem ((c.tc : Thread Cert.GdIn.nD Cert.GdIn.τ).loc Cert.GdIn.main_arg2) = m ((c.tc : Thread Cert.GdIn.nD Cert.GdIn.τ).loc Cert.GdIn.main_arg2)
      ∧ r.2.mem ((c.tc : Thread Cert.GdIn.nD Cert.GdIn.τ).loc Cert.GdIn.main_arg3) = m ((c.tc : Thread Cert.GdIn.nD Cert.GdIn.τ).loc Cert.GdIn.main_arg3)
      ∧ r.2.mem ((c.tc : Thread Cert.GdIn.nD Cert.GdIn.τ).loc Cert.GdIn.main_arg4) = m ((c.tc : Thread Cert.GdIn.nD Cert.GdIn.τ).loc Cert.GdIn.main_arg4)
      ∧ r.2.mem ((c.tc : Thread Cert.GdIn.nD Cert.GdIn.τ).loc Cert.GdIn.main_arg5) = m ((c.tc : Thread Cert.GdIn.nD Cert.GdIn.τ).loc Cert.GdIn.main_arg5))
      ∧ r.2.sem = fun _ => 0)

def quiescent_GdInIdeal [hGdInIdeal : Cert.GdInIdeal.Facts] : Prop :=
  ∀ (m : (ℓ : Loc Cert.GdInIdeal.nD Cert.GdInIdeal.τ Cert.GdInIdeal.sig) → Buf (Elt Ideal) ℓ) (g : Dev Cert.GdInIdeal.nD → PrngReg), Pre_GdInIdeal m →
    θ_run (Cert.GdInIdeal.defs (F := Ideal)) (onTc (τ := Cert.GdInIdeal.τ) (Cert.GdInIdeal.main (F := Ideal))) ⟨m, fun _ => 0, g⟩ (fun r => (∀ c : Dev Cert.GdInIdeal.nD,
      r.2.mem ((c.tc : Thread Cert.GdInIdeal.nD Cert.GdInIdeal.τ).loc Cert.GdInIdeal.main_arg0) = m ((c.tc : Thread Cert.GdInIdeal.nD Cert.GdInIdeal.τ).loc Cert.GdInIdeal.main_arg0)
      ∧ r.2.mem ((c.tc : Thread Cert.GdInIdeal.nD Cert.GdInIdeal.τ).loc Cert.GdInIdeal.main_arg1) = m ((c.tc : Thread Cert.GdInIdeal.nD Cert.GdInIdeal.τ).loc Cert.GdInIdeal.main_arg1)
      ∧ r.2.mem ((c.tc : Thread Cert.GdInIdeal.nD Cert.GdInIdeal.τ).loc Cert.GdInIdeal.main_arg2) = m ((c.tc : Thread Cert.GdInIdeal.nD Cert.GdInIdeal.τ).loc Cert.GdInIdeal.main_arg2)
      ∧ r.2.mem ((c.tc : Thread Cert.GdInIdeal.nD Cert.GdInIdeal.τ).loc Cert.GdInIdeal.main_arg3) = m ((c.tc : Thread Cert.GdInIdeal.nD Cert.GdInIdeal.τ).loc Cert.GdInIdeal.main_arg3)
      ∧ r.2.mem ((c.tc : Thread Cert.GdInIdeal.nD Cert.GdInIdeal.τ).loc Cert.GdInIdeal.main_arg4) = m ((c.tc : Thread Cert.GdInIdeal.nD Cert.GdInIdeal.τ).loc Cert.GdInIdeal.main_arg4)
      ∧ r.2.mem ((c.tc : Thread Cert.GdInIdeal.nD Cert.GdInIdeal.τ).loc Cert.GdInIdeal.main_arg5) = m ((c.tc : Thread Cert.GdInIdeal.nD Cert.GdInIdeal.τ).loc Cert.GdInIdeal.main_arg5))
      ∧ r.2.sem = fun _ => 0)

def quiescent_GdInRefIdeal [hGdInRefIdeal : Cert.GdInRefIdeal.Facts] : Prop :=
  ∀ (m : (ℓ : Loc Cert.GdInRefIdeal.nD Cert.GdInRefIdeal.τ Cert.GdInRefIdeal.sig) → Buf (Elt Ideal) ℓ) (g : Dev Cert.GdInRefIdeal.nD → PrngReg), Pre_GdInRefIdeal m →
    θ_run (Cert.GdInRefIdeal.defs (F := Ideal)) (onTc (τ := Cert.GdInRefIdeal.τ) (Cert.GdInRefIdeal.main (F := Ideal))) ⟨m, fun _ => 0, g⟩ (fun r => (∀ c : Dev Cert.GdInRefIdeal.nD,
      r.2.mem ((c.tc : Thread Cert.GdInRefIdeal.nD Cert.GdInRefIdeal.τ).loc Cert.GdInRefIdeal.main_arg0) = m ((c.tc : Thread Cert.GdInRefIdeal.nD Cert.GdInRefIdeal.τ).loc Cert.GdInRefIdeal.main_arg0)
      ∧ r.2.mem ((c.tc : Thread Cert.GdInRefIdeal.nD Cert.GdInRefIdeal.τ).loc Cert.GdInRefIdeal.main_arg1) = m ((c.tc : Thread Cert.GdInRefIdeal.nD Cert.GdInRefIdeal.τ).loc Cert.GdInRefIdeal.main_arg1)
      ∧ r.2.mem ((c.tc : Thread Cert.GdInRefIdeal.nD Cert.GdInRefIdeal.τ).loc Cert.GdInRefIdeal.main_arg2) = m ((c.tc : Thread Cert.GdInRefIdeal.nD Cert.GdInRefIdeal.τ).loc Cert.GdInRefIdeal.main_arg2)
      ∧ r.2.mem ((c.tc : Thread Cert.GdInRefIdeal.nD Cert.GdInRefIdeal.τ).loc Cert.GdInRefIdeal.main_arg3) = m ((c.tc : Thread Cert.GdInRefIdeal.nD Cert.GdInRefIdeal.τ).loc Cert.GdInRefIdeal.main_arg3)
      ∧ r.2.mem ((c.tc : Thread Cert.GdInRefIdeal.nD Cert.GdInRefIdeal.τ).loc Cert.GdInRefIdeal.main_arg4) = m ((c.tc : Thread Cert.GdInRefIdeal.nD Cert.GdInRefIdeal.τ).loc Cert.GdInRefIdeal.main_arg4)
      ∧ r.2.mem ((c.tc : Thread Cert.GdInRefIdeal.nD Cert.GdInRefIdeal.τ).loc Cert.GdInRefIdeal.main_arg5) = m ((c.tc : Thread Cert.GdInRefIdeal.nD Cert.GdInRefIdeal.τ).loc Cert.GdInRefIdeal.main_arg5))
      ∧ r.2.sem = fun _ => 0)

def quiescent_HyIn [hHyIn : Cert.HyIn.Facts] : Prop :=
  ∀ (m : (ℓ : Loc Cert.HyIn.nD Cert.HyIn.τ Cert.HyIn.sig) → Buf (Elt Bits) ℓ) (g : Dev Cert.HyIn.nD → PrngReg), Pre_HyIn m →
    θ_run (Cert.HyIn.defs (F := Bits)) (onTc (τ := Cert.HyIn.τ) (Cert.HyIn.main (F := Bits))) ⟨m, fun _ => 0, g⟩ (fun r => (∀ c : Dev Cert.HyIn.nD,
      r.2.mem ((c.tc : Thread Cert.HyIn.nD Cert.HyIn.τ).loc Cert.HyIn.main_arg0) = m ((c.tc : Thread Cert.HyIn.nD Cert.HyIn.τ).loc Cert.HyIn.main_arg0)
      ∧ r.2.mem ((c.tc : Thread Cert.HyIn.nD Cert.HyIn.τ).loc Cert.HyIn.main_arg1) = m ((c.tc : Thread Cert.HyIn.nD Cert.HyIn.τ).loc Cert.HyIn.main_arg1)
      ∧ r.2.mem ((c.tc : Thread Cert.HyIn.nD Cert.HyIn.τ).loc Cert.HyIn.main_arg2) = m ((c.tc : Thread Cert.HyIn.nD Cert.HyIn.τ).loc Cert.HyIn.main_arg2)
      ∧ r.2.mem ((c.tc : Thread Cert.HyIn.nD Cert.HyIn.τ).loc Cert.HyIn.main_arg3) = m ((c.tc : Thread Cert.HyIn.nD Cert.HyIn.τ).loc Cert.HyIn.main_arg3)
      ∧ r.2.mem ((c.tc : Thread Cert.HyIn.nD Cert.HyIn.τ).loc Cert.HyIn.main_arg4) = m ((c.tc : Thread Cert.HyIn.nD Cert.HyIn.τ).loc Cert.HyIn.main_arg4)
      ∧ r.2.mem ((c.tc : Thread Cert.HyIn.nD Cert.HyIn.τ).loc Cert.HyIn.main_arg5) = m ((c.tc : Thread Cert.HyIn.nD Cert.HyIn.τ).loc Cert.HyIn.main_arg5)
      ∧ r.2.mem ((c.tc : Thread Cert.HyIn.nD Cert.HyIn.τ).loc Cert.HyIn.main_arg6) = m ((c.tc : Thread Cert.HyIn.nD Cert.HyIn.τ).loc Cert.HyIn.main_arg6))
      ∧ r.2.sem = fun _ => 0)

def quiescent_HyInIdeal [hHyInIdeal : Cert.HyInIdeal.Facts] : Prop :=
  ∀ (m : (ℓ : Loc Cert.HyInIdeal.nD Cert.HyInIdeal.τ Cert.HyInIdeal.sig) → Buf (Elt Ideal) ℓ) (g : Dev Cert.HyInIdeal.nD → PrngReg), Pre_HyInIdeal m →
    θ_run (Cert.HyInIdeal.defs (F := Ideal)) (onTc (τ := Cert.HyInIdeal.τ) (Cert.HyInIdeal.main (F := Ideal))) ⟨m, fun _ => 0, g⟩ (fun r => (∀ c : Dev Cert.HyInIdeal.nD,
      r.2.mem ((c.tc : Thread Cert.HyInIdeal.nD Cert.HyInIdeal.τ).loc Cert.HyInIdeal.main_arg0) = m ((c.tc : Thread Cert.HyInIdeal.nD Cert.HyInIdeal.τ).loc Cert.HyInIdeal.main_arg0)
      ∧ r.2.mem ((c.tc : Thread Cert.HyInIdeal.nD Cert.HyInIdeal.τ).loc Cert.HyInIdeal.main_arg1) = m ((c.tc : Thread Cert.HyInIdeal.nD Cert.HyInIdeal.τ).loc Cert.HyInIdeal.main_arg1)
      ∧ r.2.mem ((c.tc : Thread Cert.HyInIdeal.nD Cert.HyInIdeal.τ).loc Cert.HyInIdeal.main_arg2) = m ((c.tc : Thread Cert.HyInIdeal.nD Cert.HyInIdeal.τ).loc Cert.HyInIdeal.main_arg2)
      ∧ r.2.mem ((c.tc : Thread Cert.HyInIdeal.nD Cert.HyInIdeal.τ).loc Cert.HyInIdeal.main_arg3) = m ((c.tc : Thread Cert.HyInIdeal.nD Cert.HyInIdeal.τ).loc Cert.HyInIdeal.main_arg3)
      ∧ r.2.mem ((c.tc : Thread Cert.HyInIdeal.nD Cert.HyInIdeal.τ).loc Cert.HyInIdeal.main_arg4) = m ((c.tc : Thread Cert.HyInIdeal.nD Cert.HyInIdeal.τ).loc Cert.HyInIdeal.main_arg4)
      ∧ r.2.mem ((c.tc : Thread Cert.HyInIdeal.nD Cert.HyInIdeal.τ).loc Cert.HyInIdeal.main_arg5) = m ((c.tc : Thread Cert.HyInIdeal.nD Cert.HyInIdeal.τ).loc Cert.HyInIdeal.main_arg5)
      ∧ r.2.mem ((c.tc : Thread Cert.HyInIdeal.nD Cert.HyInIdeal.τ).loc Cert.HyInIdeal.main_arg6) = m ((c.tc : Thread Cert.HyInIdeal.nD Cert.HyInIdeal.τ).loc Cert.HyInIdeal.main_arg6))
      ∧ r.2.sem = fun _ => 0)

def quiescent_HyInRefIdeal [hHyInRefIdeal : Cert.HyInRefIdeal.Facts] : Prop :=
  ∀ (m : (ℓ : Loc Cert.HyInRefIdeal.nD Cert.HyInRefIdeal.τ Cert.HyInRefIdeal.sig) → Buf (Elt Ideal) ℓ) (g : Dev Cert.HyInRefIdeal.nD → PrngReg), Pre_HyInRefIdeal m →
    θ_run (Cert.HyInRefIdeal.defs (F := Ideal)) (onTc (τ := Cert.HyInRefIdeal.τ) (Cert.HyInRefIdeal.main (F := Ideal))) ⟨m, fun _ => 0, g⟩ (fun r => (∀ c : Dev Cert.HyInRefIdeal.nD,
      r.2.mem ((c.tc : Thread Cert.HyInRefIdeal.nD Cert.HyInRefIdeal.τ).loc Cert.HyInRefIdeal.main_arg0) = m ((c.tc : Thread Cert.HyInRefIdeal.nD Cert.HyInRefIdeal.τ).loc Cert.HyInRefIdeal.main_arg0)
      ∧ r.2.mem ((c.tc : Thread Cert.HyInRefIdeal.nD Cert.HyInRefIdeal.τ).loc Cert.HyInRefIdeal.main_arg1) = m ((c.tc : Thread Cert.HyInRefIdeal.nD Cert.HyInRefIdeal.τ).loc Cert.HyInRefIdeal.main_arg1)
      ∧ r.2.mem ((c.tc : Thread Cert.HyInRefIdeal.nD Cert.HyInRefIdeal.τ).loc Cert.HyInRefIdeal.main_arg2) = m ((c.tc : Thread Cert.HyInRefIdeal.nD Cert.HyInRefIdeal.τ).loc Cert.HyInRefIdeal.main_arg2)
      ∧ r.2.mem ((c.tc : Thread Cert.HyInRefIdeal.nD Cert.HyInRefIdeal.τ).loc Cert.HyInRefIdeal.main_arg3) = m ((c.tc : Thread Cert.HyInRefIdeal.nD Cert.HyInRefIdeal.τ).loc Cert.HyInRefIdeal.main_arg3)
      ∧ r.2.mem ((c.tc : Thread Cert.HyInRefIdeal.nD Cert.HyInRefIdeal.τ).loc Cert.HyInRefIdeal.main_arg4) = m ((c.tc : Thread Cert.HyInRefIdeal.nD Cert.HyInRefIdeal.τ).loc Cert.HyInRefIdeal.main_arg4)
      ∧ r.2.mem ((c.tc : Thread Cert.HyInRefIdeal.nD Cert.HyInRefIdeal.τ).loc Cert.HyInRefIdeal.main_arg5) = m ((c.tc : Thread Cert.HyInRefIdeal.nD Cert.HyInRefIdeal.τ).loc Cert.HyInRefIdeal.main_arg5)
      ∧ r.2.mem ((c.tc : Thread Cert.HyInRefIdeal.nD Cert.HyInRefIdeal.τ).loc Cert.HyInRefIdeal.main_arg6) = m ((c.tc : Thread Cert.HyInRefIdeal.nD Cert.HyInRefIdeal.τ).loc Cert.HyInRefIdeal.main_arg6))
      ∧ r.2.sem = fun _ => 0)

def quiescent_SwIn [hSwIn : Cert.SwIn.Facts] : Prop :=
  ∀ (m : (ℓ : Loc Cert.SwIn.nD Cert.SwIn.τ Cert.SwIn.sig) → Buf (Elt Bits) ℓ) (g : Dev Cert.SwIn.nD → PrngReg), Pre_SwIn m →
    θ_run (Cert.SwIn.defs (F := Bits)) (onTc (τ := Cert.SwIn.τ) (Cert.SwIn.main (F := Bits))) ⟨m, fun _ => 0, g⟩ (fun r => (∀ c : Dev Cert.SwIn.nD,
      r.2.mem ((c.tc : Thread Cert.SwIn.nD Cert.SwIn.τ).loc Cert.SwIn.main_arg0) = m ((c.tc : Thread Cert.SwIn.nD Cert.SwIn.τ).loc Cert.SwIn.main_arg0)
      ∧ r.2.mem ((c.tc : Thread Cert.SwIn.nD Cert.SwIn.τ).loc Cert.SwIn.main_arg1) = m ((c.tc : Thread Cert.SwIn.nD Cert.SwIn.τ).loc Cert.SwIn.main_arg1)
      ∧ r.2.mem ((c.tc : Thread Cert.SwIn.nD Cert.SwIn.τ).loc Cert.SwIn.main_arg2) = m ((c.tc : Thread Cert.SwIn.nD Cert.SwIn.τ).loc Cert.SwIn.main_arg2)
      ∧ r.2.mem ((c.tc : Thread Cert.SwIn.nD Cert.SwIn.τ).loc Cert.SwIn.main_arg3) = m ((c.tc : Thread Cert.SwIn.nD Cert.SwIn.τ).loc Cert.SwIn.main_arg3)
      ∧ r.2.mem ((c.tc : Thread Cert.SwIn.nD Cert.SwIn.τ).loc Cert.SwIn.main_arg4) = m ((c.tc : Thread Cert.SwIn.nD Cert.SwIn.τ).loc Cert.SwIn.main_arg4)
      ∧ r.2.mem ((c.tc : Thread Cert.SwIn.nD Cert.SwIn.τ).loc Cert.SwIn.main_arg5) = m ((c.tc : Thread Cert.SwIn.nD Cert.SwIn.τ).loc Cert.SwIn.main_arg5))
      ∧ r.2.sem = fun _ => 0)

def quiescent_SwInIdeal [hSwInIdeal : Cert.SwInIdeal.Facts] : Prop :=
  ∀ (m : (ℓ : Loc Cert.SwInIdeal.nD Cert.SwInIdeal.τ Cert.SwInIdeal.sig) → Buf (Elt Ideal) ℓ) (g : Dev Cert.SwInIdeal.nD → PrngReg), Pre_SwInIdeal m →
    θ_run (Cert.SwInIdeal.defs (F := Ideal)) (onTc (τ := Cert.SwInIdeal.τ) (Cert.SwInIdeal.main (F := Ideal))) ⟨m, fun _ => 0, g⟩ (fun r => (∀ c : Dev Cert.SwInIdeal.nD,
      r.2.mem ((c.tc : Thread Cert.SwInIdeal.nD Cert.SwInIdeal.τ).loc Cert.SwInIdeal.main_arg0) = m ((c.tc : Thread Cert.SwInIdeal.nD Cert.SwInIdeal.τ).loc Cert.SwInIdeal.main_arg0)
      ∧ r.2.mem ((c.tc : Thread Cert.SwInIdeal.nD Cert.SwInIdeal.τ).loc Cert.SwInIdeal.main_arg1) = m ((c.tc : Thread Cert.SwInIdeal.nD Cert.SwInIdeal.τ).loc Cert.SwInIdeal.main_arg1)
      ∧ r.2.mem ((c.tc : Thread Cert.SwInIdeal.nD Cert.SwInIdeal.τ).loc Cert.SwInIdeal.main_arg2) = m ((c.tc : Thread Cert.SwInIdeal.nD Cert.SwInIdeal.τ).loc Cert.SwInIdeal.main_arg2)
      ∧ r.2.mem ((c.tc : Thread Cert.SwInIdeal.nD Cert.SwInIdeal.τ).loc Cert.SwInIdeal.main_arg3) = m ((c.tc : Thread Cert.SwInIdeal.nD Cert.SwInIdeal.τ).loc Cert.SwInIdeal.main_arg3)
      ∧ r.2.mem ((c.tc : Thread Cert.SwInIdeal.nD Cert.SwInIdeal.τ).loc Cert.SwInIdeal.main_arg4) = m ((c.tc : Thread Cert.SwInIdeal.nD Cert.SwInIdeal.τ).loc Cert.SwInIdeal.main_arg4)
      ∧ r.2.mem ((c.tc : Thread Cert.SwInIdeal.nD Cert.SwInIdeal.τ).loc Cert.SwInIdeal.main_arg5) = m ((c.tc : Thread Cert.SwInIdeal.nD Cert.SwInIdeal.τ).loc Cert.SwInIdeal.main_arg5))
      ∧ r.2.sem = fun _ => 0)

def quiescent_SwInRefIdeal [hSwInRefIdeal : Cert.SwInRefIdeal.Facts] : Prop :=
  ∀ (m : (ℓ : Loc Cert.SwInRefIdeal.nD Cert.SwInRefIdeal.τ Cert.SwInRefIdeal.sig) → Buf (Elt Ideal) ℓ) (g : Dev Cert.SwInRefIdeal.nD → PrngReg), Pre_SwInRefIdeal m →
    θ_run (Cert.SwInRefIdeal.defs (F := Ideal)) (onTc (τ := Cert.SwInRefIdeal.τ) (Cert.SwInRefIdeal.main (F := Ideal))) ⟨m, fun _ => 0, g⟩ (fun r => (∀ c : Dev Cert.SwInRefIdeal.nD,
      r.2.mem ((c.tc : Thread Cert.SwInRefIdeal.nD Cert.SwInRefIdeal.τ).loc Cert.SwInRefIdeal.main_arg0) = m ((c.tc : Thread Cert.SwInRefIdeal.nD Cert.SwInRefIdeal.τ).loc Cert.SwInRefIdeal.main_arg0)
      ∧ r.2.mem ((c.tc : Thread Cert.SwInRefIdeal.nD Cert.SwInRefIdeal.τ).loc Cert.SwInRefIdeal.main_arg1) = m ((c.tc : Thread Cert.SwInRefIdeal.nD Cert.SwInRefIdeal.τ).loc Cert.SwInRefIdeal.main_arg1)
      ∧ r.2.mem ((c.tc : Thread Cert.SwInRefIdeal.nD Cert.SwInRefIdeal.τ).loc Cert.SwInRefIdeal.main_arg2) = m ((c.tc : Thread Cert.SwInRefIdeal.nD Cert.SwInRefIdeal.τ).loc Cert.SwInRefIdeal.main_arg2)
      ∧ r.2.mem ((c.tc : Thread Cert.SwInRefIdeal.nD Cert.SwInRefIdeal.τ).loc Cert.SwInRefIdeal.main_arg3) = m ((c.tc : Thread Cert.SwInRefIdeal.nD Cert.SwInRefIdeal.τ).loc Cert.SwInRefIdeal.main_arg3)
      ∧ r.2.mem ((c.tc : Thread Cert.SwInRefIdeal.nD Cert.SwInRefIdeal.τ).loc Cert.SwInRefIdeal.main_arg4) = m ((c.tc : Thread Cert.SwInRefIdeal.nD Cert.SwInRefIdeal.τ).loc Cert.SwInRefIdeal.main_arg4)
      ∧ r.2.mem ((c.tc : Thread Cert.SwInRefIdeal.nD Cert.SwInRefIdeal.τ).loc Cert.SwInRefIdeal.main_arg5) = m ((c.tc : Thread Cert.SwInRefIdeal.nD Cert.SwInRefIdeal.τ).loc Cert.SwInRefIdeal.main_arg5))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3)
      ∧ r.2.mem ((c.tc : Thread Cert.Out.nD Cert.Out.τ).loc Cert.Out.main_arg4) = m ((c.tc : Thread Cert.Out.nD Cert.Out.τ).loc Cert.Out.main_arg4)
      ∧ r.2.mem ((c.tc : Thread Cert.Out.nD Cert.Out.τ).loc Cert.Out.main_arg5) = m ((c.tc : Thread Cert.Out.nD Cert.Out.τ).loc Cert.Out.main_arg5)
      ∧ r.2.mem ((c.tc : Thread Cert.Out.nD Cert.Out.τ).loc Cert.Out.main_arg6) = m ((c.tc : Thread Cert.Out.nD Cert.Out.τ).loc Cert.Out.main_arg6)
      ∧ r.2.mem ((c.tc : Thread Cert.Out.nD Cert.Out.τ).loc Cert.Out.main_arg7) = m ((c.tc : Thread Cert.Out.nD Cert.Out.τ).loc Cert.Out.main_arg7)
      ∧ r.2.mem ((c.tc : Thread Cert.Out.nD Cert.Out.τ).loc Cert.Out.main_arg8) = m ((c.tc : Thread Cert.Out.nD Cert.Out.τ).loc Cert.Out.main_arg8)
      ∧ r.2.mem ((c.tc : Thread Cert.Out.nD Cert.Out.τ).loc Cert.Out.main_arg9) = m ((c.tc : Thread Cert.Out.nD Cert.Out.τ).loc Cert.Out.main_arg9))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
      ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
      ∧ r.2.mem ((c.tc : Thread Cert.OutIdeal.nD Cert.OutIdeal.τ).loc Cert.OutIdeal.main_arg5) = m ((c.tc : Thread Cert.OutIdeal.nD Cert.OutIdeal.τ).loc Cert.OutIdeal.main_arg5)
      ∧ r.2.mem ((c.tc : Thread Cert.OutIdeal.nD Cert.OutIdeal.τ).loc Cert.OutIdeal.main_arg6) = m ((c.tc : Thread Cert.OutIdeal.nD Cert.OutIdeal.τ).loc Cert.OutIdeal.main_arg6)
      ∧ r.2.mem ((c.tc : Thread Cert.OutIdeal.nD Cert.OutIdeal.τ).loc Cert.OutIdeal.main_arg7) = m ((c.tc : Thread Cert.OutIdeal.nD Cert.OutIdeal.τ).loc Cert.OutIdeal.main_arg7)
      ∧ r.2.mem ((c.tc : Thread Cert.OutIdeal.nD Cert.OutIdeal.τ).loc Cert.OutIdeal.main_arg8) = m ((c.tc : Thread Cert.OutIdeal.nD Cert.OutIdeal.τ).loc Cert.OutIdeal.main_arg8)
      ∧ r.2.mem ((c.tc : Thread Cert.OutIdeal.nD Cert.OutIdeal.τ).loc Cert.OutIdeal.main_arg9) = m ((c.tc : Thread Cert.OutIdeal.nD Cert.OutIdeal.τ).loc Cert.OutIdeal.main_arg9))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3)
      ∧ r.2.mem ((c.tc : Thread Cert.OutRefIdeal.nD Cert.OutRefIdeal.τ).loc Cert.OutRefIdeal.main_arg4) = m ((c.tc : Thread Cert.OutRefIdeal.nD Cert.OutRefIdeal.τ).loc Cert.OutRefIdeal.main_arg4)
      ∧ r.2.mem ((c.tc : Thread Cert.OutRefIdeal.nD Cert.OutRefIdeal.τ).loc Cert.OutRefIdeal.main_arg5) = m ((c.tc : Thread Cert.OutRefIdeal.nD Cert.OutRefIdeal.τ).loc Cert.OutRefIdeal.main_arg5)
      ∧ r.2.mem ((c.tc : Thread Cert.OutRefIdeal.nD Cert.OutRefIdeal.τ).loc Cert.OutRefIdeal.main_arg6) = m ((c.tc : Thread Cert.OutRefIdeal.nD Cert.OutRefIdeal.τ).loc Cert.OutRefIdeal.main_arg6)
      ∧ r.2.mem ((c.tc : Thread Cert.OutRefIdeal.nD Cert.OutRefIdeal.τ).loc Cert.OutRefIdeal.main_arg7) = m ((c.tc : Thread Cert.OutRefIdeal.nD Cert.OutRefIdeal.τ).loc Cert.OutRefIdeal.main_arg7)
      ∧ r.2.mem ((c.tc : Thread Cert.OutRefIdeal.nD Cert.OutRefIdeal.τ).loc Cert.OutRefIdeal.main_arg8) = m ((c.tc : Thread Cert.OutRefIdeal.nD Cert.OutRefIdeal.τ).loc Cert.OutRefIdeal.main_arg8)
      ∧ r.2.mem ((c.tc : Thread Cert.OutRefIdeal.nD Cert.OutRefIdeal.τ).loc Cert.OutRefIdeal.main_arg9) = m ((c.tc : Thread Cert.OutRefIdeal.nD Cert.OutRefIdeal.τ).loc Cert.OutRefIdeal.main_arg9))
      ∧ r.2.sem = fun _ => 0)

def quiescent_Mod [hMod : Cert.Mod.Facts] : Prop :=
  ∀ (m : (ℓ : Loc Cert.Mod.nD Cert.Mod.τ Cert.Mod.sig) → Buf (Elt Bits) ℓ) (g : Dev Cert.Mod.nD → PrngReg), Pre_Mod m →
    θ_run (Cert.Mod.defs (F := Bits)) (onTc (τ := Cert.Mod.τ) (Cert.Mod.main (F := Bits))) ⟨m, fun _ => 0, g⟩ (fun r => (∀ c : Dev Cert.Mod.nD,
      r.2.mem ((c.tc : Thread Cert.Mod.nD Cert.Mod.τ).loc Cert.Mod.main_arg0) = m ((c.tc : Thread Cert.Mod.nD Cert.Mod.τ).loc Cert.Mod.main_arg0)
      ∧ r.2.mem ((c.tc : Thread Cert.Mod.nD Cert.Mod.τ).loc Cert.Mod.main_arg1) = m ((c.tc : Thread Cert.Mod.nD Cert.Mod.τ).loc Cert.Mod.main_arg1)
      ∧ r.2.mem ((c.tc : Thread Cert.Mod.nD Cert.Mod.τ).loc Cert.Mod.main_arg2) = m ((c.tc : Thread Cert.Mod.nD Cert.Mod.τ).loc Cert.Mod.main_arg2)
      ∧ r.2.mem ((c.tc : Thread Cert.Mod.nD Cert.Mod.τ).loc Cert.Mod.main_arg3) = m ((c.tc : Thread Cert.Mod.nD Cert.Mod.τ).loc Cert.Mod.main_arg3))
      ∧ r.2.sem = fun _ => 0)

def quiescent_ModIdeal [hModIdeal : Cert.ModIdeal.Facts] : Prop :=
  ∀ (m : (ℓ : Loc Cert.ModIdeal.nD Cert.ModIdeal.τ Cert.ModIdeal.sig) → Buf (Elt Ideal) ℓ) (g : Dev Cert.ModIdeal.nD → PrngReg), Pre_ModIdeal m →
    θ_run (Cert.ModIdeal.defs (F := Ideal)) (onTc (τ := Cert.ModIdeal.τ) (Cert.ModIdeal.main (F := Ideal))) ⟨m, fun _ => 0, g⟩ (fun r => (∀ c : Dev Cert.ModIdeal.nD,
      r.2.mem ((c.tc : Thread Cert.ModIdeal.nD Cert.ModIdeal.τ).loc Cert.ModIdeal.main_arg0) = m ((c.tc : Thread Cert.ModIdeal.nD Cert.ModIdeal.τ).loc Cert.ModIdeal.main_arg0)
      ∧ r.2.mem ((c.tc : Thread Cert.ModIdeal.nD Cert.ModIdeal.τ).loc Cert.ModIdeal.main_arg1) = m ((c.tc : Thread Cert.ModIdeal.nD Cert.ModIdeal.τ).loc Cert.ModIdeal.main_arg1)
      ∧ r.2.mem ((c.tc : Thread Cert.ModIdeal.nD Cert.ModIdeal.τ).loc Cert.ModIdeal.main_arg2) = m ((c.tc : Thread Cert.ModIdeal.nD Cert.ModIdeal.τ).loc Cert.ModIdeal.main_arg2)
      ∧ r.2.mem ((c.tc : Thread Cert.ModIdeal.nD Cert.ModIdeal.τ).loc Cert.ModIdeal.main_arg3) = m ((c.tc : Thread Cert.ModIdeal.nD Cert.ModIdeal.τ).loc Cert.ModIdeal.main_arg3))
      ∧ r.2.sem = fun _ => 0)

def quiescent_ModRefIdeal [hModRefIdeal : Cert.ModRefIdeal.Facts] : Prop :=
  ∀ (m : (ℓ : Loc Cert.ModRefIdeal.nD Cert.ModRefIdeal.τ Cert.ModRefIdeal.sig) → Buf (Elt Ideal) ℓ) (g : Dev Cert.ModRefIdeal.nD → PrngReg), Pre_ModRefIdeal m →
    θ_run (Cert.ModRefIdeal.defs (F := Ideal)) (onTc (τ := Cert.ModRefIdeal.τ) (Cert.ModRefIdeal.main (F := Ideal))) ⟨m, fun _ => 0, g⟩ (fun r => (∀ c : Dev Cert.ModRefIdeal.nD,
      r.2.mem ((c.tc : Thread Cert.ModRefIdeal.nD Cert.ModRefIdeal.τ).loc Cert.ModRefIdeal.main_arg0) = m ((c.tc : Thread Cert.ModRefIdeal.nD Cert.ModRefIdeal.τ).loc Cert.ModRefIdeal.main_arg0)
      ∧ r.2.mem ((c.tc : Thread Cert.ModRefIdeal.nD Cert.ModRefIdeal.τ).loc Cert.ModRefIdeal.main_arg1) = m ((c.tc : Thread Cert.ModRefIdeal.nD Cert.ModRefIdeal.τ).loc Cert.ModRefIdeal.main_arg1)
      ∧ r.2.mem ((c.tc : Thread Cert.ModRefIdeal.nD Cert.ModRefIdeal.τ).loc Cert.ModRefIdeal.main_arg2) = m ((c.tc : Thread Cert.ModRefIdeal.nD Cert.ModRefIdeal.τ).loc Cert.ModRefIdeal.main_arg2)
      ∧ r.2.mem ((c.tc : Thread Cert.ModRefIdeal.nD Cert.ModRefIdeal.τ).loc Cert.ModRefIdeal.main_arg3) = m ((c.tc : Thread Cert.ModRefIdeal.nD Cert.ModRefIdeal.τ).loc Cert.ModRefIdeal.main_arg3))
      ∧ r.2.sem = fun _ => 0)

def preserves_Swa_SwaIdeal : Prop :=
  IdealRules.named_const.Statement Cert.SwaIdeal.κ "mask" .f32 0xF149F2CA#32 ⊥

def algebraic_SwaIdeal_SwaRefIdeal_pre_finite_scores [hSwaIdeal : Cert.SwaIdeal.Facts] [hSwaRefIdeal : Cert.SwaRefIdeal.Facts] [hPre_finite_scores : Cert.Pre_finite_scores.Facts] : Prop :=
  ∀ (m : (ℓ : Loc Cert.SwaIdeal.nD Cert.SwaIdeal.τ Cert.SwaIdeal.sig) → Buf (Elt Ideal) ℓ) (g : Dev Cert.SwaIdeal.nD → PrngReg)
    (m' : (ℓ : Loc Cert.SwaRefIdeal.nD Cert.SwaRefIdeal.τ Cert.SwaRefIdeal.sig) → Buf (Elt Ideal) ℓ) (g' : Dev Cert.SwaRefIdeal.nD → PrngReg), Pre_SwaIdeal_finite_scores m →
    (∀ c : Dev Cert.SwaIdeal.nD,
      m' ((c.tc : Thread Cert.SwaRefIdeal.nD Cert.SwaRefIdeal.τ).loc Cert.SwaRefIdeal.main_arg0) = m ((c.tc : Thread Cert.SwaIdeal.nD Cert.SwaIdeal.τ).loc Cert.SwaIdeal.main_arg0)
      ∧ m' ((c.tc : Thread Cert.SwaRefIdeal.nD Cert.SwaRefIdeal.τ).loc Cert.SwaRefIdeal.main_arg1) = m ((c.tc : Thread Cert.SwaIdeal.nD Cert.SwaIdeal.τ).loc Cert.SwaIdeal.main_arg1)
      ∧ m' ((c.tc : Thread Cert.SwaRefIdeal.nD Cert.SwaRefIdeal.τ).loc Cert.SwaRefIdeal.main_arg2) = m ((c.tc : Thread Cert.SwaIdeal.nD Cert.SwaIdeal.τ).loc Cert.SwaIdeal.main_arg2)
      ∧ m' ((c.tc : Thread Cert.SwaRefIdeal.nD Cert.SwaRefIdeal.τ).loc Cert.SwaRefIdeal.main_arg3) = m ((c.tc : Thread Cert.SwaIdeal.nD Cert.SwaIdeal.τ).loc Cert.SwaIdeal.main_arg3)
      ∧ m' ((c.tc : Thread Cert.SwaRefIdeal.nD Cert.SwaRefIdeal.τ).loc Cert.SwaRefIdeal.main_arg4) = m ((c.tc : Thread Cert.SwaIdeal.nD Cert.SwaIdeal.τ).loc Cert.SwaIdeal.main_arg4)
      ∧ m' ((c.tc : Thread Cert.SwaRefIdeal.nD Cert.SwaRefIdeal.τ).loc Cert.SwaRefIdeal.main_arg5) = m ((c.tc : Thread Cert.SwaIdeal.nD Cert.SwaIdeal.τ).loc Cert.SwaIdeal.main_arg5)
      ∧ m' ((c.tc : Thread Cert.SwaRefIdeal.nD Cert.SwaRefIdeal.τ).loc Cert.SwaRefIdeal.main_arg6) = m ((c.tc : Thread Cert.SwaIdeal.nD Cert.SwaIdeal.τ).loc Cert.SwaIdeal.main_arg6)
      ∧ m' ((c.tc : Thread Cert.SwaRefIdeal.nD Cert.SwaRefIdeal.τ).loc Cert.SwaRefIdeal.main_arg7) = m ((c.tc : Thread Cert.SwaIdeal.nD Cert.SwaIdeal.τ).loc Cert.SwaIdeal.main_arg7)
      ∧ m' ((c.tc : Thread Cert.SwaRefIdeal.nD Cert.SwaRefIdeal.τ).loc Cert.SwaRefIdeal.main_arg8) = m ((c.tc : Thread Cert.SwaIdeal.nD Cert.SwaIdeal.τ).loc Cert.SwaIdeal.main_arg8)) →
    ∃ (v0 : (c : Dev Cert.SwaIdeal.nD) → Buf (Elt Ideal) ((c.tc : Thread Cert.SwaIdeal.nD Cert.SwaIdeal.τ).loc Cert.SwaIdeal.main_v20)),
      θ_run (Cert.SwaIdeal.defs (F := Ideal)) (onTc (τ := Cert.SwaIdeal.τ) (Cert.SwaIdeal.main (F := Ideal))) ⟨m, fun _ => 0, g⟩ (fun r => ∀ c : Dev Cert.SwaIdeal.nD,
          r.2.mem ((c.tc : Thread Cert.SwaIdeal.nD Cert.SwaIdeal.τ).loc Cert.SwaIdeal.main_v20) = v0 c
          ∧ r.2.mem ((c.tc : Thread Cert.SwaIdeal.nD Cert.SwaIdeal.τ).loc Cert.SwaIdeal.main_arg0) = m ((c.tc : Thread Cert.SwaIdeal.nD Cert.SwaIdeal.τ).loc Cert.SwaIdeal.main_arg0)
          ∧ r.2.mem ((c.tc : Thread Cert.SwaIdeal.nD Cert.SwaIdeal.τ).loc Cert.SwaIdeal.main_arg1) = m ((c.tc : Thread Cert.SwaIdeal.nD Cert.SwaIdeal.τ).loc Cert.SwaIdeal.main_arg1)
          ∧ r.2.mem ((c.tc : Thread Cert.SwaIdeal.nD Cert.SwaIdeal.τ).loc Cert.SwaIdeal.main_arg2) = m ((c.tc : Thread Cert.SwaIdeal.nD Cert.SwaIdeal.τ).loc Cert.SwaIdeal.main_arg2)
          ∧ r.2.mem ((c.tc : Thread Cert.SwaIdeal.nD Cert.SwaIdeal.τ).loc Cert.SwaIdeal.main_arg3) = m ((c.tc : Thread Cert.SwaIdeal.nD Cert.SwaIdeal.τ).loc Cert.SwaIdeal.main_arg3)
          ∧ r.2.mem ((c.tc : Thread Cert.SwaIdeal.nD Cert.SwaIdeal.τ).loc Cert.SwaIdeal.main_arg4) = m ((c.tc : Thread Cert.SwaIdeal.nD Cert.SwaIdeal.τ).loc Cert.SwaIdeal.main_arg4)
          ∧ r.2.mem ((c.tc : Thread Cert.SwaIdeal.nD Cert.SwaIdeal.τ).loc Cert.SwaIdeal.main_arg5) = m ((c.tc : Thread Cert.SwaIdeal.nD Cert.SwaIdeal.τ).loc Cert.SwaIdeal.main_arg5)
          ∧ r.2.mem ((c.tc : Thread Cert.SwaIdeal.nD Cert.SwaIdeal.τ).loc Cert.SwaIdeal.main_arg6) = m ((c.tc : Thread Cert.SwaIdeal.nD Cert.SwaIdeal.τ).loc Cert.SwaIdeal.main_arg6)
          ∧ r.2.mem ((c.tc : Thread Cert.SwaIdeal.nD Cert.SwaIdeal.τ).loc Cert.SwaIdeal.main_arg7) = m ((c.tc : Thread Cert.SwaIdeal.nD Cert.SwaIdeal.τ).loc Cert.SwaIdeal.main_arg7)
          ∧ r.2.mem ((c.tc : Thread Cert.SwaIdeal.nD Cert.SwaIdeal.τ).loc Cert.SwaIdeal.main_arg8) = m ((c.tc : Thread Cert.SwaIdeal.nD Cert.SwaIdeal.τ).loc Cert.SwaIdeal.main_arg8))
      ∧ θ_run (Cert.SwaRefIdeal.defs (F := Ideal)) (onTc (τ := Cert.SwaRefIdeal.τ) (Cert.SwaRefIdeal.main (F := Ideal))) ⟨m', fun _ => 0, g'⟩ (fun r => ∀ c : Dev Cert.SwaRefIdeal.nD,
          r.2.mem ((c.tc : Thread Cert.SwaRefIdeal.nD Cert.SwaRefIdeal.τ).loc Cert.SwaRefIdeal.main_v91) = v0 c
          ∧ r.2.mem ((c.tc : Thread Cert.SwaRefIdeal.nD Cert.SwaRefIdeal.τ).loc Cert.SwaRefIdeal.main_arg0) = m' ((c.tc : Thread Cert.SwaRefIdeal.nD Cert.SwaRefIdeal.τ).loc Cert.SwaRefIdeal.main_arg0)
          ∧ r.2.mem ((c.tc : Thread Cert.SwaRefIdeal.nD Cert.SwaRefIdeal.τ).loc Cert.SwaRefIdeal.main_arg1) = m' ((c.tc : Thread Cert.SwaRefIdeal.nD Cert.SwaRefIdeal.τ).loc Cert.SwaRefIdeal.main_arg1)
          ∧ r.2.mem ((c.tc : Thread Cert.SwaRefIdeal.nD Cert.SwaRefIdeal.τ).loc Cert.SwaRefIdeal.main_arg2) = m' ((c.tc : Thread Cert.SwaRefIdeal.nD Cert.SwaRefIdeal.τ).loc Cert.SwaRefIdeal.main_arg2)
          ∧ r.2.mem ((c.tc : Thread Cert.SwaRefIdeal.nD Cert.SwaRefIdeal.τ).loc Cert.SwaRefIdeal.main_arg3) = m' ((c.tc : Thread Cert.SwaRefIdeal.nD Cert.SwaRefIdeal.τ).loc Cert.SwaRefIdeal.main_arg3)
          ∧ r.2.mem ((c.tc : Thread Cert.SwaRefIdeal.nD Cert.SwaRefIdeal.τ).loc Cert.SwaRefIdeal.main_arg4) = m' ((c.tc : Thread Cert.SwaRefIdeal.nD Cert.SwaRefIdeal.τ).loc Cert.SwaRefIdeal.main_arg4)
          ∧ r.2.mem ((c.tc : Thread Cert.SwaRefIdeal.nD Cert.SwaRefIdeal.τ).loc Cert.SwaRefIdeal.main_arg5) = m' ((c.tc : Thread Cert.SwaRefIdeal.nD Cert.SwaRefIdeal.τ).loc Cert.SwaRefIdeal.main_arg5)
          ∧ r.2.mem ((c.tc : Thread Cert.SwaRefIdeal.nD Cert.SwaRefIdeal.τ).loc Cert.SwaRefIdeal.main_arg6) = m' ((c.tc : Thread Cert.SwaRefIdeal.nD Cert.SwaRefIdeal.τ).loc Cert.SwaRefIdeal.main_arg6)
          ∧ r.2.mem ((c.tc : Thread Cert.SwaRefIdeal.nD Cert.SwaRefIdeal.τ).loc Cert.SwaRefIdeal.main_arg7) = m' ((c.tc : Thread Cert.SwaRefIdeal.nD Cert.SwaRefIdeal.τ).loc Cert.SwaRefIdeal.main_arg7)
          ∧ r.2.mem ((c.tc : Thread Cert.SwaRefIdeal.nD Cert.SwaRefIdeal.τ).loc Cert.SwaRefIdeal.main_arg8) = m' ((c.tc : Thread Cert.SwaRefIdeal.nD Cert.SwaRefIdeal.τ).loc Cert.SwaRefIdeal.main_arg8))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v0_0)) (v1 : (c : Dev Cert.FfnIdeal.nD) → Buf (Elt Ideal) ((c.tc : Thread Cert.FfnIdeal.nD Cert.FfnIdeal.τ).loc Cert.FfnIdeal.main_v0_1)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v0_0) = v0 c
          ∧ r.2.mem ((c.tc : Thread Cert.FfnIdeal.nD Cert.FfnIdeal.τ).loc Cert.FfnIdeal.main_v0_1) = v1 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v15) = v0 c
          ∧ r.2.mem ((c.tc : Thread Cert.FfnRefIdeal.nD Cert.FfnRefIdeal.τ).loc Cert.FfnRefIdeal.main_v31) = v1 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4))

def preserves_HgIn_HgInIdeal : Prop :=
  True

def algebraic_HgInIdeal_HgInRefIdeal [hHgInIdeal : Cert.HgInIdeal.Facts] [hHgInRefIdeal : Cert.HgInRefIdeal.Facts] : Prop :=
  ∀ (m : (ℓ : Loc Cert.HgInIdeal.nD Cert.HgInIdeal.τ Cert.HgInIdeal.sig) → Buf (Elt Ideal) ℓ) (g : Dev Cert.HgInIdeal.nD → PrngReg)
    (m' : (ℓ : Loc Cert.HgInRefIdeal.nD Cert.HgInRefIdeal.τ Cert.HgInRefIdeal.sig) → Buf (Elt Ideal) ℓ) (g' : Dev Cert.HgInRefIdeal.nD → PrngReg), Pre_HgInIdeal m →
    (∀ c : Dev Cert.HgInIdeal.nD,
      m' ((c.tc : Thread Cert.HgInRefIdeal.nD Cert.HgInRefIdeal.τ).loc Cert.HgInRefIdeal.main_arg0) = m ((c.tc : Thread Cert.HgInIdeal.nD Cert.HgInIdeal.τ).loc Cert.HgInIdeal.main_arg0)
      ∧ m' ((c.tc : Thread Cert.HgInRefIdeal.nD Cert.HgInRefIdeal.τ).loc Cert.HgInRefIdeal.main_arg1) = m ((c.tc : Thread Cert.HgInIdeal.nD Cert.HgInIdeal.τ).loc Cert.HgInIdeal.main_arg1)
      ∧ m' ((c.tc : Thread Cert.HgInRefIdeal.nD Cert.HgInRefIdeal.τ).loc Cert.HgInRefIdeal.main_arg2) = m ((c.tc : Thread Cert.HgInIdeal.nD Cert.HgInIdeal.τ).loc Cert.HgInIdeal.main_arg2)
      ∧ m' ((c.tc : Thread Cert.HgInRefIdeal.nD Cert.HgInRefIdeal.τ).loc Cert.HgInRefIdeal.main_arg3) = m ((c.tc : Thread Cert.HgInIdeal.nD Cert.HgInIdeal.τ).loc Cert.HgInIdeal.main_arg3)
      ∧ m' ((c.tc : Thread Cert.HgInRefIdeal.nD Cert.HgInRefIdeal.τ).loc Cert.HgInRefIdeal.main_arg4) = m ((c.tc : Thread Cert.HgInIdeal.nD Cert.HgInIdeal.τ).loc Cert.HgInIdeal.main_arg4)
      ∧ m' ((c.tc : Thread Cert.HgInRefIdeal.nD Cert.HgInRefIdeal.τ).loc Cert.HgInRefIdeal.main_arg5) = m ((c.tc : Thread Cert.HgInIdeal.nD Cert.HgInIdeal.τ).loc Cert.HgInIdeal.main_arg5)) →
    ∃ (v0 : (c : Dev Cert.HgInIdeal.nD) → Buf (Elt Ideal) ((c.tc : Thread Cert.HgInIdeal.nD Cert.HgInIdeal.τ).loc Cert.HgInIdeal.main_v8)),
      θ_run (Cert.HgInIdeal.defs (F := Ideal)) (onTc (τ := Cert.HgInIdeal.τ) (Cert.HgInIdeal.main (F := Ideal))) ⟨m, fun _ => 0, g⟩ (fun r => ∀ c : Dev Cert.HgInIdeal.nD,
          r.2.mem ((c.tc : Thread Cert.HgInIdeal.nD Cert.HgInIdeal.τ).loc Cert.HgInIdeal.main_v8) = v0 c
          ∧ r.2.mem ((c.tc : Thread Cert.HgInIdeal.nD Cert.HgInIdeal.τ).loc Cert.HgInIdeal.main_arg0) = m ((c.tc : Thread Cert.HgInIdeal.nD Cert.HgInIdeal.τ).loc Cert.HgInIdeal.main_arg0)
          ∧ r.2.mem ((c.tc : Thread Cert.HgInIdeal.nD Cert.HgInIdeal.τ).loc Cert.HgInIdeal.main_arg1) = m ((c.tc : Thread Cert.HgInIdeal.nD Cert.HgInIdeal.τ).loc Cert.HgInIdeal.main_arg1)
          ∧ r.2.mem ((c.tc : Thread Cert.HgInIdeal.nD Cert.HgInIdeal.τ).loc Cert.HgInIdeal.main_arg2) = m ((c.tc : Thread Cert.HgInIdeal.nD Cert.HgInIdeal.τ).loc Cert.HgInIdeal.main_arg2)
          ∧ r.2.mem ((c.tc : Thread Cert.HgInIdeal.nD Cert.HgInIdeal.τ).loc Cert.HgInIdeal.main_arg3) = m ((c.tc : Thread Cert.HgInIdeal.nD Cert.HgInIdeal.τ).loc Cert.HgInIdeal.main_arg3)
          ∧ r.2.mem ((c.tc : Thread Cert.HgInIdeal.nD Cert.HgInIdeal.τ).loc Cert.HgInIdeal.main_arg4) = m ((c.tc : Thread Cert.HgInIdeal.nD Cert.HgInIdeal.τ).loc Cert.HgInIdeal.main_arg4)
          ∧ r.2.mem ((c.tc : Thread Cert.HgInIdeal.nD Cert.HgInIdeal.τ).loc Cert.HgInIdeal.main_arg5) = m ((c.tc : Thread Cert.HgInIdeal.nD Cert.HgInIdeal.τ).loc Cert.HgInIdeal.main_arg5))
      ∧ θ_run (Cert.HgInRefIdeal.defs (F := Ideal)) (onTc (τ := Cert.HgInRefIdeal.τ) (Cert.HgInRefIdeal.main (F := Ideal))) ⟨m', fun _ => 0, g'⟩ (fun r => ∀ c : Dev Cert.HgInRefIdeal.nD,
          r.2.mem ((c.tc : Thread Cert.HgInRefIdeal.nD Cert.HgInRefIdeal.τ).loc Cert.HgInRefIdeal.main_v61) = v0 c
          ∧ r.2.mem ((c.tc : Thread Cert.HgInRefIdeal.nD Cert.HgInRefIdeal.τ).loc Cert.HgInRefIdeal.main_arg0) = m' ((c.tc : Thread Cert.HgInRefIdeal.nD Cert.HgInRefIdeal.τ).loc Cert.HgInRefIdeal.main_arg0)
          ∧ r.2.mem ((c.tc : Thread Cert.HgInRefIdeal.nD Cert.HgInRefIdeal.τ).loc Cert.HgInRefIdeal.main_arg1) = m' ((c.tc : Thread Cert.HgInRefIdeal.nD Cert.HgInRefIdeal.τ).loc Cert.HgInRefIdeal.main_arg1)
          ∧ r.2.mem ((c.tc : Thread Cert.HgInRefIdeal.nD Cert.HgInRefIdeal.τ).loc Cert.HgInRefIdeal.main_arg2) = m' ((c.tc : Thread Cert.HgInRefIdeal.nD Cert.HgInRefIdeal.τ).loc Cert.HgInRefIdeal.main_arg2)
          ∧ r.2.mem ((c.tc : Thread Cert.HgInRefIdeal.nD Cert.HgInRefIdeal.τ).loc Cert.HgInRefIdeal.main_arg3) = m' ((c.tc : Thread Cert.HgInRefIdeal.nD Cert.HgInRefIdeal.τ).loc Cert.HgInRefIdeal.main_arg3)
          ∧ r.2.mem ((c.tc : Thread Cert.HgInRefIdeal.nD Cert.HgInRefIdeal.τ).loc Cert.HgInRefIdeal.main_arg4) = m' ((c.tc : Thread Cert.HgInRefIdeal.nD Cert.HgInRefIdeal.τ).loc Cert.HgInRefIdeal.main_arg4)
          ∧ r.2.mem ((c.tc : Thread Cert.HgInRefIdeal.nD Cert.HgInRefIdeal.τ).loc Cert.HgInRefIdeal.main_arg5) = m' ((c.tc : Thread Cert.HgInRefIdeal.nD Cert.HgInRefIdeal.τ).loc Cert.HgInRefIdeal.main_arg5))

def preserves_GdIn_GdInIdeal : Prop :=
  True

def algebraic_GdInIdeal_GdInRefIdeal [hGdInIdeal : Cert.GdInIdeal.Facts] [hGdInRefIdeal : Cert.GdInRefIdeal.Facts] : Prop :=
  ∀ (m : (ℓ : Loc Cert.GdInIdeal.nD Cert.GdInIdeal.τ Cert.GdInIdeal.sig) → Buf (Elt Ideal) ℓ) (g : Dev Cert.GdInIdeal.nD → PrngReg)
    (m' : (ℓ : Loc Cert.GdInRefIdeal.nD Cert.GdInRefIdeal.τ Cert.GdInRefIdeal.sig) → Buf (Elt Ideal) ℓ) (g' : Dev Cert.GdInRefIdeal.nD → PrngReg), Pre_GdInIdeal m →
    (∀ c : Dev Cert.GdInIdeal.nD,
      m' ((c.tc : Thread Cert.GdInRefIdeal.nD Cert.GdInRefIdeal.τ).loc Cert.GdInRefIdeal.main_arg0) = m ((c.tc : Thread Cert.GdInIdeal.nD Cert.GdInIdeal.τ).loc Cert.GdInIdeal.main_arg0)
      ∧ m' ((c.tc : Thread Cert.GdInRefIdeal.nD Cert.GdInRefIdeal.τ).loc Cert.GdInRefIdeal.main_arg1) = m ((c.tc : Thread Cert.GdInIdeal.nD Cert.GdInIdeal.τ).loc Cert.GdInIdeal.main_arg1)
      ∧ m' ((c.tc : Thread Cert.GdInRefIdeal.nD Cert.GdInRefIdeal.τ).loc Cert.GdInRefIdeal.main_arg2) = m ((c.tc : Thread Cert.GdInIdeal.nD Cert.GdInIdeal.τ).loc Cert.GdInIdeal.main_arg2)
      ∧ m' ((c.tc : Thread Cert.GdInRefIdeal.nD Cert.GdInRefIdeal.τ).loc Cert.GdInRefIdeal.main_arg3) = m ((c.tc : Thread Cert.GdInIdeal.nD Cert.GdInIdeal.τ).loc Cert.GdInIdeal.main_arg3)
      ∧ m' ((c.tc : Thread Cert.GdInRefIdeal.nD Cert.GdInRefIdeal.τ).loc Cert.GdInRefIdeal.main_arg4) = m ((c.tc : Thread Cert.GdInIdeal.nD Cert.GdInIdeal.τ).loc Cert.GdInIdeal.main_arg4)
      ∧ m' ((c.tc : Thread Cert.GdInRefIdeal.nD Cert.GdInRefIdeal.τ).loc Cert.GdInRefIdeal.main_arg5) = m ((c.tc : Thread Cert.GdInIdeal.nD Cert.GdInIdeal.τ).loc Cert.GdInIdeal.main_arg5)) →
    ∃ (v0 : (c : Dev Cert.GdInIdeal.nD) → Buf (Elt Ideal) ((c.tc : Thread Cert.GdInIdeal.nD Cert.GdInIdeal.τ).loc Cert.GdInIdeal.main_v9)),
      θ_run (Cert.GdInIdeal.defs (F := Ideal)) (onTc (τ := Cert.GdInIdeal.τ) (Cert.GdInIdeal.main (F := Ideal))) ⟨m, fun _ => 0, g⟩ (fun r => ∀ c : Dev Cert.GdInIdeal.nD,
          r.2.mem ((c.tc : Thread Cert.GdInIdeal.nD Cert.GdInIdeal.τ).loc Cert.GdInIdeal.main_v9) = v0 c
          ∧ r.2.mem ((c.tc : Thread Cert.GdInIdeal.nD Cert.GdInIdeal.τ).loc Cert.GdInIdeal.main_arg0) = m ((c.tc : Thread Cert.GdInIdeal.nD Cert.GdInIdeal.τ).loc Cert.GdInIdeal.main_arg0)
          ∧ r.2.mem ((c.tc : Thread Cert.GdInIdeal.nD Cert.GdInIdeal.τ).loc Cert.GdInIdeal.main_arg1) = m ((c.tc : Thread Cert.GdInIdeal.nD Cert.GdInIdeal.τ).loc Cert.GdInIdeal.main_arg1)
          ∧ r.2.mem ((c.tc : Thread Cert.GdInIdeal.nD Cert.GdInIdeal.τ).loc Cert.GdInIdeal.main_arg2) = m ((c.tc : Thread Cert.GdInIdeal.nD Cert.GdInIdeal.τ).loc Cert.GdInIdeal.main_arg2)
          ∧ r.2.mem ((c.tc : Thread Cert.GdInIdeal.nD Cert.GdInIdeal.τ).loc Cert.GdInIdeal.main_arg3) = m ((c.tc : Thread Cert.GdInIdeal.nD Cert.GdInIdeal.τ).loc Cert.GdInIdeal.main_arg3)
          ∧ r.2.mem ((c.tc : Thread Cert.GdInIdeal.nD Cert.GdInIdeal.τ).loc Cert.GdInIdeal.main_arg4) = m ((c.tc : Thread Cert.GdInIdeal.nD Cert.GdInIdeal.τ).loc Cert.GdInIdeal.main_arg4)
          ∧ r.2.mem ((c.tc : Thread Cert.GdInIdeal.nD Cert.GdInIdeal.τ).loc Cert.GdInIdeal.main_arg5) = m ((c.tc : Thread Cert.GdInIdeal.nD Cert.GdInIdeal.τ).loc Cert.GdInIdeal.main_arg5))
      ∧ θ_run (Cert.GdInRefIdeal.defs (F := Ideal)) (onTc (τ := Cert.GdInRefIdeal.τ) (Cert.GdInRefIdeal.main (F := Ideal))) ⟨m', fun _ => 0, g'⟩ (fun r => ∀ c : Dev Cert.GdInRefIdeal.nD,
          r.2.mem ((c.tc : Thread Cert.GdInRefIdeal.nD Cert.GdInRefIdeal.τ).loc Cert.GdInRefIdeal.main_v62) = v0 c
          ∧ r.2.mem ((c.tc : Thread Cert.GdInRefIdeal.nD Cert.GdInRefIdeal.τ).loc Cert.GdInRefIdeal.main_arg0) = m' ((c.tc : Thread Cert.GdInRefIdeal.nD Cert.GdInRefIdeal.τ).loc Cert.GdInRefIdeal.main_arg0)
          ∧ r.2.mem ((c.tc : Thread Cert.GdInRefIdeal.nD Cert.GdInRefIdeal.τ).loc Cert.GdInRefIdeal.main_arg1) = m' ((c.tc : Thread Cert.GdInRefIdeal.nD Cert.GdInRefIdeal.τ).loc Cert.GdInRefIdeal.main_arg1)
          ∧ r.2.mem ((c.tc : Thread Cert.GdInRefIdeal.nD Cert.GdInRefIdeal.τ).loc Cert.GdInRefIdeal.main_arg2) = m' ((c.tc : Thread Cert.GdInRefIdeal.nD Cert.GdInRefIdeal.τ).loc Cert.GdInRefIdeal.main_arg2)
          ∧ r.2.mem ((c.tc : Thread Cert.GdInRefIdeal.nD Cert.GdInRefIdeal.τ).loc Cert.GdInRefIdeal.main_arg3) = m' ((c.tc : Thread Cert.GdInRefIdeal.nD Cert.GdInRefIdeal.τ).loc Cert.GdInRefIdeal.main_arg3)
          ∧ r.2.mem ((c.tc : Thread Cert.GdInRefIdeal.nD Cert.GdInRefIdeal.τ).loc Cert.GdInRefIdeal.main_arg4) = m' ((c.tc : Thread Cert.GdInRefIdeal.nD Cert.GdInRefIdeal.τ).loc Cert.GdInRefIdeal.main_arg4)
          ∧ r.2.mem ((c.tc : Thread Cert.GdInRefIdeal.nD Cert.GdInRefIdeal.τ).loc Cert.GdInRefIdeal.main_arg5) = m' ((c.tc : Thread Cert.GdInRefIdeal.nD Cert.GdInRefIdeal.τ).loc Cert.GdInRefIdeal.main_arg5))

def preserves_HyIn_HyInIdeal : Prop :=
  True

def algebraic_HyInIdeal_HyInRefIdeal [hHyInIdeal : Cert.HyInIdeal.Facts] [hHyInRefIdeal : Cert.HyInRefIdeal.Facts] : Prop :=
  ∀ (m : (ℓ : Loc Cert.HyInIdeal.nD Cert.HyInIdeal.τ Cert.HyInIdeal.sig) → Buf (Elt Ideal) ℓ) (g : Dev Cert.HyInIdeal.nD → PrngReg)
    (m' : (ℓ : Loc Cert.HyInRefIdeal.nD Cert.HyInRefIdeal.τ Cert.HyInRefIdeal.sig) → Buf (Elt Ideal) ℓ) (g' : Dev Cert.HyInRefIdeal.nD → PrngReg), Pre_HyInIdeal m →
    (∀ c : Dev Cert.HyInIdeal.nD,
      m' ((c.tc : Thread Cert.HyInRefIdeal.nD Cert.HyInRefIdeal.τ).loc Cert.HyInRefIdeal.main_arg0) = m ((c.tc : Thread Cert.HyInIdeal.nD Cert.HyInIdeal.τ).loc Cert.HyInIdeal.main_arg0)
      ∧ m' ((c.tc : Thread Cert.HyInRefIdeal.nD Cert.HyInRefIdeal.τ).loc Cert.HyInRefIdeal.main_arg1) = m ((c.tc : Thread Cert.HyInIdeal.nD Cert.HyInIdeal.τ).loc Cert.HyInIdeal.main_arg1)
      ∧ m' ((c.tc : Thread Cert.HyInRefIdeal.nD Cert.HyInRefIdeal.τ).loc Cert.HyInRefIdeal.main_arg2) = m ((c.tc : Thread Cert.HyInIdeal.nD Cert.HyInIdeal.τ).loc Cert.HyInIdeal.main_arg2)
      ∧ m' ((c.tc : Thread Cert.HyInRefIdeal.nD Cert.HyInRefIdeal.τ).loc Cert.HyInRefIdeal.main_arg3) = m ((c.tc : Thread Cert.HyInIdeal.nD Cert.HyInIdeal.τ).loc Cert.HyInIdeal.main_arg3)
      ∧ m' ((c.tc : Thread Cert.HyInRefIdeal.nD Cert.HyInRefIdeal.τ).loc Cert.HyInRefIdeal.main_arg4) = m ((c.tc : Thread Cert.HyInIdeal.nD Cert.HyInIdeal.τ).loc Cert.HyInIdeal.main_arg4)
      ∧ m' ((c.tc : Thread Cert.HyInRefIdeal.nD Cert.HyInRefIdeal.τ).loc Cert.HyInRefIdeal.main_arg5) = m ((c.tc : Thread Cert.HyInIdeal.nD Cert.HyInIdeal.τ).loc Cert.HyInIdeal.main_arg5)
      ∧ m' ((c.tc : Thread Cert.HyInRefIdeal.nD Cert.HyInRefIdeal.τ).loc Cert.HyInRefIdeal.main_arg6) = m ((c.tc : Thread Cert.HyInIdeal.nD Cert.HyInIdeal.τ).loc Cert.HyInIdeal.main_arg6)) →
    ∃ (v0 : (c : Dev Cert.HyInIdeal.nD) → Buf (Elt Ideal) ((c.tc : Thread Cert.HyInIdeal.nD Cert.HyInIdeal.τ).loc Cert.HyInIdeal.main_v7)),
      θ_run (Cert.HyInIdeal.defs (F := Ideal)) (onTc (τ := Cert.HyInIdeal.τ) (Cert.HyInIdeal.main (F := Ideal))) ⟨m, fun _ => 0, g⟩ (fun r => ∀ c : Dev Cert.HyInIdeal.nD,
          r.2.mem ((c.tc : Thread Cert.HyInIdeal.nD Cert.HyInIdeal.τ).loc Cert.HyInIdeal.main_v7) = v0 c
          ∧ r.2.mem ((c.tc : Thread Cert.HyInIdeal.nD Cert.HyInIdeal.τ).loc Cert.HyInIdeal.main_arg0) = m ((c.tc : Thread Cert.HyInIdeal.nD Cert.HyInIdeal.τ).loc Cert.HyInIdeal.main_arg0)
          ∧ r.2.mem ((c.tc : Thread Cert.HyInIdeal.nD Cert.HyInIdeal.τ).loc Cert.HyInIdeal.main_arg1) = m ((c.tc : Thread Cert.HyInIdeal.nD Cert.HyInIdeal.τ).loc Cert.HyInIdeal.main_arg1)
          ∧ r.2.mem ((c.tc : Thread Cert.HyInIdeal.nD Cert.HyInIdeal.τ).loc Cert.HyInIdeal.main_arg2) = m ((c.tc : Thread Cert.HyInIdeal.nD Cert.HyInIdeal.τ).loc Cert.HyInIdeal.main_arg2)
          ∧ r.2.mem ((c.tc : Thread Cert.HyInIdeal.nD Cert.HyInIdeal.τ).loc Cert.HyInIdeal.main_arg3) = m ((c.tc : Thread Cert.HyInIdeal.nD Cert.HyInIdeal.τ).loc Cert.HyInIdeal.main_arg3)
          ∧ r.2.mem ((c.tc : Thread Cert.HyInIdeal.nD Cert.HyInIdeal.τ).loc Cert.HyInIdeal.main_arg4) = m ((c.tc : Thread Cert.HyInIdeal.nD Cert.HyInIdeal.τ).loc Cert.HyInIdeal.main_arg4)
          ∧ r.2.mem ((c.tc : Thread Cert.HyInIdeal.nD Cert.HyInIdeal.τ).loc Cert.HyInIdeal.main_arg5) = m ((c.tc : Thread Cert.HyInIdeal.nD Cert.HyInIdeal.τ).loc Cert.HyInIdeal.main_arg5)
          ∧ r.2.mem ((c.tc : Thread Cert.HyInIdeal.nD Cert.HyInIdeal.τ).loc Cert.HyInIdeal.main_arg6) = m ((c.tc : Thread Cert.HyInIdeal.nD Cert.HyInIdeal.τ).loc Cert.HyInIdeal.main_arg6))
      ∧ θ_run (Cert.HyInRefIdeal.defs (F := Ideal)) (onTc (τ := Cert.HyInRefIdeal.τ) (Cert.HyInRefIdeal.main (F := Ideal))) ⟨m', fun _ => 0, g'⟩ (fun r => ∀ c : Dev Cert.HyInRefIdeal.nD,
          r.2.mem ((c.tc : Thread Cert.HyInRefIdeal.nD Cert.HyInRefIdeal.τ).loc Cert.HyInRefIdeal.main_v67) = v0 c
          ∧ r.2.mem ((c.tc : Thread Cert.HyInRefIdeal.nD Cert.HyInRefIdeal.τ).loc Cert.HyInRefIdeal.main_arg0) = m' ((c.tc : Thread Cert.HyInRefIdeal.nD Cert.HyInRefIdeal.τ).loc Cert.HyInRefIdeal.main_arg0)
          ∧ r.2.mem ((c.tc : Thread Cert.HyInRefIdeal.nD Cert.HyInRefIdeal.τ).loc Cert.HyInRefIdeal.main_arg1) = m' ((c.tc : Thread Cert.HyInRefIdeal.nD Cert.HyInRefIdeal.τ).loc Cert.HyInRefIdeal.main_arg1)
          ∧ r.2.mem ((c.tc : Thread Cert.HyInRefIdeal.nD Cert.HyInRefIdeal.τ).loc Cert.HyInRefIdeal.main_arg2) = m' ((c.tc : Thread Cert.HyInRefIdeal.nD Cert.HyInRefIdeal.τ).loc Cert.HyInRefIdeal.main_arg2)
          ∧ r.2.mem ((c.tc : Thread Cert.HyInRefIdeal.nD Cert.HyInRefIdeal.τ).loc Cert.HyInRefIdeal.main_arg3) = m' ((c.tc : Thread Cert.HyInRefIdeal.nD Cert.HyInRefIdeal.τ).loc Cert.HyInRefIdeal.main_arg3)
          ∧ r.2.mem ((c.tc : Thread Cert.HyInRefIdeal.nD Cert.HyInRefIdeal.τ).loc Cert.HyInRefIdeal.main_arg4) = m' ((c.tc : Thread Cert.HyInRefIdeal.nD Cert.HyInRefIdeal.τ).loc Cert.HyInRefIdeal.main_arg4)
          ∧ r.2.mem ((c.tc : Thread Cert.HyInRefIdeal.nD Cert.HyInRefIdeal.τ).loc Cert.HyInRefIdeal.main_arg5) = m' ((c.tc : Thread Cert.HyInRefIdeal.nD Cert.HyInRefIdeal.τ).loc Cert.HyInRefIdeal.main_arg5)
          ∧ r.2.mem ((c.tc : Thread Cert.HyInRefIdeal.nD Cert.HyInRefIdeal.τ).loc Cert.HyInRefIdeal.main_arg6) = m' ((c.tc : Thread Cert.HyInRefIdeal.nD Cert.HyInRefIdeal.τ).loc Cert.HyInRefIdeal.main_arg6))

def preserves_SwIn_SwInIdeal : Prop :=
  True

def algebraic_SwInIdeal_SwInRefIdeal [hSwInIdeal : Cert.SwInIdeal.Facts] [hSwInRefIdeal : Cert.SwInRefIdeal.Facts] : Prop :=
  ∀ (m : (ℓ : Loc Cert.SwInIdeal.nD Cert.SwInIdeal.τ Cert.SwInIdeal.sig) → Buf (Elt Ideal) ℓ) (g : Dev Cert.SwInIdeal.nD → PrngReg)
    (m' : (ℓ : Loc Cert.SwInRefIdeal.nD Cert.SwInRefIdeal.τ Cert.SwInRefIdeal.sig) → Buf (Elt Ideal) ℓ) (g' : Dev Cert.SwInRefIdeal.nD → PrngReg), Pre_SwInIdeal m →
    (∀ c : Dev Cert.SwInIdeal.nD,
      m' ((c.tc : Thread Cert.SwInRefIdeal.nD Cert.SwInRefIdeal.τ).loc Cert.SwInRefIdeal.main_arg0) = m ((c.tc : Thread Cert.SwInIdeal.nD Cert.SwInIdeal.τ).loc Cert.SwInIdeal.main_arg0)
      ∧ m' ((c.tc : Thread Cert.SwInRefIdeal.nD Cert.SwInRefIdeal.τ).loc Cert.SwInRefIdeal.main_arg1) = m ((c.tc : Thread Cert.SwInIdeal.nD Cert.SwInIdeal.τ).loc Cert.SwInIdeal.main_arg1)
      ∧ m' ((c.tc : Thread Cert.SwInRefIdeal.nD Cert.SwInRefIdeal.τ).loc Cert.SwInRefIdeal.main_arg2) = m ((c.tc : Thread Cert.SwInIdeal.nD Cert.SwInIdeal.τ).loc Cert.SwInIdeal.main_arg2)
      ∧ m' ((c.tc : Thread Cert.SwInRefIdeal.nD Cert.SwInRefIdeal.τ).loc Cert.SwInRefIdeal.main_arg3) = m ((c.tc : Thread Cert.SwInIdeal.nD Cert.SwInIdeal.τ).loc Cert.SwInIdeal.main_arg3)
      ∧ m' ((c.tc : Thread Cert.SwInRefIdeal.nD Cert.SwInRefIdeal.τ).loc Cert.SwInRefIdeal.main_arg4) = m ((c.tc : Thread Cert.SwInIdeal.nD Cert.SwInIdeal.τ).loc Cert.SwInIdeal.main_arg4)
      ∧ m' ((c.tc : Thread Cert.SwInRefIdeal.nD Cert.SwInRefIdeal.τ).loc Cert.SwInRefIdeal.main_arg5) = m ((c.tc : Thread Cert.SwInIdeal.nD Cert.SwInIdeal.τ).loc Cert.SwInIdeal.main_arg5)) →
    ∃ (v0 : (c : Dev Cert.SwInIdeal.nD) → Buf (Elt Ideal) ((c.tc : Thread Cert.SwInIdeal.nD Cert.SwInIdeal.τ).loc Cert.SwInIdeal.main_v13)),
      θ_run (Cert.SwInIdeal.defs (F := Ideal)) (onTc (τ := Cert.SwInIdeal.τ) (Cert.SwInIdeal.main (F := Ideal))) ⟨m, fun _ => 0, g⟩ (fun r => ∀ c : Dev Cert.SwInIdeal.nD,
          r.2.mem ((c.tc : Thread Cert.SwInIdeal.nD Cert.SwInIdeal.τ).loc Cert.SwInIdeal.main_v13) = v0 c
          ∧ r.2.mem ((c.tc : Thread Cert.SwInIdeal.nD Cert.SwInIdeal.τ).loc Cert.SwInIdeal.main_arg0) = m ((c.tc : Thread Cert.SwInIdeal.nD Cert.SwInIdeal.τ).loc Cert.SwInIdeal.main_arg0)
          ∧ r.2.mem ((c.tc : Thread Cert.SwInIdeal.nD Cert.SwInIdeal.τ).loc Cert.SwInIdeal.main_arg1) = m ((c.tc : Thread Cert.SwInIdeal.nD Cert.SwInIdeal.τ).loc Cert.SwInIdeal.main_arg1)
          ∧ r.2.mem ((c.tc : Thread Cert.SwInIdeal.nD Cert.SwInIdeal.τ).loc Cert.SwInIdeal.main_arg2) = m ((c.tc : Thread Cert.SwInIdeal.nD Cert.SwInIdeal.τ).loc Cert.SwInIdeal.main_arg2)
          ∧ r.2.mem ((c.tc : Thread Cert.SwInIdeal.nD Cert.SwInIdeal.τ).loc Cert.SwInIdeal.main_arg3) = m ((c.tc : Thread Cert.SwInIdeal.nD Cert.SwInIdeal.τ).loc Cert.SwInIdeal.main_arg3)
          ∧ r.2.mem ((c.tc : Thread Cert.SwInIdeal.nD Cert.SwInIdeal.τ).loc Cert.SwInIdeal.main_arg4) = m ((c.tc : Thread Cert.SwInIdeal.nD Cert.SwInIdeal.τ).loc Cert.SwInIdeal.main_arg4)
          ∧ r.2.mem ((c.tc : Thread Cert.SwInIdeal.nD Cert.SwInIdeal.τ).loc Cert.SwInIdeal.main_arg5) = m ((c.tc : Thread Cert.SwInIdeal.nD Cert.SwInIdeal.τ).loc Cert.SwInIdeal.main_arg5))
      ∧ θ_run (Cert.SwInRefIdeal.defs (F := Ideal)) (onTc (τ := Cert.SwInRefIdeal.τ) (Cert.SwInRefIdeal.main (F := Ideal))) ⟨m', fun _ => 0, g'⟩ (fun r => ∀ c : Dev Cert.SwInRefIdeal.nD,
          r.2.mem ((c.tc : Thread Cert.SwInRefIdeal.nD Cert.SwInRefIdeal.τ).loc Cert.SwInRefIdeal.main_v77) = v0 c
          ∧ r.2.mem ((c.tc : Thread Cert.SwInRefIdeal.nD Cert.SwInRefIdeal.τ).loc Cert.SwInRefIdeal.main_arg0) = m' ((c.tc : Thread Cert.SwInRefIdeal.nD Cert.SwInRefIdeal.τ).loc Cert.SwInRefIdeal.main_arg0)
          ∧ r.2.mem ((c.tc : Thread Cert.SwInRefIdeal.nD Cert.SwInRefIdeal.τ).loc Cert.SwInRefIdeal.main_arg1) = m' ((c.tc : Thread Cert.SwInRefIdeal.nD Cert.SwInRefIdeal.τ).loc Cert.SwInRefIdeal.main_arg1)
          ∧ r.2.mem ((c.tc : Thread Cert.SwInRefIdeal.nD Cert.SwInRefIdeal.τ).loc Cert.SwInRefIdeal.main_arg2) = m' ((c.tc : Thread Cert.SwInRefIdeal.nD Cert.SwInRefIdeal.τ).loc Cert.SwInRefIdeal.main_arg2)
          ∧ r.2.mem ((c.tc : Thread Cert.SwInRefIdeal.nD Cert.SwInRefIdeal.τ).loc Cert.SwInRefIdeal.main_arg3) = m' ((c.tc : Thread Cert.SwInRefIdeal.nD Cert.SwInRefIdeal.τ).loc Cert.SwInRefIdeal.main_arg3)
          ∧ r.2.mem ((c.tc : Thread Cert.SwInRefIdeal.nD Cert.SwInRefIdeal.τ).loc Cert.SwInRefIdeal.main_arg4) = m' ((c.tc : Thread Cert.SwInRefIdeal.nD Cert.SwInRefIdeal.τ).loc Cert.SwInRefIdeal.main_arg4)
          ∧ r.2.mem ((c.tc : Thread Cert.SwInRefIdeal.nD Cert.SwInRefIdeal.τ).loc Cert.SwInRefIdeal.main_arg5) = m' ((c.tc : Thread Cert.SwInRefIdeal.nD Cert.SwInRefIdeal.τ).loc Cert.SwInRefIdeal.main_arg5))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)
      ∧ m' ((c.tc : Thread Cert.OutRefIdeal.nD Cert.OutRefIdeal.τ).loc Cert.OutRefIdeal.main_arg4) = m ((c.tc : Thread Cert.OutIdeal.nD Cert.OutIdeal.τ).loc Cert.OutIdeal.main_arg4)
      ∧ m' ((c.tc : Thread Cert.OutRefIdeal.nD Cert.OutRefIdeal.τ).loc Cert.OutRefIdeal.main_arg5) = m ((c.tc : Thread Cert.OutIdeal.nD Cert.OutIdeal.τ).loc Cert.OutIdeal.main_arg5)
      ∧ m' ((c.tc : Thread Cert.OutRefIdeal.nD Cert.OutRefIdeal.τ).loc Cert.OutRefIdeal.main_arg6) = m ((c.tc : Thread Cert.OutIdeal.nD Cert.OutIdeal.τ).loc Cert.OutIdeal.main_arg6)
      ∧ m' ((c.tc : Thread Cert.OutRefIdeal.nD Cert.OutRefIdeal.τ).loc Cert.OutRefIdeal.main_arg7) = m ((c.tc : Thread Cert.OutIdeal.nD Cert.OutIdeal.τ).loc Cert.OutIdeal.main_arg7)
      ∧ m' ((c.tc : Thread Cert.OutRefIdeal.nD Cert.OutRefIdeal.τ).loc Cert.OutRefIdeal.main_arg8) = m ((c.tc : Thread Cert.OutIdeal.nD Cert.OutIdeal.τ).loc Cert.OutIdeal.main_arg8)
      ∧ m' ((c.tc : Thread Cert.OutRefIdeal.nD Cert.OutRefIdeal.τ).loc Cert.OutRefIdeal.main_arg9) = m ((c.tc : Thread Cert.OutIdeal.nD Cert.OutIdeal.τ).loc Cert.OutIdeal.main_arg9)) →
    ∃ (v0 : (c : Dev Cert.OutIdeal.nD) → Buf (Elt Ideal) ((c.tc : Thread Cert.OutIdeal.nD Cert.OutIdeal.τ).loc Cert.OutIdeal.main_v14_0)) (v1 : (c : Dev Cert.OutIdeal.nD) → Buf (Elt Ideal) ((c.tc : Thread Cert.OutIdeal.nD Cert.OutIdeal.τ).loc Cert.OutIdeal.main_v14_1)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v14_0) = v0 c
          ∧ r.2.mem ((c.tc : Thread Cert.OutIdeal.nD Cert.OutIdeal.τ).loc Cert.OutIdeal.main_v14_1) = v1 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
          ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
          ∧ r.2.mem ((c.tc : Thread Cert.OutIdeal.nD Cert.OutIdeal.τ).loc Cert.OutIdeal.main_arg5) = m ((c.tc : Thread Cert.OutIdeal.nD Cert.OutIdeal.τ).loc Cert.OutIdeal.main_arg5)
          ∧ r.2.mem ((c.tc : Thread Cert.OutIdeal.nD Cert.OutIdeal.τ).loc Cert.OutIdeal.main_arg6) = m ((c.tc : Thread Cert.OutIdeal.nD Cert.OutIdeal.τ).loc Cert.OutIdeal.main_arg6)
          ∧ r.2.mem ((c.tc : Thread Cert.OutIdeal.nD Cert.OutIdeal.τ).loc Cert.OutIdeal.main_arg7) = m ((c.tc : Thread Cert.OutIdeal.nD Cert.OutIdeal.τ).loc Cert.OutIdeal.main_arg7)
          ∧ r.2.mem ((c.tc : Thread Cert.OutIdeal.nD Cert.OutIdeal.τ).loc Cert.OutIdeal.main_arg8) = m ((c.tc : Thread Cert.OutIdeal.nD Cert.OutIdeal.τ).loc Cert.OutIdeal.main_arg8)
          ∧ r.2.mem ((c.tc : Thread Cert.OutIdeal.nD Cert.OutIdeal.τ).loc Cert.OutIdeal.main_arg9) = m ((c.tc : Thread Cert.OutIdeal.nD Cert.OutIdeal.τ).loc Cert.OutIdeal.main_arg9))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v73) = v0 c
          ∧ r.2.mem ((c.tc : Thread Cert.OutRefIdeal.nD Cert.OutRefIdeal.τ).loc Cert.OutRefIdeal.main_v75) = v1 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3)
          ∧ r.2.mem ((c.tc : Thread Cert.OutRefIdeal.nD Cert.OutRefIdeal.τ).loc Cert.OutRefIdeal.main_arg4) = m' ((c.tc : Thread Cert.OutRefIdeal.nD Cert.OutRefIdeal.τ).loc Cert.OutRefIdeal.main_arg4)
          ∧ r.2.mem ((c.tc : Thread Cert.OutRefIdeal.nD Cert.OutRefIdeal.τ).loc Cert.OutRefIdeal.main_arg5) = m' ((c.tc : Thread Cert.OutRefIdeal.nD Cert.OutRefIdeal.τ).loc Cert.OutRefIdeal.main_arg5)
          ∧ r.2.mem ((c.tc : Thread Cert.OutRefIdeal.nD Cert.OutRefIdeal.τ).loc Cert.OutRefIdeal.main_arg6) = m' ((c.tc : Thread Cert.OutRefIdeal.nD Cert.OutRefIdeal.τ).loc Cert.OutRefIdeal.main_arg6)
          ∧ r.2.mem ((c.tc : Thread Cert.OutRefIdeal.nD Cert.OutRefIdeal.τ).loc Cert.OutRefIdeal.main_arg7) = m' ((c.tc : Thread Cert.OutRefIdeal.nD Cert.OutRefIdeal.τ).loc Cert.OutRefIdeal.main_arg7)
          ∧ r.2.mem ((c.tc : Thread Cert.OutRefIdeal.nD Cert.OutRefIdeal.τ).loc Cert.OutRefIdeal.main_arg8) = m' ((c.tc : Thread Cert.OutRefIdeal.nD Cert.OutRefIdeal.τ).loc Cert.OutRefIdeal.main_arg8)
          ∧ r.2.mem ((c.tc : Thread Cert.OutRefIdeal.nD Cert.OutRefIdeal.τ).loc Cert.OutRefIdeal.main_arg9) = m' ((c.tc : Thread Cert.OutRefIdeal.nD Cert.OutRefIdeal.τ).loc Cert.OutRefIdeal.main_arg9))

def preserves_Mod_ModIdeal : Prop :=
  True

def algebraic_ModIdeal_ModRefIdeal [hModIdeal : Cert.ModIdeal.Facts] [hModRefIdeal : Cert.ModRefIdeal.Facts] : Prop :=
  ∀ (m : (ℓ : Loc Cert.ModIdeal.nD Cert.ModIdeal.τ Cert.ModIdeal.sig) → Buf (Elt Ideal) ℓ) (g : Dev Cert.ModIdeal.nD → PrngReg)
    (m' : (ℓ : Loc Cert.ModRefIdeal.nD Cert.ModRefIdeal.τ Cert.ModRefIdeal.sig) → Buf (Elt Ideal) ℓ) (g' : Dev Cert.ModRefIdeal.nD → PrngReg), Pre_ModIdeal m →
    (∀ c : Dev Cert.ModIdeal.nD,
      m' ((c.tc : Thread Cert.ModRefIdeal.nD Cert.ModRefIdeal.τ).loc Cert.ModRefIdeal.main_arg0) = m ((c.tc : Thread Cert.ModIdeal.nD Cert.ModIdeal.τ).loc Cert.ModIdeal.main_arg0)
      ∧ m' ((c.tc : Thread Cert.ModRefIdeal.nD Cert.ModRefIdeal.τ).loc Cert.ModRefIdeal.main_arg1) = m ((c.tc : Thread Cert.ModIdeal.nD Cert.ModIdeal.τ).loc Cert.ModIdeal.main_arg1)
      ∧ m' ((c.tc : Thread Cert.ModRefIdeal.nD Cert.ModRefIdeal.τ).loc Cert.ModRefIdeal.main_arg2) = m ((c.tc : Thread Cert.ModIdeal.nD Cert.ModIdeal.τ).loc Cert.ModIdeal.main_arg2)
      ∧ m' ((c.tc : Thread Cert.ModRefIdeal.nD Cert.ModRefIdeal.τ).loc Cert.ModRefIdeal.main_arg3) = m ((c.tc : Thread Cert.ModIdeal.nD Cert.ModIdeal.τ).loc Cert.ModIdeal.main_arg3)) →
    ∃ (v0 : (c : Dev Cert.ModIdeal.nD) → Buf (Elt Ideal) ((c.tc : Thread Cert.ModIdeal.nD Cert.ModIdeal.τ).loc Cert.ModIdeal.main_v6)),
      θ_run (Cert.ModIdeal.defs (F := Ideal)) (onTc (τ := Cert.ModIdeal.τ) (Cert.ModIdeal.main (F := Ideal))) ⟨m, fun _ => 0, g⟩ (fun r => ∀ c : Dev Cert.ModIdeal.nD,
          r.2.mem ((c.tc : Thread Cert.ModIdeal.nD Cert.ModIdeal.τ).loc Cert.ModIdeal.main_v6) = v0 c
          ∧ r.2.mem ((c.tc : Thread Cert.ModIdeal.nD Cert.ModIdeal.τ).loc Cert.ModIdeal.main_arg0) = m ((c.tc : Thread Cert.ModIdeal.nD Cert.ModIdeal.τ).loc Cert.ModIdeal.main_arg0)
          ∧ r.2.mem ((c.tc : Thread Cert.ModIdeal.nD Cert.ModIdeal.τ).loc Cert.ModIdeal.main_arg1) = m ((c.tc : Thread Cert.ModIdeal.nD Cert.ModIdeal.τ).loc Cert.ModIdeal.main_arg1)
          ∧ r.2.mem ((c.tc : Thread Cert.ModIdeal.nD Cert.ModIdeal.τ).loc Cert.ModIdeal.main_arg2) = m ((c.tc : Thread Cert.ModIdeal.nD Cert.ModIdeal.τ).loc Cert.ModIdeal.main_arg2)
          ∧ r.2.mem ((c.tc : Thread Cert.ModIdeal.nD Cert.ModIdeal.τ).loc Cert.ModIdeal.main_arg3) = m ((c.tc : Thread Cert.ModIdeal.nD Cert.ModIdeal.τ).loc Cert.ModIdeal.main_arg3))
      ∧ θ_run (Cert.ModRefIdeal.defs (F := Ideal)) (onTc (τ := Cert.ModRefIdeal.τ) (Cert.ModRefIdeal.main (F := Ideal))) ⟨m', fun _ => 0, g'⟩ (fun r => ∀ c : Dev Cert.ModRefIdeal.nD,
          r.2.mem ((c.tc : Thread Cert.ModRefIdeal.nD Cert.ModRefIdeal.τ).loc Cert.ModRefIdeal.main_v12) = v0 c
          ∧ r.2.mem ((c.tc : Thread Cert.ModRefIdeal.nD Cert.ModRefIdeal.τ).loc Cert.ModRefIdeal.main_arg0) = m' ((c.tc : Thread Cert.ModRefIdeal.nD Cert.ModRefIdeal.τ).loc Cert.ModRefIdeal.main_arg0)
          ∧ r.2.mem ((c.tc : Thread Cert.ModRefIdeal.nD Cert.ModRefIdeal.τ).loc Cert.ModRefIdeal.main_arg1) = m' ((c.tc : Thread Cert.ModRefIdeal.nD Cert.ModRefIdeal.τ).loc Cert.ModRefIdeal.main_arg1)
          ∧ r.2.mem ((c.tc : Thread Cert.ModRefIdeal.nD Cert.ModRefIdeal.τ).loc Cert.ModRefIdeal.main_arg2) = m' ((c.tc : Thread Cert.ModRefIdeal.nD Cert.ModRefIdeal.τ).loc Cert.ModRefIdeal.main_arg2)
          ∧ r.2.mem ((c.tc : Thread Cert.ModRefIdeal.nD Cert.ModRefIdeal.τ).loc Cert.ModRefIdeal.main_arg3) = m' ((c.tc : Thread Cert.ModRefIdeal.nD Cert.ModRefIdeal.τ).loc Cert.ModRefIdeal.main_arg3))

def Claim : Prop :=
  ∃ (hSwa : Cert.Swa.Facts) (hSwaIdeal : Cert.SwaIdeal.Facts) (hSwaRefIdeal : Cert.SwaRefIdeal.Facts) (hFfn : Cert.Ffn.Facts) (hFfnIdeal : Cert.FfnIdeal.Facts) (hFfnRefIdeal : Cert.FfnRefIdeal.Facts) (hHgIn : Cert.HgIn.Facts) (hHgInIdeal : Cert.HgInIdeal.Facts) (hHgInRefIdeal : Cert.HgInRefIdeal.Facts) (hGdIn : Cert.GdIn.Facts) (hGdInIdeal : Cert.GdInIdeal.Facts) (hGdInRefIdeal : Cert.GdInRefIdeal.Facts) (hHyIn : Cert.HyIn.Facts) (hHyInIdeal : Cert.HyInIdeal.Facts) (hHyInRefIdeal : Cert.HyInRefIdeal.Facts) (hSwIn : Cert.SwIn.Facts) (hSwInIdeal : Cert.SwInIdeal.Facts) (hSwInRefIdeal : Cert.SwInRefIdeal.Facts) (hOut : Cert.Out.Facts) (hOutIdeal : Cert.OutIdeal.Facts) (hOutRefIdeal : Cert.OutRefIdeal.Facts) (hMod : Cert.Mod.Facts) (hModIdeal : Cert.ModIdeal.Facts) (hModRefIdeal : Cert.ModRefIdeal.Facts) (hPre_finite_scores : Cert.Pre_finite_scores.Facts),
    quiescent_Swa (hSwa := hSwa)
    ∧ quiescent_SwaIdeal (hSwaIdeal := hSwaIdeal)
    ∧ quiescent_SwaIdeal_pre_finite_scores (hSwaIdeal := hSwaIdeal) (hPre_finite_scores := hPre_finite_scores)
    ∧ quiescent_SwaRefIdeal (hSwaRefIdeal := hSwaRefIdeal)
    ∧ quiescent_SwaRefIdeal_pre_finite_scores (hSwaRefIdeal := hSwaRefIdeal) (hPre_finite_scores := hPre_finite_scores)
    ∧ quiescent_Ffn (hFfn := hFfn)
    ∧ quiescent_FfnIdeal (hFfnIdeal := hFfnIdeal)
    ∧ quiescent_FfnRefIdeal (hFfnRefIdeal := hFfnRefIdeal)
    ∧ quiescent_HgIn (hHgIn := hHgIn)
    ∧ quiescent_HgInIdeal (hHgInIdeal := hHgInIdeal)
    ∧ quiescent_HgInRefIdeal (hHgInRefIdeal := hHgInRefIdeal)
    ∧ quiescent_GdIn (hGdIn := hGdIn)
    ∧ quiescent_GdInIdeal (hGdInIdeal := hGdInIdeal)
    ∧ quiescent_GdInRefIdeal (hGdInRefIdeal := hGdInRefIdeal)
    ∧ quiescent_HyIn (hHyIn := hHyIn)
    ∧ quiescent_HyInIdeal (hHyInIdeal := hHyInIdeal)
    ∧ quiescent_HyInRefIdeal (hHyInRefIdeal := hHyInRefIdeal)
    ∧ quiescent_SwIn (hSwIn := hSwIn)
    ∧ quiescent_SwInIdeal (hSwInIdeal := hSwInIdeal)
    ∧ quiescent_SwInRefIdeal (hSwInRefIdeal := hSwInRefIdeal)
    ∧ quiescent_Out (hOut := hOut)
    ∧ quiescent_OutIdeal (hOutIdeal := hOutIdeal)
    ∧ quiescent_OutRefIdeal (hOutRefIdeal := hOutRefIdeal)
    ∧ quiescent_Mod (hMod := hMod)
    ∧ quiescent_ModIdeal (hModIdeal := hModIdeal)
    ∧ quiescent_ModRefIdeal (hModRefIdeal := hModRefIdeal)
    ∧ preserves_Swa_SwaIdeal
    ∧ algebraic_SwaIdeal_SwaRefIdeal_pre_finite_scores (hSwaIdeal := hSwaIdeal) (hSwaRefIdeal := hSwaRefIdeal) (hPre_finite_scores := hPre_finite_scores)
    ∧ preserves_Ffn_FfnIdeal
    ∧ algebraic_FfnIdeal_FfnRefIdeal (hFfnIdeal := hFfnIdeal) (hFfnRefIdeal := hFfnRefIdeal)
    ∧ preserves_HgIn_HgInIdeal
    ∧ algebraic_HgInIdeal_HgInRefIdeal (hHgInIdeal := hHgInIdeal) (hHgInRefIdeal := hHgInRefIdeal)
    ∧ preserves_GdIn_GdInIdeal
    ∧ algebraic_GdInIdeal_GdInRefIdeal (hGdInIdeal := hGdInIdeal) (hGdInRefIdeal := hGdInRefIdeal)
    ∧ preserves_HyIn_HyInIdeal
    ∧ algebraic_HyInIdeal_HyInRefIdeal (hHyInIdeal := hHyInIdeal) (hHyInRefIdeal := hHyInRefIdeal)
    ∧ preserves_SwIn_SwInIdeal
    ∧ algebraic_SwInIdeal_SwInRefIdeal (hSwInIdeal := hSwInIdeal) (hSwInRefIdeal := hSwInRefIdeal)
    ∧ preserves_Out_OutIdeal
    ∧ algebraic_OutIdeal_OutRefIdeal (hOutIdeal := hOutIdeal) (hOutRefIdeal := hOutRefIdeal)
    ∧ preserves_Mod_ModIdeal
    ∧ algebraic_ModIdeal_ModRefIdeal (hModIdeal := hModIdeal) (hModRefIdeal := hModRefIdeal)
-- ==== Pre_finite_scores.lean ====
abbrev S8x256x4x4x64 : Shape := ⟨5, ![8, 256, 4, 4, 64]⟩
abbrev S8x256x4x64 : Shape := ⟨4, ![8, 256, 4, 64]⟩
abbrev S8x2048x4x4x64 : Shape := ⟨5, ![8, 2048, 4, 4, 64]⟩
abbrev S8x2048x4x64 : Shape := ⟨4, ![8, 2048, 4, 64]⟩
abbrev S2048x32 : Shape := ⟨2, ![2048, 32]⟩
abbrev S16 : Shape := ⟨1, ![16]⟩
abbrev S_ : Shape := ⟨0, ![]⟩

class Facts : Prop where
  bcast_S_S8x256x4x4x64 : S_.BroadcastsInDim S8x256x4x4x64 (![] : Fin 0 → Fin S8x256x4x4x64.rank)
  reducesTo_S8x256x4x4x64_S_d0_1_2_3_4 : S8x256x4x4x64.ReducesTo [0, 1, 2, 3, 4] S_
  h_S_ : 0 < S_.numel
  bcast_S_S8x256x4x64 : S_.BroadcastsInDim S8x256x4x64 (![] : Fin 0 → Fin S8x256x4x64.rank)
  reducesTo_S8x256x4x64_S_d0_1_2_3 : S8x256x4x64.ReducesTo [0, 1, 2, 3] S_
  bcast_S_S8x2048x4x4x64 : S_.BroadcastsInDim S8x2048x4x4x64 (![] : Fin 0 → Fin S8x2048x4x4x64.rank)
  reducesTo_S8x2048x4x4x64_S_d0_1_2_3_4 : S8x2048x4x4x64.ReducesTo [0, 1, 2, 3, 4] S_
  bcast_S_S8x2048x4x64 : S_.BroadcastsInDim S8x2048x4x64 (![] : Fin 0 → Fin S8x2048x4x64.rank)
  reducesTo_S8x2048x4x64_S_d0_1_2_3 : S8x2048x4x64.ReducesTo [0, 1, 2, 3] S_
  bcast_S_S2048x32 : S_.BroadcastsInDim S2048x32 (![] : Fin 0 → Fin S2048x32.rank)
  reducesTo_S2048x32_S_d0_1 : S2048x32.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg6 : FVec F S2048x32 .f32) (main_arg7 : FVec F S2048x32 .f32) (main_arg8 : FVec F S16 .f32) (main_v3 : IVec S_ 1) (main_v7 : IVec S_ 1) (main_v11 : IVec S_ 1) (main_v15 : IVec S_ 1) : IVec S_ 1 :=
  let main_v16 : FVec F S2048x32 .f32 := Host.absf main_arg6
  let main_cst_6 : FVec F S_ .f32 := constant S_ .f32 0x7F800000#32
  let main_v17 : FVec F S2048x32 .f32 := broadcastInDim S2048x32 ![] bcast_S_S2048x32 main_cst_6
  let main_v18 : IVec S2048x32 1 := cmpf .olt main_v16 main_v17
  let main_c_7 : IVec S_ 1 := constantI S_ 1 1#1
  let main_v19 : IVec S_ 1 := (fun x v => Host.reduce IntOp.andi x v reducesTo_S2048x32_S_d0_1 h_S_) main_v18 main_c_7
  let main_v20 : FVec F S2048x32 .f32 := Host.absf main_arg7
  let main_cst_8 : FVec F S_ .f32 := constant S_ .f32 0x7F800000#32
  let main_v21 : FVec F S2048x32 .f32 := broadcastInDim S2048x32 ![] bcast_S_S2048x32 main_cst_8
  let main_v22 : IVec S2048x32 1 := cmpf .olt main_v20 main_v21
  let main_c_9 : IVec S_ 1 := constantI S_ 1 1#1
  let main_v23 : IVec S_ 1 := (fun x v => Host.reduce IntOp.andi x v reducesTo_S2048x32_S_d0_1 h_S_) main_v22 main_c_9
  let main_v24 : FVec F S16 .f32 := Host.absf main_arg8
  let main_cst_10 : FVec F S_ .f32 := constant S_ .f32 0x7F800000#32
  let main_v25 : FVec F S16 .f32 := broadcastInDim S16 ![] bcast_S_S16 main_cst_10
  let main_v26 : IVec S16 1 := cmpf .olt main_v24 main_v25
  let main_c_11 : IVec S_ 1 := constantI S_ 1 1#1
  let main_v27 : IVec S_ 1 := (fun x v => Host.reduce IntOp.andi x v reducesTo_S16_S_d0 h_S_) main_v26 main_c_11
  let main_v28 : IVec S_ 1 := andi main_v3 main_v7
  let main_v29 : IVec S_ 1 := andi main_v28 main_v11
  let main_v30 : IVec S_ 1 := andi main_v29 main_v15
  let main_v31 : IVec S_ 1 := andi main_v30 main_v19
  let main_v32 : IVec S_ 1 := andi main_v31 main_v23
  let main_v33 : IVec S_ 1 := andi main_v32 main_v27
  main_v33

def fn {F : FTy → Type} [FloatOps F] (main_arg0 : FVec F S8x256x4x4x64 .f32) (main_arg1 : FVec F S8x256x4x64 .f32) (main_arg2 : FVec F S8x256x4x64 .f32) (main_arg3 : FVec F S8x2048x4x4x64 .f32) (main_arg4 : FVec F S8x2048x4x64 .f32) (main_arg5 : FVec F S8x2048x4x64 .f32) (main_arg6 : FVec F S2048x32 .f32) (main_arg7 : FVec F S2048x32 .f32) (main_arg8 : FVec F S16 .f32) : IVec S_ 1 :=
  let main_v0 : FVec F S8x256x4x4x64 .f32 := Host.absf main_arg0
  let main_cst : FVec F S_ .f32 := constant S_ .f32 0x7F800000#32
  let main_v1 : FVec F S8x256x4x4x64 .f32 := broadcastInDim S8x256x4x4x64 ![] bcast_S_S8x256x4x4x64 main_cst
  let main_v2 : IVec S8x256x4x4x64 1 := cmpf .olt main_v0 main_v1
  let main_c : IVec S_ 1 := constantI S_ 1 1#1
  let main_v3 : IVec S_ 1 := (fun x v => Host.reduce IntOp.andi x v reducesTo_S8x256x4x4x64_S_d0_1_2_3_4 h_S_) main_v2 main_c
  let main_v4 : FVec F S8x256x4x64 .f32 := Host.absf main_arg1
  let main_cst_0 : FVec F S_ .f32 := constant S_ .f32 0x7F800000#32
  let main_v5 : FVec F S8x256x4x64 .f32 := broadcastInDim S8x256x4x64 ![] bcast_S_S8x256x4x64 main_cst_0
  let main_v6 : IVec S8x256x4x64 1 := cmpf .olt main_v4 main_v5
  let main_c_1 : IVec S_ 1 := constantI S_ 1 1#1
  let main_v7 : IVec S_ 1 := (fun x v => Host.reduce IntOp.andi x v reducesTo_S8x256x4x64_S_d0_1_2_3 h_S_) main_v6 main_c_1
  let main_v8 : FVec F S8x2048x4x4x64 .f32 := Host.absf main_arg3
  let main_cst_2 : FVec F S_ .f32 := constant S_ .f32 0x7F800000#32
  let main_v9 : FVec F S8x2048x4x4x64 .f32 := broadcastInDim S8x2048x4x4x64 ![] bcast_S_S8x2048x4x4x64 main_cst_2
  let main_v10 : IVec S8x2048x4x4x64 1 := cmpf .olt main_v8 main_v9
  let main_c_3 : IVec S_ 1 := constantI S_ 1 1#1
  let main_v11 : IVec S_ 1 := (fun x v => Host.reduce IntOp.andi x v reducesTo_S8x2048x4x4x64_S_d0_1_2_3_4 h_S_) main_v10 main_c_3
  let main_v12 : FVec F S8x2048x4x64 .f32 := Host.absf main_arg4
  let main_cst_4 : FVec F S_ .f32 := constant S_ .f32 0x7F800000#32
  let main_v13 : FVec F S8x2048x4x64 .f32 := broadcastInDim S8x2048x4x64 ![] bcast_S_S8x2048x4x64 main_cst_4
  let main_v14 : IVec S8x2048x4x64 1 := cmpf .olt main_v12 main_v13
  let main_c_5 : IVec S_ 1 := constantI S_ 1 1#1
  let main_v15 : IVec S_ 1 := (fun x v => Host.reduce IntOp.andi x v reducesTo_S8x2048x4x64_S_d0_1_2_3 h_S_) main_v14 main_c_5
  fn_part1 (F := F) main_arg6 main_arg7 main_arg8 main_v3 main_v7 main_v11 main_v15
-- ==== Swa.lean ====
abbrev S8x256x4x4x64 : Shape := ⟨5, ![8, 256, 4, 4, 64]⟩
abbrev S8x256x4x64 : Shape := ⟨4, ![8, 256, 4, 64]⟩
abbrev S8x2048x4x4x64 : Shape := ⟨5, ![8, 2048, 4, 4, 64]⟩
abbrev S8x2048x4x64 : Shape := ⟨4, ![8, 2048, 4, 64]⟩
abbrev S2048x32 : Shape := ⟨2, ![2048, 32]⟩
abbrev S16 : Shape := ⟨1, ![16]⟩
abbrev S8x2304x4x4x64 : Shape := ⟨5, ![8, 2304, 4, 4, 64]⟩
abbrev S8x2304x4x256 : Shape := ⟨4, ![8, 2304, 4, 256]⟩
abbrev S8x2304x4x64 : Shape := ⟨4, ![8, 2304, 4, 64]⟩
abbrev S8x2304x4x384 : Shape := ⟨4, ![8, 2304, 4, 384]⟩
abbrev S8x2304x1536 : Shape := ⟨3, ![8, 2304, 1536]⟩
abbrev S_ : Shape := ⟨0, ![]⟩
abbrev S2048x64 : Shape := ⟨2, ![2048, 64]⟩
abbrev S2048x256 : Shape := ⟨2, ![2048, 256]⟩
abbrev S2048x128 : Shape := ⟨2, ![2048, 128]⟩
abbrev S8x2304x1024 : Shape := ⟨3, ![8, 2304, 1024]⟩
abbrev S1x2304x384 : Shape := ⟨3, ![1, 2304, 384]⟩
abbrev S1x2304x256 : Shape := ⟨3, ![1, 2304, 256]⟩
abbrev S2304x128 : Shape := ⟨2, ![2304, 128]⟩
abbrev S4x128x640 : Shape := ⟨3, ![4, 128, 640]⟩
abbrev S1x2048x128 : Shape := ⟨3, ![1, 2048, 128]⟩
abbrev S1x256x128 : Shape := ⟨3, ![1, 256, 128]⟩
abbrev S256x128 : Shape := ⟨2, ![256, 128]⟩
abbrev S256x64 : Shape := ⟨2, ![256, 64]⟩
abbrev S1x128x256 : Shape := ⟨3, ![1, 128, 256]⟩
abbrev S128x256 : Shape := ⟨2, ![128, 256]⟩
abbrev S384x64 : Shape := ⟨2, ![384, 64]⟩
abbrev S128x64 : Shape := ⟨2, ![128, 64]⟩
abbrev S128x384 : Shape := ⟨2, ![128, 384]⟩
abbrev S1x128x384 : Shape := ⟨3, ![1, 128, 384]⟩
abbrev S1 : Shape := ⟨1, ![1]⟩
abbrev S128 : Shape := ⟨1, ![128]⟩
abbrev S128x1 : Shape := ⟨2, ![128, 1]⟩
abbrev S1x128x64 : Shape := ⟨3, ![1, 128, 64]⟩
abbrev S1x256x256 : Shape := ⟨3, ![1, 256, 256]⟩
abbrev S256x256 : Shape := ⟨2, ![256, 256]⟩
abbrev S256 : Shape := ⟨1, ![256]⟩
abbrev S256x1 : Shape := ⟨2, ![256, 1]⟩
abbrev S1x256x64 : Shape := ⟨3, ![1, 256, 64]⟩

abbrev nBuf : Space → Nat
  | .hbm => 33
  | .vmem => 13
  | .smem => 1
  | _ => 0

abbrev bufTy : (tb : Table) → Fin (tcTables nBuf tb) → BufTy
  | .hbm, ⟨0, _⟩ => ⟨S8x256x4x4x64, .f32⟩
  | .hbm, ⟨1, _⟩ => ⟨S8x256x4x64, .f32⟩
  | .hbm, ⟨2, _⟩ => ⟨S8x256x4x64, .f32⟩
  | .hbm, ⟨3, _⟩ => ⟨S8x2048x4x4x64, .f32⟩
  | .hbm, ⟨4, _⟩ => ⟨S8x2048x4x64, .f32⟩
  | .hbm, ⟨5, _⟩ => ⟨S8x2048x4x64, .f32⟩
  | .hbm, ⟨6, _⟩ => ⟨S2048x32, .f32⟩
  | .hbm, ⟨7, _⟩ => ⟨S2048x32, .f32⟩
  | .hbm, ⟨8, _⟩ => ⟨S16, .f32⟩
  | .hbm, ⟨9, _⟩ => ⟨S8x2304x4x4x64, .f32⟩
  | .hbm, ⟨10, _⟩ => ⟨S8x2304x4x256, .f32⟩
  | .hbm, ⟨11, _⟩ => ⟨S8x2304x4x64, .f32⟩
  | .hbm, ⟨12, _⟩ => ⟨S8x2304x4x64, .f32⟩
  | .hbm, ⟨13, _⟩ => ⟨S8x2304x4x384, .f32⟩
  | .hbm, ⟨14, _⟩ => ⟨S8x2304x1536, .f32⟩
  | .hbm, ⟨15, _⟩ => ⟨S8x2304x1536, .bf16⟩
  | .hbm, ⟨16, _⟩ => ⟨S_, .f32⟩
  | .hbm, ⟨17, _⟩ => ⟨S2048x32, .f32⟩
  | .hbm, ⟨18, _⟩ => ⟨S2048x64, .f32⟩
  | .hbm, ⟨19, _⟩ => ⟨S2048x32, .f32⟩
  | .hbm, ⟨20, _⟩ => ⟨S2048x64, .f32⟩
  | .hbm, ⟨21, _⟩ => ⟨S2048x64, .f32⟩
  | .hbm, ⟨22, _⟩ => ⟨S_, .f32⟩
  | .hbm, ⟨23, _⟩ => ⟨S2048x64, .f32⟩
  | .hbm, ⟨24, _⟩ => ⟨S_, .f32⟩
  | .hbm, ⟨25, _⟩ => ⟨S2048x64, .f32⟩
  | .hbm, ⟨26, _⟩ => ⟨S2048x256, .f32⟩
  | .hbm, ⟨27, _⟩ => ⟨S2048x256, .f32⟩
  | .hbm, ⟨28, _⟩ => ⟨S2048x256, .f32⟩
  | .hbm, ⟨29, _⟩ => ⟨S2048x128, .f32⟩
  | .hbm, ⟨30, _⟩ => ⟨S2048x128, .f32⟩
  | .hbm, ⟨31, _⟩ => ⟨S2048x128, .f32⟩
  | .hbm, ⟨32, _⟩ => ⟨S8x2304x1024, .f32⟩
  | .local _ .vmem, ⟨0, _⟩ => ⟨S1x2304x384, .bf16⟩
  | .local _ .vmem, ⟨1, _⟩ => ⟨S1x2304x384, .bf16⟩
  | .local _ .vmem, ⟨2, _⟩ => ⟨S2048x256, .f32⟩
  | .local _ .vmem, ⟨3, _⟩ => ⟨S2048x256, .f32⟩
  | .local _ .vmem, ⟨4, _⟩ => ⟨S2048x256, .f32⟩
  | .local _ .vmem, ⟨5, _⟩ => ⟨S2048x128, .f32⟩
  | .local _ .vmem, ⟨6, _⟩ => ⟨S2048x128, .f32⟩
  | .local _ .vmem, ⟨7, _⟩ => ⟨S2048x128, .f32⟩
  | .local _ .vmem, ⟨8, _⟩ => ⟨S1x2304x256, .f32⟩
  | .local _ .vmem, ⟨9, _⟩ => ⟨S1x2304x256, .f32⟩
  | .local _ .vmem, ⟨10, _⟩ => ⟨S2304x128, .bf16⟩
  | .local _ .vmem, ⟨11, _⟩ => ⟨S4x128x640, .f32⟩
  | .local _ .vmem, ⟨12, _⟩ => ⟨S4x128x640, .f32⟩
  | .local _ .smem, ⟨0, _⟩ => ⟨S16, .f32⟩
  | _, _ => ⟨S8x256x4x4x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨0, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_0 : Ref sig .tc := ⟨.hbm, 22, rfl⟩
abbrev main_v12 : Ref sig .tc := ⟨.hbm, 23, rfl⟩
abbrev main_cst_1 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg8_0 : Ref sig .tc := ⟨.vmem, 8, rfl⟩
abbrev cc0_stg8_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_stg7_0 : Ref sig .tc := ⟨.smem, 0, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10

abbrev nD : Nat := 1
abbrev τ : Topo := Topo.v7x

variable {F : FTy → Type} [FloatOps F]

abbrev grid0 : Pipeline.Grid := ⟨2, ![8, 4], ![false, false]⟩

def k0_mult1 : BitVec 32 :=
  let c0_i32 : BitVec 32 := 0#32
  c0_i32
def k0_mult2 : BitVec 32 :=
  let c1664_i32 : BitVec 32 := 1664#32
  let c0_i32_22 : BitVec 32 := 0#32
  let c_m128_i32 : BitVec 32 := 4294967168#32
  let v51 : BitVec 32 := Scalar.maxsi c0_i32_22 c_m128_i32
  let v52 : BitVec 32 := Scalar.minsi c1664_i32 v51
  v52
def k0_off1 : Fin 2 → Nat :=
  let c1664_i32 : BitVec 32 := 1664#32
  let c0_i32_22 : BitVec 32 := 0#32
  let c_m128_i32 : BitVec 32 := 4294967168#32
  let v51 : BitVec 32 := Scalar.maxsi c0_i32_22 c_m128_i32
  let v52 : BitVec 32 := Scalar.minsi c1664_i32 v51
  let v53 : BitVec 32 := v52
  let v54 : Index := Scalar.indexCast v53
  let c0_23 : Index := 0#32
  ![v54.toNat, 0]
@[reducible] def k0_t1_loop : Scf.Loop 32 :=
  let c0_i32_53 : BitVec 32 := 0#32
  let c8_i32 : BitVec 32 := 8#32
  let v96 : BitVec 32 := Scalar.addi c0_i32_53 c8_i32
  let c1_i32 : BitVec 32 := 1#32
  ⟨c0_i32_53, v96, c1_i32⟩
def k0_mult3 (k0_t1 : Fin k0_t1_loop.trips) : BitVec 32 :=
  let c2_i32_90 : BitVec 32 := 2#32
  let c0_i32_53 : BitVec 32 := 0#32
  let c1_i32 : BitVec 32 := 1#32
  let arg14 : BitVec 32 := Scf.iv c0_i32_53 c1_i32 k0_t1
  let v207 : BitVec 32 := Scalar.muli c2_i32_90 arg14
  let c1_i32_91 : BitVec 32 := 1#32
  let v208 : BitVec 32 := Scalar.addi v207 c1_i32_91
  let c128_i32 : BitVec 32 := 128#32
  let v209 : BitVec 32 := Scalar.muli v208 c128_i32
  v209
def k0_off2 (k0_t1 : Fin k0_t1_loop.trips) : Fin 3 → Nat :=
  let c0_92 : Index := 0#32
  let c2_i32_90 : BitVec 32 := 2#32
  let c0_i32_53 : BitVec 32 := 0#32
  let c1_i32 : BitVec 32 := 1#32
  let arg14 : BitVec 32 := Scf.iv c0_i32_53 c1_i32 k0_t1
  let v207 : BitVec 32 := Scalar.muli c2_i32_90 arg14
  let c1_i32_91 : BitVec 32 := 1#32
  let v208 : BitVec 32 := Scalar.addi v207 c1_i32_91
  let c128_i32 : BitVec 32 := 128#32
  let v209 : BitVec 32 := Scalar.muli v208 c128_i32
  let v210 : BitVec 32 := v209
  let v211 : Index := Scalar.indexCast v210
  let c0_93 : Index := 0#32
  ![0, v211.toNat, 0]
def k0_off3 (k0_t1 : Fin k0_t1_loop.trips) : Fin 2 → Nat :=
  let c2_i32_90 : BitVec 32 := 2#32
  let c0_i32_53 : BitVec 32 := 0#32
  let c1_i32 : BitVec 32 := 1#32
  let arg14 : BitVec 32 := Scf.iv c0_i32_53 c1_i32 k0_t1
  let v207 : BitVec 32 := Scalar.muli c2_i32_90 arg14
  let c1_i32_91 : BitVec 32 := 1#32
  let v208 : BitVec 32 := Scalar.addi v207 c1_i32_91
  let c128_i32 : BitVec 32 := 128#32
  let v209 : BitVec 32 := Scalar.muli v208 c128_i32
  let v210 : BitVec 32 := v209
  let v215 : Index := Scalar.indexCast v210
  let c0_94 : Index := 0#32
  ![v215.toNat, 0]
def k0_mult4 (k0_t1 : Fin k0_t1_loop.trips) : BitVec 32 :=
  let c1664_i32_103 : BitVec 32 := 1664#32
  let c0_i32_102 : BitVec 32 := 0#32
  let c2_i32_90 : BitVec 32 := 2#32
  let c0_i32_53 : BitVec 32 := 0#32
  let c1_i32 : BitVec 32 := 1#32
  let arg14 : BitVec 32 := Scf.iv c0_i32_53 c1_i32 k0_t1
  let v207 : BitVec 32 := Scalar.muli c2_i32_90 arg14
  let c1_i32_91 : BitVec 32 := 1#32
  let v208 : BitVec 32 := Scalar.addi v207 c1_i32_91
  let c1_i32_100 : BitVec 32 := 1#32
  let v234 : BitVec 32 := Scalar.subi v208 c1_i32_100
  let c128_i32_101 : BitVec 32 := 128#32
  let v235 : BitVec 32 := Scalar.muli v234 c128_i32_101
  let v236 : BitVec 32 := Scalar.maxsi c0_i32_102 v235
  let v237 : BitVec 32 := Scalar.minsi c1664_i32_103 v236
  v237
def k0_off4 (k0_t1 : Fin k0_t1_loop.trips) : Fin 2 → Nat :=
  let c1664_i32_103 : BitVec 32 := 1664#32
  let c0_i32_102 : BitVec 32 := 0#32
  let c2_i32_90 : BitVec 32 := 2#32
  let c0_i32_53 : BitVec 32 := 0#32
  let c1_i32 : BitVec 32 := 1#32
  let arg14 : BitVec 32 := Scf.iv c0_i32_53 c1_i32 k0_t1
  let v207 : BitVec 32 := Scalar.muli c2_i32_90 arg14
  let c1_i32_91 : BitVec 32 := 1#32
  let v208 : BitVec 32 := Scalar.addi v207 c1_i32_91
  let c1_i32_100 : BitVec 32 := 1#32
  let v234 : BitVec 32 := Scalar.subi v208 c1_i32_100
  let c128_i32_101 : BitVec 32 := 128#32
  let v235 : BitVec 32 := Scalar.muli v234 c128_i32_101
  let v236 : BitVec 32 := Scalar.maxsi c0_i32_102 v235
  let v237 : BitVec 32 := Scalar.minsi c1664_i32_103 v236
  let v238 : BitVec 32 := v237
  let v239 : Index := Scalar.indexCast v238
  let c0_104 : Index := 0#32
  ![v239.toNat, 0]
def k0_mult5 (k0_t1 : Fin k0_t1_loop.trips) : BitVec 32 :=
  let c2_i32_137 : BitVec 32 := 2#32
  let c0_i32_53 : BitVec 32 := 0#32
  let c1_i32 : BitVec 32 := 1#32
  let arg14 : BitVec 32 := Scf.iv c0_i32_53 c1_i32 k0_t1
  let v281 : BitVec 32 := Scalar.muli c2_i32_137 arg14
  let c128_i32_138 : BitVec 32 := 128#32
  let v282 : BitVec 32 := Scalar.muli v281 c128_i32_138
  v282
def k0_mult6 (k0_t1 : Fin k0_t1_loop.trips) : BitVec 32 :=
  let c1664_i32_142 : BitVec 32 := 1664#32
  let c0_i32_141 : BitVec 32 := 0#32
  let c2_i32_137 : BitVec 32 := 2#32
  let c0_i32_53 : BitVec 32 := 0#32
  let c1_i32 : BitVec 32 := 1#32
  let arg14 : BitVec 32 := Scf.iv c0_i32_53 c1_i32 k0_t1
  let v281 : BitVec 32 := Scalar.muli c2_i32_137 arg14
  let c1_i32_139 : BitVec 32 := 1#32
  let v284 : BitVec 32 := Scalar.subi v281 c1_i32_139
  let c128_i32_140 : BitVec 32 := 128#32
  let v285 : BitVec 32 := Scalar.muli v284 c128_i32_140
  let v286 : BitVec 32 := Scalar.maxsi c0_i32_141 v285
  let v287 : BitVec 32 := Scalar.minsi c1664_i32_142 v286
  v287
def k0_off5 (k0_t1 : Fin k0_t1_loop.trips) : Fin 2 → Nat :=
  let c1664_i32_142 : BitVec 32 := 1664#32
  let c0_i32_141 : BitVec 32 := 0#32
  let c2_i32_137 : BitVec 32 := 2#32
  let c0_i32_53 : BitVec 32 := 0#32
  let c1_i32 : BitVec 32 := 1#32
  let arg14 : BitVec 32 := Scf.iv c0_i32_53 c1_i32 k0_t1
  let v281 : BitVec 32 := Scalar.muli c2_i32_137 arg14
  let c1_i32_139 : BitVec 32 := 1#32
  let v284 : BitVec 32 := Scalar.subi v281 c1_i32_139
  let c128_i32_140 : BitVec 32 := 128#32
  let v285 : BitVec 32 := Scalar.muli v284 c128_i32_140
  let v286 : BitVec 32 := Scalar.maxsi c0_i32_141 v285
  let v287 : BitVec 32 := Scalar.minsi c1664_i32_142 v286
  let v288 : BitVec 32 := v287
  let v289 : Index := Scalar.indexCast v288
  let c64_143 : Index := 64#32
  ![v289.toNat, 64]
def k0_off6 (i : grid0.Coords) (c0_i32_146 : BitVec 32) : Fin 1 → Nat :=
  let arg1 : BitVec 32 := BitVec.ofNat 32 (i 1).val
  let c4_i32_145 : BitVec 32 := 4#32
  let v301 : BitVec 32 := Scalar.muli arg1 c4_i32_145
  let v302 : BitVec 32 := Scalar.addi v301 c0_i32_146
  let v303 : Index := Scalar.indexCast v302
  ![v303.toNat]
def k0_off7 (k0_t1 : Fin k0_t1_loop.trips) : Fin 3 → Nat :=
  let c0_160 : Index := 0#32
  let c2_i32_137 : BitVec 32 := 2#32
  let c0_i32_53 : BitVec 32 := 0#32
  let c1_i32 : BitVec 32 := 1#32
  let arg14 : BitVec 32 := Scf.iv c0_i32_53 c1_i32 k0_t1
  let v281 : BitVec 32 := Scalar.muli c2_i32_137 arg14
  let c128_i32_138 : BitVec 32 := 128#32
  let v282 : BitVec 32 := Scalar.muli v281 c128_i32_138
  let v283 : BitVec 32 := v282
  let v340 : Index := Scalar.indexCast v283
  let c0_161 : Index := 0#32
  ![0, v340.toNat, 0]
def k0_off8 (k0_t1 : Fin k0_t1_loop.trips) : Fin 3 → Nat :=
  let c0_177 : Index := 0#32
  let c2_i32_137 : BitVec 32 := 2#32
  let c0_i32_53 : BitVec 32 := 0#32
  let c1_i32 : BitVec 32 := 1#32
  let arg14 : BitVec 32 := Scf.iv c0_i32_53 c1_i32 k0_t1
  let v281 : BitVec 32 := Scalar.muli c2_i32_137 arg14
  let c128_i32_138 : BitVec 32 := 128#32
  let v282 : BitVec 32 := Scalar.muli v281 c128_i32_138
  let v283 : BitVec 32 := v282
  let v383 : Index := Scalar.indexCast v283
  let c64_178 : Index := 64#32
  ![0, v383.toNat, 64]
def k0_off9 (k0_t1 : Fin k0_t1_loop.trips) : Fin 3 → Nat :=
  let c0_194 : Index := 0#32
  let c2_i32_137 : BitVec 32 := 2#32
  let c0_i32_53 : BitVec 32 := 0#32
  let c1_i32 : BitVec 32 := 1#32
  let arg14 : BitVec 32 := Scf.iv c0_i32_53 c1_i32 k0_t1
  let v281 : BitVec 32 := Scalar.muli c2_i32_137 arg14
  let c128_i32_138 : BitVec 32 := 128#32
  let v282 : BitVec 32 := Scalar.muli v281 c128_i32_138
  let v283 : BitVec 32 := v282
  let v426 : Index := Scalar.indexCast v283
  let c128_195 : Index := 128#32
  ![0, v426.toNat, 128]
def k0_off10 (k0_t1 : Fin k0_t1_loop.trips) : Fin 3 → Nat :=
  let c0_211 : Index := 0#32
  let c2_i32_137 : BitVec 32 := 2#32
  let c0_i32_53 : BitVec 32 := 0#32
  let c1_i32 : BitVec 32 := 1#32
  let arg14 : BitVec 32 := Scf.iv c0_i32_53 c1_i32 k0_t1
  let v281 : BitVec 32 := Scalar.muli c2_i32_137 arg14
  let c128_i32_138 : BitVec 32 := 128#32
  let v282 : BitVec 32 := Scalar.muli v281 c128_i32_138
  let v283 : BitVec 32 := v282
  let v469 : Index := Scalar.indexCast v283
  let c192_212 : Index := 192#32
  ![0, v469.toNat, 192]
def k0_mult7 (k0_t1 : Fin k0_t1_loop.trips) : BitVec 32 :=
  let c2_i32_213 : BitVec 32 := 2#32
  let c0_i32_53 : BitVec 32 := 0#32
  let c1_i32 : BitVec 32 := 1#32
  let arg14 : BitVec 32 := Scf.iv c0_i32_53 c1_i32 k0_t1
  let v473 : BitVec 32 := Scalar.muli c2_i32_213 arg14
  let c2_i32_214 : BitVec 32 := 2#32
  let v474 : BitVec 32 := Scalar.addi v473 c2_i32_214
  let c15_i32 : BitVec 32 := 15#32
  let v475 : BitVec 32 := Scalar.minsi v474 c15_i32
  let c128_i32_215 : BitVec 32 := 128#32
  let v476 : BitVec 32 := Scalar.muli v475 c128_i32_215
  v476
def k0_off11 (k0_t1 : Fin k0_t1_loop.trips) : Fin 3 → Nat :=
  let c0_216 : Index := 0#32
  let c2_i32_213 : BitVec 32 := 2#32
  let c0_i32_53 : BitVec 32 := 0#32
  let c1_i32 : BitVec 32 := 1#32
  let arg14 : BitVec 32 := Scf.iv c0_i32_53 c1_i32 k0_t1
  let v473 : BitVec 32 := Scalar.muli c2_i32_213 arg14
  let c2_i32_214 : BitVec 32 := 2#32
  let v474 : BitVec 32 := Scalar.addi v473 c2_i32_214
  let c15_i32 : BitVec 32 := 15#32
  let v475 : BitVec 32 := Scalar.minsi v474 c15_i32
  let c128_i32_215 : BitVec 32 := 128#32
  let v476 : BitVec 32 := Scalar.muli v475 c128_i32_215
  let v477 : BitVec 32 := v476
  let v478 : Index := Scalar.indexCast v477
  let c0_217 : Index := 0#32
  ![0, v478.toNat, 0]
def k0_off12 (k0_t1 : Fin k0_t1_loop.trips) : Fin 2 → Nat :=
  let c2_i32_213 : BitVec 32 := 2#32
  let c0_i32_53 : BitVec 32 := 0#32
  let c1_i32 : BitVec 32 := 1#32
  let arg14 : BitVec 32 := Scf.iv c0_i32_53 c1_i32 k0_t1
  let v473 : BitVec 32 := Scalar.muli c2_i32_213 arg14
  let c2_i32_214 : BitVec 32 := 2#32
  let v474 : BitVec 32 := Scalar.addi v473 c2_i32_214
  let c15_i32 : BitVec 32 := 15#32
  let v475 : BitVec 32 := Scalar.minsi v474 c15_i32
  let c128_i32_215 : BitVec 32 := 128#32
  let v476 : BitVec 32 := Scalar.muli v475 c128_i32_215
  let v477 : BitVec 32 := v476
  let v482 : Index := Scalar.indexCast v477
  let c0_218 : Index := 0#32
  ![v482.toNat, 0]
def k0_mult8 (k0_t1 : Fin k0_t1_loop.trips) : BitVec 32 :=
  let c1664_i32_227 : BitVec 32 := 1664#32
  let c0_i32_226 : BitVec 32 := 0#32
  let c2_i32_213 : BitVec 32 := 2#32
  let c0_i32_53 : BitVec 32 := 0#32
  let c1_i32 : BitVec 32 := 1#32
  let arg14 : BitVec 32 := Scf.iv c0_i32_53 c1_i32 k0_t1
  let v473 : BitVec 32 := Scalar.muli c2_i32_213 arg14
  let c2_i32_214 : BitVec 32 := 2#32
  let v474 : BitVec 32 := Scalar.addi v473 c2_i32_214
  let c15_i32 : BitVec 32 := 15#32
  let v475 : BitVec 32 := Scalar.minsi v474 c15_i32
  let c1_i32_224 : BitVec 32 := 1#32
  let v501 : BitVec 32 := Scalar.subi v475 c1_i32_224
  let c128_i32_225 : BitVec 32 := 128#32
  let v502 : BitVec 32 := Scalar.muli v501 c128_i32_225
  let v503 : BitVec 32 := Scalar.maxsi c0_i32_226 v502
  let v504 : BitVec 32 := Scalar.minsi c1664_i32_227 v503
  v504
def k0_off13 (k0_t1 : Fin k0_t1_loop.trips) : Fin 2 → Nat :=
  let c1664_i32_227 : BitVec 32 := 1664#32
  let c0_i32_226 : BitVec 32 := 0#32
  let c2_i32_213 : BitVec 32 := 2#32
  let c0_i32_53 : BitVec 32 := 0#32
  let c1_i32 : BitVec 32 := 1#32
  let arg14 : BitVec 32 := Scf.iv c0_i32_53 c1_i32 k0_t1
  let v473 : BitVec 32 := Scalar.muli c2_i32_213 arg14
  let c2_i32_214 : BitVec 32 := 2#32
  let v474 : BitVec 32 := Scalar.addi v473 c2_i32_214
  let c15_i32 : BitVec 32 := 15#32
  let v475 : BitVec 32 := Scalar.minsi v474 c15_i32
  let c1_i32_224 : BitVec 32 := 1#32
  let v501 : BitVec 32 := Scalar.subi v475 c1_i32_224
  let c128_i32_225 : BitVec 32 := 128#32
  let v502 : BitVec 32 := Scalar.muli v501 c128_i32_225
  let v503 : BitVec 32 := Scalar.maxsi c0_i32_226 v502
  let v504 : BitVec 32 := Scalar.minsi c1664_i32_227 v503
  let v505 : BitVec 32 := v504
  let v506 : Index := Scalar.indexCast v505
  let c0_228 : Index := 0#32
  ![v506.toNat, 0]
def k0_mult9 (k0_t1 : Fin k0_t1_loop.trips) : BitVec 32 :=
  let c2_i32_261 : BitVec 32 := 2#32
  let c0_i32_53 : BitVec 32 := 0#32
  let c1_i32 : BitVec 32 := 1#32
  let arg14 : BitVec 32 := Scf.iv c0_i32_53 c1_i32 k0_t1
  let v548 : BitVec 32 := Scalar.muli c2_i32_261 arg14
  let c1_i32_262 : BitVec 32 := 1#32
  let v549 : BitVec 32 := Scalar.addi v548 c1_i32_262
  let c128_i32_263 : BitVec 32 := 128#32
  let v550 : BitVec 32 := Scalar.muli v549 c128_i32_263
  v550
def k0_mult10 (k0_t1 : Fin k0_t1_loop.trips) : BitVec 32 :=
  let c1664_i32_267 : BitVec 32 := 1664#32
  let c0_i32_266 : BitVec 32 := 0#32
  let c2_i32_261 : BitVec 32 := 2#32
  let c0_i32_53 : BitVec 32 := 0#32
  let c1_i32 : BitVec 32 := 1#32
  let arg14 : BitVec 32 := Scf.iv c0_i32_53 c1_i32 k0_t1
  let v548 : BitVec 32 := Scalar.muli c2_i32_261 arg14
  let c1_i32_262 : BitVec 32 := 1#32
  let v549 : BitVec 32 := Scalar.addi v548 c1_i32_262
  let c1_i32_264 : BitVec 32 := 1#32
  let v552 : BitVec 32 := Scalar.subi v549 c1_i32_264
  let c128_i32_265 : BitVec 32 := 128#32
  let v553 : BitVec 32 := Scalar.muli v552 c128_i32_265
  let v554 : BitVec 32 := Scalar.maxsi c0_i32_266 v553
  let v555 : BitVec 32 := Scalar.minsi c1664_i32_267 v554
  v555
def k0_off14 (k0_t1 : Fin k0_t1_loop.trips) : Fin 2 → Nat :=
  let c1664_i32_267 : BitVec 32 := 1664#32
  let c0_i32_266 : BitVec 32 := 0#32
  let c2_i32_261 : BitVec 32 := 2#32
  let c0_i32_53 : BitVec 32 := 0#32
  let c1_i32 : BitVec 32 := 1#32
  let arg14 : BitVec 32 := Scf.iv c0_i32_53 c1_i32 k0_t1
  let v548 : BitVec 32 := Scalar.muli c2_i32_261 arg14
  let c1_i32_262 : BitVec 32 := 1#32
  let v549 : BitVec 32 := Scalar.addi v548 c1_i32_262
  let c1_i32_264 : BitVec 32 := 1#32
  let v552 : BitVec 32 := Scalar.subi v549 c1_i32_264
  let c128_i32_265 : BitVec 32 := 128#32
  let v553 : BitVec 32 := Scalar.muli v552 c128_i32_265
  let v554 : BitVec 32 := Scalar.maxsi c0_i32_266 v553
  let v555 : BitVec 32 := Scalar.minsi c1664_i32_267 v554
  let v556 : BitVec 32 := v555
  let v557 : Index := Scalar.indexCast v556
  let c64_268 : Index := 64#32
  ![v557.toNat, 64]
def k0_off15 (k0_t1 : Fin k0_t1_loop.trips) : Fin 3 → Nat :=
  let c0_285 : Index := 0#32
  let c2_i32_261 : BitVec 32 := 2#32
  let c0_i32_53 : BitVec 32 := 0#32
  let c1_i32 : BitVec 32 := 1#32
  let arg14 : BitVec 32 := Scf.iv c0_i32_53 c1_i32 k0_t1
  let v548 : BitVec 32 := Scalar.muli c2_i32_261 arg14
  let c1_i32_262 : BitVec 32 := 1#32
  let v549 : BitVec 32 := Scalar.addi v548 c1_i32_262
  let c128_i32_263 : BitVec 32 := 128#32
  let v550 : BitVec 32 := Scalar.muli v549 c128_i32_263
  let v551 : BitVec 32 := v550
  let v608 : Index := Scalar.indexCast v551
  let c0_286 : Index := 0#32
  ![0, v608.toNat, 0]
def k0_off16 (k0_t1 : Fin k0_t1_loop.trips) : Fin 3 → Nat :=
  let c0_302 : Index := 0#32
  let c2_i32_261 : BitVec 32 := 2#32
  let c0_i32_53 : BitVec 32 := 0#32
  let c1_i32 : BitVec 32 := 1#32
  let arg14 : BitVec 32 := Scf.iv c0_i32_53 c1_i32 k0_t1
  let v548 : BitVec 32 := Scalar.muli c2_i32_261 arg14
  let c1_i32_262 : BitVec 32 := 1#32
  let v549 : BitVec 32 := Scalar.addi v548 c1_i32_262
  let c128_i32_263 : BitVec 32 := 128#32
  let v550 : BitVec 32 := Scalar.muli v549 c128_i32_263
  let v551 : BitVec 32 := v550
  let v651 : Index := Scalar.indexCast v551
  let c64_303 : Index := 64#32
  ![0, v651.toNat, 64]
def k0_off17 (k0_t1 : Fin k0_t1_loop.trips) : Fin 3 → Nat :=
  let c0_319 : Index := 0#32
  let c2_i32_261 : BitVec 32 := 2#32
  let c0_i32_53 : BitVec 32 := 0#32
  let c1_i32 : BitVec 32 := 1#32
  let arg14 : BitVec 32 := Scf.iv c0_i32_53 c1_i32 k0_t1
  let v548 : BitVec 32 := Scalar.muli c2_i32_261 arg14
  let c1_i32_262 : BitVec 32 := 1#32
  let v549 : BitVec 32 := Scalar.addi v548 c1_i32_262
  let c128_i32_263 : BitVec 32 := 128#32
  let v550 : BitVec 32 := Scalar.muli v549 c128_i32_263
  let v551 : BitVec 32 := v550
  let v694 : Index := Scalar.indexCast v551
  let c128_320 : Index := 128#32
  ![0, v694.toNat, 128]
def k0_off18 (k0_t1 : Fin k0_t1_loop.trips) : Fin 3 → Nat :=
  let c0_336 : Index := 0#32
  let c2_i32_261 : BitVec 32 := 2#32
  let c0_i32_53 : BitVec 32 := 0#32
  let c1_i32 : BitVec 32 := 1#32
  let arg14 : BitVec 32 := Scf.iv c0_i32_53 c1_i32 k0_t1
  let v548 : BitVec 32 := Scalar.muli c2_i32_261 arg14
  let c1_i32_262 : BitVec 32 := 1#32
  let v549 : BitVec 32 := Scalar.addi v548 c1_i32_262
  let c128_i32_263 : BitVec 32 := 128#32
  let v550 : BitVec 32 := Scalar.muli v549 c128_i32_263
  let v551 : BitVec 32 := v550
  let v737 : Index := Scalar.indexCast v551
  let c192_337 : Index := 192#32
  ![0, v737.toNat, 192]
def k0_off19 (i : grid0.Coords) (c0_i32_59 : BitVec 32) : Fin 1 → Nat :=
  let arg1 : BitVec 32 := BitVec.ofNat 32 (i 1).val
  let c4_i32 : BitVec 32 := 4#32
  let v104 : BitVec 32 := Scalar.muli arg1 c4_i32
  let v105 : BitVec 32 := Scalar.addi v104 c0_i32_59
  let v106 : Index := Scalar.indexCast v105
  ![v106.toNat]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2304x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S2048x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S2048x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S2048x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S2048x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S2048x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S2048x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .smem S16 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x2304x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== SwaIdeal.lean ====
variable {F : FTy → Type} [FloatOps F] [Named F]
def κ : String → Option EReal := fun
  | "mask" => some ⊥
  | _ => none
-- ==== SwaRefIdeal.lean ====
abbrev S8x256x4x4x64 : Shape := ⟨5, ![8, 256, 4, 4, 64]⟩
abbrev S8x256x4x64 : Shape := ⟨4, ![8, 256, 4, 64]⟩
abbrev S8x2048x4x4x64 : Shape := ⟨5, ![8, 2048, 4, 4, 64]⟩
abbrev S8x2048x4x64 : Shape := ⟨4, ![8, 2048, 4, 64]⟩
abbrev S2048x32 : Shape := ⟨2, ![2048, 32]⟩
abbrev S16 : Shape := ⟨1, ![16]⟩
abbrev S1x2048x1x1x32 : Shape := ⟨5, ![1, 2048, 1, 1, 32]⟩
abbrev S8x2048x4x4x32 : Shape := ⟨5, ![8, 2048, 4, 4, 32]⟩
abbrev S1x2048x1x32 : Shape := ⟨4, ![1, 2048, 1, 32]⟩
abbrev S8x2048x4x32 : Shape := ⟨4, ![8, 2048, 4, 32]⟩
abbrev S2048x2048 : Shape := ⟨2, ![2048, 2048]⟩
abbrev S_ : Shape := ⟨0, ![]⟩
abbrev S8x4x256x2048x4 : Shape := ⟨5, ![8, 4, 256, 2048, 4]⟩
abbrev S8x4x4x2048x256 : Shape := ⟨5, ![8, 4, 4, 2048, 256]⟩
abbrev S8x4x2048x2048x4 : Shape := ⟨5, ![8, 4, 2048, 2048, 4]⟩
abbrev S8x4x4x2048x2048 : Shape := ⟨5, ![8, 4, 4, 2048, 2048]⟩
abbrev S8x4x4x2048x2304 : Shape := ⟨5, ![8, 4, 4, 2048, 2304]⟩
abbrev S4x4x1x1 : Shape := ⟨4, ![4, 4, 1, 1]⟩
abbrev S8x4x4x2048x1 : Shape := ⟨5, ![8, 4, 4, 2048, 1]⟩
abbrev S8x4x4x2048x2305 : Shape := ⟨5, ![8, 4, 4, 2048, 2305]⟩
abbrev S8x4x4x2048 : Shape := ⟨4, ![8, 4, 4, 2048]⟩
abbrev S8x4x64x4x2048 : Shape := ⟨5, ![8, 4, 64, 4, 2048]⟩
abbrev S8x4x256x256x4 : Shape := ⟨5, ![8, 4, 256, 256, 4]⟩
abbrev S8x4x4x256x256 : Shape := ⟨5, ![8, 4, 4, 256, 256]⟩
abbrev S8x4x4x256x1 : Shape := ⟨5, ![8, 4, 4, 256, 1]⟩
abbrev S8x4x4x256x257 : Shape := ⟨5, ![8, 4, 4, 256, 257]⟩
abbrev S8x4x4x256 : Shape := ⟨4, ![8, 4, 4, 256]⟩
abbrev S8x4x64x4x256 : Shape := ⟨5, ![8, 4, 64, 4, 256]⟩
abbrev S8x2048x1024 : Shape := ⟨3, ![8, 2048, 1024]⟩
abbrev S8x256x1024 : Shape := ⟨3, ![8, 256, 1024]⟩
abbrev S8x2304x1024 : Shape := ⟨3, ![8, 2304, 1024]⟩

abbrev nBuf : Space → Nat
  | .hbm => 115
  | .vmem => 0
  | .smem => 0
  | _ => 0

abbrev bufTy : (tb : Table) → Fin (tcTables nBuf tb) → BufTy
  | .hbm, ⟨0, _⟩ => ⟨S8x256x4x4x64, .f32⟩
  | .hbm, ⟨1, _⟩ => ⟨S8x256x4x64, .f32⟩
  | .hbm, ⟨2, _⟩ => ⟨S8x256x4x64, .f32⟩
  | .hbm, ⟨3, _⟩ => ⟨S8x2048x4x4x64, .f32⟩
  | .hbm, ⟨4, _⟩ => ⟨S8x2048x4x64, .f32⟩
  | .hbm, ⟨5, _⟩ => ⟨S8x2048x4x64, .f32⟩
  | .hbm, ⟨6, _⟩ => ⟨S2048x32, .f32⟩
  | .hbm, ⟨7, _⟩ => ⟨S2048x32, .f32⟩
  | .hbm, ⟨8, _⟩ => ⟨S16, .f32⟩
  | .hbm, ⟨9, _⟩ => ⟨S1x2048x1x1x32, .f32⟩
  | .hbm, ⟨10, _⟩ => ⟨S1x2048x1x1x32, .f32⟩
  | .hbm, ⟨11, _⟩ => ⟨S8x2048x4x4x32, .f32⟩
  | .hbm, ⟨12, _⟩ => ⟨S8x2048x4x4x32, .f32⟩
  | .hbm, ⟨13, _⟩ => ⟨S8x2048x4x4x32, .f32⟩
  | .hbm, ⟨14, _⟩ => ⟨S8x2048x4x4x32, .f32⟩
  | .hbm, ⟨15, _⟩ => ⟨S8x2048x4x4x32, .f32⟩
  | .hbm, ⟨16, _⟩ => ⟨S8x2048x4x4x32, .f32⟩
  | .hbm, ⟨17, _⟩ => ⟨S8x2048x4x4x32, .f32⟩
  | .hbm, ⟨18, _⟩ => ⟨S8x2048x4x4x32, .f32⟩
  | .hbm, ⟨19, _⟩ => ⟨S8x2048x4x4x32, .f32⟩
  | .hbm, ⟨20, _⟩ => ⟨S8x2048x4x4x32, .f32⟩
  | .hbm, ⟨21, _⟩ => ⟨S8x2048x4x4x32, .f32⟩
  | .hbm, ⟨22, _⟩ => ⟨S8x2048x4x4x32, .f32⟩
  | .hbm, ⟨23, _⟩ => ⟨S8x2048x4x4x64, .f32⟩
  | .hbm, ⟨24, _⟩ => ⟨S1x2048x1x32, .f32⟩
  | .hbm, ⟨25, _⟩ => ⟨S1x2048x1x32, .f32⟩
  | .hbm, ⟨26, _⟩ => ⟨S8x2048x4x32, .f32⟩
  | .hbm, ⟨27, _⟩ => ⟨S8x2048x4x32, .f32⟩
  | .hbm, ⟨28, _⟩ => ⟨S8x2048x4x32, .f32⟩
  | .hbm, ⟨29, _⟩ => ⟨S8x2048x4x32, .f32⟩
  | .hbm, ⟨30, _⟩ => ⟨S8x2048x4x32, .f32⟩
  | .hbm, ⟨31, _⟩ => ⟨S8x2048x4x32, .f32⟩
  | .hbm, ⟨32, _⟩ => ⟨S8x2048x4x32, .f32⟩
  | .hbm, ⟨33, _⟩ => ⟨S8x2048x4x32, .f32⟩
  | .hbm, ⟨34, _⟩ => ⟨S8x2048x4x32, .f32⟩
  | .hbm, ⟨35, _⟩ => ⟨S8x2048x4x32, .f32⟩
  | .hbm, ⟨36, _⟩ => ⟨S8x2048x4x32, .f32⟩
  | .hbm, ⟨37, _⟩ => ⟨S8x2048x4x32, .f32⟩
  | .hbm, ⟨38, _⟩ => ⟨S8x2048x4x64, .f32⟩
  | .hbm, ⟨39, _⟩ => ⟨S2048x2048, .i32⟩
  | .hbm, ⟨40, _⟩ => ⟨S2048x2048, .i32⟩
  | .hbm, ⟨41, _⟩ => ⟨S2048x2048, .i32⟩
  | .hbm, ⟨42, _⟩ => ⟨S2048x2048, .i32⟩
  | .hbm, ⟨43, _⟩ => ⟨S_, .i32⟩
  | .hbm, ⟨44, _⟩ => ⟨S2048x2048, .i32⟩
  | .hbm, ⟨45, _⟩ => ⟨S2048x2048, .i1⟩
  | .hbm, ⟨46, _⟩ => ⟨S8x4x256x2048x4, .f32⟩
  | .hbm, ⟨47, _⟩ => ⟨S8x4x4x2048x256, .f32⟩
  | .hbm, ⟨48, _⟩ => ⟨S_, .f32⟩
  | .hbm, ⟨49, _⟩ => ⟨S8x4x4x2048x256, .f32⟩
  | .hbm, ⟨50, _⟩ => ⟨S8x4x4x2048x256, .f32⟩
  | .hbm, ⟨51, _⟩ => ⟨S8x4x2048x2048x4, .f32⟩
  | .hbm, ⟨52, _⟩ => ⟨S8x4x4x2048x2048, .f32⟩
  | .hbm, ⟨53, _⟩ => ⟨S_, .f32⟩
  | .hbm, ⟨54, _⟩ => ⟨S8x4x4x2048x2048, .f32⟩
  | .hbm, ⟨55, _⟩ => ⟨S8x4x4x2048x2048, .f32⟩
  | .hbm, ⟨56, _⟩ => ⟨S_, .f32⟩
  | .hbm, ⟨57, _⟩ => ⟨S_, .f32⟩
  | .hbm, ⟨58, _⟩ => ⟨S8x4x4x2048x2048, .i1⟩
  | .hbm, ⟨59, _⟩ => ⟨S8x4x4x2048x2048, .f32⟩
  | .hbm, ⟨60, _⟩ => ⟨S8x4x4x2048x2048, .f32⟩
  | .hbm, ⟨61, _⟩ => ⟨S8x4x4x2048x2304, .f32⟩
  | .hbm, ⟨62, _⟩ => ⟨S4x4x1x1, .f32⟩
  | .hbm, ⟨63, _⟩ => ⟨S8x4x4x2048x1, .f32⟩
  | .hbm, ⟨64, _⟩ => ⟨S8x4x4x2048x2305, .f32⟩
  | .hbm, ⟨65, _⟩ => ⟨S_, .f32⟩
  | .hbm, ⟨66, _⟩ => ⟨S8x4x4x2048, .f32⟩
  | .hbm, ⟨67, _⟩ => ⟨S_, .f32⟩
  | .hbm, ⟨68, _⟩ => ⟨S8x4x4x2048, .f32⟩
  | .hbm, ⟨69, _⟩ => ⟨S8x4x4x2048, .f32⟩
  | .hbm, ⟨70, _⟩ => ⟨S8x4x4x2048x1, .f32⟩
  | .hbm, ⟨71, _⟩ => ⟨S8x4x4x2048x2305, .f32⟩
  | .hbm, ⟨72, _⟩ => ⟨S8x4x4x2048x2305, .f32⟩
  | .hbm, ⟨73, _⟩ => ⟨S8x4x4x2048x2305, .f32⟩
  | .hbm, ⟨74, _⟩ => ⟨S_, .f32⟩
  | .hbm, ⟨75, _⟩ => ⟨S8x4x4x2048, .f32⟩
  | .hbm, ⟨76, _⟩ => ⟨S8x4x4x2048x1, .f32⟩
  | .hbm, ⟨77, _⟩ => ⟨S8x4x4x2048x2305, .f32⟩
  | .hbm, ⟨78, _⟩ => ⟨S8x4x4x2048x2305, .f32⟩
  | .hbm, ⟨79, _⟩ => ⟨S8x4x4x2048x2304, .f32⟩
  | .hbm, ⟨80, _⟩ => ⟨S8x4x4x2048x256, .f32⟩
  | .hbm, ⟨81, _⟩ => ⟨S8x4x64x4x2048, .f32⟩
  | .hbm, ⟨82, _⟩ => ⟨S8x2048x4x4x64, .f32⟩
  | .hbm, ⟨83, _⟩ => ⟨S8x4x4x2048x2048, .f32⟩
  | .hbm, ⟨84, _⟩ => ⟨S8x4x64x4x2048, .f32⟩
  | .hbm, ⟨85, _⟩ => ⟨S8x2048x4x4x64, .f32⟩
  | .hbm, ⟨86, _⟩ => ⟨S8x2048x4x4x64, .f32⟩
  | .hbm, ⟨87, _⟩ => ⟨S8x4x256x256x4, .f32⟩
  | .hbm, ⟨88, _⟩ => ⟨S8x4x4x256x256, .f32⟩
  | .hbm, ⟨89, _⟩ => ⟨S_, .f32⟩
  | .hbm, ⟨90, _⟩ => ⟨S8x4x4x256x256, .f32⟩
  | .hbm, ⟨91, _⟩ => ⟨S8x4x4x256x256, .f32⟩
  | .hbm, ⟨92, _⟩ => ⟨S4x4x1x1, .f32⟩
  | .hbm, ⟨93, _⟩ => ⟨S8x4x4x256x1, .f32⟩
  | .hbm, ⟨94, _⟩ => ⟨S8x4x4x256x257, .f32⟩
  | .hbm, ⟨95, _⟩ => ⟨S_, .f32⟩
  | .hbm, ⟨96, _⟩ => ⟨S8x4x4x256, .f32⟩
  | .hbm, ⟨97, _⟩ => ⟨S_, .f32⟩
  | .hbm, ⟨98, _⟩ => ⟨S8x4x4x256, .f32⟩
  | .hbm, ⟨99, _⟩ => ⟨S8x4x4x256, .f32⟩
  | .hbm, ⟨100, _⟩ => ⟨S8x4x4x256x1, .f32⟩
  | .hbm, ⟨101, _⟩ => ⟨S8x4x4x256x257, .f32⟩
  | .hbm, ⟨102, _⟩ => ⟨S8x4x4x256x257, .f32⟩
  | .hbm, ⟨103, _⟩ => ⟨S8x4x4x256x257, .f32⟩
  | .hbm, ⟨104, _⟩ => ⟨S_, .f32⟩
  | .hbm, ⟨105, _⟩ => ⟨S8x4x4x256, .f32⟩
  | .hbm, ⟨106, _⟩ => ⟨S8x4x4x256x1, .f32⟩
  | .hbm, ⟨107, _⟩ => ⟨S8x4x4x256x257, .f32⟩
  | .hbm, ⟨108, _⟩ => ⟨S8x4x4x256x257, .f32⟩
  | .hbm, ⟨109, _⟩ => ⟨S8x4x4x256x256, .f32⟩
  | .hbm, ⟨110, _⟩ => ⟨S8x4x64x4x256, .f32⟩
  | .hbm, ⟨111, _⟩ => ⟨S8x256x4x4x64, .f32⟩
  | .hbm, ⟨112, _⟩ => ⟨S8x2048x1024, .f32⟩
  | .hbm, ⟨113, _⟩ => ⟨S8x256x1024, .f32⟩
  | .hbm, ⟨114, _⟩ => ⟨S8x2304x1024, .f32⟩
  | _, _ => ⟨S8x256x4x4x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_c : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_cst : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_cst_0 : Ref sig .tc := ⟨.hbm, 53, rfl⟩
abbrev main_v42 : Ref sig .tc := ⟨.hbm, 54, rfl⟩
abbrev main_v43 : Ref sig .tc := ⟨.hbm, 55, rfl⟩
abbrev main_cst_1 : Ref sig .tc := ⟨.hbm, 56, rfl⟩
abbrev main_call0_v0 : Ref sig .tc := ⟨.hbm, 57, rfl⟩
abbrev main_call0_v1 : Ref sig .tc := ⟨.hbm, 58, rfl⟩
abbrev main_call0_v2 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_cst_2 : Ref sig .tc := ⟨.hbm, 65, rfl⟩
abbrev main_v49 : Ref sig .tc := ⟨.hbm, 66, rfl⟩
abbrev main_cst_3 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_cst_4 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_cst_5 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_cst_6 : Ref sig .tc := ⟨.hbm, 95, rfl⟩
abbrev main_v75 : Ref sig .tc := ⟨.hbm, 96, rfl⟩
abbrev main_cst_7 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_cst_8 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩

abbrev nD : Nat := 1
abbrev τ : Topo := Topo.v7x

variable {F : FTy → Type} [FloatOps F]
-- ==== Ffn.lean ====
abbrev S8x16x256x1024 : Shape := ⟨4, ![8, 16, 256, 1024]⟩
abbrev S8x16x32x1024 : Shape := ⟨4, ![8, 16, 32, 1024]⟩
abbrev S4x16x1024x1024 : Shape := ⟨4, ![4, 16, 1024, 1024]⟩
abbrev S8x1x256x1024 : Shape := ⟨4, ![8, 1, 256, 1024]⟩
abbrev S8x1x32x1024 : Shape := ⟨4, ![8, 1, 32, 1024]⟩
abbrev S1x1x1024x256 : Shape := ⟨4, ![1, 1, 1024, 256]⟩
abbrev S1x1x256x1024 : Shape := ⟨4, ![1, 1, 256, 1024]⟩
abbrev S2304x1024 : Shape := ⟨2, ![2304, 1024]⟩
abbrev S8x256x1024 : Shape := ⟨3, ![8, 256, 1024]⟩
abbrev S2048x1024 : Shape := ⟨2, ![2048, 1024]⟩
abbrev S8x32x1024 : Shape := ⟨3, ![8, 32, 1024]⟩
abbrev S256x1024 : Shape := ⟨2, ![256, 1024]⟩
abbrev S1024x256 : Shape := ⟨2, ![1024, 256]⟩
abbrev S2304x256 : Shape := ⟨2, ![2304, 256]⟩

abbrev nBuf : Space → Nat
  | .hbm => 7
  | .vmem => 16
  | .smem => 0
  | _ => 0

abbrev bufTy : (tb : Table) → Fin (tcTables nBuf tb) → BufTy
  | .hbm, ⟨0, _⟩ => ⟨S8x16x256x1024, .bf16⟩
  | .hbm, ⟨1, _⟩ => ⟨S8x16x32x1024, .bf16⟩
  | .hbm, ⟨2, _⟩ => ⟨S4x16x1024x1024, .f32⟩
  | .hbm, ⟨3, _⟩ => ⟨S4x16x1024x1024, .f32⟩
  | .hbm, ⟨4, _⟩ => ⟨S4x16x1024x1024, .f32⟩
  | .hbm, ⟨5, _⟩ => ⟨S8x16x256x1024, .bf16⟩
  | .hbm, ⟨6, _⟩ => ⟨S8x16x32x1024, .bf16⟩
  | .local _ .vmem, ⟨0, _⟩ => ⟨S8x1x256x1024, .bf16⟩
  | .local _ .vmem, ⟨1, _⟩ => ⟨S8x1x256x1024, .bf16⟩
  | .local _ .vmem, ⟨2, _⟩ => ⟨S8x1x32x1024, .bf16⟩
  | .local _ .vmem, ⟨3, _⟩ => ⟨S8x1x32x1024, .bf16⟩
  | .local _ .vmem, ⟨4, _⟩ => ⟨S1x1x1024x256, .f32⟩
  | .local _ .vmem, ⟨5, _⟩ => ⟨S1x1x1024x256, .f32⟩
  | .local _ .vmem, ⟨6, _⟩ => ⟨S1x1x1024x256, .f32⟩
  | .local _ .vmem, ⟨7, _⟩ => ⟨S1x1x1024x256, .f32⟩
  | .local _ .vmem, ⟨8, _⟩ => ⟨S1x1x256x1024, .f32⟩
  | .local _ .vmem, ⟨9, _⟩ => ⟨S1x1x256x1024, .f32⟩
  | .local _ .vmem, ⟨10, _⟩ => ⟨S8x1x256x1024, .bf16⟩
  | .local _ .vmem, ⟨11, _⟩ => ⟨S8x1x256x1024, .bf16⟩
  | .local _ .vmem, ⟨12, _⟩ => ⟨S8x1x32x1024, .bf16⟩
  | .local _ .vmem, ⟨13, _⟩ => ⟨S8x1x32x1024, .bf16⟩
  | .local _ .vmem, ⟨14, _⟩ => ⟨S2304x1024, .bf16⟩
  | .local _ .vmem, ⟨15, _⟩ => ⟨S2304x1024, .f32⟩
  | _, _ => ⟨S8x16x256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![16, 4], ![false, false]⟩

def k0_cond2 (i : grid0.Coords) : BitVec 1 :=
  let arg1 : BitVec 32 := BitVec.ofNat 32 (i 1).val
  let c3_i32 : BitVec 32 := 3#32
  let v31 : BitVec 1 := Scalar.cmpi .eq arg1 c3_i32
  let v32 : BitVec 32 := Scalar.extui v31
  let c0_i32_23 : BitVec 32 := 0#32
  let v33 : BitVec 1 := Scalar.cmpi .ne v32 c0_i32_23
  v33

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![c3_i32.toNat, arg0.toNat, c0_i32.toNat, arg1.toNat]

def cc0_transform_3 (i : grid0.Coords) : Fin 4 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![c3_i32.toNat, arg0.toNat, c0_i32.toNat, arg1.toNat]

def cc0_transform_4 (i : grid0.Coords) : Fin 4 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![c3_i32.toNat, arg0.toNat, arg1.toNat, c0_i32.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S8x1x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S8x1x32x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S8x1x256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S8x1x32x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== FfnRefIdeal.lean ====
abbrev S8x16x256x1024 : Shape := ⟨4, ![8, 16, 256, 1024]⟩
abbrev S8x16x32x1024 : Shape := ⟨4, ![8, 16, 32, 1024]⟩
abbrev S4x16x1024x1024 : Shape := ⟨4, ![4, 16, 1024, 1024]⟩
abbrev S1x16x1024x1024 : Shape := ⟨4, ![1, 16, 1024, 1024]⟩
abbrev S16x1024x1024 : Shape := ⟨3, ![16, 1024, 1024]⟩
abbrev S16x1024x8x256 : Shape := ⟨4, ![16, 1024, 8, 256]⟩
abbrev S_ : Shape := ⟨0, ![]⟩
abbrev S16x1024x8x32 : Shape := ⟨4, ![16, 1024, 8, 32]⟩

abbrev nBuf : Space → Nat
  | .hbm => 53
  | .vmem => 0
  | .smem => 0
  | _ => 0

abbrev bufTy : (tb : Table) → Fin (tcTables nBuf tb) → BufTy
  | .hbm, ⟨0, _⟩ => ⟨S8x16x256x1024, .bf16⟩
  | .hbm, ⟨1, _⟩ => ⟨S8x16x32x1024, .bf16⟩
  | .hbm, ⟨2, _⟩ => ⟨S4x16x1024x1024, .f32⟩
  | .hbm, ⟨3, _⟩ => ⟨S4x16x1024x1024, .f32⟩
  | .hbm, ⟨4, _⟩ => ⟨S4x16x1024x1024, .f32⟩
  | .hbm, ⟨5, _⟩ => ⟨S8x16x256x1024, .f32⟩
  | .hbm, ⟨6, _⟩ => ⟨S1x16x1024x1024, .f32⟩
  | .hbm, ⟨7, _⟩ => ⟨S16x1024x1024, .f32⟩
  | .hbm, ⟨8, _⟩ => ⟨S16x1024x8x256, .f32⟩
  | .hbm, ⟨9, _⟩ => ⟨S8x16x256x1024, .f32⟩
  | .hbm, ⟨10, _⟩ => ⟨S1x16x1024x1024, .f32⟩
  | .hbm, ⟨11, _⟩ => ⟨S16x1024x1024, .f32⟩
  | .hbm, ⟨12, _⟩ => ⟨S16x1024x8x256, .f32⟩
  | .hbm, ⟨13, _⟩ => ⟨S8x16x256x1024, .f32⟩
  | .hbm, ⟨14, _⟩ => ⟨S8x16x256x1024, .f32⟩
  | .hbm, ⟨15, _⟩ => ⟨S8x16x256x1024, .f32⟩
  | .hbm, ⟨16, _⟩ => ⟨S_, .f32⟩
  | .hbm, ⟨17, _⟩ => ⟨S8x16x256x1024, .f32⟩
  | .hbm, ⟨18, _⟩ => ⟨S8x16x256x1024, .f32⟩
  | .hbm, ⟨19, _⟩ => ⟨S_, .f32⟩
  | .hbm, ⟨20, _⟩ => ⟨S8x16x256x1024, .f32⟩
  | .hbm, ⟨21, _⟩ => ⟨S8x16x256x1024, .f32⟩
  | .hbm, ⟨22, _⟩ => ⟨S8x16x256x1024, .f32⟩
  | .hbm, ⟨23, _⟩ => ⟨S8x16x256x1024, .f32⟩
  | .hbm, ⟨24, _⟩ => ⟨S1x16x1024x1024, .f32⟩
  | .hbm, ⟨25, _⟩ => ⟨S16x1024x1024, .f32⟩
  | .hbm, ⟨26, _⟩ => ⟨S16x1024x8x256, .f32⟩
  | .hbm, ⟨27, _⟩ => ⟨S8x16x256x1024, .f32⟩
  | .hbm, ⟨28, _⟩ => ⟨S8x16x256x1024, .bf16⟩
  | .hbm, ⟨29, _⟩ => ⟨S8x16x32x1024, .f32⟩
  | .hbm, ⟨30, _⟩ => ⟨S1x16x1024x1024, .f32⟩
  | .hbm, ⟨31, _⟩ => ⟨S16x1024x1024, .f32⟩
  | .hbm, ⟨32, _⟩ => ⟨S16x1024x8x32, .f32⟩
  | .hbm, ⟨33, _⟩ => ⟨S8x16x32x1024, .f32⟩
  | .hbm, ⟨34, _⟩ => ⟨S1x16x1024x1024, .f32⟩
  | .hbm, ⟨35, _⟩ => ⟨S16x1024x1024, .f32⟩
  | .hbm, ⟨36, _⟩ => ⟨S16x1024x8x32, .f32⟩
  | .hbm, ⟨37, _⟩ => ⟨S8x16x32x1024, .f32⟩
  | .hbm, ⟨38, _⟩ => ⟨S8x16x32x1024, .f32⟩
  | .hbm, ⟨39, _⟩ => ⟨S8x16x32x1024, .f32⟩
  | .hbm, ⟨40, _⟩ => ⟨S_, .f32⟩
  | .hbm, ⟨41, _⟩ => ⟨S8x16x32x1024, .f32⟩
  | .hbm, ⟨42, _⟩ => ⟨S8x16x32x1024, .f32⟩
  | .hbm, ⟨43, _⟩ => ⟨S_, .f32⟩
  | .hbm, ⟨44, _⟩ => ⟨S8x16x32x1024, .f32⟩
  | .hbm, ⟨45, _⟩ => ⟨S8x16x32x1024, .f32⟩
  | .hbm, ⟨46, _⟩ => ⟨S8x16x32x1024, .f32⟩
  | .hbm, ⟨47, _⟩ => ⟨S8x16x32x1024, .f32⟩
  | .hbm, ⟨48, _⟩ => ⟨S1x16x1024x1024, .f32⟩
  | .hbm, ⟨49, _⟩ => ⟨S16x1024x1024, .f32⟩
  | .hbm, ⟨50, _⟩ => ⟨S16x1024x8x32, .f32⟩
  | .hbm, ⟨51, _⟩ => ⟨S8x16x32x1024, .f32⟩
  | .hbm, ⟨52, _⟩ => ⟨S8x16x32x1024, .bf16⟩
  | _, _ => ⟨S8x16x256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_call0_v0 : Ref sig .tc := ⟨.hbm, 14, rfl⟩
abbrev main_call0_v1 : Ref sig .tc := ⟨.hbm, 15, rfl⟩
abbrev main_call0_cst : Ref sig .tc := ⟨.hbm, 16, rfl⟩
abbrev main_call0_v2 : Ref sig .tc := ⟨.hbm, 17, rfl⟩
abbrev main_call0_v3 : Ref sig .tc := ⟨.hbm, 18, rfl⟩
abbrev main_call0_cst_0 : Ref sig .tc := ⟨.hbm, 19, rfl⟩
abbrev main_call0_v4 : Ref sig .tc := ⟨.hbm, 20, rfl⟩
abbrev main_call0_v5 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_call1_v0 : Ref sig .tc := ⟨.hbm, 38, rfl⟩
abbrev main_call1_v1 : Ref sig .tc := ⟨.hbm, 39, rfl⟩
abbrev main_call1_cst : Ref sig .tc := ⟨.hbm, 40, rfl⟩
abbrev main_call1_v2 : Ref sig .tc := ⟨.hbm, 41, rfl⟩
abbrev main_call1_v3 : Ref sig .tc := ⟨.hbm, 42, rfl⟩
abbrev main_call1_cst_0 : Ref sig .tc := ⟨.hbm, 43, rfl⟩
abbrev main_call1_v4 : Ref sig .tc := ⟨.hbm, 44, rfl⟩
abbrev main_call1_v5 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩

abbrev nD : Nat := 1
abbrev τ : Topo := Topo.v7x

variable {F : FTy → Type} [FloatOps F]
-- ==== HgIn.lean ====
abbrev S8x2048x1024 : Shape := ⟨3, ![8, 2048, 1024]⟩
abbrev S8x256x1024 : Shape := ⟨3, ![8, 256, 1024]⟩
abbrev S1024 : Shape := ⟨1, ![1024]⟩
abbrev S8x6144 : Shape := ⟨2, ![8, 6144]⟩
abbrev S6144 : Shape := ⟨1, ![6144]⟩
abbrev S1024x5120 : Shape := ⟨2, ![1024, 5120]⟩
abbrev S8x2304x1024 : Shape := ⟨3, ![8, 2304, 1024]⟩
abbrev S_ : Shape := ⟨0, ![]⟩
abbrev S7x6144 : Shape := ⟨2, ![7, 6144]⟩
abbrev S1x6144 : Shape := ⟨2, ![1, 6144]⟩
abbrev S16x6144 : Shape := ⟨2, ![16, 6144]⟩
abbrev S5120 : Shape := ⟨1, ![5120]⟩
abbrev S1x1024 : Shape := ⟨2, ![1, 1024]⟩
abbrev S1x5120 : Shape := ⟨2, ![1, 5120]⟩
abbrev S8x2304x5120 : Shape := ⟨3, ![8, 2304, 5120]⟩
abbrev S1x2304x1024 : Shape := ⟨3, ![1, 2304, 1024]⟩
abbrev S16x1024 : Shape := ⟨2, ![16, 1024]⟩
abbrev S1024x512 : Shape := ⟨2, ![1024, 512]⟩
abbrev S1x512 : Shape := ⟨2, ![1, 512]⟩
abbrev S1x2304x512 : Shape := ⟨3, ![1, 2304, 512]⟩
abbrev S2304x1024 : Shape := ⟨2, ![2304, 1024]⟩
abbrev S1x2048x1024 : Shape := ⟨3, ![1, 2048, 1024]⟩
abbrev S2048x1024 : Shape := ⟨2, ![2048, 1024]⟩
abbrev S2048 : Shape := ⟨1, ![2048]⟩
abbrev S2048x1 : Shape := ⟨2, ![2048, 1]⟩
abbrev S1x256x1024 : Shape := ⟨3, ![1, 256, 1024]⟩
abbrev S256x1024 : Shape := ⟨2, ![256, 1024]⟩
abbrev S256 : Shape := ⟨1, ![256]⟩
abbrev S256x1 : Shape := ⟨2, ![256, 1]⟩
abbrev S2304x512 : Shape := ⟨2, ![2304, 512]⟩

abbrev nBuf : Space → Nat
  | .hbm => 17
  | .vmem => 12
  | .smem => 0
  | _ => 0

abbrev bufTy : (tb : Table) → Fin (tcTables nBuf tb) → BufTy
  | .hbm, ⟨0, _⟩ => ⟨S8x2048x1024, .f32⟩
  | .hbm, ⟨1, _⟩ => ⟨S8x256x1024, .f32⟩
  | .hbm, ⟨2, _⟩ => ⟨S1024, .f32⟩
  | .hbm, ⟨3, _⟩ => ⟨S8x6144, .f32⟩
  | .hbm, ⟨4, _⟩ => ⟨S6144, .f32⟩
  | .hbm, ⟨5, _⟩ => ⟨S1024x5120, .f32⟩
  | .hbm, ⟨6, _⟩ => ⟨S8x2304x1024, .f32⟩
  | .hbm, ⟨7, _⟩ => ⟨S_, .f32⟩
  | .hbm, ⟨8, _⟩ => ⟨S7x6144, .f32⟩
  | .hbm, ⟨9, _⟩ => ⟨S1x6144, .f32⟩
  | .hbm, ⟨10, _⟩ => ⟨S16x6144, .f32⟩
  | .hbm, ⟨11, _⟩ => ⟨S1024x5120, .bf16⟩
  | .hbm, ⟨12, _⟩ => ⟨S_, .f32⟩
  | .hbm, ⟨13, _⟩ => ⟨S5120, .f32⟩
  | .hbm, ⟨14, _⟩ => ⟨S1x1024, .f32⟩
  | .hbm, ⟨15, _⟩ => ⟨S1x5120, .f32⟩
  | .hbm, ⟨16, _⟩ => ⟨S8x2304x5120, .bf16⟩
  | .local _ .vmem, ⟨0, _⟩ => ⟨S1x2304x1024, .f32⟩
  | .local _ .vmem, ⟨1, _⟩ => ⟨S1x2304x1024, .f32⟩
  | .local _ .vmem, ⟨2, _⟩ => ⟨S1x1024, .f32⟩
  | .local _ .vmem, ⟨3, _⟩ => ⟨S16x1024, .f32⟩
  | .local _ .vmem, ⟨4, _⟩ => ⟨S16x1024, .f32⟩
  | .local _ .vmem, ⟨5, _⟩ => ⟨S1024x512, .bf16⟩
  | .local _ .vmem, ⟨6, _⟩ => ⟨S1024x512, .bf16⟩
  | .local _ .vmem, ⟨7, _⟩ => ⟨S1x512, .f32⟩
  | .local _ .vmem, ⟨8, _⟩ => ⟨S1x512, .f32⟩
  | .local _ .vmem, ⟨9, _⟩ => ⟨S1x2304x512, .bf16⟩
  | .local _ .vmem, ⟨10, _⟩ => ⟨S1x2304x512, .bf16⟩
  | .local _ .vmem, ⟨11, _⟩ => ⟨S2304x1024, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨3, ![8, 1, 10], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def k0_off1 (i : grid0.Coords) : Fin 2 → Nat :=
  let arg0 : BitVec 32 := BitVec.ofNat 32 (i 0).val
  let v29 : Index := Scalar.indexCast arg0
  let c0_17 : Index := 0#32
  ![v29.toNat, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c1_i32 : BitVec 32 := 1#32
  let c0_i32_0 : BitVec 32 := 0#32
  ![c0_i32.toNat, c1_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x2304x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 1 → Memref sig .tc .vmem S16x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 1 → Memref sig .tc .vmem S16x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, false, true]

abbrev stage0_6 : Fin 2 → Memref sig .tc .vmem S1x2304x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== HgInRefIdeal.lean ====
abbrev S8x2048x1024 : Shape := ⟨3, ![8, 2048, 1024]⟩
abbrev S8x256x1024 : Shape := ⟨3, ![8, 256, 1024]⟩
abbrev S1024 : Shape := ⟨1, ![1024]⟩
abbrev S8x6144 : Shape := ⟨2, ![8, 6144]⟩
abbrev S6144 : Shape := ⟨1, ![6144]⟩
abbrev S1024x5120 : Shape := ⟨2, ![1024, 5120]⟩
abbrev S8x1024 : Shape := ⟨2, ![8, 1024]⟩
abbrev S8x1x1024 : Shape := ⟨3, ![8, 1, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x256 : Shape := ⟨2, ![8, 256]⟩
abbrev S8x256x1 : Shape := ⟨3, ![8, 256, 1]⟩
abbrev S8x2048x5120 : Shape := ⟨3, ![8, 2048, 5120]⟩
abbrev S8x256x5120 : Shape := ⟨3, ![8, 256, 5120]⟩
abbrev S8x2304x5120 : Shape := ⟨3, ![8, 2304, 5120]⟩

abbrev nBuf : Space → Nat
  | .hbm => 76
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x256x1024, .f32⟩
  | .hbm, ⟨2, _⟩ => ⟨S1024, .f32⟩
  | .hbm, ⟨3, _⟩ => ⟨S8x6144, .f32⟩
  | .hbm, ⟨4, _⟩ => ⟨S6144, .f32⟩
  | .hbm, ⟨5, _⟩ => ⟨S1024x5120, .f32⟩
  | .hbm, ⟨6, _⟩ => ⟨S8x1024, .f32⟩
  | .hbm, ⟨7, _⟩ => ⟨S8x1024, .f32⟩
  | .hbm, ⟨8, _⟩ => ⟨S8x1024, .f32⟩
  | .hbm, ⟨9, _⟩ => ⟨S8x1024, .f32⟩
  | .hbm, ⟨10, _⟩ => ⟨S8x1024, .f32⟩
  | .hbm, ⟨11, _⟩ => ⟨S8x1024, .f32⟩
  | .hbm, ⟨12, _⟩ => ⟨S8x1x1024, .f32⟩
  | .hbm, ⟨13, _⟩ => ⟨S8x1x1024, .f32⟩
  | .hbm, ⟨14, _⟩ => ⟨S8x1x1024, .f32⟩
  | .hbm, ⟨15, _⟩ => ⟨S8x1x1024, .f32⟩
  | .hbm, ⟨16, _⟩ => ⟨S8x1x1024, .f32⟩
  | .hbm, ⟨17, _⟩ => ⟨S8x1x1024, .f32⟩
  | .hbm, ⟨18, _⟩ => ⟨S1024, .f32⟩
  | .hbm, ⟨19, _⟩ => ⟨S1024, .f32⟩
  | .hbm, ⟨20, _⟩ => ⟨S1024, .f32⟩
  | .hbm, ⟨21, _⟩ => ⟨S1024, .f32⟩
  | .hbm, ⟨22, _⟩ => ⟨S1024, .f32⟩
  | .hbm, ⟨23, _⟩ => ⟨S1024, .f32⟩
  | .hbm, ⟨24, _⟩ => ⟨S8x2048x1024, .f32⟩
  | .hbm, ⟨25, _⟩ => ⟨S_, .f32⟩
  | .hbm, ⟨26, _⟩ => ⟨S8x2048, .f32⟩
  | .hbm, ⟨27, _⟩ => ⟨S8x2048x1, .f32⟩
  | .hbm, ⟨28, _⟩ => ⟨S_, .f32⟩
  | .hbm, ⟨29, _⟩ => ⟨S8x2048x1, .f32⟩
  | .hbm, ⟨30, _⟩ => ⟨S8x2048x1, .f32⟩
  | .hbm, ⟨31, _⟩ => ⟨S_, .f32⟩
  | .hbm, ⟨32, _⟩ => ⟨S8x2048x1, .f32⟩
  | .hbm, ⟨33, _⟩ => ⟨S8x2048x1, .f32⟩
  | .hbm, ⟨34, _⟩ => ⟨S8x2048x1, .f32⟩
  | .hbm, ⟨35, _⟩ => ⟨S8x2048x1024, .f32⟩
  | .hbm, ⟨36, _⟩ => ⟨S8x2048x1024, .f32⟩
  | .hbm, ⟨37, _⟩ => ⟨S1x1x1024, .f32⟩
  | .hbm, ⟨38, _⟩ => ⟨S8x2048x1024, .f32⟩
  | .hbm, ⟨39, _⟩ => ⟨S8x2048x1024, .f32⟩
  | .hbm, ⟨40, _⟩ => ⟨S_, .f32⟩
  | .hbm, ⟨41, _⟩ => ⟨S8x1x1024, .f32⟩
  | .hbm, ⟨42, _⟩ => ⟨S8x1x1024, .f32⟩
  | .hbm, ⟨43, _⟩ => ⟨S8x2048x1024, .f32⟩
  | .hbm, ⟨44, _⟩ => ⟨S8x2048x1024, .f32⟩
  | .hbm, ⟨45, _⟩ => ⟨S8x2048x1024, .f32⟩
  | .hbm, ⟨46, _⟩ => ⟨S8x2048x1024, .f32⟩
  | .hbm, ⟨47, _⟩ => ⟨S8x256x1024, .f32⟩
  | .hbm, ⟨48, _⟩ => ⟨S_, .f32⟩
  | .hbm, ⟨49, _⟩ => ⟨S8x256, .f32⟩
  | .hbm, ⟨50, _⟩ => ⟨S8x256x1, .f32⟩
  | .hbm, ⟨51, _⟩ => ⟨S_, .f32⟩
  | .hbm, ⟨52, _⟩ => ⟨S8x256x1, .f32⟩
  | .hbm, ⟨53, _⟩ => ⟨S8x256x1, .f32⟩
  | .hbm, ⟨54, _⟩ => ⟨S_, .f32⟩
  | .hbm, ⟨55, _⟩ => ⟨S8x256x1, .f32⟩
  | .hbm, ⟨56, _⟩ => ⟨S8x256x1, .f32⟩
  | .hbm, ⟨57, _⟩ => ⟨S8x256x1, .f32⟩
  | .hbm, ⟨58, _⟩ => ⟨S8x256x1024, .f32⟩
  | .hbm, ⟨59, _⟩ => ⟨S8x256x1024, .f32⟩
  | .hbm, ⟨60, _⟩ => ⟨S1x1x1024, .f32⟩
  | .hbm, ⟨61, _⟩ => ⟨S8x256x1024, .f32⟩
  | .hbm, ⟨62, _⟩ => ⟨S8x256x1024, .f32⟩
  | .hbm, ⟨63, _⟩ => ⟨S_, .f32⟩
  | .hbm, ⟨64, _⟩ => ⟨S1024, .f32⟩
  | .hbm, ⟨65, _⟩ => ⟨S1024, .f32⟩
  | .hbm, ⟨66, _⟩ => ⟨S1x1x1024, .f32⟩
  | .hbm, ⟨67, _⟩ => ⟨S8x256x1024, .f32⟩
  | .hbm, ⟨68, _⟩ => ⟨S8x256x1024, .f32⟩
  | .hbm, ⟨69, _⟩ => ⟨S1x1x1024, .f32⟩
  | .hbm, ⟨70, _⟩ => ⟨S8x256x1024, .f32⟩
  | .hbm, ⟨71, _⟩ => ⟨S8x256x1024, .f32⟩
  | .hbm, ⟨72, _⟩ => ⟨S8x2048x5120, .f32⟩
  | .hbm, ⟨73, _⟩ => ⟨S8x256x5120, .f32⟩
  | .hbm, ⟨74, _⟩ => ⟨S8x2304x5120, .f32⟩
  | .hbm, ⟨75, _⟩ => ⟨S8x2304x5120, .bf16⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst : Ref sig .tc := ⟨.hbm, 25, rfl⟩
abbrev main_v19 : Ref sig .tc := ⟨.hbm, 26, rfl⟩
abbrev main_v20 : Ref sig .tc := ⟨.hbm, 27, rfl⟩
abbrev main_cst_0 : Ref sig .tc := ⟨.hbm, 28, rfl⟩
abbrev main_v21 : Ref sig .tc := ⟨.hbm, 29, rfl⟩
abbrev main_v22 : Ref sig .tc := ⟨.hbm, 30, rfl⟩
abbrev main_cst_1 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst_2 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_cst_3 : Ref sig .tc := ⟨.hbm, 48, rfl⟩
abbrev main_v38 : Ref sig .tc := ⟨.hbm, 49, rfl⟩
abbrev main_v39 : Ref sig .tc := ⟨.hbm, 50, rfl⟩
abbrev main_cst_4 : Ref sig .tc := ⟨.hbm, 51, rfl⟩
abbrev main_v40 : Ref sig .tc := ⟨.hbm, 52, rfl⟩
abbrev main_v41 : Ref sig .tc := ⟨.hbm, 53, rfl⟩
abbrev main_cst_5 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_cst_6 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩

abbrev nD : Nat := 1
abbrev τ : Topo := Topo.v7x

variable {F : FTy → Type} [FloatOps F]
-- ==== GdIn.lean ====
abbrev S8x2048x1024 : Shape := ⟨3, ![8, 2048, 1024]⟩
abbrev S8x256x1024 : Shape := ⟨3, ![8, 256, 1024]⟩
abbrev S1024 : Shape := ⟨1, ![1024]⟩
abbrev S8x6144 : Shape := ⟨2, ![8, 6144]⟩
abbrev S6144 : Shape := ⟨1, ![6144]⟩
abbrev S1024x4128 : Shape := ⟨2, ![1024, 4128]⟩
abbrev S8x2304x1024 : Shape := ⟨3, ![8, 2304, 1024]⟩
abbrev S_ : Shape := ⟨0, ![]⟩
abbrev S7x6144 : Shape := ⟨2, ![7, 6144]⟩
abbrev S1x6144 : Shape := ⟨2, ![1, 6144]⟩
abbrev S16x6144 : Shape := ⟨2, ![16, 6144]⟩
abbrev S1024x4608 : Shape := ⟨2, ![1024, 4608]⟩
abbrev S4608 : Shape := ⟨1, ![4608]⟩
abbrev S1x1024 : Shape := ⟨2, ![1, 1024]⟩
abbrev S1x4608 : Shape := ⟨2, ![1, 4608]⟩
abbrev S8x2304x4608 : Shape := ⟨3, ![8, 2304, 4608]⟩
abbrev S1x2304x1024 : Shape := ⟨3, ![1, 2304, 1024]⟩
abbrev S16x1024 : Shape := ⟨2, ![16, 1024]⟩
abbrev S1024x512 : Shape := ⟨2, ![1024, 512]⟩
abbrev S1x512 : Shape := ⟨2, ![1, 512]⟩
abbrev S1x2304x512 : Shape := ⟨3, ![1, 2304, 512]⟩
abbrev S2304x1024 : Shape := ⟨2, ![2304, 1024]⟩
abbrev S1x2048x1024 : Shape := ⟨3, ![1, 2048, 1024]⟩
abbrev S2048x1024 : Shape := ⟨2, ![2048, 1024]⟩
abbrev S2048 : Shape := ⟨1, ![2048]⟩
abbrev S2048x1 : Shape := ⟨2, ![2048, 1]⟩
abbrev S1x256x1024 : Shape := ⟨3, ![1, 256, 1024]⟩
abbrev S256x1024 : Shape := ⟨2, ![256, 1024]⟩
abbrev S256 : Shape := ⟨1, ![256]⟩
abbrev S256x1 : Shape := ⟨2, ![256, 1]⟩
abbrev S2304x512 : Shape := ⟨2, ![2304, 512]⟩

abbrev nBuf : Space → Nat
  | .hbm => 20
  | .vmem => 12
  | .smem => 0
  | _ => 0

abbrev bufTy : (tb : Table) → Fin (tcTables nBuf tb) → BufTy
  | .hbm, ⟨0, _⟩ => ⟨S8x2048x1024, .f32⟩
  | .hbm, ⟨1, _⟩ => ⟨S8x256x1024, .f32⟩
  | .hbm, ⟨2, _⟩ => ⟨S1024, .f32⟩
  | .hbm, ⟨3, _⟩ => ⟨S8x6144, .f32⟩
  | .hbm, ⟨4, _⟩ => ⟨S6144, .f32⟩
  | .hbm, ⟨5, _⟩ => ⟨S1024x4128, .f32⟩
  | .hbm, ⟨6, _⟩ => ⟨S8x2304x1024, .f32⟩
  | .hbm, ⟨7, _⟩ => ⟨S_, .f32⟩
  | .hbm, ⟨8, _⟩ => ⟨S7x6144, .f32⟩
  | .hbm, ⟨9, _⟩ => ⟨S1x6144, .f32⟩
  | .hbm, ⟨10, _⟩ => ⟨S16x6144, .f32⟩
  | .hbm, ⟨11, _⟩ => ⟨S_, .i32⟩
  | .hbm, ⟨12, _⟩ => ⟨S_, .f32⟩
  | .hbm, ⟨13, _⟩ => ⟨S1024x4608, .f32⟩
  | .hbm, ⟨14, _⟩ => ⟨S1024x4608, .bf16⟩
  | .hbm, ⟨15, _⟩ => ⟨S_, .f32⟩
  | .hbm, ⟨16, _⟩ => ⟨S4608, .f32⟩
  | .hbm, ⟨17, _⟩ => ⟨S1x1024, .f32⟩
  | .hbm, ⟨18, _⟩ => ⟨S1x4608, .f32⟩
  | .hbm, ⟨19, _⟩ => ⟨S8x2304x4608, .bf16⟩
  | .local _ .vmem, ⟨0, _⟩ => ⟨S1x2304x1024, .f32⟩
  | .local _ .vmem, ⟨1, _⟩ => ⟨S1x2304x1024, .f32⟩
  | .local _ .vmem, ⟨2, _⟩ => ⟨S1x1024, .f32⟩
  | .local _ .vmem, ⟨3, _⟩ => ⟨S16x1024, .f32⟩
  | .local _ .vmem, ⟨4, _⟩ => ⟨S16x1024, .f32⟩
  | .local _ .vmem, ⟨5, _⟩ => ⟨S1024x512, .bf16⟩
  | .local _ .vmem, ⟨6, _⟩ => ⟨S1024x512, .bf16⟩
  | .local _ .vmem, ⟨7, _⟩ => ⟨S1x512, .f32⟩
  | .local _ .vmem, ⟨8, _⟩ => ⟨S1x512, .f32⟩
  | .local _ .vmem, ⟨9, _⟩ => ⟨S1x2304x512, .bf16⟩
  | .local _ .vmem, ⟨10, _⟩ => ⟨S1x2304x512, .bf16⟩
  | .local _ .vmem, ⟨11, _⟩ => ⟨S2304x1024, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_call0_v0 : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨3, ![8, 1, 9], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def k0_off1 (i : grid0.Coords) : Fin 2 → Nat :=
  let arg0 : BitVec 32 := BitVec.ofNat 32 (i 0).val
  let v29 : Index := Scalar.indexCast arg0
  let c0_17 : Index := 0#32
  ![v29.toNat, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c1_i32 : BitVec 32 := 1#32
  let c0_i32_0 : BitVec 32 := 0#32
  ![c0_i32.toNat, c1_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x2304x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 1 → Memref sig .tc .vmem S16x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 1 → Memref sig .tc .vmem S16x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, false, true]

abbrev stage0_6 : Fin 2 → Memref sig .tc .vmem S1x2304x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== GdInRefIdeal.lean ====
abbrev S8x2048x1024 : Shape := ⟨3, ![8, 2048, 1024]⟩
abbrev S8x256x1024 : Shape := ⟨3, ![8, 256, 1024]⟩
abbrev S1024 : Shape := ⟨1, ![1024]⟩
abbrev S8x6144 : Shape := ⟨2, ![8, 6144]⟩
abbrev S6144 : Shape := ⟨1, ![6144]⟩
abbrev S1024x4128 : Shape := ⟨2, ![1024, 4128]⟩
abbrev S8x1024 : Shape := ⟨2, ![8, 1024]⟩
abbrev S8x1x1024 : Shape := ⟨3, ![8, 1, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x256 : Shape := ⟨2, ![8, 256]⟩
abbrev S8x256x1 : Shape := ⟨3, ![8, 256, 1]⟩
abbrev S8x2048x4128 : Shape := ⟨3, ![8, 2048, 4128]⟩
abbrev S8x256x4128 : Shape := ⟨3, ![8, 256, 4128]⟩
abbrev S8x2304x4128 : Shape := ⟨3, ![8, 2304, 4128]⟩
abbrev S8x2304x4608 : Shape := ⟨3, ![8, 2304, 4608]⟩

abbrev nBuf : Space → Nat
  | .hbm => 79
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x256x1024, .f32⟩
  | .hbm, ⟨2, _⟩ => ⟨S1024, .f32⟩
  | .hbm, ⟨3, _⟩ => ⟨S8x6144, .f32⟩
  | .hbm, ⟨4, _⟩ => ⟨S6144, .f32⟩
  | .hbm, ⟨5, _⟩ => ⟨S1024x4128, .f32⟩
  | .hbm, ⟨6, _⟩ => ⟨S8x1024, .f32⟩
  | .hbm, ⟨7, _⟩ => ⟨S8x1024, .f32⟩
  | .hbm, ⟨8, _⟩ => ⟨S8x1024, .f32⟩
  | .hbm, ⟨9, _⟩ => ⟨S8x1024, .f32⟩
  | .hbm, ⟨10, _⟩ => ⟨S8x1024, .f32⟩
  | .hbm, ⟨11, _⟩ => ⟨S8x1024, .f32⟩
  | .hbm, ⟨12, _⟩ => ⟨S8x1x1024, .f32⟩
  | .hbm, ⟨13, _⟩ => ⟨S8x1x1024, .f32⟩
  | .hbm, ⟨14, _⟩ => ⟨S8x1x1024, .f32⟩
  | .hbm, ⟨15, _⟩ => ⟨S8x1x1024, .f32⟩
  | .hbm, ⟨16, _⟩ => ⟨S8x1x1024, .f32⟩
  | .hbm, ⟨17, _⟩ => ⟨S8x1x1024, .f32⟩
  | .hbm, ⟨18, _⟩ => ⟨S1024, .f32⟩
  | .hbm, ⟨19, _⟩ => ⟨S1024, .f32⟩
  | .hbm, ⟨20, _⟩ => ⟨S1024, .f32⟩
  | .hbm, ⟨21, _⟩ => ⟨S1024, .f32⟩
  | .hbm, ⟨22, _⟩ => ⟨S1024, .f32⟩
  | .hbm, ⟨23, _⟩ => ⟨S1024, .f32⟩
  | .hbm, ⟨24, _⟩ => ⟨S8x2048x1024, .f32⟩
  | .hbm, ⟨25, _⟩ => ⟨S_, .f32⟩
  | .hbm, ⟨26, _⟩ => ⟨S8x2048, .f32⟩
  | .hbm, ⟨27, _⟩ => ⟨S8x2048x1, .f32⟩
  | .hbm, ⟨28, _⟩ => ⟨S_, .f32⟩
  | .hbm, ⟨29, _⟩ => ⟨S8x2048x1, .f32⟩
  | .hbm, ⟨30, _⟩ => ⟨S8x2048x1, .f32⟩
  | .hbm, ⟨31, _⟩ => ⟨S_, .f32⟩
  | .hbm, ⟨32, _⟩ => ⟨S8x2048x1, .f32⟩
  | .hbm, ⟨33, _⟩ => ⟨S8x2048x1, .f32⟩
  | .hbm, ⟨34, _⟩ => ⟨S8x2048x1, .f32⟩
  | .hbm, ⟨35, _⟩ => ⟨S8x2048x1024, .f32⟩
  | .hbm, ⟨36, _⟩ => ⟨S8x2048x1024, .f32⟩
  | .hbm, ⟨37, _⟩ => ⟨S1x1x1024, .f32⟩
  | .hbm, ⟨38, _⟩ => ⟨S8x2048x1024, .f32⟩
  | .hbm, ⟨39, _⟩ => ⟨S8x2048x1024, .f32⟩
  | .hbm, ⟨40, _⟩ => ⟨S_, .f32⟩
  | .hbm, ⟨41, _⟩ => ⟨S8x1x1024, .f32⟩
  | .hbm, ⟨42, _⟩ => ⟨S8x1x1024, .f32⟩
  | .hbm, ⟨43, _⟩ => ⟨S8x2048x1024, .f32⟩
  | .hbm, ⟨44, _⟩ => ⟨S8x2048x1024, .f32⟩
  | .hbm, ⟨45, _⟩ => ⟨S8x2048x1024, .f32⟩
  | .hbm, ⟨46, _⟩ => ⟨S8x2048x1024, .f32⟩
  | .hbm, ⟨47, _⟩ => ⟨S8x256x1024, .f32⟩
  | .hbm, ⟨48, _⟩ => ⟨S_, .f32⟩
  | .hbm, ⟨49, _⟩ => ⟨S8x256, .f32⟩
  | .hbm, ⟨50, _⟩ => ⟨S8x256x1, .f32⟩
  | .hbm, ⟨51, _⟩ => ⟨S_, .f32⟩
  | .hbm, ⟨52, _⟩ => ⟨S8x256x1, .f32⟩
  | .hbm, ⟨53, _⟩ => ⟨S8x256x1, .f32⟩
  | .hbm, ⟨54, _⟩ => ⟨S_, .f32⟩
  | .hbm, ⟨55, _⟩ => ⟨S8x256x1, .f32⟩
  | .hbm, ⟨56, _⟩ => ⟨S8x256x1, .f32⟩
  | .hbm, ⟨57, _⟩ => ⟨S8x256x1, .f32⟩
  | .hbm, ⟨58, _⟩ => ⟨S8x256x1024, .f32⟩
  | .hbm, ⟨59, _⟩ => ⟨S8x256x1024, .f32⟩
  | .hbm, ⟨60, _⟩ => ⟨S1x1x1024, .f32⟩
  | .hbm, ⟨61, _⟩ => ⟨S8x256x1024, .f32⟩
  | .hbm, ⟨62, _⟩ => ⟨S8x256x1024, .f32⟩
  | .hbm, ⟨63, _⟩ => ⟨S_, .f32⟩
  | .hbm, ⟨64, _⟩ => ⟨S1024, .f32⟩
  | .hbm, ⟨65, _⟩ => ⟨S1024, .f32⟩
  | .hbm, ⟨66, _⟩ => ⟨S1x1x1024, .f32⟩
  | .hbm, ⟨67, _⟩ => ⟨S8x256x1024, .f32⟩
  | .hbm, ⟨68, _⟩ => ⟨S8x256x1024, .f32⟩
  | .hbm, ⟨69, _⟩ => ⟨S1x1x1024, .f32⟩
  | .hbm, ⟨70, _⟩ => ⟨S8x256x1024, .f32⟩
  | .hbm, ⟨71, _⟩ => ⟨S8x256x1024, .f32⟩
  | .hbm, ⟨72, _⟩ => ⟨S8x2048x4128, .f32⟩
  | .hbm, ⟨73, _⟩ => ⟨S8x256x4128, .f32⟩
  | .hbm, ⟨74, _⟩ => ⟨S8x2304x4128, .f32⟩
  | .hbm, ⟨75, _⟩ => ⟨S8x2304x4128, .bf16⟩
  | .hbm, ⟨76, _⟩ => ⟨S_, .i32⟩
  | .hbm, ⟨77, _⟩ => ⟨S_, .bf16⟩
  | .hbm, ⟨78, _⟩ => ⟨S8x2304x4608, .bf16⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst : Ref sig .tc := ⟨.hbm, 25, rfl⟩
abbrev main_v19 : Ref sig .tc := ⟨.hbm, 26, rfl⟩
abbrev main_v20 : Ref sig .tc := ⟨.hbm, 27, rfl⟩
abbrev main_cst_0 : Ref sig .tc := ⟨.hbm, 28, rfl⟩
abbrev main_v21 : Ref sig .tc := ⟨.hbm, 29, rfl⟩
abbrev main_v22 : Ref sig .tc := ⟨.hbm, 30, rfl⟩
abbrev main_cst_1 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst_2 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_cst_3 : Ref sig .tc := ⟨.hbm, 48, rfl⟩
abbrev main_v38 : Ref sig .tc := ⟨.hbm, 49, rfl⟩
abbrev main_v39 : Ref sig .tc := ⟨.hbm, 50, rfl⟩
abbrev main_cst_4 : Ref sig .tc := ⟨.hbm, 51, rfl⟩
abbrev main_v40 : Ref sig .tc := ⟨.hbm, 52, rfl⟩
abbrev main_v41 : Ref sig .tc := ⟨.hbm, 53, rfl⟩
abbrev main_cst_5 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_cst_6 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_c : Ref sig .tc := ⟨.hbm, 76, rfl⟩
abbrev main_call0_v0 : Ref sig .tc := ⟨.hbm, 77, rfl⟩
abbrev main_v62 : Ref sig .tc := ⟨.hbm, 78, rfl⟩

abbrev nD : Nat := 1
abbrev τ : Topo := Topo.v7x

variable {F : FTy → Type} [FloatOps F]
-- ==== HyIn.lean ====
abbrev S8x2048x1024 : Shape := ⟨3, ![8, 2048, 1024]⟩
abbrev S8x256x1024 : Shape := ⟨3, ![8, 256, 1024]⟩
abbrev S1024 : Shape := ⟨1, ![1024]⟩
abbrev S8x6144 : Shape := ⟨2, ![8, 6144]⟩
abbrev S6144 : Shape := ⟨1, ![6144]⟩
abbrev S1024x3072 : Shape := ⟨2, ![1024, 3072]⟩
abbrev S3072 : Shape := ⟨1, ![3072]⟩
abbrev S8x2304x1024 : Shape := ⟨3, ![8, 2304, 1024]⟩
abbrev S_ : Shape := ⟨0, ![]⟩
abbrev S7x6144 : Shape := ⟨2, ![7, 6144]⟩
abbrev S1x6144 : Shape := ⟨2, ![1, 6144]⟩
abbrev S16x6144 : Shape := ⟨2, ![16, 6144]⟩
abbrev S1x1024 : Shape := ⟨2, ![1, 1024]⟩
abbrev S1x3072 : Shape := ⟨2, ![1, 3072]⟩
abbrev S8x2304x3072 : Shape := ⟨3, ![8, 2304, 3072]⟩
abbrev S1x2304x1024 : Shape := ⟨3, ![1, 2304, 1024]⟩
abbrev S16x1024 : Shape := ⟨2, ![16, 1024]⟩
abbrev S1024x512 : Shape := ⟨2, ![1024, 512]⟩
abbrev S1x512 : Shape := ⟨2, ![1, 512]⟩
abbrev S1x2304x512 : Shape := ⟨3, ![1, 2304, 512]⟩
abbrev S2304x1024 : Shape := ⟨2, ![2304, 1024]⟩
abbrev S1x2048x1024 : Shape := ⟨3, ![1, 2048, 1024]⟩
abbrev S2048x1024 : Shape := ⟨2, ![2048, 1024]⟩
abbrev S2048 : Shape := ⟨1, ![2048]⟩
abbrev S2048x1 : Shape := ⟨2, ![2048, 1]⟩
abbrev S1x256x1024 : Shape := ⟨3, ![1, 256, 1024]⟩
abbrev S256x1024 : Shape := ⟨2, ![256, 1024]⟩
abbrev S256 : Shape := ⟨1, ![256]⟩
abbrev S256x1 : Shape := ⟨2, ![256, 1]⟩
abbrev S2304x512 : Shape := ⟨2, ![2304, 512]⟩

abbrev nBuf : Space → Nat
  | .hbm => 16
  | .vmem => 12
  | .smem => 0
  | _ => 0

abbrev bufTy : (tb : Table) → Fin (tcTables nBuf tb) → BufTy
  | .hbm, ⟨0, _⟩ => ⟨S8x2048x1024, .f32⟩
  | .hbm, ⟨1, _⟩ => ⟨S8x256x1024, .f32⟩
  | .hbm, ⟨2, _⟩ => ⟨S1024, .f32⟩
  | .hbm, ⟨3, _⟩ => ⟨S8x6144, .f32⟩
  | .hbm, ⟨4, _⟩ => ⟨S6144, .f32⟩
  | .hbm, ⟨5, _⟩ => ⟨S1024x3072, .f32⟩
  | .hbm, ⟨6, _⟩ => ⟨S3072, .f32⟩
  | .hbm, ⟨7, _⟩ => ⟨S8x2304x1024, .f32⟩
  | .hbm, ⟨8, _⟩ => ⟨S_, .f32⟩
  | .hbm, ⟨9, _⟩ => ⟨S7x6144, .f32⟩
  | .hbm, ⟨10, _⟩ => ⟨S1x6144, .f32⟩
  | .hbm, ⟨11, _⟩ => ⟨S16x6144, .f32⟩
  | .hbm, ⟨12, _⟩ => ⟨S1024x3072, .bf16⟩
  | .hbm, ⟨13, _⟩ => ⟨S1x1024, .f32⟩
  | .hbm, ⟨14, _⟩ => ⟨S1x3072, .f32⟩
  | .hbm, ⟨15, _⟩ => ⟨S8x2304x3072, .bf16⟩
  | .local _ .vmem, ⟨0, _⟩ => ⟨S1x2304x1024, .f32⟩
  | .local _ .vmem, ⟨1, _⟩ => ⟨S1x2304x1024, .f32⟩
  | .local _ .vmem, ⟨2, _⟩ => ⟨S1x1024, .f32⟩
  | .local _ .vmem, ⟨3, _⟩ => ⟨S16x1024, .f32⟩
  | .local _ .vmem, ⟨4, _⟩ => ⟨S16x1024, .f32⟩
  | .local _ .vmem, ⟨5, _⟩ => ⟨S1024x512, .bf16⟩
  | .local _ .vmem, ⟨6, _⟩ => ⟨S1024x512, .bf16⟩
  | .local _ .vmem, ⟨7, _⟩ => ⟨S1x512, .f32⟩
  | .local _ .vmem, ⟨8, _⟩ => ⟨S1x512, .f32⟩
  | .local _ .vmem, ⟨9, _⟩ => ⟨S1x2304x512, .bf16⟩
  | .local _ .vmem, ⟨10, _⟩ => ⟨S1x2304x512, .bf16⟩
  | .local _ .vmem, ⟨11, _⟩ => ⟨S2304x1024, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨3, ![8, 1, 6], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def k0_off1 (i : grid0.Coords) : Fin 2 → Nat :=
  let arg0 : BitVec 32 := BitVec.ofNat 32 (i 0).val
  let v29 : Index := Scalar.indexCast arg0
  let c0_17 : Index := 0#32
  ![v29.toNat, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c1_i32 : BitVec 32 := 1#32
  let c0_i32_0 : BitVec 32 := 0#32
  ![c0_i32.toNat, c1_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x2304x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 1 → Memref sig .tc .vmem S16x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 1 → Memref sig .tc .vmem S16x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, false, true]

abbrev stage0_6 : Fin 2 → Memref sig .tc .vmem S1x2304x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== HyInRefIdeal.lean ====
abbrev S8x2048x1024 : Shape := ⟨3, ![8, 2048, 1024]⟩
abbrev S8x256x1024 : Shape := ⟨3, ![8, 256, 1024]⟩
abbrev S1024 : Shape := ⟨1, ![1024]⟩
abbrev S8x6144 : Shape := ⟨2, ![8, 6144]⟩
abbrev S6144 : Shape := ⟨1, ![6144]⟩
abbrev S1024x3072 : Shape := ⟨2, ![1024, 3072]⟩
abbrev S3072 : Shape := ⟨1, ![3072]⟩
abbrev S8x1024 : Shape := ⟨2, ![8, 1024]⟩
abbrev S8x1x1024 : Shape := ⟨3, ![8, 1, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x256 : Shape := ⟨2, ![8, 256]⟩
abbrev S8x256x1 : Shape := ⟨3, ![8, 256, 1]⟩
abbrev S8x2048x3072 : Shape := ⟨3, ![8, 2048, 3072]⟩
abbrev S1x1x3072 : Shape := ⟨3, ![1, 1, 3072]⟩
abbrev S8x256x3072 : Shape := ⟨3, ![8, 256, 3072]⟩
abbrev S8x2304x3072 : Shape := ⟨3, ![8, 2304, 3072]⟩

abbrev nBuf : Space → Nat
  | .hbm => 83
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x256x1024, .f32⟩
  | .hbm, ⟨2, _⟩ => ⟨S1024, .f32⟩
  | .hbm, ⟨3, _⟩ => ⟨S8x6144, .f32⟩
  | .hbm, ⟨4, _⟩ => ⟨S6144, .f32⟩
  | .hbm, ⟨5, _⟩ => ⟨S1024x3072, .f32⟩
  | .hbm, ⟨6, _⟩ => ⟨S3072, .f32⟩
  | .hbm, ⟨7, _⟩ => ⟨S8x1024, .f32⟩
  | .hbm, ⟨8, _⟩ => ⟨S8x1024, .f32⟩
  | .hbm, ⟨9, _⟩ => ⟨S8x1024, .f32⟩
  | .hbm, ⟨10, _⟩ => ⟨S8x1024, .f32⟩
  | .hbm, ⟨11, _⟩ => ⟨S8x1024, .f32⟩
  | .hbm, ⟨12, _⟩ => ⟨S8x1024, .f32⟩
  | .hbm, ⟨13, _⟩ => ⟨S8x1x1024, .f32⟩
  | .hbm, ⟨14, _⟩ => ⟨S8x1x1024, .f32⟩
  | .hbm, ⟨15, _⟩ => ⟨S8x1x1024, .f32⟩
  | .hbm, ⟨16, _⟩ => ⟨S8x1x1024, .f32⟩
  | .hbm, ⟨17, _⟩ => ⟨S8x1x1024, .f32⟩
  | .hbm, ⟨18, _⟩ => ⟨S8x1x1024, .f32⟩
  | .hbm, ⟨19, _⟩ => ⟨S1024, .f32⟩
  | .hbm, ⟨20, _⟩ => ⟨S1024, .f32⟩
  | .hbm, ⟨21, _⟩ => ⟨S1024, .f32⟩
  | .hbm, ⟨22, _⟩ => ⟨S1024, .f32⟩
  | .hbm, ⟨23, _⟩ => ⟨S1024, .f32⟩
  | .hbm, ⟨24, _⟩ => ⟨S1024, .f32⟩
  | .hbm, ⟨25, _⟩ => ⟨S8x2048x1024, .f32⟩
  | .hbm, ⟨26, _⟩ => ⟨S_, .f32⟩
  | .hbm, ⟨27, _⟩ => ⟨S8x2048, .f32⟩
  | .hbm, ⟨28, _⟩ => ⟨S8x2048x1, .f32⟩
  | .hbm, ⟨29, _⟩ => ⟨S_, .f32⟩
  | .hbm, ⟨30, _⟩ => ⟨S8x2048x1, .f32⟩
  | .hbm, ⟨31, _⟩ => ⟨S8x2048x1, .f32⟩
  | .hbm, ⟨32, _⟩ => ⟨S_, .f32⟩
  | .hbm, ⟨33, _⟩ => ⟨S8x2048x1, .f32⟩
  | .hbm, ⟨34, _⟩ => ⟨S8x2048x1, .f32⟩
  | .hbm, ⟨35, _⟩ => ⟨S8x2048x1, .f32⟩
  | .hbm, ⟨36, _⟩ => ⟨S8x2048x1024, .f32⟩
  | .hbm, ⟨37, _⟩ => ⟨S8x2048x1024, .f32⟩
  | .hbm, ⟨38, _⟩ => ⟨S1x1x1024, .f32⟩
  | .hbm, ⟨39, _⟩ => ⟨S8x2048x1024, .f32⟩
  | .hbm, ⟨40, _⟩ => ⟨S8x2048x1024, .f32⟩
  | .hbm, ⟨41, _⟩ => ⟨S_, .f32⟩
  | .hbm, ⟨42, _⟩ => ⟨S8x1x1024, .f32⟩
  | .hbm, ⟨43, _⟩ => ⟨S8x1x1024, .f32⟩
  | .hbm, ⟨44, _⟩ => ⟨S8x2048x1024, .f32⟩
  | .hbm, ⟨45, _⟩ => ⟨S8x2048x1024, .f32⟩
  | .hbm, ⟨46, _⟩ => ⟨S8x2048x1024, .f32⟩
  | .hbm, ⟨47, _⟩ => ⟨S8x2048x1024, .f32⟩
  | .hbm, ⟨48, _⟩ => ⟨S8x256x1024, .f32⟩
  | .hbm, ⟨49, _⟩ => ⟨S_, .f32⟩
  | .hbm, ⟨50, _⟩ => ⟨S8x256, .f32⟩
  | .hbm, ⟨51, _⟩ => ⟨S8x256x1, .f32⟩
  | .hbm, ⟨52, _⟩ => ⟨S_, .f32⟩
  | .hbm, ⟨53, _⟩ => ⟨S8x256x1, .f32⟩
  | .hbm, ⟨54, _⟩ => ⟨S8x256x1, .f32⟩
  | .hbm, ⟨55, _⟩ => ⟨S_, .f32⟩
  | .hbm, ⟨56, _⟩ => ⟨S8x256x1, .f32⟩
  | .hbm, ⟨57, _⟩ => ⟨S8x256x1, .f32⟩
  | .hbm, ⟨58, _⟩ => ⟨S8x256x1, .f32⟩
  | .hbm, ⟨59, _⟩ => ⟨S8x256x1024, .f32⟩
  | .hbm, ⟨60, _⟩ => ⟨S8x256x1024, .f32⟩
  | .hbm, ⟨61, _⟩ => ⟨S1x1x1024, .f32⟩
  | .hbm, ⟨62, _⟩ => ⟨S8x256x1024, .f32⟩
  | .hbm, ⟨63, _⟩ => ⟨S8x256x1024, .f32⟩
  | .hbm, ⟨64, _⟩ => ⟨S_, .f32⟩
  | .hbm, ⟨65, _⟩ => ⟨S1024, .f32⟩
  | .hbm, ⟨66, _⟩ => ⟨S1024, .f32⟩
  | .hbm, ⟨67, _⟩ => ⟨S1x1x1024, .f32⟩
  | .hbm, ⟨68, _⟩ => ⟨S8x256x1024, .f32⟩
  | .hbm, ⟨69, _⟩ => ⟨S8x256x1024, .f32⟩
  | .hbm, ⟨70, _⟩ => ⟨S1x1x1024, .f32⟩
  | .hbm, ⟨71, _⟩ => ⟨S8x256x1024, .f32⟩
  | .hbm, ⟨72, _⟩ => ⟨S8x256x1024, .f32⟩
  | .hbm, ⟨73, _⟩ => ⟨S8x2048x3072, .f32⟩
  | .hbm, ⟨74, _⟩ => ⟨S1x1x3072, .f32⟩
  | .hbm, ⟨75, _⟩ => ⟨S8x2048x3072, .f32⟩
  | .hbm, ⟨76, _⟩ => ⟨S8x2048x3072, .f32⟩
  | .hbm, ⟨77, _⟩ => ⟨S8x256x3072, .f32⟩
  | .hbm, ⟨78, _⟩ => ⟨S1x1x3072, .f32⟩
  | .hbm, ⟨79, _⟩ => ⟨S8x256x3072, .f32⟩
  | .hbm, ⟨80, _⟩ => ⟨S8x256x3072, .f32⟩
  | .hbm, ⟨81, _⟩ => ⟨S8x2304x3072, .f32⟩
  | .hbm, ⟨82, _⟩ => ⟨S8x2304x3072, .bf16⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst : Ref sig .tc := ⟨.hbm, 26, rfl⟩
abbrev main_v19 : Ref sig .tc := ⟨.hbm, 27, rfl⟩
abbrev main_v20 : Ref sig .tc := ⟨.hbm, 28, rfl⟩
abbrev main_cst_0 : Ref sig .tc := ⟨.hbm, 29, rfl⟩
abbrev main_v21 : Ref sig .tc := ⟨.hbm, 30, rfl⟩
abbrev main_v22 : Ref sig .tc := ⟨.hbm, 31, rfl⟩
abbrev main_cst_1 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_2 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_cst_3 : Ref sig .tc := ⟨.hbm, 49, rfl⟩
abbrev main_v38 : Ref sig .tc := ⟨.hbm, 50, rfl⟩
abbrev main_v39 : Ref sig .tc := ⟨.hbm, 51, rfl⟩
abbrev main_cst_4 : Ref sig .tc := ⟨.hbm, 52, rfl⟩
abbrev main_v40 : Ref sig .tc := ⟨.hbm, 53, rfl⟩
abbrev main_v41 : Ref sig .tc := ⟨.hbm, 54, rfl⟩
abbrev main_cst_5 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_cst_6 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩

abbrev nD : Nat := 1
abbrev τ : Topo := Topo.v7x

variable {F : FTy → Type} [FloatOps F]
-- ==== SwIn.lean ====
abbrev S8x2048x1024 : Shape := ⟨3, ![8, 2048, 1024]⟩
abbrev S8x256x1024 : Shape := ⟨3, ![8, 256, 1024]⟩
abbrev S1024 : Shape := ⟨1, ![1024]⟩
abbrev S8x6144 : Shape := ⟨2, ![8, 6144]⟩
abbrev S6144 : Shape := ⟨1, ![6144]⟩
abbrev S1024x1536 : Shape := ⟨2, ![1024, 1536]⟩
abbrev S1536 : Shape := ⟨1, ![1536]⟩
abbrev S8x2304x1024 : Shape := ⟨3, ![8, 2304, 1024]⟩
abbrev S_ : Shape := ⟨0, ![]⟩
abbrev S7x6144 : Shape := ⟨2, ![7, 6144]⟩
abbrev S1x6144 : Shape := ⟨2, ![1, 6144]⟩
abbrev S16x6144 : Shape := ⟨2, ![16, 6144]⟩
abbrev S1536x1 : Shape := ⟨2, ![1536, 1]⟩
abbrev S1x1024 : Shape := ⟨2, ![1, 1024]⟩
abbrev S1x1536 : Shape := ⟨2, ![1, 1536]⟩
abbrev S8x2304x1536 : Shape := ⟨3, ![8, 2304, 1536]⟩
abbrev S1x2304x1024 : Shape := ⟨3, ![1, 2304, 1024]⟩
abbrev S16x1024 : Shape := ⟨2, ![16, 1024]⟩
abbrev S1024x512 : Shape := ⟨2, ![1024, 512]⟩
abbrev S1x512 : Shape := ⟨2, ![1, 512]⟩
abbrev S1x2304x512 : Shape := ⟨3, ![1, 2304, 512]⟩
abbrev S2304x1024 : Shape := ⟨2, ![2304, 1024]⟩
abbrev S1x2048x1024 : Shape := ⟨3, ![1, 2048, 1024]⟩
abbrev S2048x1024 : Shape := ⟨2, ![2048, 1024]⟩
abbrev S2048 : Shape := ⟨1, ![2048]⟩
abbrev S2048x1 : Shape := ⟨2, ![2048, 1]⟩
abbrev S1x256x1024 : Shape := ⟨3, ![1, 256, 1024]⟩
abbrev S256x1024 : Shape := ⟨2, ![256, 1024]⟩
abbrev S256 : Shape := ⟨1, ![256]⟩
abbrev S256x1 : Shape := ⟨2, ![256, 1]⟩
abbrev S2304x512 : Shape := ⟨2, ![2304, 512]⟩

abbrev nBuf : Space → Nat
  | .hbm => 25
  | .vmem => 12
  | .smem => 0
  | _ => 0

abbrev bufTy : (tb : Table) → Fin (tcTables nBuf tb) → BufTy
  | .hbm, ⟨0, _⟩ => ⟨S8x2048x1024, .f32⟩
  | .hbm, ⟨1, _⟩ => ⟨S8x256x1024, .f32⟩
  | .hbm, ⟨2, _⟩ => ⟨S1024, .f32⟩
  | .hbm, ⟨3, _⟩ => ⟨S8x6144, .f32⟩
  | .hbm, ⟨4, _⟩ => ⟨S6144, .f32⟩
  | .hbm, ⟨5, _⟩ => ⟨S1024x1536, .f32⟩
  | .hbm, ⟨6, _⟩ => ⟨S1536, .i32⟩
  | .hbm, ⟨7, _⟩ => ⟨S1536, .i1⟩
  | .hbm, ⟨8, _⟩ => ⟨S8x2304x1024, .f32⟩
  | .hbm, ⟨9, _⟩ => ⟨S_, .f32⟩
  | .hbm, ⟨10, _⟩ => ⟨S7x6144, .f32⟩
  | .hbm, ⟨11, _⟩ => ⟨S1x6144, .f32⟩
  | .hbm, ⟨12, _⟩ => ⟨S16x6144, .f32⟩
  | .hbm, ⟨13, _⟩ => ⟨S_, .i32⟩
  | .hbm, ⟨14, _⟩ => ⟨S1536, .i32⟩
  | .hbm, ⟨15, _⟩ => ⟨S1536, .i32⟩
  | .hbm, ⟨16, _⟩ => ⟨S1536, .i32⟩
  | .hbm, ⟨17, _⟩ => ⟨S1536x1, .i32⟩
  | .hbm, ⟨18, _⟩ => ⟨S1024x1536, .f32⟩
  | .hbm, ⟨19, _⟩ => ⟨S1024x1536, .bf16⟩
  | .hbm, ⟨20, _⟩ => ⟨S_, .f32⟩
  | .hbm, ⟨21, _⟩ => ⟨S1536, .f32⟩
  | .hbm, ⟨22, _⟩ => ⟨S1x1024, .f32⟩
  | .hbm, ⟨23, _⟩ => ⟨S1x1536, .f32⟩
  | .hbm, ⟨24, _⟩ => ⟨S8x2304x1536, .bf16⟩
  | .local _ .vmem, ⟨0, _⟩ => ⟨S1x2304x1024, .f32⟩
  | .local _ .vmem, ⟨1, _⟩ => ⟨S1x2304x1024, .f32⟩
  | .local _ .vmem, ⟨2, _⟩ => ⟨S1x1024, .f32⟩
  | .local _ .vmem, ⟨3, _⟩ => ⟨S16x1024, .f32⟩
  | .local _ .vmem, ⟨4, _⟩ => ⟨S16x1024, .f32⟩
  | .local _ .vmem, ⟨5, _⟩ => ⟨S1024x512, .bf16⟩
  | .local _ .vmem, ⟨6, _⟩ => ⟨S1024x512, .bf16⟩
  | .local _ .vmem, ⟨7, _⟩ => ⟨S1x512, .f32⟩
  | .local _ .vmem, ⟨8, _⟩ => ⟨S1x512, .f32⟩
  | .local _ .vmem, ⟨9, _⟩ => ⟨S1x2304x512, .bf16⟩
  | .local _ .vmem, ⟨10, _⟩ => ⟨S1x2304x512, .bf16⟩
  | .local _ .vmem, ⟨11, _⟩ => ⟨S2304x1024, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_c_0 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨3, ![8, 1, 3], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def k0_off1 (i : grid0.Coords) : Fin 2 → Nat :=
  let arg0 : BitVec 32 := BitVec.ofNat 32 (i 0).val
  let v29 : Index := Scalar.indexCast arg0
  let c0_17 : Index := 0#32
  ![v29.toNat, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c1_i32 : BitVec 32 := 1#32
  let c0_i32_0 : BitVec 32 := 0#32
  ![c0_i32.toNat, c1_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x2304x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 1 → Memref sig .tc .vmem S16x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 1 → Memref sig .tc .vmem S16x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, false, true]

abbrev stage0_6 : Fin 2 → Memref sig .tc .vmem S1x2304x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== SwInRefIdeal.lean ====
abbrev S8x2048x1024 : Shape := ⟨3, ![8, 2048, 1024]⟩
abbrev S8x256x1024 : Shape := ⟨3, ![8, 256, 1024]⟩
abbrev S1024 : Shape := ⟨1, ![1024]⟩
abbrev S8x6144 : Shape := ⟨2, ![8, 6144]⟩
abbrev S6144 : Shape := ⟨1, ![6144]⟩
abbrev S1024x1536 : Shape := ⟨2, ![1024, 1536]⟩
abbrev S8x1024 : Shape := ⟨2, ![8, 1024]⟩
abbrev S8x1x1024 : Shape := ⟨3, ![8, 1, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x256 : Shape := ⟨2, ![8, 256]⟩
abbrev S8x256x1 : Shape := ⟨3, ![8, 256, 1]⟩
abbrev S8x2048x1536 : Shape := ⟨3, ![8, 2048, 1536]⟩
abbrev S8x2048x4x256 : Shape := ⟨4, ![8, 2048, 4, 256]⟩
abbrev S8x2048x256 : Shape := ⟨3, ![8, 2048, 256]⟩
abbrev S8x2048x4x64 : Shape := ⟨4, ![8, 2048, 4, 64]⟩
abbrev S8x2048x4x384 : Shape := ⟨4, ![8, 2048, 4, 384]⟩
abbrev S8x256x1536 : Shape := ⟨3, ![8, 256, 1536]⟩
abbrev S8x256x4x256 : Shape := ⟨4, ![8, 256, 4, 256]⟩
abbrev S8x256x256 : Shape := ⟨3, ![8, 256, 256]⟩
abbrev S8x256x4x64 : Shape := ⟨4, ![8, 256, 4, 64]⟩
abbrev S8x256x4x384 : Shape := ⟨4, ![8, 256, 4, 384]⟩
abbrev S8x2304x1536 : Shape := ⟨3, ![8, 2304, 1536]⟩

abbrev nBuf : Space → Nat
  | .hbm => 92
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x256x1024, .f32⟩
  | .hbm, ⟨2, _⟩ => ⟨S1024, .f32⟩
  | .hbm, ⟨3, _⟩ => ⟨S8x6144, .f32⟩
  | .hbm, ⟨4, _⟩ => ⟨S6144, .f32⟩
  | .hbm, ⟨5, _⟩ => ⟨S1024x1536, .f32⟩
  | .hbm, ⟨6, _⟩ => ⟨S8x1024, .f32⟩
  | .hbm, ⟨7, _⟩ => ⟨S8x1024, .f32⟩
  | .hbm, ⟨8, _⟩ => ⟨S8x1024, .f32⟩
  | .hbm, ⟨9, _⟩ => ⟨S8x1024, .f32⟩
  | .hbm, ⟨10, _⟩ => ⟨S8x1024, .f32⟩
  | .hbm, ⟨11, _⟩ => ⟨S8x1024, .f32⟩
  | .hbm, ⟨12, _⟩ => ⟨S8x1x1024, .f32⟩
  | .hbm, ⟨13, _⟩ => ⟨S8x1x1024, .f32⟩
  | .hbm, ⟨14, _⟩ => ⟨S8x1x1024, .f32⟩
  | .hbm, ⟨15, _⟩ => ⟨S8x1x1024, .f32⟩
  | .hbm, ⟨16, _⟩ => ⟨S8x1x1024, .f32⟩
  | .hbm, ⟨17, _⟩ => ⟨S8x1x1024, .f32⟩
  | .hbm, ⟨18, _⟩ => ⟨S1024, .f32⟩
  | .hbm, ⟨19, _⟩ => ⟨S1024, .f32⟩
  | .hbm, ⟨20, _⟩ => ⟨S1024, .f32⟩
  | .hbm, ⟨21, _⟩ => ⟨S1024, .f32⟩
  | .hbm, ⟨22, _⟩ => ⟨S1024, .f32⟩
  | .hbm, ⟨23, _⟩ => ⟨S1024, .f32⟩
  | .hbm, ⟨24, _⟩ => ⟨S8x2048x1024, .f32⟩
  | .hbm, ⟨25, _⟩ => ⟨S_, .f32⟩
  | .hbm, ⟨26, _⟩ => ⟨S8x2048, .f32⟩
  | .hbm, ⟨27, _⟩ => ⟨S8x2048x1, .f32⟩
  | .hbm, ⟨28, _⟩ => ⟨S_, .f32⟩
  | .hbm, ⟨29, _⟩ => ⟨S8x2048x1, .f32⟩
  | .hbm, ⟨30, _⟩ => ⟨S8x2048x1, .f32⟩
  | .hbm, ⟨31, _⟩ => ⟨S_, .f32⟩
  | .hbm, ⟨32, _⟩ => ⟨S8x2048x1, .f32⟩
  | .hbm, ⟨33, _⟩ => ⟨S8x2048x1, .f32⟩
  | .hbm, ⟨34, _⟩ => ⟨S8x2048x1, .f32⟩
  | .hbm, ⟨35, _⟩ => ⟨S8x2048x1024, .f32⟩
  | .hbm, ⟨36, _⟩ => ⟨S8x2048x1024, .f32⟩
  | .hbm, ⟨37, _⟩ => ⟨S1x1x1024, .f32⟩
  | .hbm, ⟨38, _⟩ => ⟨S8x2048x1024, .f32⟩
  | .hbm, ⟨39, _⟩ => ⟨S8x2048x1024, .f32⟩
  | .hbm, ⟨40, _⟩ => ⟨S_, .f32⟩
  | .hbm, ⟨41, _⟩ => ⟨S8x1x1024, .f32⟩
  | .hbm, ⟨42, _⟩ => ⟨S8x1x1024, .f32⟩
  | .hbm, ⟨43, _⟩ => ⟨S8x2048x1024, .f32⟩
  | .hbm, ⟨44, _⟩ => ⟨S8x2048x1024, .f32⟩
  | .hbm, ⟨45, _⟩ => ⟨S8x2048x1024, .f32⟩
  | .hbm, ⟨46, _⟩ => ⟨S8x2048x1024, .f32⟩
  | .hbm, ⟨47, _⟩ => ⟨S8x256x1024, .f32⟩
  | .hbm, ⟨48, _⟩ => ⟨S_, .f32⟩
  | .hbm, ⟨49, _⟩ => ⟨S8x256, .f32⟩
  | .hbm, ⟨50, _⟩ => ⟨S8x256x1, .f32⟩
  | .hbm, ⟨51, _⟩ => ⟨S_, .f32⟩
  | .hbm, ⟨52, _⟩ => ⟨S8x256x1, .f32⟩
  | .hbm, ⟨53, _⟩ => ⟨S8x256x1, .f32⟩
  | .hbm, ⟨54, _⟩ => ⟨S_, .f32⟩
  | .hbm, ⟨55, _⟩ => ⟨S8x256x1, .f32⟩
  | .hbm, ⟨56, _⟩ => ⟨S8x256x1, .f32⟩
  | .hbm, ⟨57, _⟩ => ⟨S8x256x1, .f32⟩
  | .hbm, ⟨58, _⟩ => ⟨S8x256x1024, .f32⟩
  | .hbm, ⟨59, _⟩ => ⟨S8x256x1024, .f32⟩
  | .hbm, ⟨60, _⟩ => ⟨S1x1x1024, .f32⟩
  | .hbm, ⟨61, _⟩ => ⟨S8x256x1024, .f32⟩
  | .hbm, ⟨62, _⟩ => ⟨S8x256x1024, .f32⟩
  | .hbm, ⟨63, _⟩ => ⟨S_, .f32⟩
  | .hbm, ⟨64, _⟩ => ⟨S1024, .f32⟩
  | .hbm, ⟨65, _⟩ => ⟨S1024, .f32⟩
  | .hbm, ⟨66, _⟩ => ⟨S1x1x1024, .f32⟩
  | .hbm, ⟨67, _⟩ => ⟨S8x256x1024, .f32⟩
  | .hbm, ⟨68, _⟩ => ⟨S8x256x1024, .f32⟩
  | .hbm, ⟨69, _⟩ => ⟨S1x1x1024, .f32⟩
  | .hbm, ⟨70, _⟩ => ⟨S8x256x1024, .f32⟩
  | .hbm, ⟨71, _⟩ => ⟨S8x256x1024, .f32⟩
  | .hbm, ⟨72, _⟩ => ⟨S8x2048x1536, .f32⟩
  | .hbm, ⟨73, _⟩ => ⟨S8x2048x1024, .f32⟩
  | .hbm, ⟨74, _⟩ => ⟨S8x2048x4x256, .f32⟩
  | .hbm, ⟨75, _⟩ => ⟨S8x2048x256, .f32⟩
  | .hbm, ⟨76, _⟩ => ⟨S8x2048x4x64, .f32⟩
  | .hbm, ⟨77, _⟩ => ⟨S8x2048x256, .f32⟩
  | .hbm, ⟨78, _⟩ => ⟨S8x2048x4x64, .f32⟩
  | .hbm, ⟨79, _⟩ => ⟨S8x2048x4x384, .f32⟩
  | .hbm, ⟨80, _⟩ => ⟨S8x2048x1536, .f32⟩
  | .hbm, ⟨81, _⟩ => ⟨S8x256x1536, .f32⟩
  | .hbm, ⟨82, _⟩ => ⟨S8x256x1024, .f32⟩
  | .hbm, ⟨83, _⟩ => ⟨S8x256x4x256, .f32⟩
  | .hbm, ⟨84, _⟩ => ⟨S8x256x256, .f32⟩
  | .hbm, ⟨85, _⟩ => ⟨S8x256x4x64, .f32⟩
  | .hbm, ⟨86, _⟩ => ⟨S8x256x256, .f32⟩
  | .hbm, ⟨87, _⟩ => ⟨S8x256x4x64, .f32⟩
  | .hbm, ⟨88, _⟩ => ⟨S8x256x4x384, .f32⟩
  | .hbm, ⟨89, _⟩ => ⟨S8x256x1536, .f32⟩
  | .hbm, ⟨90, _⟩ => ⟨S8x2304x1536, .f32⟩
  | .hbm, ⟨91, _⟩ => ⟨S8x2304x1536, .bf16⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst : Ref sig .tc := ⟨.hbm, 25, rfl⟩
abbrev main_v19 : Ref sig .tc := ⟨.hbm, 26, rfl⟩
abbrev main_v20 : Ref sig .tc := ⟨.hbm, 27, rfl⟩
abbrev main_cst_0 : Ref sig .tc := ⟨.hbm, 28, rfl⟩
abbrev main_v21 : Ref sig .tc := ⟨.hbm, 29, rfl⟩
abbrev main_v22 : Ref sig .tc := ⟨.hbm, 30, rfl⟩
abbrev main_cst_1 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst_2 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_cst_3 : Ref sig .tc := ⟨.hbm, 48, rfl⟩
abbrev main_v38 : Ref sig .tc := ⟨.hbm, 49, rfl⟩
abbrev main_v39 : Ref sig .tc := ⟨.hbm, 50, rfl⟩
abbrev main_cst_4 : Ref sig .tc := ⟨.hbm, 51, rfl⟩
abbrev main_v40 : Ref sig .tc := ⟨.hbm, 52, rfl⟩
abbrev main_v41 : Ref sig .tc := ⟨.hbm, 53, rfl⟩
abbrev main_cst_5 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_cst_6 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩

abbrev nD : Nat := 1
abbrev τ : Topo := Topo.v7x

variable {F : FTy → Type} [FloatOps F]
-- ==== Out.lean ====
abbrev S8x2048x1024 : Shape := ⟨3, ![8, 2048, 1024]⟩
abbrev S8x256x1024 : Shape := ⟨3, ![8, 256, 1024]⟩
abbrev S1024x1024 : Shape := ⟨2, ![1024, 1024]⟩
abbrev S1024 : Shape := ⟨1, ![1024]⟩
abbrev S8x6144 : Shape := ⟨2, ![8, 6144]⟩
abbrev S6144 : Shape := ⟨1, ![6144]⟩
abbrev S1024x16 : Shape := ⟨2, ![1024, 16]⟩
abbrev S8x2304x1024 : Shape := ⟨3, ![8, 2304, 1024]⟩
abbrev S_ : Shape := ⟨0, ![]⟩
abbrev S7x6144 : Shape := ⟨2, ![7, 6144]⟩
abbrev S1x6144 : Shape := ⟨2, ![1, 6144]⟩
abbrev S16x6144 : Shape := ⟨2, ![16, 6144]⟩
abbrev S1024x128 : Shape := ⟨2, ![1024, 128]⟩
abbrev S1024x256 : Shape := ⟨2, ![1024, 256]⟩
abbrev S1x1024 : Shape := ⟨2, ![1, 1024]⟩
abbrev S8x2304x128 : Shape := ⟨3, ![8, 2304, 128]⟩
abbrev S1x768x1024 : Shape := ⟨3, ![1, 768, 1024]⟩
abbrev S16x1024 : Shape := ⟨2, ![16, 1024]⟩
abbrev S1x768x128 : Shape := ⟨3, ![1, 768, 128]⟩
abbrev S768x1024 : Shape := ⟨2, ![768, 1024]⟩
abbrev S768x1 : Shape := ⟨2, ![768, 1]⟩
abbrev S768 : Shape := ⟨1, ![768]⟩
abbrev S1536x1024 : Shape := ⟨2, ![1536, 1024]⟩
abbrev S1536x256 : Shape := ⟨2, ![1536, 256]⟩
abbrev S768x128 : Shape := ⟨2, ![768, 128]⟩

abbrev nBuf : Space → Nat
  | .hbm => 30
  | .vmem => 17
  | .smem => 0
  | _ => 0

abbrev bufTy : (tb : Table) → Fin (tcTables nBuf tb) → BufTy
  | .hbm, ⟨0, _⟩ => ⟨S8x2048x1024, .f32⟩
  | .hbm, ⟨1, _⟩ => ⟨S8x256x1024, .f32⟩
  | .hbm, ⟨2, _⟩ => ⟨S8x2048x1024, .f32⟩
  | .hbm, ⟨3, _⟩ => ⟨S8x256x1024, .f32⟩
  | .hbm, ⟨4, _⟩ => ⟨S1024x1024, .f32⟩
  | .hbm, ⟨5, _⟩ => ⟨S1024, .f32⟩
  | .hbm, ⟨6, _⟩ => ⟨S1024, .f32⟩
  | .hbm, ⟨7, _⟩ => ⟨S8x6144, .f32⟩
  | .hbm, ⟨8, _⟩ => ⟨S6144, .f32⟩
  | .hbm, ⟨9, _⟩ => ⟨S1024x16, .f32⟩
  | .hbm, ⟨10, _⟩ => ⟨S8x2304x1024, .f32⟩
  | .hbm, ⟨11, _⟩ => ⟨S_, .f32⟩
  | .hbm, ⟨12, _⟩ => ⟨S7x6144, .f32⟩
  | .hbm, ⟨13, _⟩ => ⟨S1x6144, .f32⟩
  | .hbm, ⟨14, _⟩ => ⟨S16x6144, .f32⟩
  | .hbm, ⟨15, _⟩ => ⟨S8x2304x1024, .f32⟩
  | .hbm, ⟨16, _⟩ => ⟨S_, .i32⟩
  | .hbm, ⟨17, _⟩ => ⟨S_, .f32⟩
  | .hbm, ⟨18, _⟩ => ⟨S1024x128, .f32⟩
  | .hbm, ⟨19, _⟩ => ⟨S1024x128, .bf16⟩
  | .hbm, ⟨20, _⟩ => ⟨S1024x128, .f32⟩
  | .hbm, ⟨21, _⟩ => ⟨S1024x128, .f32⟩
  | .hbm, ⟨22, _⟩ => ⟨S1024x128, .bf16⟩
  | .hbm, ⟨23, _⟩ => ⟨S1024x256, .bf16⟩
  | .hbm, ⟨24, _⟩ => ⟨S1024x1024, .bf16⟩
  | .hbm, ⟨25, _⟩ => ⟨S1x1024, .f32⟩
  | .hbm, ⟨26, _⟩ => ⟨S1x1024, .f32⟩
  | .hbm, ⟨27, _⟩ => ⟨S8x2304x1024, .f32⟩
  | .hbm, ⟨28, _⟩ => ⟨S8x2304x1024, .bf16⟩
  | .hbm, ⟨29, _⟩ => ⟨S8x2304x128, .f32⟩
  | .local _ .vmem, ⟨0, _⟩ => ⟨S1x768x1024, .f32⟩
  | .local _ .vmem, ⟨1, _⟩ => ⟨S1x768x1024, .f32⟩
  | .local _ .vmem, ⟨2, _⟩ => ⟨S1024x1024, .bf16⟩
  | .local _ .vmem, ⟨3, _⟩ => ⟨S1x1024, .f32⟩
  | .local _ .vmem, ⟨4, _⟩ => ⟨S1x768x1024, .f32⟩
  | .local _ .vmem, ⟨5, _⟩ => ⟨S1x768x1024, .f32⟩
  | .local _ .vmem, ⟨6, _⟩ => ⟨S16x1024, .f32⟩
  | .local _ .vmem, ⟨7, _⟩ => ⟨S1x1024, .f32⟩
  | .local _ .vmem, ⟨8, _⟩ => ⟨S16x1024, .f32⟩
  | .local _ .vmem, ⟨9, _⟩ => ⟨S16x1024, .f32⟩
  | .local _ .vmem, ⟨10, _⟩ => ⟨S1024x256, .bf16⟩
  | .local _ .vmem, ⟨11, _⟩ => ⟨S1x768x1024, .f32⟩
  | .local _ .vmem, ⟨12, _⟩ => ⟨S1x768x1024, .f32⟩
  | .local _ .vmem, ⟨13, _⟩ => ⟨S1x768x1024, .bf16⟩
  | .local _ .vmem, ⟨14, _⟩ => ⟨S1x768x1024, .bf16⟩
  | .local _ .vmem, ⟨15, _⟩ => ⟨S1x768x128, .f32⟩
  | .local _ .vmem, ⟨16, _⟩ => ⟨S1x768x128, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_c : Ref sig .tc := ⟨.hbm, 16, rfl⟩
abbrev main_call0_v0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14_0 : Ref sig .tc := ⟨.hbm, 27, rfl⟩
abbrev main_v14_1 : Ref sig .tc := ⟨.hbm, 28, rfl⟩
abbrev main_v14_2 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16

abbrev nD : Nat := 1
abbrev τ : Topo := Topo.v7x

variable {F : FTy → Type} [FloatOps F]

abbrev grid0 : Pipeline.Grid := ⟨2, ![8, 3], ![false, false]⟩

def k0_off1 (i : grid0.Coords) : Fin 2 → Nat :=
  let arg0 : BitVec 32 := BitVec.ofNat 32 (i 0).val
  let v20 : Index := Scalar.indexCast arg0
  let c0_10 : Index := 0#32
  ![v20.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c2_i32 : BitVec 32 := 2#32
  let c0_i32_0 : BitVec 32 := 0#32
  ![c0_i32.toNat, c2_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c3_i32 : BitVec 32 := 3#32
  let c0_i32_0 : BitVec 32 := 0#32
  ![c0_i32.toNat, c3_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c4_i32 : BitVec 32 := 4#32
  let c0_i32_0 : BitVec 32 := 0#32
  ![c0_i32.toNat, c4_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x768x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x768x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S16x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S16x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S16x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x768x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x768x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x768x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== OutRefIdeal.lean ====
abbrev S8x2048x1024 : Shape := ⟨3, ![8, 2048, 1024]⟩
abbrev S8x256x1024 : Shape := ⟨3, ![8, 256, 1024]⟩
abbrev S1024x1024 : Shape := ⟨2, ![1024, 1024]⟩
abbrev S1024 : Shape := ⟨1, ![1024]⟩
abbrev S8x6144 : Shape := ⟨2, ![8, 6144]⟩
abbrev S6144 : Shape := ⟨1, ![6144]⟩
abbrev S1024x16 : Shape := ⟨2, ![1024, 16]⟩
abbrev S8x1024 : Shape := ⟨2, ![8, 1024]⟩
abbrev S8x1x1024 : Shape := ⟨3, ![8, 1, 1024]⟩
abbrev S1x1x1024 : Shape := ⟨3, ![1, 1, 1024]⟩
abbrev S_ : Shape := ⟨0, ![]⟩
abbrev S8x2048 : Shape := ⟨2, ![8, 2048]⟩
abbrev S8x2048x1 : Shape := ⟨3, ![8, 2048, 1]⟩
abbrev S8x256 : Shape := ⟨2, ![8, 256]⟩
abbrev S8x256x1 : Shape := ⟨3, ![8, 256, 1]⟩
abbrev S8x2304x1024 : Shape := ⟨3, ![8, 2304, 1024]⟩

abbrev nBuf : Space → Nat
  | .hbm => 94
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x256x1024, .f32⟩
  | .hbm, ⟨2, _⟩ => ⟨S8x2048x1024, .f32⟩
  | .hbm, ⟨3, _⟩ => ⟨S8x256x1024, .f32⟩
  | .hbm, ⟨4, _⟩ => ⟨S1024x1024, .f32⟩
  | .hbm, ⟨5, _⟩ => ⟨S1024, .f32⟩
  | .hbm, ⟨6, _⟩ => ⟨S1024, .f32⟩
  | .hbm, ⟨7, _⟩ => ⟨S8x6144, .f32⟩
  | .hbm, ⟨8, _⟩ => ⟨S6144, .f32⟩
  | .hbm, ⟨9, _⟩ => ⟨S1024x16, .f32⟩
  | .hbm, ⟨10, _⟩ => ⟨S8x1024, .f32⟩
  | .hbm, ⟨11, _⟩ => ⟨S8x1024, .f32⟩
  | .hbm, ⟨12, _⟩ => ⟨S8x1024, .f32⟩
  | .hbm, ⟨13, _⟩ => ⟨S8x1024, .f32⟩
  | .hbm, ⟨14, _⟩ => ⟨S8x1024, .f32⟩
  | .hbm, ⟨15, _⟩ => ⟨S8x1024, .f32⟩
  | .hbm, ⟨16, _⟩ => ⟨S8x1x1024, .f32⟩
  | .hbm, ⟨17, _⟩ => ⟨S8x1x1024, .f32⟩
  | .hbm, ⟨18, _⟩ => ⟨S8x1x1024, .f32⟩
  | .hbm, ⟨19, _⟩ => ⟨S8x1x1024, .f32⟩
  | .hbm, ⟨20, _⟩ => ⟨S8x1x1024, .f32⟩
  | .hbm, ⟨21, _⟩ => ⟨S8x1x1024, .f32⟩
  | .hbm, ⟨22, _⟩ => ⟨S1024, .f32⟩
  | .hbm, ⟨23, _⟩ => ⟨S1024, .f32⟩
  | .hbm, ⟨24, _⟩ => ⟨S1024, .f32⟩
  | .hbm, ⟨25, _⟩ => ⟨S1024, .f32⟩
  | .hbm, ⟨26, _⟩ => ⟨S1024, .f32⟩
  | .hbm, ⟨27, _⟩ => ⟨S1024, .f32⟩
  | .hbm, ⟨28, _⟩ => ⟨S8x2048x1024, .f32⟩
  | .hbm, ⟨29, _⟩ => ⟨S1x1x1024, .f32⟩
  | .hbm, ⟨30, _⟩ => ⟨S8x2048x1024, .f32⟩
  | .hbm, ⟨31, _⟩ => ⟨S8x2048x1024, .f32⟩
  | .hbm, ⟨32, _⟩ => ⟨S8x2048x1024, .f32⟩
  | .hbm, ⟨33, _⟩ => ⟨S8x2048x1024, .f32⟩
  | .hbm, ⟨34, _⟩ => ⟨S8x2048x1024, .f32⟩
  | .hbm, ⟨35, _⟩ => ⟨S8x256x1024, .f32⟩
  | .hbm, ⟨36, _⟩ => ⟨S1x1x1024, .f32⟩
  | .hbm, ⟨37, _⟩ => ⟨S8x256x1024, .f32⟩
  | .hbm, ⟨38, _⟩ => ⟨S8x256x1024, .f32⟩
  | .hbm, ⟨39, _⟩ => ⟨S1x1x1024, .f32⟩
  | .hbm, ⟨40, _⟩ => ⟨S8x256x1024, .f32⟩
  | .hbm, ⟨41, _⟩ => ⟨S8x256x1024, .f32⟩
  | .hbm, ⟨42, _⟩ => ⟨S8x256x1024, .f32⟩
  | .hbm, ⟨43, _⟩ => ⟨S8x2048x1024, .f32⟩
  | .hbm, ⟨44, _⟩ => ⟨S_, .f32⟩
  | .hbm, ⟨45, _⟩ => ⟨S8x2048, .f32⟩
  | .hbm, ⟨46, _⟩ => ⟨S8x2048x1, .f32⟩
  | .hbm, ⟨47, _⟩ => ⟨S_, .f32⟩
  | .hbm, ⟨48, _⟩ => ⟨S8x2048x1, .f32⟩
  | .hbm, ⟨49, _⟩ => ⟨S8x2048x1, .f32⟩
  | .hbm, ⟨50, _⟩ => ⟨S_, .f32⟩
  | .hbm, ⟨51, _⟩ => ⟨S8x2048x1, .f32⟩
  | .hbm, ⟨52, _⟩ => ⟨S8x2048x1, .f32⟩
  | .hbm, ⟨53, _⟩ => ⟨S8x2048x1, .f32⟩
  | .hbm, ⟨54, _⟩ => ⟨S8x2048x1024, .f32⟩
  | .hbm, ⟨55, _⟩ => ⟨S8x2048x1024, .f32⟩
  | .hbm, ⟨56, _⟩ => ⟨S1x1x1024, .f32⟩
  | .hbm, ⟨57, _⟩ => ⟨S8x2048x1024, .f32⟩
  | .hbm, ⟨58, _⟩ => ⟨S8x2048x1024, .f32⟩
  | .hbm, ⟨59, _⟩ => ⟨S_, .f32⟩
  | .hbm, ⟨60, _⟩ => ⟨S8x1x1024, .f32⟩
  | .hbm, ⟨61, _⟩ => ⟨S8x1x1024, .f32⟩
  | .hbm, ⟨62, _⟩ => ⟨S8x2048x1024, .f32⟩
  | .hbm, ⟨63, _⟩ => ⟨S8x2048x1024, .f32⟩
  | .hbm, ⟨64, _⟩ => ⟨S8x2048x1024, .f32⟩
  | .hbm, ⟨65, _⟩ => ⟨S8x2048x1024, .f32⟩
  | .hbm, ⟨66, _⟩ => ⟨S8x256x1024, .f32⟩
  | .hbm, ⟨67, _⟩ => ⟨S_, .f32⟩
  | .hbm, ⟨68, _⟩ => ⟨S8x256, .f32⟩
  | .hbm, ⟨69, _⟩ => ⟨S8x256x1, .f32⟩
  | .hbm, ⟨70, _⟩ => ⟨S_, .f32⟩
  | .hbm, ⟨71, _⟩ => ⟨S8x256x1, .f32⟩
  | .hbm, ⟨72, _⟩ => ⟨S8x256x1, .f32⟩
  | .hbm, ⟨73, _⟩ => ⟨S_, .f32⟩
  | .hbm, ⟨74, _⟩ => ⟨S8x256x1, .f32⟩
  | .hbm, ⟨75, _⟩ => ⟨S8x256x1, .f32⟩
  | .hbm, ⟨76, _⟩ => ⟨S8x256x1, .f32⟩
  | .hbm, ⟨77, _⟩ => ⟨S8x256x1024, .f32⟩
  | .hbm, ⟨78, _⟩ => ⟨S8x256x1024, .f32⟩
  | .hbm, ⟨79, _⟩ => ⟨S1x1x1024, .f32⟩
  | .hbm, ⟨80, _⟩ => ⟨S8x256x1024, .f32⟩
  | .hbm, ⟨81, _⟩ => ⟨S8x256x1024, .f32⟩
  | .hbm, ⟨82, _⟩ => ⟨S_, .f32⟩
  | .hbm, ⟨83, _⟩ => ⟨S1024, .f32⟩
  | .hbm, ⟨84, _⟩ => ⟨S1024, .f32⟩
  | .hbm, ⟨85, _⟩ => ⟨S1x1x1024, .f32⟩
  | .hbm, ⟨86, _⟩ => ⟨S8x256x1024, .f32⟩
  | .hbm, ⟨87, _⟩ => ⟨S8x256x1024, .f32⟩
  | .hbm, ⟨88, _⟩ => ⟨S1x1x1024, .f32⟩
  | .hbm, ⟨89, _⟩ => ⟨S8x256x1024, .f32⟩
  | .hbm, ⟨90, _⟩ => ⟨S8x256x1024, .f32⟩
  | .hbm, ⟨91, _⟩ => ⟨S8x2304x1024, .f32⟩
  | .hbm, ⟨92, _⟩ => ⟨S8x2304x1024, .f32⟩
  | .hbm, ⟨93, _⟩ => ⟨S8x2304x1024, .bf16⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_cst : Ref sig .tc := ⟨.hbm, 44, rfl⟩
abbrev main_v34 : Ref sig .tc := ⟨.hbm, 45, rfl⟩
abbrev main_v35 : Ref sig .tc := ⟨.hbm, 46, rfl⟩
abbrev main_cst_0 : Ref sig .tc := ⟨.hbm, 47, rfl⟩
abbrev main_v36 : Ref sig .tc := ⟨.hbm, 48, rfl⟩
abbrev main_v37 : Ref sig .tc := ⟨.hbm, 49, rfl⟩
abbrev main_cst_1 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_cst_2 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_cst_3 : Ref sig .tc := ⟨.hbm, 67, rfl⟩
abbrev main_v53 : Ref sig .tc := ⟨.hbm, 68, rfl⟩
abbrev main_v54 : Ref sig .tc := ⟨.hbm, 69, rfl⟩
abbrev main_cst_4 : Ref sig .tc := ⟨.hbm, 70, rfl⟩
abbrev main_v55 : Ref sig .tc := ⟨.hbm, 71, rfl⟩
abbrev main_v56 : Ref sig .tc := ⟨.hbm, 72, rfl⟩
abbrev main_cst_5 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_cst_6 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩

abbrev nD : Nat := 1
abbrev τ : Topo := Topo.v7x

variable {F : FTy → Type} [FloatOps F]
-- ==== Mod.lean ====
abbrev S8x1024 : Shape := ⟨2, ![8, 1024]⟩
abbrev S1024 : Shape := ⟨1, ![1024]⟩
abbrev S4x1024x6144 : Shape := ⟨3, ![4, 1024, 6144]⟩
abbrev S4x6144 : Shape := ⟨2, ![4, 6144]⟩
abbrev S_ : Shape := ⟨0, ![]⟩
abbrev S16x1024 : Shape := ⟨2, ![16, 1024]⟩
abbrev S1 : Shape := ⟨1, ![1]⟩
abbrev S4x1x6144 : Shape := ⟨3, ![4, 1, 6144]⟩
abbrev S4x16x6144 : Shape := ⟨3, ![4, 16, 6144]⟩
abbrev S1x1024x1024 : Shape := ⟨3, ![1, 1024, 1024]⟩
abbrev S1x1x1024 : Shape := ⟨3, ![1, 1, 1024]⟩
abbrev S1x16x1024 : Shape := ⟨3, ![1, 16, 1024]⟩
abbrev S1024x1024 : Shape := ⟨2, ![1024, 1024]⟩
abbrev S1x1024 : Shape := ⟨2, ![1, 1024]⟩

abbrev nBuf : Space → Nat
  | .hbm => 14
  | .vmem => 7
  | .smem => 0
  | _ => 0

abbrev bufTy : (tb : Table) → Fin (tcTables nBuf tb) → BufTy
  | .hbm, ⟨0, _⟩ => ⟨S8x1024, .f32⟩
  | .hbm, ⟨1, _⟩ => ⟨S1024, .f32⟩
  | .hbm, ⟨2, _⟩ => ⟨S4x1024x6144, .f32⟩
  | .hbm, ⟨3, _⟩ => ⟨S4x6144, .f32⟩
  | .hbm, ⟨4, _⟩ => ⟨S_, .f32⟩
  | .hbm, ⟨5, _⟩ => ⟨S16x1024, .f32⟩
  | .hbm, ⟨6, _⟩ => ⟨S_, .i32⟩
  | .hbm, ⟨7, _⟩ => ⟨S1, .i32⟩
  | .hbm, ⟨8, _⟩ => ⟨S16x1024, .f32⟩
  | .hbm, ⟨9, _⟩ => ⟨S_, .i32⟩
  | .hbm, ⟨10, _⟩ => ⟨S1, .i32⟩
  | .hbm, ⟨11, _⟩ => ⟨S16x1024, .f32⟩
  | .hbm, ⟨12, _⟩ => ⟨S4x1x6144, .f32⟩
  | .hbm, ⟨13, _⟩ => ⟨S4x16x6144, .f32⟩
  | .local _ .vmem, ⟨0, _⟩ => ⟨S16x1024, .f32⟩
  | .local _ .vmem, ⟨1, _⟩ => ⟨S1x1024x1024, .f32⟩
  | .local _ .vmem, ⟨2, _⟩ => ⟨S1x1024x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x16x1024, .f32⟩
  | .local _ .vmem, ⟨6, _⟩ => ⟨S1x16x1024, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ModRefIdeal.lean ====
abbrev S8x1024 : Shape := ⟨2, ![8, 1024]⟩
abbrev S1024 : Shape := ⟨1, ![1024]⟩
abbrev S4x1024x6144 : Shape := ⟨3, ![4, 1024, 6144]⟩
abbrev S4x6144 : Shape := ⟨2, ![4, 6144]⟩
abbrev S_ : Shape := ⟨0, ![]⟩
abbrev S8x4x6144 : Shape := ⟨3, ![8, 4, 6144]⟩
abbrev S4x8x6144 : Shape := ⟨3, ![4, 8, 6144]⟩
abbrev S4x1x6144 : Shape := ⟨3, ![4, 1, 6144]⟩
abbrev S4x7x6144 : Shape := ⟨3, ![4, 7, 6144]⟩
abbrev S4x16x6144 : Shape := ⟨3, ![4, 16, 6144]⟩

abbrev nBuf : Space → Nat
  | .hbm => 33
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S1024, .f32⟩
  | .hbm, ⟨2, _⟩ => ⟨S4x1024x6144, .f32⟩
  | .hbm, ⟨3, _⟩ => ⟨S4x6144, .f32⟩
  | .hbm, ⟨4, _⟩ => ⟨S8x1024, .f32⟩
  | .hbm, ⟨5, _⟩ => ⟨S8x1024, .f32⟩
  | .hbm, ⟨6, _⟩ => ⟨S_, .f32⟩
  | .hbm, ⟨7, _⟩ => ⟨S8x1024, .f32⟩
  | .hbm, ⟨8, _⟩ => ⟨S8x1024, .f32⟩
  | .hbm, ⟨9, _⟩ => ⟨S_, .f32⟩
  | .hbm, ⟨10, _⟩ => ⟨S8x1024, .f32⟩
  | .hbm, ⟨11, _⟩ => ⟨S8x1024, .f32⟩
  | .hbm, ⟨12, _⟩ => ⟨S8x1024, .f32⟩
  | .hbm, ⟨13, _⟩ => ⟨S8x4x6144, .f32⟩
  | .hbm, ⟨14, _⟩ => ⟨S4x8x6144, .f32⟩
  | .hbm, ⟨15, _⟩ => ⟨S4x1x6144, .f32⟩
  | .hbm, ⟨16, _⟩ => ⟨S4x8x6144, .f32⟩
  | .hbm, ⟨17, _⟩ => ⟨S4x8x6144, .f32⟩
  | .hbm, ⟨18, _⟩ => ⟨S1024, .f32⟩
  | .hbm, ⟨19, _⟩ => ⟨S1024, .f32⟩
  | .hbm, ⟨20, _⟩ => ⟨S_, .f32⟩
  | .hbm, ⟨21, _⟩ => ⟨S1024, .f32⟩
  | .hbm, ⟨22, _⟩ => ⟨S1024, .f32⟩
  | .hbm, ⟨23, _⟩ => ⟨S_, .f32⟩
  | .hbm, ⟨24, _⟩ => ⟨S1024, .f32⟩
  | .hbm, ⟨25, _⟩ => ⟨S1024, .f32⟩
  | .hbm, ⟨26, _⟩ => ⟨S1024, .f32⟩
  | .hbm, ⟨27, _⟩ => ⟨S4x6144, .f32⟩
  | .hbm, ⟨28, _⟩ => ⟨S4x6144, .f32⟩
  | .hbm, ⟨29, _⟩ => ⟨S4x1x6144, .f32⟩
  | .hbm, ⟨30, _⟩ => ⟨S4x7x6144, .f32⟩
  | .hbm, ⟨31, _⟩ => ⟨S4x1x6144, .f32⟩
  | .hbm, ⟨32, _⟩ => ⟨S4x16x6144, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_call1_v0 : Ref sig .tc := ⟨.hbm, 18, rfl⟩
abbrev main_call1_v1 : Ref sig .tc := ⟨.hbm, 19, rfl⟩
abbrev main_call1_cst : Ref sig .tc := ⟨.hbm, 20, rfl⟩
abbrev main_call1_v2 : Ref sig .tc := ⟨.hbm, 21, rfl⟩
abbrev main_call1_v3 : Ref sig .tc := ⟨.hbm, 22, rfl⟩
abbrev main_call1_cst_0 : Ref sig .tc := ⟨.hbm, 23, rfl⟩
abbrev main_call1_v4 : Ref sig .tc := ⟨.hbm, 24, rfl⟩
abbrev main_call1_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩

abbrev nD : Nat := 1
abbrev τ : Topo := Topo.v7x

variable {F : FTy → Type} [FloatOps F]
-- ==== Proof.SwaBlocks.lean ====
module

public import proofs.«01_k».proof.Proof.Gen.SwaIdeal.Frame.Runs
public import Idealize.ShloMosaic.Lib.Tactic

@[expose] public section

set_option maxRecDepth 16384

noncomputable section

namespace Cert.SwaIdeal.Blocks

open Cert.SwaIdeal Cert.SwaIdeal.Gen Idealize.ShloMosaic Idealize.ShloMosaic.TcCoe Idealize.ShloMosaic.Tactic

variable {F : FTy → Type} [FloatOps F] [Named F]

/-! ## One block of 128 queries -/

/-- Head `h`'s 64 columns of a block's 256 query columns. -/
def lane (q : FVec F S128x256 .bf16) : Fin 4 → FVec F S128x64 .bf16
  | 0 => extractStridedSlice S128x64 ![0, 0] q slices_S128x256_o0_0_S128x64
  | 1 => extractStridedSlice S128x64 ![0, 64] q slices_S128x256_o0_64_S128x64
  | 2 => extractStridedSlice S128x64 ![0, 128] q slices_S128x256_o0_128_S128x64
  | 3 => extractStridedSlice S128x64 ![0, 192] q slices_S128x256_o0_192_S128x64

/-- A head's scores of the block's queries against the 256 context keys. -/
def ctxScores (q : FVec F S128x256 .bf16) (kc : Vec F S256x64 .bf16) (h : Fin 4) : FVec F S1x128x256 .f32 :=
  shapeCast S1x128x256 (matmul dot_S128x64_S256x64_S128x256_1_1_0_0_n_n none (lane q h) kc (constant S128x256 .f32 0x00000000#32)) shapeCasts_S128x256_S1x128x256

/-- A head's scores of the block's queries against the block's window of 384 keys. -/
def locScores (q : FVec F S128x256 .bf16) (kl : Vec F S384x64 .bf16) (h : Fin 4) : FVec F S1x128x384 .f32 :=
  shapeCast S1x128x384 (matmul dot_S128x64_S384x64_S128x384_1_1_0_0_n_n none (lane q h) kl (constant S128x384 .f32 0x00000000#32)) shapeCasts_S128x384_S1x128x384

/-- The softmax, with a sink logit, over the context scores and the masked window scores, and its weighted sum of the
    context values and the window values: the block numbered `w`, one head. -/
def attend (w : BitVec 32) (vc : Vec F S256x64 .bf16) (vl : Vec F S384x64 .bf16) (sink : Elt F .f32) (c : Vec F S1x128x256 .f32) (l : Vec F S1x128x384 .f32) :
    FVec F S1x128x64 .f32 :=
  k0_pay18 vc vl sink (k0_pay16 c) (k0_pay17 (k0_pay37 w 128#32) l)

/-- The stores of a block's scores, the last first: per head the window's and the context's. -/
def scorePieces (q : FVec F S128x256 .bf16) (kc : Vec F S256x64 .bf16) (kl : Vec F S384x64 .bf16) : List (View.Piece (Elt F) S4x128x640 .f32) :=
  [⟨Rect.unit ![3, 0, 256] S1x128x384.size inb_S4x128x640_S1x128x384_3_0_256, locScores q kl 3⟩,
   ⟨Rect.unit ![3, 0, 0] S1x128x256.size inb_S4x128x640_S1x128x256_3_0_0, ctxScores q kc 3⟩,
   ⟨Rect.unit ![2, 0, 256] S1x128x384.size inb_S4x128x640_S1x128x384_2_0_256, locScores q kl 2⟩,
   ⟨Rect.unit ![2, 0, 0] S1x128x256.size inb_S4x128x640_S1x128x256_2_0_0, ctxScores q kc 2⟩,
   ⟨Rect.unit ![1, 0, 256] S1x128x384.size inb_S4x128x640_S1x128x384_1_0_256, locScores q kl 1⟩,
   ⟨Rect.unit ![1, 0, 0] S1x128x256.size inb_S4x128x640_S1x128x256_1_0_0, ctxScores q kc 1⟩,
   ⟨Rect.unit ![0, 0, 256] S1x128x384.size inb_S4x128x640_S1x128x384_0_0_256, locScores q kl 0⟩,
   ⟨Rect.unit ![0, 0, 0] S1x128x256.size inb_S4x128x640_S1x128x256_0_0_0, ctxScores q kc 0⟩]

/-- The context scores of head `h` in the score buffer. -/
def ctxOf (S : Vec F S4x128x640 .f32) : Fin 4 → Vec F S1x128x256 .f32
  | 0 => View.ld S (Rect.unit ![0, 0, 0] S1x128x256.size inb_S4x128x640_S1x128x256_0_0_0)
  | 1 => View.ld S (Rect.unit ![1, 0, 0] S1x128x256.size inb_S4x128x640_S1x128x256_1_0_0)
  | 2 => View.ld S (Rect.unit ![2, 0, 0] S1x128x256.size inb_S4x128x640_S1x128x256_2_0_0)
  | 3 => View.ld S (Rect.unit ![3, 0, 0] S1x128x256.size inb_S4x128x640_S1x128x256_3_0_0)

/-- The window scores of head `h` in the score buffer. -/
def locOf (S : Vec F S4x128x640 .f32) : Fin 4 → Vec F S1x128x384 .f32
  | 0 => View.ld S (Rect.unit ![0, 0, 256] S1x128x384.size inb_S4x128x640_S1x128x384_0_0_256)
  | 1 => View.ld S (Rect.unit ![1, 0, 256] S1x128x384.size inb_S4x128x640_S1x128x384_1_0_256)
  | 2 => View.ld S (Rect.unit ![2, 0, 256] S1x128x384.size inb_S4x128x640_S1x128x384_2_0_256)
  | 3 => View.ld S (Rect.unit ![3, 0, 256] S1x128x384.size inb_S4x128x640_S1x128x384_3_0_256)

/-- The sink logit a grid point reads for head `h`. -/
def sinkOf (i : grid0.Coords) (x7 : Vec F S16 .f32) (h : Fin 4) : Elt F .f32 :=
  View.ld x7 (Rect.unit (s := S16) (k0_off6 i (BitVec.ofNat 32 h.val)) S1.size (k0_off6_inb i h)) (Shape.Idx.first (s := S1) (by decide))

/-! ## One trip of the kernel's loop: two blocks -/

section Trip

variable (c : Dev nD) (i : grid0.Coords) (arg2 : Memref sig .tc .vmem S1x2304x384 .bf16) (harg2 : arg2.IsWhole) (arg3 : Memref sig .tc .vmem S2048x256 .f32) (harg3 : arg3.IsWhole) (arg4 : Memref sig .tc .vmem S2048x256 .f32) (harg4 : arg4.IsWhole) (arg5 : Memref sig .tc .vmem S2048x256 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S2048x128 .f32) (harg8 : arg8.IsWhole) (arg9 : Memref sig .tc .smem S16 .f32) (harg9 : arg9.IsWhole) (arg10 : Memref sig .tc .vmem S1x2304x256 .f32) (harg10 : arg10.IsWhole) (arg11 : Memref sig .tc .vmem S2304x128 .bf16) (harg11 : arg11.IsWhole) (arg12 : Memref sig .tc .vmem S4x128x640 .f32) (harg12 : arg12.IsWhole) (arg13 : Memref sig .tc .vmem S4x128x640 .f32) (harg13 : arg13.IsWhole)
variable (arg1 : BitVec 32) (v25 : Vec F S256x64 .bf16) (v26 : Vec F S256x64 .bf16) (v50 : FVec F S128x256 .bf16) (v55 : Vec F S384x64 .bf16) (v67 : FVec F S128x256 .f32) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg9 : BufTy.Contents (Elt F) arg9.view.ty) (X_arg11 : BufTy.Contents (Elt F) arg11.view.ty) (k : Fin k0_t1_loop.trips)
variable (f10 : BufTy.Contents (Elt F) arg10.view.ty) (f12 : BufTy.Contents (Elt F) arg12.view.ty) (f13 : BufTy.Contents (Elt F) arg13.view.ty)

/-- The odd block's queries, rotated and scaled. -/
def oddQ (x2 : Vec F S1x2304x384 .bf16) (x3 x4 x5 : Vec F S2048x256 .f32) : FVec F S128x256 .bf16 :=
  k0_pay2 (View.ld x2 (Rect.unit (s := S1x2304x384) (k0_off2 k) S1x128x256.size (k0_off2_inb k))) (View.ld x3 (Rect.unit (s := S2048x256) (k0_off3 k) S128x256.size (k0_off3_inb k)))
    (View.ld x4 (Rect.unit (s := S2048x256) (k0_off3 k) S128x256.size (k0_off3_inb k))) (View.ld x5 (Rect.unit (s := S2048x256) (k0_off3 k) S128x256.size (k0_off3_inb k)))

/-- The queries of the next trip's even block, rotated and scaled. -/
def nextQ (x2 : Vec F S1x2304x384 .bf16) (x3 x4 x5 : Vec F S2048x256 .f32) : FVec F S128x256 .bf16 :=
  k0_pay2 (View.ld x2 (Rect.unit (s := S1x2304x384) (k0_off11 k) S1x128x256.size (k0_off11_inb k))) (View.ld x3 (Rect.unit (s := S2048x256) (k0_off12 k) S128x256.size (k0_off12_inb k)))
    (View.ld x4 (Rect.unit (s := S2048x256) (k0_off12 k) S128x256.size (k0_off12_inb k))) (View.ld x5 (Rect.unit (s := S2048x256) (k0_off12 k) S128x256.size (k0_off12_inb k)))

/-- What a trip leaves in the even block's score buffer: the scores of the next even block. -/
theorem trip_even :
    (tripL_k0_t1 (F := F) Variants.none c none i arg2 harg2 arg3 harg3 arg4 harg4 arg5 harg5 arg6 harg6 arg7 harg7 arg8 harg8 arg9 harg9 arg10 harg10 arg11 harg11 arg12 harg12 arg13 harg13 arg1 v25 v26 v50 v55 v67 X_arg2 X_arg3 X_arg4 X_arg5 X_arg9 X_arg11 k f10 f12 f13).2.1
      = scorePieces (nextQ k (View.read (Elt F) arg2.view X_arg2) (View.read (Elt F) arg3.view X_arg3) (View.read (Elt F) arg4.view X_arg4) (View.read (Elt F) arg5.view X_arg5)) v25
          (View.ld (View.read (Elt F) arg11.view X_arg11) (Rect.unit (s := S2304x128) (k0_off13 k) S384x64.size (k0_off13_inb k))) := by
  sl_kernel_rfl

/-- What a trip stores in the result: per head the odd block's attention, then per head the even block's. -/
theorem trip_out :
    (tripL_k0_t1 (F := F) Variants.none c none i arg2 harg2 arg3 harg3 arg4 harg4 arg5 harg5 arg6 harg6 arg7 harg7 arg8 harg8 arg9 harg9 arg10 harg10 arg11 harg11 arg12 harg12 arg13 harg13 arg1 v25 v26 v50 v55 v67 X_arg2 X_arg3 X_arg4 X_arg5 X_arg9 X_arg11 k f10 f12 f13).1
      = (let So := View.read (Elt F) arg13.view (arg13.view.writes (Elt F) arg13.view.junk (scorePieces (oddQ k (View.read (Elt F) arg2.view X_arg2) (View.read (Elt F) arg3.view X_arg3) (View.read (Elt F) arg4.view X_arg4) (View.read (Elt F) arg5.view X_arg5)) v25
          (View.ld (View.read (Elt F) arg11.view X_arg11) (Rect.unit (s := S2304x128) (k0_off4 k) S384x64.size (k0_off4_inb k)))))
         let Se := View.read (Elt F) arg12.view f12
         let x7 := View.read (Elt F) arg9.view X_arg9
         let vo := View.ld (View.read (Elt F) arg11.view X_arg11) (Rect.unit (s := S2304x128) (k0_off14 k) S384x64.size (k0_off14_inb k))
         let ve := View.ld (View.read (Elt F) arg11.view X_arg11) (Rect.unit (s := S2304x128) (k0_off5 k) S384x64.size (k0_off5_inb k))
         let wo := Scalar.addi (Scalar.muli 2#32 (Scf.iv 0#32 1#32 k)) 1#32
         let we := Scalar.muli 2#32 (Scf.iv 0#32 1#32 k)
         [⟨Rect.unit (k0_off18 k) S1x128x64.size (k0_off18_inb k), attend wo v26 vo (sinkOf i x7 3) (ctxOf So 3) (locOf So 3)⟩,
          ⟨Rect.unit (k0_off17 k) S1x128x64.size (k0_off17_inb k), attend wo v26 vo (sinkOf i x7 2) (ctxOf So 2) (locOf So 2)⟩,
          ⟨Rect.unit (k0_off16 k) S1x128x64.size (k0_off16_inb k), attend wo v26 vo (sinkOf i x7 1) (ctxOf So 1) (locOf So 1)⟩,
          ⟨Rect.unit (k0_off15 k) S1x128x64.size (k0_off15_inb k), attend wo v26 vo (sinkOf i x7 0) (ctxOf So 0) (locOf So 0)⟩,
          ⟨Rect.unit (k0_off10 k) S1x128x64.size (k0_off10_inb k), attend we v26 ve (sinkOf i x7 3) (ctxOf Se 3) (locOf Se 3)⟩,
          ⟨Rect.unit (k0_off9 k) S1x128x64.size (k0_off9_inb k), attend we v26 ve (sinkOf i x7 2) (ctxOf Se 2) (locOf Se 2)⟩,
          ⟨Rect.unit (k0_off8 k) S1x128x64.size (k0_off8_inb k), attend we v26 ve (sinkOf i x7 1) (ctxOf Se 1) (locOf Se 1)⟩,
          ⟨Rect.unit (k0_off7 k) S1x128x64.size (k0_off7_inb k), attend we v26 ve (sinkOf i x7 0) (ctxOf Se 0) (locOf Se 0)⟩]) := by
  sl_kernel_rfl

/-! ## The grid point's words, from the inputs -/

/-- The stores of the keys and values: the sequence's rows rotated, then the context rows as they are; the last first. -/
def kvPieces (x0 : Vec F S1x2304x384 .bf16) (x4 x5 x6 : Vec F S2048x128 .f32) : List (View.Piece (Elt F) S2304x128 .bf16) :=
  [⟨Rect.unit ![2048, 0] S256x128.size inb_S2304x128_S256x128_2048_0, k0_pay63 (View.ld x0 (Rect.unit ![0, 2048, 256] S1x256x128.size inb_S1x2304x384_S1x256x128_0_2048_256))⟩,
   ⟨Rect.unit ![0, 0] S2048x128.size inb_S2304x128_S2048x128_0_0, k0_pay62 (View.ld x0 (Rect.unit ![0, 0, 256] S1x2048x128.size inb_S1x2304x384_S1x2048x128_0_0_256))
     (View.ld x4 (Rect.unit ![0, 0] S2048x128.size inb_S2048x128_S2048x128_0_0)) (View.ld x5 (Rect.unit ![0, 0] S2048x128.size inb_S2048x128_S2048x128_0_0))
     (View.ld x6 (Rect.unit ![0, 0] S2048x128.size inb_S2048x128_S2048x128_0_0))⟩]

/-- A key head's keys (columns 0 to 63) and values (columns 64 to 127), the sequence's rows first. -/
def kv (x0 : Vec F S1x2304x384 .bf16) (x4 x5 x6 : Vec F S2048x128 .f32) : Vec F S2304x128 .bf16 := View.canon (kvPieces x0 x4 x5 x6)

/-- The context keys. -/
def ctxKeys (w : Vec F S2304x128 .bf16) : Vec F S256x64 .bf16 := View.ld w (Rect.unit ![2048, 0] S256x64.size inb_S2304x128_S256x64_2048_0)

/-- The context values. -/
def ctxVals (w : Vec F S2304x128 .bf16) : Vec F S256x64 .bf16 := View.ld w (Rect.unit ![2048, 64] S256x64.size inb_S2304x128_S256x64_2048_64)

/-- The queries of block 0, rotated and scaled. -/
def firstQ (x0 : Vec F S1x2304x384 .bf16) (x1 x2 x3 : Vec F S2048x256 .f32) : FVec F S128x256 .bf16 :=
  k0_pay2 (View.ld x0 (Rect.unit ![0, 0, 0] S1x128x256.size inb_S1x2304x384_S1x128x256_0_0_0)) (View.ld x1 (Rect.unit ![0, 0] S128x256.size inb_S2048x256_S128x256_0_0))
    (View.ld x2 (Rect.unit ![0, 0] S128x256.size inb_S2048x256_S128x256_0_0)) (View.ld x3 (Rect.unit ![0, 0] S128x256.size inb_S2048x256_S128x256_0_0))

/-- The scores trip `n` finds in the even block's buffer: those of block `2n`. -/
def evenScores (x0 : Vec F S1x2304x384 .bf16) (x1 x2 x3 : Vec F S2048x256 .f32) (w : Vec F S2304x128 .bf16) : Nat → Vec F S4x128x640 .f32
  | 0 => View.canon (scorePieces (firstQ x0 x1 x2 x3) (ctxKeys w) (View.ld w (Rect.unit (s := S2304x128) k0_off1 S384x64.size k0_off1_inb)))
  | n + 1 => if h : n < k0_t1_loop.trips then
      View.canon (scorePieces (nextQ ⟨n, h⟩ x0 x1 x2 x3) (ctxKeys w) (View.ld w (Rect.unit (s := S2304x128) (k0_off13 ⟨n, h⟩) S384x64.size (k0_off13_inb ⟨n, h⟩))))
    else fun _ => Scalar.ofBits .f32 0#32

/-- The scores of the odd block of trip `k`. -/
def oddScores (x0 : Vec F S1x2304x384 .bf16) (x1 x2 x3 : Vec F S2048x256 .f32) (w : Vec F S2304x128 .bf16) (k : Fin k0_t1_loop.trips) : Vec F S4x128x640 .f32 :=
  View.canon (scorePieces (oddQ k x0 x1 x2 x3) (ctxKeys w) (View.ld w (Rect.unit (s := S2304x128) (k0_off4 k) S384x64.size (k0_off4_inb k))))

/-- What trip `k` stores in the result, the last store first: the odd block's four heads, then the even block's. -/
def tripPieces (i : grid0.Coords) (x7 : Vec F S16 .f32) (w : Vec F S2304x128 .bf16) (Se So : Vec F S4x128x640 .f32) (k : Fin k0_t1_loop.trips) :
    List (View.Piece (Elt F) S1x2304x256 .f32) :=
  let vo := View.ld w (Rect.unit (s := S2304x128) (k0_off14 k) S384x64.size (k0_off14_inb k))
  let ve := View.ld w (Rect.unit (s := S2304x128) (k0_off5 k) S384x64.size (k0_off5_inb k))
  let we := Scalar.muli 2#32 (Scf.iv 0#32 1#32 k)
  let wo := Scalar.addi we 1#32
  [⟨Rect.unit (k0_off18 k) S1x128x64.size (k0_off18_inb k), attend wo (ctxVals w) vo (sinkOf i x7 3) (ctxOf So 3) (locOf So 3)⟩,
   ⟨Rect.unit (k0_off17 k) S1x128x64.size (k0_off17_inb k), attend wo (ctxVals w) vo (sinkOf i x7 2) (ctxOf So 2) (locOf So 2)⟩,
   ⟨Rect.unit (k0_off16 k) S1x128x64.size (k0_off16_inb k), attend wo (ctxVals w) vo (sinkOf i x7 1) (ctxOf So 1) (locOf So 1)⟩,
   ⟨Rect.unit (k0_off15 k) S1x128x64.size (k0_off15_inb k), attend wo (ctxVals w) vo (sinkOf i x7 0) (ctxOf So 0) (locOf So 0)⟩,
   ⟨Rect.unit (k0_off10 k) S1x128x64.size (k0_off10_inb k), attend we (ctxVals w) ve (sinkOf i x7 3) (ctxOf Se 3) (locOf Se 3)⟩,
   ⟨Rect.unit (k0_off9 k) S1x128x64.size (k0_off9_inb k), attend we (ctxVals w) ve (sinkOf i x7 2) (ctxOf Se 2) (locOf Se 2)⟩,
   ⟨Rect.unit (k0_off8 k) S1x128x64.size (k0_off8_inb k), attend we (ctxVals w) ve (sinkOf i x7 1) (ctxOf Se 1) (locOf Se 1)⟩,
   ⟨Rect.unit (k0_off7 k) S1x128x64.size (k0_off7_inb k), attend we (ctxVals w) ve (sinkOf i x7 0) (ctxOf Se 0) (locOf Se 0)⟩]

/-- What the trips before `n` store in the result, the last store first. -/
def loopPieces (i : grid0.Coords) (x0 : Vec F S1x2304x384 .bf16) (x1 x2 x3 : Vec F S2048x256 .f32) (x7 : Vec F S16 .f32) (w : Vec F S2304x128 .bf16) :
    Nat → List (View.Piece (Elt F) S1x2304x256 .f32)
  | 0 => []
  | n + 1 => (if h : n < k0_t1_loop.trips then tripPieces i x7 w (evenScores x0 x1 x2 x3 w n) (oddScores x0 x1 x2 x3 w ⟨n, h⟩) ⟨n, h⟩ else []) ++ loopPieces i x0 x1 x2 x3 x7 w n

/-- Head `h`'s 64 columns of the context's queries. -/
def ctxLane (q : FVec F S256x256 .bf16) : Fin 4 → FVec F S256x64 .bf16
  | 0 => extractStridedSlice S256x64 ![0, 0] q slices_S256x256_o0_0_S256x64
  | 1 => extractStridedSlice S256x64 ![0, 64] q slices_S256x256_o0_64_S256x64
  | 2 => extractStridedSlice S256x64 ![0, 128] q slices_S256x256_o0_128_S256x64
  | 3 => extractStridedSlice S256x64 ![0, 192] q slices_S256x256_o0_192_S256x64

/-- The attention of the 256 context rows over the context keys, one head. -/
def ctxAttend (x0 : Vec F S1x2304x384 .bf16) (w : Vec F S2304x128 .bf16) (sink : Elt F .f32) (h : Fin 4) : FVec F S1x256x64 .f32 :=
  k0_pay1 (ctxKeys w) (ctxVals w) (ctxLane (k0_pay76 (View.ld x0 (Rect.unit ![0, 2048, 0] S1x256x256.size inb_S1x2304x384_S1x256x256_0_2048_0))) h) sink

/-- All the stores of the result, the last first: the context rows' four heads, then the loop's. -/
def outPieces (i : grid0.Coords) (x0 : Vec F S1x2304x384 .bf16) (x1 x2 x3 : Vec F S2048x256 .f32) (x4 x5 x6 : Vec F S2048x128 .f32) (x7 : Vec F S16 .f32) :
    List (View.Piece (Elt F) S1x2304x256 .f32) :=
  ⟨Rect.unit ![0, 2048, 192] S1x256x64.size inb_S1x2304x256_S1x256x64_0_2048_192, ctxAttend x0 (kv x0 x4 x5 x6) (sinkOf i x7 3) 3⟩ ::
  ⟨Rect.unit ![0, 2048, 128] S1x256x64.size inb_S1x2304x256_S1x256x64_0_2048_128, ctxAttend x0 (kv x0 x4 x5 x6) (sinkOf i x7 2) 2⟩ ::
  ⟨Rect.unit ![0, 2048, 64] S1x256x64.size inb_S1x2304x256_S1x256x64_0_2048_64, ctxAttend x0 (kv x0 x4 x5 x6) (sinkOf i x7 1) 1⟩ ::
  ⟨Rect.unit ![0, 2048, 0] S1x256x64.size inb_S1x2304x256_S1x256x64_0_2048_0, ctxAttend x0 (kv x0 x4 x5 x6) (sinkOf i x7 0) 0⟩ ::
  loopPieces i x0 x1 x2 x3 x7 (kv x0 x4 x5 x6) k0_t1_loop.trips

/-- A grid point's result block: 2304 rows of four heads. -/
def Out (i : grid0.Coords) (x0 : Vec F S1x2304x384 .bf16) (x1 x2 x3 : Vec F S2048x256 .f32) (x4 x5 x6 : Vec F S2048x128 .f32) (x7 : Vec F S16 .f32) :
    Vec F S1x2304x256 .f32 := View.canon (outPieces i x0 x1 x2 x3 x4 x5 x6 x7)

/-! ## The loop's stores -/

/-- A block's scores fill the score buffer. -/
theorem scores_cover (q : FVec F S128x256 .bf16) (kc : Vec F S256x64 .bf16) (kl : Vec F S384x64 .bf16) (y : S4x128x640.Idx) : ∃ p ∈ scorePieces q kc kl, y ∈ p.1.set :=
  View.cover_of_tiledBy _ ![1, 128, 128] (by sl_kernel_rfl) y

/-- After the trips before `n` the loop has stored their pieces, and the even block's buffer reads block `2n`'s scores. -/
theorem loop_out (x0 : Vec F S1x2304x384 .bf16) (x1 x2 x3 : Vec F S2048x256 .f32) (x7 : Vec F S16 .f32) (w : Vec F S2304x128 .bf16)
    (h2 : View.read (Elt F) arg2.view X_arg2 = x0) (h3 : View.read (Elt F) arg3.view X_arg3 = x1) (h4 : View.read (Elt F) arg4.view X_arg4 = x2)
    (h5 : View.read (Elt F) arg5.view X_arg5 = x3) (h9 : View.read (Elt F) arg9.view X_arg9 = x7) (h11 : View.read (Elt F) arg11.view X_arg11 = w)
    (h12 : View.read (Elt F) arg12.view f12 = evenScores x0 x1 x2 x3 w 0) (n : Nat) (hn : n ≤ k0_t1_loop.trips) :
    (pb_k0_t1 (F := F) Variants.none c none i arg2 harg2 arg3 harg3 arg4 harg4 arg5 harg5 arg6 harg6 arg7 harg7 arg8 harg8 arg9 harg9 arg10 harg10 arg11 harg11 arg12 harg12 arg13 harg13 arg1 (ctxKeys w) (ctxVals w) v50 v55 v67 X_arg2 X_arg3 X_arg4 X_arg5 X_arg9 X_arg11 f10 f12 f13 n).1 = loopPieces i x0 x1 x2 x3 x7 w n
      ∧ View.read (Elt F) arg12.view (arg12.view.writes (Elt F) f12 (pb_k0_t1 (F := F) Variants.none c none i arg2 harg2 arg3 harg3 arg4 harg4 arg5 harg5 arg6 harg6 arg7 harg7 arg8 harg8 arg9 harg9 arg10 harg10 arg11 harg11 arg12 harg12 arg13 harg13 arg1 (ctxKeys w) (ctxVals w) v50 v55 v67 X_arg2 X_arg3 X_arg4 X_arg5 X_arg9 X_arg11 f10 f12 f13 n).2.1) = evenScores x0 x1 x2 x3 w n := by
  subst h2 h3 h4 h5 h9 h11
  induction n with
  | zero => exact ⟨rfl, h12⟩
  | succ n ih =>
    obtain ⟨ih1, ih2⟩ := ih (Nat.le_of_succ_le hn)
    rw [show (n + 1) = (⟨n, hn⟩ : Fin k0_t1_loop.trips).val + 1 from rfl, pb_k0_t1_succ]
    constructor
    · refine (congrArg₂ (· ++ ·) (trip_out _ _ _ _ _ _ _ _ _ _ _ _ _ _ _ _ _ _ _ _ _ _ _ _ _ _ _ _ _ _ _ _ _ _ _ _ _ _ _ _ _ _) ih1).trans ?_
      rw [ih2]
      simp only [loopPieces, dif_pos (show n < k0_t1_loop.trips from hn)]
      rw [View.read_writes_eq_canon _ _ _ (scores_cover _ _ _)]
      rfl
    · refine (congrArg (fun L => View.read (Elt F) arg12.view (arg12.view.writes (Elt F) f12 (L ++ _))) (trip_even _ _ _ _ _ _ _ _ _ _ _ _ _ _ _ _ _ _ _ _ _ _ _ _ _ _ _ _ _ _ _ _ _ _ _ _ _ _ _ _ _ _)).trans ?_
      rw [View.writes_append, View.read_writes_eq_canon _ _ _ (scores_cover _ _ _)]
      simp only [evenScores, dif_pos (show n < k0_t1_loop.trips from hn)]

/-- The result's stores fill its block. -/
theorem out_cover (x0 : Vec F S1x2304x384 .bf16) (x1 x2 x3 : Vec F S2048x256 .f32) (x4 x5 x6 : Vec F S2048x128 .f32) (x7 : Vec F S16 .f32) (y : S1x2304x256.Idx) :
    ∃ p ∈ outPieces i x0 x1 x2 x3 x4 x5 x6 x7, y ∈ p.1.set :=
  View.cover_of_tiledBy _ ![1, 128, 64] (by sl_kernel_rfl) y

/-- The two stores of the keys and values fill their buffer. -/
theorem kv_cover (x0 : Vec F S1x2304x384 .bf16) (x4 x5 x6 : Vec F S2048x128 .f32) (y : S2304x128.Idx) : ∃ p ∈ kvPieces x0 x4 x5 x6, y ∈ p.1.set :=
  View.cover_of_tiledBy _ ![256, 128] (by sl_kernel_rfl) y

/-- The result buffer after the context rows' stores on top of the loop's reads the block `Out`. -/
theorem out_read (x0 : Vec F S1x2304x384 .bf16) (x1 x2 x3 : Vec F S2048x256 .f32) (x4 x5 x6 : Vec F S2048x128 .f32) (x7 : Vec F S16 .f32)
    (w : Vec F S2304x128 .bf16) (hw : w = View.read (Elt F) arg11.view (arg11.view.writes (Elt F) arg11.view.junk (kvPieces (View.read (Elt F) arg2.view (harg2.unread x0)) (View.read (Elt F) arg6.view (harg6.unread x4)) (View.read (Elt F) arg7.view (harg7.unread x5)) (View.read (Elt F) arg8.view (harg8.unread x6))))) :
    View.read (Elt F) arg10.view (arg10.view.writes (Elt F) f10
      (⟨Rect.unit ![0, 2048, 192] S1x256x64.size inb_S1x2304x256_S1x256x64_0_2048_192, ctxAttend (View.read (Elt F) arg2.view (harg2.unread x0)) w (sinkOf i (View.read (Elt F) arg9.view (harg9.unread x7)) 3) 3⟩ ::
       ⟨Rect.unit ![0, 2048, 128] S1x256x64.size inb_S1x2304x256_S1x256x64_0_2048_128, ctxAttend (View.read (Elt F) arg2.view (harg2.unread x0)) w (sinkOf i (View.read (Elt F) arg9.view (harg9.unread x7)) 2) 2⟩ ::
       ⟨Rect.unit ![0, 2048, 64] S1x256x64.size inb_S1x2304x256_S1x256x64_0_2048_64, ctxAttend (View.read (Elt F) arg2.view (harg2.unread x0)) w (sinkOf i (View.read (Elt F) arg9.view (harg9.unread x7)) 1) 1⟩ ::
       ⟨Rect.unit ![0, 2048, 0] S1x256x64.size inb_S1x2304x256_S1x256x64_0_2048_0, ctxAttend (View.read (Elt F) arg2.view (harg2.unread x0)) w (sinkOf i (View.read (Elt F) arg9.view (harg9.unread x7)) 0) 0⟩ ::
       (pb_k0_t1 (F := F) Variants.none c none i arg2 harg2 arg3 harg3 arg4 harg4 arg5 harg5 arg6 harg6 arg7 harg7 arg8 harg8 arg9 harg9 arg10 harg10 arg11 harg11 arg12 harg12 arg13 harg13 arg1 (ctxKeys w) (ctxVals w) v50 v55 v67 (harg2.unread x0) (harg3.unread x1) (harg4.unread x2) (harg5.unread x3) (harg9.unread x7) (arg11.view.writes (Elt F) arg11.view.junk (kvPieces (View.read (Elt F) arg2.view (harg2.unread x0)) (View.read (Elt F) arg6.view (harg6.unread x4)) (View.read (Elt F) arg7.view (harg7.unread x5)) (View.read (Elt F) arg8.view (harg8.unread x6)))) f10 (arg12.view.writes (Elt F) arg12.view.junk (scorePieces (firstQ (View.read (Elt F) arg2.view (harg2.unread x0)) (View.read (Elt F) arg3.view (harg3.unread x1)) (View.read (Elt F) arg4.view (harg4.unread x2)) (View.read (Elt F) arg5.view (harg5.unread x3))) (ctxKeys w) (View.ld w (Rect.unit (s := S2304x128) k0_off1 S384x64.size k0_off1_inb)))) f13 (Scf.trips k0_t1_loop.lb k0_t1_loop.ub k0_t1_loop.st)).1)) = Out i x0 x1 x2 x3 x4 x5 x6 x7 := by
  have hk : w = kv x0 x4 x5 x6 := by
    rw [hw, harg2.read_unread, harg6.read_unread, harg7.read_unread, harg8.read_unread]
    exact View.read_writes_eq_canon _ _ _ (kv_cover x0 x4 x5 x6)
  rw [(loop_out c i arg2 harg2 arg3 harg3 arg4 harg4 arg5 harg5 arg6 harg6 arg7 harg7 arg8 harg8 arg9 harg9 arg10 harg10 arg11 harg11 arg12 harg12 arg13 harg13 arg1 v50 v55 v67 (harg2.unread x0) (harg3.unread x1) (harg4.unread x2) (harg5.unread x3) (harg9.unread x7) (arg11.view.writes (Elt F) arg11.view.junk (kvPieces (View.read (Elt F) arg2.view (harg2.unread x0)) (View.read (Elt F) arg6.view (harg6.unread x4)) (View.read (Elt F) arg7.view (harg7.unread x5)) (View.read (Elt F) arg8.view (harg8.unread x6)))) f10 (arg12.view.writes (Elt F) arg12.view.junk (scorePieces (firstQ (View.read (Elt F) arg2.view (harg2.unread x0)) (View.read (Elt F) arg3.view (harg3.unread x1)) (View.read (Elt F) arg4.view (harg4.unread x2)) (View.read (Elt F) arg5.view (harg5.unread x3))) (ctxKeys w) (View.ld w (Rect.unit (s := S2304x128) k0_off1 S384x64.size k0_off1_inb)))) f13 x0 x1 x2 x3 x7 w (harg2.read_unread _) (harg3.read_unread _) (harg4.read_unread _) (harg5.read_unread _) (harg9.read_unread _) hw.symm
    (by rw [harg2.read_unread, harg3.read_unread, harg4.read_unread, harg5.read_unread, View.read_writes_eq_canon _ _ _ (scores_cover _ _ _)]; rfl) _ le_rfl).1, harg2.read_unread, harg9.read_unread, hk]
  exact View.read_writes_eq_canon _ _ _ (out_cover i x0 x1 x2 x3 x4 x5 x6 x7)

end Trip

end Cert.SwaIdeal.Blocks

end
-- ==== Proof.SwaBody.lean ====
module

public import proofs.«01_k».proof.Proof.SwaBlocks

@[expose] public section

set_option maxRecDepth 16384

noncomputable section

namespace Cert.SwaIdeal.Blocks

open Cert.SwaIdeal Cert.SwaIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

set_option maxHeartbeats 1000000 in
/-- The kernel's body at a grid point: from the eight inputs' blocks and any contents of the result and the scratch, it leaves the inputs
    as they were and the block `Out` in the result. -/
theorem body (c : Dev nD) (i : grid0.Coords) (arg2 : Memref sig .tc .vmem S1x2304x384 .bf16) (harg2 : arg2.IsWhole) (arg3 : Memref sig .tc .vmem S2048x256 .f32) (harg3 : arg3.IsWhole) (arg4 : Memref sig .tc .vmem S2048x256 .f32) (harg4 : arg4.IsWhole) (arg5 : Memref sig .tc .vmem S2048x256 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S2048x128 .f32) (harg8 : arg8.IsWhole) (arg9 : Memref sig .tc .smem S16 .f32) (harg9 : arg9.IsWhole) (arg10 : Memref sig .tc .vmem S1x2304x256 .f32) (harg10 : arg10.IsWhole) (arg11 : Memref sig .tc .vmem S2304x128 .bf16) (harg11 : arg11.IsWhole) (arg12 : Memref sig .tc .vmem S4x128x640 .f32) (harg12 : arg12.IsWhole) (arg13 : Memref sig .tc .vmem S4x128x640 .f32) (harg13 : arg13.IsWhole)
    (x0 : Vec F S1x2304x384 .bf16) (x1 : Vec F S2048x256 .f32) (x2 : Vec F S2048x256 .f32) (x3 : Vec F S2048x256 .f32) (x4 : Vec F S2048x128 .f32) (x5 : Vec F S2048x128 .f32) (x6 : Vec F S2048x128 .f32) (x7 : Vec F S16 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
      ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare (Out i x0 x1 x2 x3 x4 x5 x6 x7) ∗ (∃ d, owns (c : Thread nD τ) arg11 fullShare d) ∗ (∃ d, owns (c : Thread nD τ) arg12 fullShare d) ∗ (∃ d, owns (c : Thread nD τ) arg13 fullShare d)) -∗ K ⟨⟩))
      ⊢ wp frame (wpE (defs₀ (F := F)) Variants.none c none) E (cc0_swa_attention i arg2 harg2 arg3 harg3 arg4 harg4 arg5 harg5 arg6 harg6 arg7 harg7 arg8 harg8 arg9 harg9 arg10 harg10 arg11 harg11 arg12 harg12 arg13 harg13) K := by
  simp only [cc0_swa_attention_eq_skeleton]; unfold cc0_swa_attention_skel
  simp only [k0_part14_eq_skeleton, k0_part15_eq_skeleton, k0_part16_eq_skeleton, k0_part17_eq_skeleton, k0_part18_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%ds0, %fs0, -, HS0⟩, ⟨%ds1, %fs1, -, HS1⟩, ⟨%ds2, %fs2, -, HS2⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
  sl_exec
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; swap; · iexact H8
    ipureintro
    refine Eq.mp ?_ (out_read c i arg2 harg2 arg3 harg3 arg4 harg4 arg5 harg5 arg6 harg6 arg7 harg7 arg8 harg8 arg9 harg9 arg10 harg10 arg11 harg11 arg12 harg12 arg13 harg13 (BitVec.ofNat 32 (i 1).val) (firstQ (View.read (Elt F) arg2.view (harg2.unread x0)) (View.read (Elt F) arg3.view (harg3.unread x1)) (View.read (Elt F) arg4.view (harg4.unread x2)) (View.read (Elt F) arg5.view (harg5.unread x3))) (View.ld (View.read (Elt F) arg11.view (arg11.view.writes (Elt F) arg11.view.junk (kvPieces (View.read (Elt F) arg2.view (harg2.unread x0)) (View.read (Elt F) arg6.view (harg6.unread x4)) (View.read (Elt F) arg7.view (harg7.unread x5)) (View.read (Elt F) arg8.view (harg8.unread x6))))) (Rect.unit (s := S2304x128) k0_off1 S384x64.size k0_off1_inb)) (matmul dot_S128x64_S256x64_S128x256_1_1_0_0_n_n none (lane (firstQ (View.read (Elt F) arg2.view (harg2.unread x0)) (View.read (Elt F) arg3.view (harg3.unread x1)) (View.read (Elt F) arg4.view (harg4.unread x2)) (View.read (Elt F) arg5.view (harg5.unread x3))) 1) (ctxKeys (View.read (Elt F) arg11.view (arg11.view.writes (Elt F) arg11.view.junk (kvPieces (View.read (Elt F) arg2.view (harg2.unread x0)) (View.read (Elt F) arg6.view (harg6.unread x4)) (View.read (Elt F) arg7.view (harg7.unread x5)) (View.read (Elt F) arg8.view (harg8.unread x6)))))) (constant S128x256 .f32 0x00000000#32)) f8 fs2 x0 x1 x2 x3 x4 x5 x6 x7 _ rfl)
    sl_kernel_rfl
  isplitl [HS0]
  · iexists _, _; isplitr; swap; · iexact HS0
    ipureintro; rfl
  isplitl [HS1]
  · iexists _, _; isplitr; swap; · iexact HS1
    ipureintro; rfl
  iexists _, _; isplitr; swap; · iexact HS2
  ipureintro; rfl

end Cert.SwaIdeal.Blocks

end
-- ==== Proof.SwaRun.lean ====
module

public import proofs.«01_k».proof.Proof.SwaBody
public import Idealize.ShloMosaic.Lib.Claim

@[expose] public section

set_option maxRecDepth 16384

noncomputable section

namespace Cert.SwaIdeal.Blocks

open Cert.SwaIdeal Cert.SwaIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg BodyObligation)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The result block of grid point `t`, from the point's input blocks. -/
def outAt (c : Dev nD) (t : Fin cfg0.N) : Vec F S1x2304x256 .f32 :=
  Out (grid0.coords t) (iblk m c 0 t) (iblk m c 1 t) (iblk m c 2 t) (iblk m c 3 t) (iblk m c 4 t) (iblk m c 5 t) (iblk m c 6 t) (iblk m c 7 t)

/-- The launch's data: the arrays as the launch finds them; after point `t` every input block as it was and the result
    block at `outAt`; nothing owed, every share full. -/
def data (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => outAt m c t
  Φ _ := Pipeline.ΦA spec0 c
  q _ := fullShare
  owed _ := 0

/-- The data's arrays are the contents at the launch. -/
theorem data_arrays (c : Dev nD) (w : Fin cfg0.W) : (data m 0 c).A w = V m c (Pipeline.arrRef spec0 w) := by
  dsimp only [data]

set_option maxHeartbeats 1000000 in
/-- One grid point: the staged blocks are the inputs', so the body's triple applies; the scratch is taken from the launch's
    invariant and returned to it at some contents. -/
theorem point (c : Dev nD) (t : Fin cfg0.N) :
    iprop((data m 0 c).Φ t.castSucc ∗ (data m 0 c).owesAt () t.castSucc
      ∗ (∃ d, owns (c : Thread nD τ) (ms0_0 t) fullShare ((data m 0 c).before 0 t d))
      ∗ (∃ d, owns (c : Thread nD τ) (ms0_1 t) fullShare ((data m 0 c).before 1 t d))
      ∗ (∃ d, owns (c : Thread nD τ) (ms0_2 t) fullShare ((data m 0 c).before 2 t d))
      ∗ (∃ d, owns (c : Thread nD τ) (ms0_3 t) fullShare ((data m 0 c).before 3 t d))
      ∗ (∃ d, owns (c : Thread nD τ) (ms0_4 t) fullShare ((data m 0 c).before 4 t d))
      ∗ (∃ d, owns (c : Thread nD τ) (ms0_5 t) fullShare ((data m 0 c).before 5 t d))
      ∗ (∃ d, owns (c : Thread nD τ) (ms0_6 t) fullShare ((data m 0 c).before 6 t d))
      ∗ (∃ d, owns (c : Thread nD τ) (ms0_7 t) fullShare ((data m 0 c).before 7 t d))
      ∗ (∃ d, owns (c : Thread nD τ) (ms0_8 t) fullShare ((data m 0 c).before 8 t d)))
    ⊢ wp frame (wpE (defs₀ (F := F)) Variants.none c none) Set.univ (bodyAt0 t) (fun _ =>
      iprop((data m 0 c).Φ t.succ ∗ (data m 0 c).owesAt () t.succ
        ∗ owns (c : Thread nD τ) (ms0_0 t) fullShare ((data m 0 c).after 0 t)
        ∗ owns (c : Thread nD τ) (ms0_1 t) fullShare ((data m 0 c).after 1 t)
        ∗ owns (c : Thread nD τ) (ms0_2 t) fullShare ((data m 0 c).after 2 t)
        ∗ owns (c : Thread nD τ) (ms0_3 t) fullShare ((data m 0 c).after 3 t)
        ∗ owns (c : Thread nD τ) (ms0_4 t) fullShare ((data m 0 c).after 4 t)
        ∗ owns (c : Thread nD τ) (ms0_5 t) fullShare ((data m 0 c).after 5 t)
        ∗ owns (c : Thread nD τ) (ms0_6 t) fullShare ((data m 0 c).after 6 t)
        ∗ owns (c : Thread nD τ) (ms0_7 t) fullShare ((data m 0 c).after 7 t)
        ∗ owns (c : Thread nD τ) (ms0_8 t) fullShare ((data m 0 c).after 8 t))) := by
  have hin : ∀ t : Fin cfg0.N, (data m 0 c).after 0 t = iblk m c 0 t ∧ (data m 0 c).after 1 t = iblk m c 1 t ∧ (data m 0 c).after 2 t = iblk m c 2 t ∧ (data m 0 c).after 3 t = iblk m c 3 t ∧ (data m 0 c).after 4 t = iblk m c 4 t ∧ (data m 0 c).after 5 t = iblk m c 5 t ∧ (data m 0 c).after 6 t = iblk m c 6 t ∧ (data m 0 c).after 7 t = iblk m c 7 t ∧ (data m 0 c).after 8 t = outAt m c t := fun t => by
    dsimp only [data]; exact ⟨rfl, rfl, rfl, rfl, rfl, rfl, rfl, rfl, rfl⟩
  have pre : (∀ d, (data m 0 c).before 0 t d = iblk m c 0 t) ∧ (∀ d, (data m 0 c).before 1 t d = iblk m c 1 t) ∧ (∀ d, (data m 0 c).before 2 t d = iblk m c 2 t) ∧ (∀ d, (data m 0 c).before 3 t d = iblk m c 3 t) ∧ (∀ d, (data m 0 c).before 4 t d = iblk m c 4 t) ∧ (∀ d, (data m 0 c).before 5 t d = iblk m c 5 t) ∧ (∀ d, (data m 0 c).before 6 t d = iblk m c 6 t) ∧ (∀ d, (data m 0 c).before 7 t d = iblk m c 7 t) := by
    refine ⟨?_, ?_, ?_, ?_, ?_, ?_, ?_, ?_⟩
    · exact before0_0_of m (data m 0 c) (data_arrays m c 0) (fun t => (hin t).1) t
    · exact before0_1_of m (data m 0 c) (data_arrays m c 1) (fun t => (hin t).2.1) t
    · exact before0_2_of m (data m 0 c) (data_arrays m c 2) (fun t => (hin t).2.2.1) t
    · exact before0_3_of m (data m 0 c) (data_arrays m c 3) (fun t => (hin t).2.2.2.1) t
    · exact before0_4_of m (data m 0 c) (data_arrays m c 4) (fun t => (hin t).2.2.2.2.1) t
    · exact before0_5_of m (data m 0 c) (data_arrays m c 5) (fun t => (hin t).2.2.2.2.2.1) t
    · exact before0_6_of m (data m 0 c) (data_arrays m c 6) (fun t => (hin t).2.2.2.2.2.2.1) t
    · exact before0_7_of m (data m 0 c) (data_arrays m c 7) (fun t => (hin t).2.2.2.2.2.2.2.1) t
  obtain ⟨p0, p1, p2, p3, p4, p5, p6, p7⟩ := pre
  obtain ⟨a0, a1, a2, a3, a4, a5, a6, a7, a8⟩ := hin t
  unfold bodyAt0
  simp only [p0, p1, p2, p3, p4, p5, p6, p7, a0, a1, a2, a3, a4, a5, a6, a7, a8]
  rw [show (data m 0 c).Φ t.succ = Pipeline.ΦA spec0 c from rfl, show (data m 0 c).Φ t.castSucc = Pipeline.ΦA spec0 c from rfl,
    show (data m 0 c).owesAt () t.succ = (data m 0 c).owesAt () t.castSucc from rfl, PhiA0_eq]
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (body c (grid0.coords t) _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [HS0]; · iexact HS0
  isplitl [HS1]; · iexact HS1
  isplitl [HS2]; · iexact HS2
  iintro ⟨H0, H1, H2, H3, H4, H5, H6, H7, H8, HS0, HS1, HS2⟩
  isplitl [HS0 HS1 HS2 Hg]
  · isplitl [HS0 HS1 HS2]
    · isplitl [HS0]; · iexact HS0
      isplitl [HS1]; · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The launch's obligation at every grid point. -/
theorem points (c : Dev nD) : BodyObligation (data (F := F) m 0 c) (defs₀ (F := F)) Variants.none () Set.univ := fun t => by
  rw [bigSep_W0, bigSep_W0, show defs₀ (F := F) .tc cfg0.body (cfg0.bodyArgs t (cfg0.slots t)) = bodyAt0 t by unfold defs₀; rw [Defs.onTc_tc]]
  exact triple_restated (point m c t) rfl .rfl fun _ => .rfl

set_option backward.isDefEq.respectTransparency.types false in
/-- The whole run: every array of the launch ends at what the grid points left, every other buffer as it was, every
    semaphore at zero. -/
theorem run_all : θ_run defs (onTc (τ := τ) (main (F := F))) (s₀ m ρ) (fun r => (Pipeline.FramePost cfgs (data m) 0 (V m)) r ∧ r.2.sem = fun _ => 0) :=
  Pipeline.θ_run_frame (Q' := _) cfgs (data m) (0 : Fin 1) launch0 defs₀ Variants.none m ρ main
    (hbody := fun c => (points m c).loose) (hshare := fun c => (data m 0 c).share_full fun _ => rfl)
    (howed := fun _ _ => rfl) (V := V m) (hmain := hmain m Variants.none) (hA := data_arrays m) (hΦ := fun _ _ => rfl)

/-- Every run from any memory ends with the nine arguments as they were and every semaphore at zero. -/
theorem args_kept : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (frame_of m ρ (data m) (data_arrays m) ((θ_run defs _ _).mono (fun _ h => h.1) (run_all m ρ)))
    ((θ_run defs _ _).mono (fun _ h => h.2) (run_all m ρ))

end Cert.SwaIdeal.Blocks

end
-- ==== Proof.SwaFrames.lean ====
module

public import proofs.«01_k».proof.Defs
public import proofs.«01_k».proof.Proof.SwaRun
public import proofs.«01_k».proof.Proof.Gen.Swa
public import proofs.«01_k».proof.Proof.Gen.SwaRefIdeal.Run
public import Idealize.ShloMosaic.Lib.Tactic

/-! The frame claims of the attention's programs: each terminates without a fault, at rest, with its arguments kept; and
    the claim that the named mask is the constant it stands for. -/

@[expose] public section

noncomputable section

namespace Swa.Claims

open Idealize.ShloMosaic Idealize.ShloMosaic.TcCoe Idealize.ShloMosaic.Tactic Idealize.SL.Sem

/-- A constant's name read as the literal it stands at. -/
@[reducible] def literal : Named Bits := ⟨fun _ _ _ bits => FloatOps.ofBits _ bits⟩

/-- The kernel at the machine's formats: the run over any float values, with the mask read as its literal. -/
theorem kernel : Cert.quiescent_Swa := by
  intro m ρ _
  letI := literal
  have h := Cert.SwaIdeal.Blocks.args_kept (F := Bits) m ρ
  refine Eq.mp ?_ h
  sl_kernel_rfl

/-- The kernel over the extended reals. -/
theorem ideal : Cert.quiescent_SwaIdeal := fun m ρ _ => Cert.SwaIdeal.Blocks.args_kept m ρ

/-- The same under the precondition of the value claim. -/
theorem ideal_pre [Cert.Pre_finite_scores.Facts] : Cert.quiescent_SwaIdeal_pre_finite_scores := fun m ρ _ => Cert.SwaIdeal.Blocks.args_kept m ρ

/-- The reference over the extended reals, under either precondition. -/
theorem reference : Cert.quiescent_SwaRefIdeal := fun m ρ _ =>
  (θ_run _ _ _).mono (fun r h => ⟨fun c => (h c).2, sem_eq_zero_of_no_sems (by decide) r.2⟩) (Cert.SwaRefIdeal.Value.run m ρ)

/-- The reference under the precondition. -/
theorem reference_pre [Cert.Pre_finite_scores.Facts] : Cert.quiescent_SwaRefIdeal_pre_finite_scores := fun m ρ _ => reference m ρ trivial

/-- The mask's name stands for minus infinity, its literal for the constant. -/
theorem preserves : Cert.preserves_Swa_SwaIdeal := IdealRules.named_const.statement _ _ _ _ _ rfl

end Swa.Claims

end
-- ==== Proof.SwaMath.lean ====
module

public import Idealize.ShloMosaic.PureOps.Ideal
public import Idealize.ShloMosaic.PureOps.Ideal.Laws
public import Idealize.ShloMosaic.Lib.Pointwise

/-! Windowed attention with a sink logit over the extended reals: the rotation of a row, a score, the softmax of one query
    over context keys and sequence keys, and what makes the kernel's form of it the reference's: masked keys can be left
    out, the scale can sit on the query, and dividing the sum is dividing every weight. -/

@[expose] public section

noncomputable section

namespace Swa

open Idealize.ShloMosaic

/-! ## Constants -/

/-- The scale 64 to the minus one half, as the constant reads. -/
def scale : EReal := Ideal.ofBits FTy.f32 1040187392#32

/-- It is one eighth. -/
theorem scale_eq : scale = ((1 / 8 : ℝ) : EReal) := by
  unfold scale
  simp [Ideal.ofBits, Ideal.ieee, -EReal.coe_mul]; norm_num

/-- The seed of a maximum is minus infinity. -/
theorem seed_eq : Ideal.ofBits FTy.f32 4286578688#32 = ⊥ := by
  simp [Ideal.ofBits, Ideal.ieee]

/-- A maximum folded from minus infinity is the supremum. -/
theorem fold_max {n : ℕ} (f : Fin n → EReal) : Finset.fold max (⊥ : EReal) f Finset.univ = Finset.univ.sup f := rfl

/-! ## The specification -/

/-- The rotary embedding of a 64-wide row: its two halves turned by the 32 angles. -/
def rope (c s : Fin 32 → EReal) (x : Fin 64 → EReal) (d : Fin 64) : EReal :=
  if h : d.val < 32 then x d * c ⟨d.val, h⟩ - x ⟨d.val + 32, by omega⟩ * s ⟨d.val, h⟩
  else x d * c ⟨d.val - 32, by omega⟩ + x ⟨d.val - 32, by omega⟩ * s ⟨d.val - 32, by omega⟩

/-- A query's score against a key. -/
def score (x y : Fin 64 → EReal) : EReal := (∑ d, x d * y d) * scale

/-- Two positions within the window of 128. -/
def near (i j : ℕ) : Prop := i ≤ j + 128 ∧ j ≤ i + 128

/-- Nearness is decided by comparison. -/
instance (i j : ℕ) : Decidable (near i j) := by unfold near; infer_instance

/-- The softmax with a sink logit `σ` over context scores and further scores, weighting the values. -/
def att {n : ℕ} (sc vc : Fin 256 → EReal) (sl vl : Fin n → EReal) (σ : EReal) : EReal :=
  let M := max (max (Finset.univ.sup sc) (Finset.univ.sup sl)) σ
  Ideal.div (∑ j, Ideal.exp (sc j - M) * vc j + ∑ j, Ideal.exp (sl j - M) * vl j)
    (Ideal.exp (σ - M) + ∑ j, Ideal.exp (sc j - M) + ∑ j, Ideal.exp (sl j - M))

/-- The same over the context scores alone. -/
def attCtx (s v : Fin 256 → EReal) (σ : EReal) : EReal :=
  let M := max (Finset.univ.sup s) σ
  Ideal.div (∑ j, Ideal.exp (s j - M) * v j) (Ideal.exp (σ - M) + ∑ j, Ideal.exp (s j - M))

/-- A sequence row's output: the rotated query at position `L` over all context keys and the rotated keys of the window. -/
def latent (q : Fin 64 → EReal) (L : Fin 2048) (kc vc : Fin 256 → Fin 64 → EReal) (kl vl : Fin 2048 → Fin 64 → EReal)
    (cs sn : Fin 2048 → Fin 32 → EReal) (σ : EReal) (d : Fin 64) : EReal :=
  att (fun j => score (rope (cs L) (sn L) q) (kc j)) (fun j => vc j d)
    (fun j => if near L j then score (rope (cs L) (sn L) q) (rope (cs j) (sn j) (kl j)) else ⊥) (fun j => vl j d) σ

/-- A context row's output: the query over all context keys. -/
def context (q : Fin 64 → EReal) (kc vc : Fin 256 → Fin 64 → EReal) (σ : EReal) (d : Fin 64) : EReal :=
  attCtx (fun j => score q (kc j)) (fun j => vc j d) σ

/-! ## Sums -/

/-- A nonnegative finite factor goes into a sum. -/
theorem sum_mul {ι : Type} (s : Finset ι) (f : ι → EReal) (r : EReal) (h0 : 0 ≤ r) (ht : r ≠ ⊤) :
    (∑ i ∈ s, f i) * r = ∑ i ∈ s, f i * r := by
  classical
  induction s using Finset.induction with
  | empty => simp
  | insert a s ha ih => rw [Finset.sum_insert ha, Finset.sum_insert ha, EReal.right_distrib_of_nonneg_of_ne_top h0 ht, ih]

/-- The scale on the query is the scale on the score. -/
theorem score_scaled (x y : Fin 64 → EReal) : ∑ d, x d * scale * y d = score x y := by
  unfold score
  rw [sum_mul _ _ _ (by rw [scale_eq]; exact_mod_cast (by norm_num : (0 : ℝ) ≤ 1 / 8)) (by rw [scale_eq]; exact EReal.coe_ne_top _)]
  exact Finset.sum_congr rfl fun d _ => mul_right_comm _ _ _

/-- The inverse of an extended real is finite. -/
theorem inv_ne_top (x : EReal) : x⁻¹ ≠ ⊤ := by
  induction x with
  | bot => simp
  | top => simp
  | coe r => rw [← EReal.coe_inv]; exact EReal.coe_ne_top _

/-- An exponential is nonnegative. -/
theorem exp_nonneg (x : EReal) : 0 ≤ Ideal.exp x := by
  induction x with
  | bot => simp
  | top => simp
  | coe r => rw [Ideal.exp_coe]; exact_mod_cast (Real.exp_pos r).le

/-- Above minus infinity it is positive. -/
theorem exp_pos {x : EReal} (h : x ≠ ⊥) : 0 < Ideal.exp x := by
  induction x with
  | bot => exact absurd rfl h
  | top => simp
  | coe r => rw [Ideal.exp_coe]; exact_mod_cast Real.exp_pos r

/-- A masked score weighs nothing. -/
theorem exp_masked (M : EReal) : Ideal.exp (⊥ - M) = 0 := by
  rw [sub_eq_add_neg, EReal.bot_add, Ideal.exp_bot]

/-! ## The window -/

/-- The window of 384 keys from `ks` gives what all 2048 keys give, when the scores outside it are masked. -/
theorem att_window (sc vc : Fin 256 → EReal) (sl vl : Fin 2048 → EReal) (σ : EReal) (ks : ℕ) (hks : ks + 384 ≤ 2048)
    (hm : ∀ j : Fin 2048, (j.val < ks ∨ ks + 384 ≤ j.val) → sl j = ⊥) :
    att sc vc (fun j : Fin 384 => sl ⟨ks + j.val, by omega⟩) (fun j : Fin 384 => vl ⟨ks + j.val, by omega⟩) σ = att sc vc sl vl σ := by
  have hsup : Finset.univ.sup (fun j : Fin 384 => sl ⟨ks + j.val, by omega⟩) = Finset.univ.sup sl := by
    refine le_antisymm (Finset.sup_le fun j _ => Finset.le_sup (f := sl) (Finset.mem_univ _)) (Finset.sup_le fun j _ => ?_)
    by_cases h : j.val < ks ∨ ks + 384 ≤ j.val
    · rw [hm j h]; exact bot_le
    · have he : j = ⟨ks + (⟨j.val - ks, by omega⟩ : Fin 384).val, by dsimp only; omega⟩ := Fin.ext (by dsimp only; omega)
      rw [he]
      exact Finset.le_sup (f := fun j : Fin 384 => sl ⟨ks + j.val, by omega⟩) (Finset.mem_univ (⟨j.val - ks, by omega⟩ : Fin 384))
  have hsum : ∀ f : Fin 2048 → EReal, (∀ j : Fin 2048, (j.val < ks ∨ ks + 384 ≤ j.val) → f j = 0) →
      ∑ j : Fin 384, f ⟨ks + j.val, by omega⟩ = ∑ j, f j := by
    intro f hf
    refine Finset.sum_of_injOn (fun j : Fin 384 => (⟨ks + j.val, by omega⟩ : Fin 2048)) ?_ ?_ ?_ ?_
    · intro a _ b _ h
      exact Fin.ext (by have := congrArg Fin.val h; dsimp only at this; omega)
    · intro a _; simp
    · intro j _ hj
      refine hf j ?_
      by_contra hc
      exact hj ⟨⟨j.val - ks, by omega⟩, by simp, Fin.ext (by dsimp only; omega)⟩
    · intro a _; rfl
  unfold att
  simp only [hsup]
  rw [hsum (fun j => Ideal.exp (sl j - _) * vl j) (fun j hj => by simp only [hm j hj, exp_masked, zero_mul]),
    hsum (fun j => Ideal.exp (sl j - _)) (fun j hj => by simp only [hm j hj, exp_masked])]

/-! ## Dividing the weights -/

/-- Dividing every weight by a positive total is dividing the weighted sum. -/
theorem div_sum {n : ℕ} (p v : Fin n → EReal) (D : EReal) (hD : 0 < D) :
    ∑ j, v j * Ideal.div (p j) D = (∑ j, p j * v j) * D⁻¹ := by
  rw [sum_mul _ _ _ (EReal.inv_nonneg_of_nonneg hD.le) (inv_ne_top D)]
  refine Finset.sum_congr rfl fun j _ => ?_
  rw [Ideal.div, if_neg hD.ne', ← mul_assoc, mul_comm (v j)]

/-- The total of the weights is positive when the sink logit is above minus infinity and no score is infinite above. -/
theorem total_pos {σ M x : EReal} (hσ : σ ≠ ⊥) (hM : M ≠ ⊤) (hx : 0 ≤ x) : 0 < Ideal.exp (σ - M) + x :=
  lt_of_lt_of_le (exp_pos (by
    rw [sub_eq_add_neg, Ne, EReal.add_eq_bot_iff]
    rintro (h | h)
    · exact hσ h
    · exact hM (by rwa [EReal.neg_eq_bot_iff] at h))) (le_add_of_nonneg_right hx)

/-- The supremum of finitely many values below plus infinity is below it. -/
theorem sup_ne_top {n : ℕ} {s : Fin n → EReal} (h : ∀ j, s j ≠ ⊤) : Finset.univ.sup s ≠ ⊤ :=
  ((Finset.sup_lt_iff (bot_lt_top)).2 fun j _ => lt_top_iff_ne_top.2 (h j)).ne

/-- A sum over a row made of a first part, a second part and one last entry. -/
theorem sum_parts (a b n : ℕ) (hn : n = a + b + 1) (f : Fin n → EReal) :
    ∑ j, f j = (∑ j : Fin a, f ⟨j.val, by omega⟩ + ∑ j : Fin b, f ⟨a + j.val, by omega⟩) + f ⟨a + b, by omega⟩ := by
  subst hn
  rw [Fin.sum_univ_castSucc, Fin.sum_univ_add]
  rfl

/-- A sum over context keys, sequence keys and the sink. -/
theorem sum_keys (f : Fin 2305 → EReal) :
    ∑ j, f j = (∑ j : Fin 256, f ⟨j.val, by omega⟩ + ∑ j : Fin 2048, f ⟨256 + j.val, by omega⟩) + f ⟨2304, by omega⟩ :=
  sum_parts 256 2048 2305 rfl f

/-- The reference's latent softmax: all scores and the sink in one row of 2305, every weight divided by their total. -/
theorem softmax_latent (S : Fin 2305 → EReal) (sc vc : Fin 256 → EReal) (sl vl : Fin 2048 → EReal) (σ : EReal)
    (hc : ∀ j : Fin 256, S ⟨j.val, by omega⟩ = sc j) (hl : ∀ j : Fin 2048, S ⟨256 + j.val, by omega⟩ = sl j) (hs : S ⟨2304, by omega⟩ = σ)
    (hσ : σ ≠ ⊥) (hσ' : σ ≠ ⊤) (hc' : ∀ j, sc j ≠ ⊤) (hl' : ∀ j, sl j ≠ ⊤) :
    ∑ j, vc j * Ideal.div (Ideal.exp (sc j - Finset.univ.sup S)) (∑ j, Ideal.exp (S j - Finset.univ.sup S))
      + ∑ j, vl j * Ideal.div (Ideal.exp (sl j - Finset.univ.sup S)) (∑ j, Ideal.exp (S j - Finset.univ.sup S)) = att sc vc sl vl σ := by
  have hM : Finset.univ.sup S = max (max (Finset.univ.sup sc) (Finset.univ.sup sl)) σ := by
    refine le_antisymm (Finset.sup_le fun j _ => ?_) (max_le (max_le (Finset.sup_le fun j _ => ?_) (Finset.sup_le fun j _ => ?_)) ?_)
    · by_cases h1 : j.val < 256
      · exact le_max_of_le_left (le_max_of_le_left ((hc ⟨j.val, h1⟩).le.trans (Finset.le_sup (f := sc) (Finset.mem_univ _))))
      · by_cases h2 : j.val < 2304
        · refine le_max_of_le_left (le_max_of_le_right ?_)
          have he : j = ⟨256 + (⟨j.val - 256, by omega⟩ : Fin 2048).val, by dsimp only; omega⟩ := Fin.ext (by dsimp only; omega)
          rw [he, hl]
          exact Finset.le_sup (f := sl) (Finset.mem_univ _)
        · have he : j = ⟨2304, by omega⟩ := Fin.ext (by dsimp only; omega)
          rw [he, hs]
          exact le_max_right _ _
    · rw [← hc]; exact Finset.le_sup (f := S) (Finset.mem_univ _)
    · rw [← hl]; exact Finset.le_sup (f := S) (Finset.mem_univ _)
    · rw [← hs]; exact Finset.le_sup (f := S) (Finset.mem_univ _)
  have ht : Finset.univ.sup S ≠ ⊤ := by
    rw [hM]
    exact (max_lt (max_lt (lt_top_iff_ne_top.2 (sup_ne_top hc')) (lt_top_iff_ne_top.2 (sup_ne_top hl'))) (lt_top_iff_ne_top.2 hσ')).ne
  unfold att
  rw [← hM]
  generalize Finset.univ.sup S = M at *
  dsimp only
  have hD : ∑ j, Ideal.exp (S j - M) = Ideal.exp (σ - M) + ∑ j, Ideal.exp (sc j - M) + ∑ j, Ideal.exp (sl j - M) := by
    rw [sum_keys]
    simp only [hc, hl, hs]
    rw [add_comm, add_assoc]
  rw [hD]
  have hpos : 0 < Ideal.exp (σ - M) + ∑ j, Ideal.exp (sc j - M) + ∑ j, Ideal.exp (sl j - M) := by
    rw [add_assoc]
    exact total_pos hσ ht (add_nonneg (Finset.sum_nonneg fun j _ => exp_nonneg _) (Finset.sum_nonneg fun j _ => exp_nonneg _))
  generalize Ideal.exp (σ - M) + ∑ j, Ideal.exp (sc j - M) + ∑ j, Ideal.exp (sl j - M) = D at hpos
  rw [div_sum _ _ _ hpos, div_sum _ _ _ hpos, ← EReal.right_distrib_of_nonneg_of_ne_top (EReal.inv_nonneg_of_nonneg hpos.le) (inv_ne_top D),
    Ideal.div, if_neg hpos.ne']

/-- The reference's context softmax: the scores and the sink in one row of 257. -/
theorem softmax_context (S : Fin 257 → EReal) (s v : Fin 256 → EReal) (σ : EReal)
    (hc : ∀ j : Fin 256, S ⟨j.val, by omega⟩ = s j) (hs : S ⟨256, by omega⟩ = σ)
    (hσ : σ ≠ ⊥) (hσ' : σ ≠ ⊤) (hc' : ∀ j, s j ≠ ⊤) :
    ∑ j, v j * Ideal.div (Ideal.exp (s j - Finset.univ.sup S)) (∑ j, Ideal.exp (S j - Finset.univ.sup S)) = attCtx s v σ := by
  have hM : Finset.univ.sup S = max (Finset.univ.sup s) σ := by
    refine le_antisymm (Finset.sup_le fun j _ => ?_) (max_le (Finset.sup_le fun j _ => ?_) ?_)
    · by_cases h1 : j.val < 256
      · exact le_max_of_le_left ((hc ⟨j.val, h1⟩).le.trans (Finset.le_sup (f := s) (Finset.mem_univ _)))
      · have he : j = ⟨256, by omega⟩ := Fin.ext (by dsimp only; omega)
        rw [he, hs]
        exact le_max_right _ _
    · rw [← hc]; exact Finset.le_sup (f := S) (Finset.mem_univ _)
    · rw [← hs]; exact Finset.le_sup (f := S) (Finset.mem_univ _)
  have ht : Finset.univ.sup S ≠ ⊤ := by
    rw [hM]
    exact (max_lt (lt_top_iff_ne_top.2 (sup_ne_top hc')) (lt_top_iff_ne_top.2 hσ')).ne
  unfold attCtx
  rw [← hM]
  generalize Finset.univ.sup S = M at *
  dsimp only
  have hD : ∑ j, Ideal.exp (S j - M) = Ideal.exp (σ - M) + ∑ j, Ideal.exp (s j - M) := by
    rw [Fin.sum_univ_castSucc (n := 256), add_comm]
    exact congrArg₂ (· + ·) (by rw [← hs]; rfl) (Finset.sum_congr rfl fun j _ => by rw [← hc]; rfl)
  rw [hD]
  have hpos : 0 < Ideal.exp (σ - M) + ∑ j, Ideal.exp (s j - M) := total_pos hσ ht (Finset.sum_nonneg fun j _ => exp_nonneg _)
  generalize Ideal.exp (σ - M) + ∑ j, Ideal.exp (s j - M) = D at hpos
  rw [div_sum _ _ _ hpos, Ideal.div, if_neg hpos.ne']

/-! ## Finite scores -/

/-- A real number among the extended reals. -/
def Real' (x : EReal) : Prop := x ≠ ⊥ ∧ x ≠ ⊤

/-- A finite value is a real number. -/
theorem Real'.coe {x : EReal} (h : Real' x) : ∃ r : ℝ, x = (r : EReal) := ⟨x.toReal, (EReal.coe_toReal h.2 h.1).symm⟩

/-- The product of finite values is finite. -/
theorem Real'.mul {x y : EReal} (hx : Real' x) (hy : Real' y) : Real' (x * y) := by
  obtain ⟨r, rfl⟩ := hx.coe
  obtain ⟨s, rfl⟩ := hy.coe
  rw [← EReal.coe_mul]
  exact ⟨EReal.coe_ne_bot _, EReal.coe_ne_top _⟩

/-- Their sum is finite. -/
theorem Real'.add {x y : EReal} (hx : Real' x) (hy : Real' y) : Real' (x + y) := by
  obtain ⟨r, rfl⟩ := hx.coe
  obtain ⟨s, rfl⟩ := hy.coe
  rw [← EReal.coe_add]
  exact ⟨EReal.coe_ne_bot _, EReal.coe_ne_top _⟩

/-- Their difference is finite. -/
theorem Real'.sub {x y : EReal} (hx : Real' x) (hy : Real' y) : Real' (x - y) := by
  obtain ⟨r, rfl⟩ := hx.coe
  obtain ⟨s, rfl⟩ := hy.coe
  rw [← EReal.coe_sub]
  exact ⟨EReal.coe_ne_bot _, EReal.coe_ne_top _⟩

/-- A finite sum of finite values is finite. -/
theorem Real'.sum {n : ℕ} {f : Fin n → EReal} (h : ∀ j, Real' (f j)) : Real' (∑ j, f j) :=
  Finset.sum_induction f Real' (fun _ _ => Real'.add) ⟨EReal.zero_ne_bot, EReal.zero_ne_top⟩ fun j _ => h j

/-- The rotation of a finite row by finite angles is finite. -/
theorem rope_real {c s : Fin 32 → EReal} {x : Fin 64 → EReal} (hc : ∀ e, Real' (c e)) (hs : ∀ e, Real' (s e)) (hx : ∀ d, Real' (x d)) (d : Fin 64) :
    Real' (rope c s x d) := by
  unfold rope
  split
  · exact ((hx _).mul (hc _)).sub ((hx _).mul (hs _))
  · exact ((hx _).mul (hc _)).add ((hx _).mul (hs _))

/-- A score of finite rows is finite. -/
theorem score_real {x y : Fin 64 → EReal} (hx : ∀ d, Real' (x d)) (hy : ∀ d, Real' (y d)) : Real' (score x y) :=
  Real'.mul (Real'.sum fun d => (hx d).mul (hy d)) (by rw [scale_eq]; exact ⟨EReal.coe_ne_bot _, EReal.coe_ne_top _⟩)

end Swa

end
-- ==== Proof.SwaScores.lean ====
module

public import proofs.«01_k».proof.Proof.SwaBlocks
public import proofs.«01_k».proof.Proof.SwaMath
public import Idealize.ShloMosaic.Lib.Pointwise
public import Idealize.ShloMosaic.Lib.Pipeline.Value

/-! One block of 128 queries over the extended reals: what a score buffer holds, when its mask lets a window score through,
    and that the block's attention is the specified one. -/

@[expose] public section

set_option maxRecDepth 16384

noncomputable section

namespace Cert.SwaIdeal.Blocks

open Cert.SwaIdeal Cert.SwaIdeal.Gen Idealize.ShloMosaic

/-! ## The mask -/

/-- The mask's constant is minus infinity. -/
theorem mask_eq : Named.named (F := Ideal) κ "mask" (φ := .f32) 4048155338#32 = (⊥ : EReal) := rfl

/-- Two words below 4096 lie within 128 of each other, as the kernel tests it. -/
theorem near_bit (a b : ℕ) (ha : a < 4096) (hb : b < 4096) :
    IntOp.cmpi .sle (IntOp.absi (BitVec.ofNat 32 a - BitVec.ofNat 32 b)) 128#32 = BitVec.ofBool (decide (Swa.near a b)) := by
  have h1 : (BitVec.ofNat 32 a - BitVec.ofNat 32 b).toInt = (a : ℤ) - b := by
    rw [BitVec.toInt_sub, BitVec.toInt_ofNat', BitVec.toInt_ofNat']
    simp only [Int.bmod_def]
    omega
  have h2 : (IntOp.absi (BitVec.ofNat 32 a - BitVec.ofNat 32 b)).toInt = |(a : ℤ) - b| := by
    unfold IntOp.absi
    rw [BitVec.msb_eq_toInt, h1]
    by_cases h : (a : ℤ) - b < 0
    · rw [if_pos (by simpa using h), BitVec.toInt_neg, h1, abs_of_neg h]
      simp only [Int.bmod_def]
      omega
    · rw [if_neg (by simpa using h), h1, abs_of_nonneg (by omega)]
  unfold IntOp.cmpi Swa.near
  refine congrArg BitVec.ofBool ?_
  show BitVec.sle _ _ = _
  rw [BitVec.sle_eq_decide, h2]
  refine decide_eq_decide.2 ?_
  rw [show (128#32).toInt = 128 from rfl, abs_le]
  omega

/-- The first key of block `n`'s window. -/
def ks (n : ℕ) : ℕ := min 1664 (128 * (n - 1))

/-- The start of a window, as a word. -/
theorem ks_word : ∀ n : Fin 16, Scalar.minsi 1664#32 (Scalar.maxsi 0#32 (Scalar.muli (Scalar.subi (BitVec.ofNat 32 n.val) 1#32) 128#32)) = BitVec.ofNat 32 (ks n.val) := by
  decide

/-- A window lies within the sequence. -/
theorem ks_le (n : ℕ) : ks n + 384 ≤ 2048 := by unfold ks; omega

/-- The kernel's mask bit of row `r` of block `n` and key `x` of its window. -/
theorem mask_bit (n : Fin 16) (r : Fin 128) (x : Fin 384) :
    IntOp.cmpi .sle (IntOp.absi (IntOp.subi (IntOp.addi (Scalar.muli (BitVec.ofNat 32 n.val) 128#32) (BitVec.ofNat 32 r.val))
      (IntOp.addi (Scalar.minsi 1664#32 (Scalar.maxsi 0#32 (Scalar.muli (Scalar.subi (BitVec.ofNat 32 n.val) 1#32) 128#32))) (BitVec.ofNat 32 x.val)))) 128#32
      = BitVec.ofBool (decide (Swa.near (128 * n.val + r.val) (ks n.val + x.val))) := by
  rw [ks_word]
  have h1 : IntOp.addi (Scalar.muli (BitVec.ofNat 32 n.val) 128#32) (BitVec.ofNat 32 r.val) = BitVec.ofNat 32 (128 * n.val + r.val) := by
    show BitVec.ofNat 32 n.val * BitVec.ofNat 32 128 + BitVec.ofNat 32 r.val = _
    rw [← BitVec.ofNat_mul, ← BitVec.ofNat_add, mul_comm]
  have h2 : IntOp.addi (BitVec.ofNat 32 (ks n.val)) (BitVec.ofNat 32 x.val) = BitVec.ofNat 32 (ks n.val + x.val) := (BitVec.ofNat_add _ _).symm
  rw [h1, h2]
  exact near_bit _ _ (by omega) (by have := ks_le n.val; omega)

/-! ## The softmax of a block -/

/-- A block's attention at a row, over whatever scores its buffer gives. -/
theorem attend_eq (n : Fin 16) (vc : Vec Ideal S256x64 .bf16) (vl : Vec Ideal S384x64 .bf16) (σ : Elt Ideal .f32) (c : Vec Ideal S1x128x256 .f32)
    (l : Vec Ideal S1x128x384 .f32) (z : Fin 1) (r : Fin 128) (d : Fin 64) :
    attend (BitVec.ofNat 32 n.val) vc vl σ c l (ix3 z r d)
      = Swa.att (fun j => c (ix3 0 r j)) (fun j => vc (ix2 j d))
          (fun j => if Swa.near (128 * n.val + r.val) (ks n.val + j.val) then l (ix3 0 r j) else ⊥) (fun j => vl (ix2 j d)) σ := by
  pointwise [attend, k0_pay18, k0_pay16, k0_pay17, k0_pay37]
  simp only [mask_bit, mask_eq, Swa.seed_eq, Swa.fold_max]
  have hs : ∀ (p : Prop) [Decidable p] (a b : EReal), Scalar.select (BitVec.ofBool (decide p)) a b = if p then a else b := by
    intro p _ a b
    by_cases h : p <;> simp [Scalar.select, h]
  simp only [hs]
  rfl

/-! ## The scores -/

/-- Head `h`'s column `d` among the four heads' 256. -/
def col (h : Fin 4) (d : Fin 64) : Fin 256 := ⟨64 * h.val + d.val, by omega⟩

/-- The context scores of a block as a formula. -/
theorem ctxScores_eq (q : FVec Ideal S128x256 .bf16) (kc : Vec Ideal S256x64 .bf16) (h : Fin 4) (z : Fin 1) (r : Fin 128) (j : Fin 256) :
    ctxScores q kc h (ix3 z r j) = ∑ x : Fin 64, q (ix2 r (col h x)) * kc (ix2 j x) := by
  fin_cases h <;> · pointwise [ctxScores, lane]; simp [col]

/-- The window scores of a block as a formula. -/
theorem locScores_eq (q : FVec Ideal S128x256 .bf16) (kl : Vec Ideal S384x64 .bf16) (h : Fin 4) (z : Fin 1) (r : Fin 128) (j : Fin 384) :
    locScores q kl h (ix3 z r j) = ∑ x : Fin 64, q (ix2 r (col h x)) * kl (ix2 j x) := by
  fin_cases h <;> · pointwise [locScores, lane]; simp [col]

/-- The score buffer at an index: head, row, and a context key or a window key. -/
def scoreAt (q : FVec Ideal S128x256 .bf16) (kc : Vec Ideal S256x64 .bf16) (kl : Vec Ideal S384x64 .bf16) (y : S4x128x640.Idx) : EReal :=
  if h : (y 2).val < 256 then ctxScores q kc (y 0) (ix3 0 (y 1) ⟨(y 2).val, h⟩)
  else locScores q kl (y 0) (ix3 0 (y 1) ⟨(y 2).val - 256, by have : (y 2).val < 640 := (y 2).isLt; omega⟩)

/-- The stored scores at a context column. -/
theorem scoreAt_ctx (q : FVec Ideal S128x256 .bf16) (kc : Vec Ideal S256x64 .bf16) (kl : Vec Ideal S384x64 .bf16) (y : S4x128x640.Idx) (h : Fin 4)
    (x : S1x128x256.Idx) (h0 : (y 0).val = h.val) (h1 : (y 1).val = (x 1).val) (h2 : (y 2).val = (x 2).val) : ctxScores q kc h x = scoreAt q kc kl y := by
  have hx : (x 2).val < 256 := (x 2).isLt
  unfold scoreAt
  rw [dif_pos (by omega)]
  refine congr (congrArg _ (Fin.ext h0.symm)) (funext fun a => Fin.ext ?_)
  fin_cases a
  · have : (x 0).val < 1 := (x 0).isLt
    show (x 0).val = 0
    omega
  · exact h1.symm
  · exact h2.symm

/-- The stored scores at a window column. -/
theorem scoreAt_loc (q : FVec Ideal S128x256 .bf16) (kc : Vec Ideal S256x64 .bf16) (kl : Vec Ideal S384x64 .bf16) (y : S4x128x640.Idx) (h : Fin 4)
    (x : S1x128x384.Idx) (h0 : (y 0).val = h.val) (h1 : (y 1).val = (x 1).val) (h2 : (y 2).val = 256 + (x 2).val) : locScores q kl h x = scoreAt q kc kl y := by
  unfold scoreAt
  rw [dif_neg (by omega)]
  refine congr (congrArg _ (Fin.ext h0.symm)) (funext fun a => Fin.ext ?_)
  fin_cases a
  · have : (x 0).val < 1 := (x 0).isLt
    show (x 0).val = 0
    omega
  · exact h1.symm
  · show (x 2).val = (y 2).val - 256
    omega

/-- The score buffer read back at an index. -/
theorem scores_at (q : FVec Ideal S128x256 .bf16) (kc : Vec Ideal S256x64 .bf16) (kl : Vec Ideal S384x64 .bf16) (y : S4x128x640.Idx) :
    View.canon (Val := Elt Ideal) (scorePieces q kc kl) y = scoreAt q kc kl y := by
  refine View.canon_apply_of_pieces (Val := Elt Ideal) (scoreAt q kc kl) _ ?_ y (scores_cover q kc kl y)
  intro p hp
  simp only [scorePieces, List.mem_cons, List.not_mem_nil, or_false] at hp
  rcases hp with rfl | rfl | rfl | rfl | rfl | rfl | rfl | rfl <;> intro x
  all_goals first
    | exact scoreAt_loc q kc kl _ _ x (by simpa using Nat.lt_one_iff.1 (x 0).isLt) (by simp) (by simp)
    | exact scoreAt_ctx q kc kl _ _ x (by simpa using Nat.lt_one_iff.1 (x 0).isLt) (by simp) (by simp)

end Cert.SwaIdeal.Blocks

end
-- ==== Proof.SwaInputs.lean ====
module

public import proofs.«01_k».proof.Proof.SwaScores
public import Idealize.ShloMosaic.Lib.Pipeline.ValueKit.Tiles

/-! What a grid point's words hold, from what its input blocks hold: the rotated and scaled queries of a block, and the rotated
    keys and plain values of a key head. -/

@[expose] public section

set_option maxRecDepth 16384

noncomputable section

namespace Cert.SwaIdeal.Blocks

open Cert.SwaIdeal Cert.SwaIdeal.Gen Idealize.ShloMosaic

/-! ## The rotation by tables -/

/-- The cosine table's row: the 32 cosines twice. -/
def tabC (c : Fin 32 → EReal) (d : Fin 64) : EReal := if h : d.val < 32 then c ⟨d.val, h⟩ else c ⟨d.val - 32, by omega⟩

/-- The table for the entry 32 to the right: minus the sines, then zeros. -/
def tabM (s : Fin 32 → EReal) (d : Fin 64) : EReal := if h : d.val < 32 then -s ⟨d.val, h⟩ else 0

/-- The table for the entry 32 to the left: zeros, then the sines. -/
def tabP (s : Fin 32 → EReal) (d : Fin 64) : EReal := if d.val < 32 then 0 else s ⟨d.val - 32, by omega⟩

/-- The three products with the tables add to the rotation. -/
theorem rope_tab (c s : Fin 32 → EReal) (x : Fin 64 → EReal) (d : Fin 64) (y z : EReal)
    (hy : ∀ h : d.val < 32, y = x ⟨d.val + 32, by omega⟩) (hz : ¬ d.val < 32 → z = x ⟨d.val - 32, by omega⟩) :
    x d * tabC c d + y * tabM s d + z * tabP s d = Swa.rope c s x d := by
  unfold tabC tabM tabP Swa.rope
  by_cases h : d.val < 32
  · simp only [dif_pos h, if_pos h, hy h, mul_zero, add_zero, mul_neg, sub_eq_add_neg]
  · simp only [dif_neg h, if_neg h, hz h, mul_zero, add_zero]

/-- Key column `d` among a key head's 128. -/
def lo (d : Fin 64) : Fin 128 := ⟨d.val, by omega⟩

/-- Value column `d` among a key head's 128. -/
def hi (d : Fin 64) : Fin 128 := ⟨64 + d.val, by omega⟩

/-- What the input blocks of a grid point hold: queries of four heads, keys and values of one head, and the tables. -/
structure Inputs (x0 : Vec Ideal S1x2304x384 .bf16) (x1 x2 x3 : Vec Ideal S2048x256 .f32) (x4 x5 x6 : Vec Ideal S2048x128 .f32)
    (q : Fin 4 → Fin 2304 → Fin 64 → EReal) (k v : Fin 2304 → Fin 64 → EReal) (cs sn : Fin 2048 → Fin 32 → EReal) : Prop where
  hq : ∀ h row d, x0 (ix3 0 row ⟨64 * h.val + d.val, by omega⟩) = q h row d
  hk : ∀ row d, x0 (ix3 0 row ⟨256 + d.val, by omega⟩) = k row d
  hv : ∀ row d, x0 (ix3 0 row ⟨320 + d.val, by omega⟩) = v row d
  h1 : ∀ r h d, x1 (ix2 r (col h d)) = tabC (cs r) d
  h2 : ∀ r h d, x2 (ix2 r (col h d)) = tabM (sn r) d
  h3 : ∀ r h d, x3 (ix2 r (col h d)) = tabP (sn r) d
  h4 : ∀ (r : Fin 2048) (d : Fin 64), x4 (ix2 r (lo d)) = tabC (cs r) d
  h4' : ∀ (r : Fin 2048) (d : Fin 64), x4 (ix2 r (hi d)) = 1
  h5 : ∀ (r : Fin 2048) (d : Fin 64), x5 (ix2 r (lo d)) = tabM (sn r) d
  h5' : ∀ (r : Fin 2048) (d : Fin 64), x5 (ix2 r (hi d)) = 0
  h6 : ∀ (r : Fin 2048) (d : Fin 64), x6 (ix2 r (lo d)) = tabP (sn r) d
  h6' : ∀ (r : Fin 2048) (d : Fin 64), x6 (ix2 r (hi d)) = 0

/-! ## The queries -/

/-- The rotation and scaling of a block's queries, entry by entry. -/
theorem pay2_eq (a : Vec Ideal S1x128x256 .bf16) (b c d : Vec Ideal S128x256 .f32) (r : Fin 128) (e : Fin 256) :
    k0_pay2 a b c d (ix2 r e) = (a (ix3 0 r e) * b (ix2 r e) + a (ix3 0 r ⟨(e.val + 32) % 256, Nat.mod_lt _ (by decide)⟩) * c (ix2 r e)
      + a (ix3 0 r ⟨(e.val + 224) % 256, Nat.mod_lt _ (by decide)⟩) * d (ix2 r e)) * Swa.scale := by
  pointwise [k0_pay2]
  rfl

/-- A block's queries are the rotated rows, scaled. -/
theorem pay2_rope (a : Vec Ideal S1x128x256 .bf16) (b c d : Vec Ideal S128x256 .f32) (r : Fin 128) (q : Fin 4 → Fin 64 → EReal) (cs sn : Fin 32 → EReal)
    (ha : ∀ h e, a (ix3 0 r (col h e)) = q h e) (hb : ∀ h e, b (ix2 r (col h e)) = tabC cs e) (hc : ∀ h e, c (ix2 r (col h e)) = tabM sn e)
    (hd : ∀ h e, d (ix2 r (col h e)) = tabP sn e) (h : Fin 4) (e : Fin 64) :
    k0_pay2 a b c d (ix2 r (col h e)) = Swa.rope cs sn (q h) e * Swa.scale := by
  rw [pay2_eq, ha, hb, hc, hd]
  refine congrArg (· * Swa.scale) (rope_tab cs sn (q h) e _ _ (fun hl => ?_) fun hl => ?_)
  · rw [← ha]
    exact congrArg a (congrArg (ix3 0 r) (Fin.ext (by simp only [col]; omega)))
  · rw [← ha]
    exact congrArg a (congrArg (ix3 0 r) (Fin.ext (by simp only [col]; omega)))

section Words

variable {x0 : Vec Ideal S1x2304x384 .bf16} {x1 x2 x3 : Vec Ideal S2048x256 .f32} {x4 x5 x6 : Vec Ideal S2048x128 .f32}
  {q : Fin 4 → Fin 2304 → Fin 64 → EReal} {k v : Fin 2304 → Fin 64 → EReal} {cs sn : Fin 2048 → Fin 32 → EReal}

/-- A latent row among the 2304. -/
def row (r : Fin 2048) : Fin 2304 := ⟨r.val, by omega⟩

/-- Row `r` of block `n`. -/
def pos (n : Fin 16) (r : Fin 128) : Fin 2048 := ⟨128 * n.val + r.val, by omega⟩

/-- Key `j` of block `n`'s window. -/
def win (n : Fin 16) (j : Fin 384) : Fin 2048 := ⟨ks n.val + j.val, by have := ks_le n.val; omega⟩

/-- A context row among the 2304. -/
def crow (j : Fin 256) : Fin 2304 := ⟨2048 + j.val, by omega⟩

/-- The queries of block `n`, rotated and scaled. -/
def GoodQ (q : Fin 4 → Fin 2304 → Fin 64 → EReal) (cs sn : Fin 2048 → Fin 32 → EReal) (n : Fin 16) (Q : FVec Ideal S128x256 .bf16) : Prop :=
  ∀ r h d, Q (ix2 r (col h d)) = Swa.rope (cs (pos n r)) (sn (pos n r)) (q h (row (pos n r))) d * Swa.scale

/-- The queries read at block `n`'s rows are block `n`'s. -/
theorem goodQ (I : Inputs x0 x1 x2 x3 x4 x5 x6 q k v cs sn) (n : Fin 16) (o : Fin 3 → Nat) (o' : Fin 2 → Nat) (ho : o = ![0, 128 * n.val, 0]) (ho' : o' = ![128 * n.val, 0])
    (hi : ∀ a, o a + S1x128x256.size a ≤ S1x2304x384.size a) (hi' : ∀ a, o' a + S128x256.size a ≤ S2048x256.size a) :
    GoodQ q cs sn n (k0_pay2 (F := Ideal) (View.ld x0 (Rect.unit (s := S1x2304x384) o S1x128x256.size hi)) (View.ld x1 (Rect.unit (s := S2048x256) o' S128x256.size hi'))
      (View.ld x2 (Rect.unit (s := S2048x256) o' S128x256.size hi')) (View.ld x3 (Rect.unit (s := S2048x256) o' S128x256.size hi'))) := by
  subst ho ho'
  intro r h d
  have ht : ∀ (X : Vec Ideal S2048x256 .f32) (h : Fin 4) (e : Fin 64),
      View.ld X (Rect.unit (s := S2048x256) ![128 * n.val, 0] S128x256.size hi') (ix2 r (col h e)) = X (ix2 (pos n r) (col h e)) := fun X h e =>
    View.ld_unit_apply_of X _ _ _ _ _ (fun a => by fin_cases a <;> simp [pos])
  refine pay2_rope _ _ _ _ r (fun h => q h (row (pos n r))) _ _ (fun h e => ?_) (fun h e => ?_) (fun h e => ?_) (fun h e => ?_) h d
  · rw [← I.hq]
    exact View.ld_unit_apply_of x0 _ _ _ _ _ (fun a => by fin_cases a <;> simp [pos, row, col])
  · rw [← I.h1]; exact ht x1 h e
  · rw [← I.h2]; exact ht x2 h e
  · rw [← I.h3]; exact ht x3 h e

/-! ## The keys and values -/

/-- The rotation of the keys, and the values beside them, entry by entry. -/
theorem pay62_eq (a : Vec Ideal S1x2048x128 .bf16) (b c d : Vec Ideal S2048x128 .f32) (r : Fin 2048) (e : Fin 128) :
    k0_pay62 a b c d (ix2 r e) = a (ix3 0 r e) * b (ix2 r e) + a (ix3 0 r ⟨(e.val + 32) % 128, Nat.mod_lt _ (by decide)⟩) * c (ix2 r e)
      + a (ix3 0 r ⟨(e.val + 96) % 128, Nat.mod_lt _ (by decide)⟩) * d (ix2 r e) := by
  pointwise [k0_pay62]
  rfl

/-- The context rows of keys and values are taken as they are. -/
theorem pay63_eq (a : Vec Ideal S1x256x128 .bf16) (r : Fin 256) (e : Fin 128) : k0_pay63 a (ix2 r e) = a (ix3 0 r e) := by
  pointwise [k0_pay63]

/-- The keys' and values' buffer at an index. -/
def kvAt (k v : Fin 2304 → Fin 64 → EReal) (cs sn : Fin 2048 → Fin 32 → EReal) (y : S2304x128.Idx) : EReal :=
  if h : (y 1).val < 64 then
    if h' : (y 0).val < 2048 then Swa.rope (cs ⟨(y 0).val, h'⟩) (sn ⟨(y 0).val, h'⟩) (k (y 0)) ⟨(y 1).val, h⟩ else k (y 0) ⟨(y 1).val, h⟩
  else v (y 0) ⟨(y 1).val - 64, by have : (y 1).val < 128 := (y 1).isLt; omega⟩

/-- The stored keys of sequence rows are rotated. -/
theorem kvAt_key (y : S2304x128.Idx) (r : Fin 2048) (d : Fin 64) (h0 : (y 0).val = r.val) (h1 : (y 1).val = d.val) :
    kvAt k v cs sn y = Swa.rope (cs r) (sn r) (k (row r)) d := by
  obtain rfl : y = ix2 (row r) (lo d) := (eq_ix2 y).trans (congrArg₂ ix2 (Fin.ext h0) (Fin.ext h1))
  exact (dif_pos d.isLt).trans (dif_pos r.isLt)

/-- The stored keys of context rows are as given. -/
theorem kvAt_ctx (y : S2304x128.Idx) (j : Fin 256) (d : Fin 64) (h0 : (y 0).val = 2048 + j.val) (h1 : (y 1).val = d.val) :
    kvAt k v cs sn y = k (crow j) d := by
  obtain rfl : y = ix2 (crow j) (lo d) := (eq_ix2 y).trans (congrArg₂ ix2 (Fin.ext h0) (Fin.ext h1))
  exact (dif_pos d.isLt).trans (dif_neg (Nat.not_lt.2 (Nat.le_add_right _ _)))

/-- The stored values are as given. -/
theorem kvAt_val (y : S2304x128.Idx) (r : Fin 2304) (d : Fin 64) (h0 : (y 0).val = r.val) (h1 : (y 1).val = 64 + d.val) :
    kvAt k v cs sn y = v r d := by
  obtain rfl : y = ix2 r (hi d) := (eq_ix2 y).trans (congrArg₂ ix2 (Fin.ext h0) (Fin.ext h1))
  refine (dif_neg (Nat.not_lt.2 (Nat.le_add_right _ _))).trans (congrArg (v r) (Fin.ext ?_))
  exact Nat.add_sub_cancel_left _ _

/-- A column of a key head's 128 is a key's or a value's. -/
theorem halves (e : Fin 128) : (∃ d : Fin 64, e = lo d) ∨ ∃ d : Fin 64, e = hi d := by
  by_cases h : e.val < 64
  · exact .inl ⟨⟨e.val, h⟩, rfl⟩
  · exact .inr ⟨⟨e.val - 64, by omega⟩, Fin.ext (by dsimp only [hi]; omega)⟩

/-- The buffer holds the rotated keys and the values of the sequence, then those of the context as they are. -/
theorem kv_at (I : Inputs x0 x1 x2 x3 x4 x5 x6 q k v cs sn) (y : S2304x128.Idx) : kv x0 x4 x5 x6 y = kvAt k v cs sn y := by
  refine View.canon_apply_of_pieces (Val := Elt Ideal) (kvAt k v cs sn) _ ?_ y (kv_cover x0 x4 x5 x6 y)
  intro p hp
  simp only [kvPieces, List.mem_cons, List.not_mem_nil, or_false] at hp
  rcases hp with rfl | rfl <;> intro x
  · obtain ⟨r, e, rfl⟩ : ∃ (r : Fin 256) (e : Fin 128), x = ix2 r e := ⟨x 0, x 1, eq_ix2 x⟩
    refine Eq.trans (b := View.ld x0 (Rect.unit ![0, 2048, 256] S1x256x128.size inb_S1x2304x384_S1x256x128_0_2048_256) (ix3 0 r e)) (pay63_eq (View.ld x0 (Rect.unit ![0, 2048, 256] S1x256x128.size inb_S1x2304x384_S1x256x128_0_2048_256)) r e) ?_
    rcases halves e with ⟨d, rfl⟩ | ⟨d, rfl⟩
    · refine Eq.trans ?_ ((I.hk (crow r) d).trans (kvAt_ctx _ r d ?_ ?_).symm)
      · exact View.ld_unit_apply_of x0 _ _ _ _ _ (fun a => by fin_cases a <;> simp [crow, lo, hi])
      · simp [lo, hi]
      · simp [lo, hi]
    · refine Eq.trans ?_ ((I.hv (crow r) d).trans (kvAt_val _ (crow r) d ?_ ?_).symm)
      · exact View.ld_unit_apply_of x0 _ _ _ _ _ (fun a => by fin_cases a <;> simp [crow, lo, hi] <;> omega)
      · simp [crow, lo, hi]
      · simp [lo, hi]
  · obtain ⟨r, e, rfl⟩ : ∃ (r : Fin 2048) (e : Fin 128), x = ix2 r e := ⟨x 0, x 1, eq_ix2 x⟩
    have ht : ∀ (X : Vec Ideal S2048x128 .f32) (e : Fin 128), View.ld X (Rect.unit ![0, 0] S2048x128.size inb_S2048x128_S2048x128_0_0) (ix2 r e) = X (ix2 r e) := fun X e =>
      View.ld_unit_apply_of X _ _ _ _ _ (fun a => by fin_cases a <;> simp)
    have hx : ∀ (e : Fin 128) (d : Fin 384), d.val = 256 + e.val →
        View.ld x0 (Rect.unit ![0, 0, 256] S1x2048x128.size inb_S1x2304x384_S1x2048x128_0_0_256) (ix3 0 r e) = x0 (ix3 0 (row r) d) := fun e d hd =>
      View.ld_unit_apply_of x0 _ _ _ _ _ (fun a => by fin_cases a <;> simp [row, hd])
    refine Eq.trans (b := _) (pay62_eq _ _ _ _ r e) ?_
    rcases halves e with ⟨d, rfl⟩ | ⟨d, rfl⟩
    · rw [ht, ht, ht, I.h4, I.h5, I.h6, hx _ ⟨256 + d.val, by omega⟩ rfl, I.hk (row r) d]
      refine (rope_tab _ _ (k (row r)) d _ _ (fun hl => ?_) fun hl => ?_).trans (kvAt_key _ r d ?_ ?_).symm
      · rw [← I.hk]
        exact hx _ _ (by dsimp only [lo, hi]; omega)
      · rw [← I.hk]
        exact hx _ _ (by dsimp only [lo, hi]; omega)
      · simp [lo]
      · simp [lo]
    · rw [ht, ht, ht, I.h4', I.h5', I.h6', mul_one, mul_zero, mul_zero, add_zero, add_zero, hx _ ⟨320 + d.val, by omega⟩ (by dsimp only [lo, hi]; omega), I.hv (row r) d]
      refine (kvAt_val _ (row r) d ?_ ?_).symm
      · simp [row, hi]
      · simp [hi]

end Words

end Cert.SwaIdeal.Blocks

end
-- ==== Proof.SwaOut.lean ====
module

public import proofs.«01_k».proof.Proof.SwaInputs

/-! A grid point's result block, entry by entry: the specified attention of its four heads. -/

@[expose] public section

set_option maxRecDepth 16384

noncomputable section

namespace Cert.SwaIdeal.Blocks

open Cert.SwaIdeal Cert.SwaIdeal.Gen Idealize.ShloMosaic

/-! ## What the score buffer gives a head -/

/-- The stored context scores of a head, read back. -/
theorem ctxOf_ld (S : Vec Ideal S4x128x640 .f32) (h : Fin 4) (r : Fin 128) (j : Fin 256) : ctxOf S h (ix3 0 r j) = S (ix3 h r ⟨j.val, by omega⟩) := by
  fin_cases h <;> exact View.ld_unit_apply_of S _ _ _ _ _ (fun a => by fin_cases a <;> simp)

/-- The stored window scores of a head, read back. -/
theorem locOf_ld (S : Vec Ideal S4x128x640 .f32) (h : Fin 4) (r : Fin 128) (j : Fin 384) : locOf S h (ix3 0 r j) = S (ix3 h r ⟨256 + j.val, by omega⟩) := by
  fin_cases h <;> exact View.ld_unit_apply_of S _ _ _ _ _ (fun a => by fin_cases a <;> simp)

/-- A stored context score is a product of query and key. -/
theorem ctxOf_at (q : FVec Ideal S128x256 .bf16) (kc : Vec Ideal S256x64 .bf16) (kl : Vec Ideal S384x64 .bf16) (h : Fin 4) (r : Fin 128) (j : Fin 256) :
    ctxOf (F := Ideal) (View.canon (Val := Elt Ideal) (scorePieces q kc kl)) h (ix3 0 r j) = ∑ x : Fin 64, q (ix2 r (col h x)) * kc (ix2 j x) :=
  (ctxOf_ld _ h r j).trans ((scores_at q kc kl _).trans ((scoreAt_ctx q kc kl _ h (ix3 0 r j) rfl rfl rfl).symm.trans (ctxScores_eq q kc h 0 r j)))

/-- A stored window score alike. -/
theorem locOf_at (q : FVec Ideal S128x256 .bf16) (kc : Vec Ideal S256x64 .bf16) (kl : Vec Ideal S384x64 .bf16) (h : Fin 4) (r : Fin 128) (j : Fin 384) :
    locOf (F := Ideal) (View.canon (Val := Elt Ideal) (scorePieces q kc kl)) h (ix3 0 r j) = ∑ x : Fin 64, q (ix2 r (col h x)) * kl (ix2 j x) :=
  (locOf_ld _ h r j).trans ((scores_at q kc kl _).trans ((scoreAt_loc q kc kl _ h (ix3 0 r j) rfl rfl rfl).symm.trans (locScores_eq q kl h 0 r j)))

section Words

variable {x0 : Vec Ideal S1x2304x384 .bf16} {x1 x2 x3 : Vec Ideal S2048x256 .f32} {x4 x5 x6 : Vec Ideal S2048x128 .f32} (x7 : Vec Ideal S16 .f32)
  {q : Fin 4 → Fin 2304 → Fin 64 → EReal} {k v : Fin 2304 → Fin 64 → EReal} {cs sn : Fin 2048 → Fin 32 → EReal}

/-! ## The key and value loads -/

/-- The context keys read back. -/
theorem ctxKeys_at (I : Inputs x0 x1 x2 x3 x4 x5 x6 q k v cs sn) (j : Fin 256) (d : Fin 64) : ctxKeys (F := Ideal) (kv x0 x4 x5 x6) (ix2 j d) = k (crow j) d :=
  (View.ld_unit_apply_of _ _ _ _ _ (ix2 (crow j) (lo d)) (fun a => by fin_cases a <;> simp [crow, lo])).trans ((kv_at I _).trans (kvAt_ctx _ j d rfl rfl))

/-- The context values read back. -/
theorem ctxVals_at (I : Inputs x0 x1 x2 x3 x4 x5 x6 q k v cs sn) (j : Fin 256) (d : Fin 64) : ctxVals (F := Ideal) (kv x0 x4 x5 x6) (ix2 j d) = v (crow j) d :=
  (View.ld_unit_apply_of _ _ _ _ _ (ix2 (crow j) (hi d)) (fun a => by fin_cases a <;> simp [crow, hi])).trans ((kv_at I _).trans (kvAt_val _ (crow j) d rfl rfl))

/-- The keys of block `n`'s window, rotated. -/
theorem keys_at (I : Inputs x0 x1 x2 x3 x4 x5 x6 q k v cs sn) (n : Fin 16) (o : Fin 2 → Nat) (ho : o = ![ks n.val, 0])
    (hi : ∀ a, o a + S384x64.size a ≤ S2304x128.size a) (j : Fin 384) (d : Fin 64) :
    View.ld (kv x0 x4 x5 x6) (Rect.unit (s := S2304x128) o S384x64.size hi) (ix2 j d) = Swa.rope (cs (win n j)) (sn (win n j)) (k (row (win n j))) d := by
  subst ho
  exact (View.ld_unit_apply_of _ _ _ _ _ (ix2 (row (win n j)) (lo d)) (fun a => by fin_cases a <;> simp [win, row, lo])).trans
    ((kv_at I _).trans (kvAt_key _ (win n j) d rfl rfl))

/-- The values of block `n`'s window. -/
theorem vals_at (I : Inputs x0 x1 x2 x3 x4 x5 x6 q k v cs sn) (n : Fin 16) (o : Fin 2 → Nat) (ho : o = ![ks n.val, 64])
    (hi' : ∀ a, o a + S384x64.size a ≤ S2304x128.size a) (j : Fin 384) (d : Fin 64) :
    View.ld (kv x0 x4 x5 x6) (Rect.unit (s := S2304x128) o S384x64.size hi') (ix2 j d) = v (row (win n j)) d := by
  subst ho
  exact (View.ld_unit_apply_of _ _ _ _ _ (ix2 (row (win n j)) (hi d)) (fun a => by fin_cases a <;> simp [win, row, hi])).trans
    ((kv_at I _).trans (kvAt_val _ (row (win n j)) d rfl rfl))

/-! ## A block of latent rows -/

/-- The specified output of a head at a latent position. -/
def latentAt (q : Fin 4 → Fin 2304 → Fin 64 → EReal) (k v : Fin 2304 → Fin 64 → EReal) (cs sn : Fin 2048 → Fin 32 → EReal) (σ : EReal) (h : Fin 4) (L : Fin 2048) (d : Fin 64) : EReal :=
  Swa.latent (q h (row L)) L (fun j => k (crow j)) (fun j => v (crow j)) (fun j => k (row j)) (fun j => v (row j)) cs sn σ d

/-- The specified output of a head at a context row. -/
def contextAt (q : Fin 4 → Fin 2304 → Fin 64 → EReal) (k v : Fin 2304 → Fin 64 → EReal) (σ : EReal) (h : Fin 4) (j : Fin 256) (d : Fin 64) : EReal :=
  Swa.context (q h (crow j)) (fun j => k (crow j)) (fun j => v (crow j)) σ d

/-- Block `n`'s attention, from its scores and its window, is the specified one. -/
theorem block_at (I : Inputs x0 x1 x2 x3 x4 x5 x6 q k v cs sn) (n : Fin 16) (Q : FVec Ideal S128x256 .bf16) (hQ : GoodQ q cs sn n Q)
    (ok : Fin 2 → Nat) (hok : ok = ![ks n.val, 0]) (hk : ∀ a, ok a + S384x64.size a ≤ S2304x128.size a)
    (ov : Fin 2 → Nat) (hov : ov = ![ks n.val, 64]) (hv : ∀ a, ov a + S384x64.size a ≤ S2304x128.size a) (w : BitVec 32) (hw : w = BitVec.ofNat 32 n.val) (σ : Elt Ideal .f32) (h : Fin 4)
    (z : Fin 1) (r : Fin 128) (d : Fin 64) :
    attend w (ctxVals (kv x0 x4 x5 x6)) (View.ld (kv x0 x4 x5 x6) (Rect.unit (s := S2304x128) ov S384x64.size hv)) σ
        (ctxOf (F := Ideal) (View.canon (Val := Elt Ideal) (scorePieces Q (ctxKeys (kv x0 x4 x5 x6)) (View.ld (kv x0 x4 x5 x6) (Rect.unit (s := S2304x128) ok S384x64.size hk)))) h)
        (locOf (F := Ideal) (View.canon (Val := Elt Ideal) (scorePieces Q (ctxKeys (kv x0 x4 x5 x6)) (View.ld (kv x0 x4 x5 x6) (Rect.unit (s := S2304x128) ok S384x64.size hk)))) h) (ix3 z r d)
      = latentAt q k v cs sn σ h (pos n r) d := by
  subst hw
  rw [attend_eq]
  simp only [ctxOf_at, locOf_at, ctxVals_at I, ctxKeys_at I, vals_at I n ov hov hv, keys_at I n ok hok hk, hQ r h, Swa.score_scaled]
  unfold latentAt Swa.latent
  refine (Swa.att_window _ _ (fun j : Fin 2048 => if Swa.near (pos n r).val j.val then Swa.score (Swa.rope (cs (pos n r)) (sn (pos n r)) (q h (row (pos n r)))) (Swa.rope (cs j) (sn j) (k (row j))) else ⊥)
    (fun j => v (row j) d) σ (ks n.val) (ks_le _) fun j hj => if_neg ?_).symm.symm
  have hr := r.isLt
  have hn := n.isLt
  have hj' := j.isLt
  simp only [ks, Swa.near, pos] at hj ⊢
  omega

/-! ## The loop's buffers -/

/-- The loop makes eight trips. -/
theorem trips_eq : k0_t1_loop.trips = 8 := by decide

/-- The number of trip `t`'s even block. -/
def ev (t : Fin 8) : Fin 16 := ⟨2 * t.val, by omega⟩

/-- The number of trip `t`'s odd block. -/
def od (t : Fin 8) : Fin 16 := ⟨2 * t.val + 1, by omega⟩

/-- A trip's even block reads its window's values. -/
theorem off5_eq : ∀ t : Fin k0_t1_loop.trips, k0_off5 t = ![ks (2 * t.val), 64] := by decide +kernel

/-- The first block reads the first window's keys. -/
theorem off1_eq : k0_off1 = ![ks 0, 0] := by decide +kernel

/-- The number of the even block of a trip, as a word. -/
theorem even_word : ∀ t : Fin k0_t1_loop.trips, Scalar.muli 2#32 (Scf.iv 0#32 1#32 t.val) = BitVec.ofNat 32 (2 * t.val) := by decide +kernel

/-- The number of the odd block of a trip, as a word. -/
theorem odd_word : ∀ t : Fin k0_t1_loop.trips, Scalar.addi (Scalar.muli 2#32 (Scf.iv 0#32 1#32 t.val)) 1#32 = BitVec.ofNat 32 (2 * t.val + 1) := by decide +kernel

/-- Before trip `t` the even buffer holds the scores of block `2t`. -/
theorem even_scores (I : Inputs x0 x1 x2 x3 x4 x5 x6 q k v cs sn) (t : Fin 8) :
    ∃ (Q : FVec Ideal S128x256 .bf16) (o : Fin 2 → Nat) (hi : ∀ a, o a + S384x64.size a ≤ S2304x128.size a), GoodQ q cs sn (ev t) Q ∧ o = ![ks (ev t).val, 0] ∧
      evenScores x0 x1 x2 x3 (kv x0 x4 x5 x6) t.val
        = View.canon (Val := Elt Ideal) (scorePieces Q (ctxKeys (kv x0 x4 x5 x6)) (View.ld (kv x0 x4 x5 x6) (Rect.unit (s := S2304x128) o S384x64.size hi))) := by
  obtain ⟨t, ht⟩ := t
  cases t with
  | zero => exact ⟨_, k0_off1, k0_off1_inb, goodQ I (ev ⟨0, ht⟩) _ _ rfl rfl _ _, off1_eq, rfl⟩
  | succ t =>
    have h : t < k0_t1_loop.trips := by rw [trips_eq]; omega
    have hm : min (2 * t + 2) 15 = 2 * (t + 1) := by omega
    refine ⟨_, k0_off13 ⟨t, h⟩, k0_off13_inb ⟨t, h⟩, goodQ I (ev ⟨t + 1, ht⟩) (k0_off11 ⟨t, h⟩) (k0_off12 ⟨t, h⟩) ?_ ?_ (k0_off11_inb ⟨t, h⟩) (k0_off12_inb ⟨t, h⟩), ?_, dif_pos h⟩
    · rw [k0_off11_eq]; simp only [hm, ev]
    · rw [k0_off12_eq]; simp only [hm, ev]
    · rw [k0_off13_eq]; simp only [hm, ev, ks]
      rw [show 128 * (2 * (t + 1)) - 128 = 128 * (2 * (t + 1) - 1) by omega]

/-- The queries of trip `t`'s odd block. -/
theorem odd_good (I : Inputs x0 x1 x2 x3 x4 x5 x6 q k v cs sn) (t : Fin k0_t1_loop.trips) (n : Fin 16) (hn : n.val = 2 * t.val + 1) :
    GoodQ q cs sn n (oddQ (F := Ideal) t x0 x1 x2 x3) := by
  have h : 256 * t.val + 128 = 128 * n.val := by omega
  exact goodQ I n (k0_off2 t) (k0_off3 t) (by rw [k0_off2_eq, h]) (by rw [k0_off3_eq, h]) _ _

/-! ## The context rows -/

/-- The context attention of a head as a formula. -/
theorem pay1_eq (kc vc : Vec Ideal S256x64 .bf16) (Q : Vec Ideal S256x64 .bf16) (σ : Elt Ideal .f32) (z : Fin 1) (r : Fin 256) (d : Fin 64) :
    k0_pay1 kc vc Q σ (ix3 z r d) = Swa.attCtx (fun j => ∑ x : Fin 64, Q (ix2 r x) * kc (ix2 j x)) (fun j => vc (ix2 j d)) σ := by
  pointwise [k0_pay1]
  simp only [Swa.seed_eq, Swa.fold_max]
  rfl

/-- A head's columns of the context queries. -/
theorem ctxLane_at (Q : FVec Ideal S256x256 .bf16) (h : Fin 4) (r : Fin 256) (x : Fin 64) : ctxLane Q h (ix2 r x) = Q (ix2 r (col h x)) := by
  fin_cases h <;> · pointwise [ctxLane]; simp [col]

/-- The context queries are scaled. -/
theorem pay76_eq (a : Vec Ideal S1x256x256 .bf16) (r e : Fin 256) : k0_pay76 a (ix2 r e) = a (ix3 0 r e) * Swa.scale := by
  pointwise [k0_pay76]
  rfl

/-- The attention of the context rows is the specified one. -/
theorem context_at (I : Inputs x0 x1 x2 x3 x4 x5 x6 q k v cs sn) (σ : Elt Ideal .f32) (h : Fin 4) (z : Fin 1) (r : Fin 256) (d : Fin 64) :
    ctxAttend x0 (kv x0 x4 x5 x6) σ h (ix3 z r d) = contextAt q k v σ h r d := by
  unfold ctxAttend
  rw [pay1_eq]
  have hx : ∀ x : Fin 64, View.ld x0 (Rect.unit ![0, 2048, 0] S1x256x256.size inb_S1x2304x384_S1x256x256_0_2048_0) (ix3 0 r (col h x)) = q h (crow r) x := fun x => by
    rw [← I.hq]
    exact View.ld_unit_apply_of x0 _ _ _ _ _ (fun a => by fin_cases a <;> simp [crow, col])
  simp only [ctxLane_at, pay76_eq, hx, ctxKeys_at I, ctxVals_at I, Swa.score_scaled]
  rfl

/-! ## The result block -/

/-- The sink logit of head `h` at a grid point. -/
theorem sink_at (i : grid0.Coords) (h : Fin 4) : sinkOf i x7 h = x7 (ix1 ⟨4 * (i 1).val + h.val, by have : (i 1).val < 4 := (i 1).isLt; omega⟩) := by
  refine View.ld_unit_apply_of _ _ _ _ _ _ (fun a => ?_)
  refine Eq.trans ?_ (congrArg (· + _) (congrFun (k0_off6_eq i h) a).symm)
  fin_cases a
  simp [Shape.Idx.first]

/-- The result block at an index: latent rows, then context rows. -/
def outAtIdx (q : Fin 4 → Fin 2304 → Fin 64 → EReal) (k v : Fin 2304 → Fin 64 → EReal) (cs sn : Fin 2048 → Fin 32 → EReal) (σ : Fin 4 → EReal) (y : S1x2304x256.Idx) : EReal :=
  have hy : (y 2).val < 256 := (y 2).isLt
  have hy' : (y 1).val < 2304 := (y 1).isLt
  if hr : (y 1).val < 2048 then latentAt q k v cs sn (σ ⟨(y 2).val / 64, by omega⟩) ⟨(y 2).val / 64, by omega⟩ ⟨(y 1).val, hr⟩ ⟨(y 2).val % 64, by omega⟩
  else contextAt q k v (σ ⟨(y 2).val / 64, by omega⟩) ⟨(y 2).val / 64, by omega⟩ ⟨(y 1).val - 2048, by omega⟩ ⟨(y 2).val % 64, by omega⟩

/-- The result block at a sequence row. -/
theorem out_latent (σ : Fin 4 → EReal) (y : S1x2304x256.Idx) (L : Fin 2048) (h : Fin 4) (d : Fin 64) (h1 : (y 1).val = L.val) (h2 : (y 2).val = 64 * h.val + d.val) :
    outAtIdx q k v cs sn σ y = latentAt q k v cs sn (σ h) h L d := by
  have e1 : (y 2).val / 64 = h.val := by omega
  have e2 : (y 2).val % 64 = d.val := by omega
  unfold outAtIdx
  rw [dif_pos (by omega)]
  simp only [e1, e2, h1, Fin.eta]

/-- The result block at a context row. -/
theorem out_context (σ : Fin 4 → EReal) (y : S1x2304x256.Idx) (j : Fin 256) (h : Fin 4) (d : Fin 64) (h1 : (y 1).val = 2048 + j.val) (h2 : (y 2).val = 64 * h.val + d.val) :
    outAtIdx q k v cs sn σ y = contextAt q k v (σ h) h j d := by
  have e1 : (y 2).val / 64 = h.val := by omega
  have e2 : (y 2).val % 64 = d.val := by omega
  have e3 : (y 1).val - 2048 = j.val := by omega
  unfold outAtIdx
  rw [dif_neg (by omega)]
  simp only [e1, e2, e3, Fin.eta]

/-- A trip's stores are right. -/
theorem trip_right (I : Inputs x0 x1 x2 x3 x4 x5 x6 q k v cs sn) (i : grid0.Coords) (t : Fin k0_t1_loop.trips) :
    ∀ p ∈ tripPieces i x7 (kv x0 x4 x5 x6) (evenScores x0 x1 x2 x3 (kv x0 x4 x5 x6) t.val) (oddScores x0 x1 x2 x3 (kv x0 x4 x5 x6) t) t,
      ∀ x : p.1.shape.Idx, p.2 x = outAtIdx q k v cs sn (fun h => sinkOf i x7 h) (p.1.emb x) := by
  have ht : t.val < 8 := lt_of_lt_of_eq t.isLt trips_eq
  obtain ⟨Q, o, hi, hQ, ho, he⟩ := even_scores I ⟨t.val, ht⟩
  have hO := odd_good I t (od ⟨t.val, ht⟩) rfl
  have h4 : k0_off4 t = ![ks (od ⟨t.val, ht⟩).val, 0] := by
    rw [k0_off4_eq]; simp only [od, ks]
    rw [show 128 * (2 * t.val + 1 - 1) = 256 * t.val by omega]
  have h14 : k0_off14 t = ![ks (od ⟨t.val, ht⟩).val, 64] := by
    rw [k0_off14_eq]; simp only [od, ks]
    rw [show 128 * (2 * t.val + 1 - 1) = 256 * t.val by omega]
  intro p hp
  simp only at he
  rw [he] at hp
  simp only [tripPieces, List.mem_cons, List.not_mem_nil, or_false, oddScores] at hp
  have odd : ∀ (h : Fin 4) (o : Fin 3 → Nat) (hi : ∀ a, o a + S1x128x64.size a ≤ S1x2304x256.size a) (ho : o = ![0, 256 * t.val + 128, 64 * h.val]) (z : Fin 1) (r : Fin 128) (d : Fin 64),
      outAtIdx q k v cs sn (fun h => sinkOf i x7 h) ((Rect.unit (s := S1x2304x256) o S1x128x64.size hi).emb (ix3 z r d)) = latentAt q k v cs sn (sinkOf i x7 h) h (pos (od ⟨t.val, ht⟩) r) d := by
    intro h o hi ho z r d
    subst ho
    exact out_latent _ _ _ h d (by simp [pos, od]; omega) (by simp)
  have even : ∀ (h : Fin 4) (o : Fin 3 → Nat) (hi : ∀ a, o a + S1x128x64.size a ≤ S1x2304x256.size a) (ho : o = ![0, 256 * t.val, 64 * h.val]) (z : Fin 1) (r : Fin 128) (d : Fin 64),
      outAtIdx q k v cs sn (fun h => sinkOf i x7 h) ((Rect.unit (s := S1x2304x256) o S1x128x64.size hi).emb (ix3 z r d)) = latentAt q k v cs sn (sinkOf i x7 h) h (pos (ev ⟨t.val, ht⟩) r) d := by
    intro h o hi ho z r d
    subst ho
    exact out_latent _ _ _ h d (by simp [pos, ev]; omega) (by simp)
  rcases hp with rfl | rfl | rfl | rfl | rfl | rfl | rfl | rfl <;> intro x <;>
    obtain ⟨z, r, d, rfl⟩ : ∃ (z : Fin 1) (r : Fin 128) (d : Fin 64), x = ix3 z r d := ⟨x 0, x 1, x 2, eq_ix3 x⟩
  · exact (block_at I _ _ hO _ h4 _ _ h14 _ _ (odd_word t) _ 3 z r d).trans (odd 3 _ (k0_off18_inb t) (k0_off18_eq t) z r d).symm
  · exact (block_at I _ _ hO _ h4 _ _ h14 _ _ (odd_word t) _ 2 z r d).trans (odd 2 _ (k0_off17_inb t) (k0_off17_eq t) z r d).symm
  · exact (block_at I _ _ hO _ h4 _ _ h14 _ _ (odd_word t) _ 1 z r d).trans (odd 1 _ (k0_off16_inb t) (k0_off16_eq t) z r d).symm
  · exact (block_at I _ _ hO _ h4 _ _ h14 _ _ (odd_word t) _ 0 z r d).trans (odd 0 _ (k0_off15_inb t) (k0_off15_eq t) z r d).symm
  · exact (block_at I _ _ hQ _ ho _ _ (off5_eq t) _ _ (even_word t) _ 3 z r d).trans (even 3 _ (k0_off10_inb t) (k0_off10_eq t) z r d).symm
  · exact (block_at I _ _ hQ _ ho _ _ (off5_eq t) _ _ (even_word t) _ 2 z r d).trans (even 2 _ (k0_off9_inb t) (k0_off9_eq t) z r d).symm
  · exact (block_at I _ _ hQ _ ho _ _ (off5_eq t) _ _ (even_word t) _ 1 z r d).trans (even 1 _ (k0_off8_inb t) (k0_off8_eq t) z r d).symm
  · exact (block_at I _ _ hQ _ ho _ _ (off5_eq t) _ _ (even_word t) _ 0 z r d).trans (even 0 _ (k0_off7_inb t) (k0_off7_eq t) z r d).symm

/-- The loop's stores are right. -/
theorem loop_right (I : Inputs x0 x1 x2 x3 x4 x5 x6 q k v cs sn) (i : grid0.Coords) (n : Nat) :
    ∀ p ∈ loopPieces i x0 x1 x2 x3 x7 (kv x0 x4 x5 x6) n, ∀ x : p.1.shape.Idx, p.2 x = outAtIdx q k v cs sn (fun h => sinkOf i x7 h) (p.1.emb x) := by
  induction n with
  | zero => intro p hp; exact absurd hp List.not_mem_nil
  | succ n ih =>
    intro p hp
    rw [loopPieces, List.mem_append] at hp
    rcases hp with hp | hp
    · by_cases h : n < k0_t1_loop.trips
      · rw [dif_pos h] at hp
        exact trip_right x7 I i ⟨n, h⟩ p hp
      · rw [dif_neg h] at hp
        exact absurd hp List.not_mem_nil
    · exact ih p hp

/-- A grid point's result block is the specified attention. -/
theorem Out_at (I : Inputs x0 x1 x2 x3 x4 x5 x6 q k v cs sn) (i : grid0.Coords) (y : S1x2304x256.Idx) :
    Out i x0 x1 x2 x3 x4 x5 x6 x7 y = outAtIdx q k v cs sn (fun h => sinkOf i x7 h) y := by
  refine View.canon_apply_of_pieces (Val := Elt Ideal) (outAtIdx q k v cs sn (fun h => sinkOf i x7 h)) _ ?_ y (out_cover i x0 x1 x2 x3 x4 x5 x6 x7 y)
  intro p hp
  simp only [outPieces, List.mem_cons] at hp
  rcases hp with rfl | rfl | rfl | rfl | hp
  · intro x
    obtain ⟨z, r, d, rfl⟩ : ∃ (z : Fin 1) (r : Fin 256) (d : Fin 64), x = ix3 z r d := ⟨x 0, x 1, x 2, eq_ix3 x⟩
    exact (context_at I _ 3 z r d).trans (out_context (fun h => sinkOf i x7 h) _ r 3 d (by simp) (by simp)).symm
  · intro x
    obtain ⟨z, r, d, rfl⟩ : ∃ (z : Fin 1) (r : Fin 256) (d : Fin 64), x = ix3 z r d := ⟨x 0, x 1, x 2, eq_ix3 x⟩
    exact (context_at I _ 2 z r d).trans (out_context (fun h => sinkOf i x7 h) _ r 2 d (by simp) (by simp)).symm
  · intro x
    obtain ⟨z, r, d, rfl⟩ : ∃ (z : Fin 1) (r : Fin 256) (d : Fin 64), x = ix3 z r d := ⟨x 0, x 1, x 2, eq_ix3 x⟩
    exact (context_at I _ 1 z r d).trans (out_context (fun h => sinkOf i x7 h) _ r 1 d (by simp) (by simp)).symm
  · intro x
    obtain ⟨z, r, d, rfl⟩ : ∃ (z : Fin 1) (r : Fin 256) (d : Fin 64), x = ix3 z r d := ⟨x 0, x 1, x 2, eq_ix3 x⟩
    exact (context_at I _ 0 z r d).trans (out_context (fun h => sinkOf i x7 h) _ r 0 d (by simp) (by simp)).symm
  · exact loop_right x7 I i _ p hp

end Words

end Cert.SwaIdeal.Blocks

end
-- ==== Proof.SwaHost.lean ====
module

public import proofs.«01_k».proof.Proof.SwaOut
public import Idealize.ShloMosaic.Lib.StableHlo.ReadAt
public import Idealize.ShloMosaic.Lib.Pointwise

/-! The arrays the attention's region is launched over, entry by entry, from the arguments: queries, keys and values of a batch
    entry's latent rows then its context rows, and the rotation tables. -/

@[expose] public section

set_option maxRecDepth 16384

noncomputable section

namespace Cert.SwaIdeal.Blocks

open Cert.SwaIdeal Cert.SwaIdeal.Gen Idealize.ShloMosaic Idealize.ShloMosaic.TcCoe Idealize.SL.Sem

variable (m : (ℓ : Loc nD τ sig) → Buf (Elt Ideal) ℓ) (c : Dev nD)

/-- The context queries. -/
abbrev qc : S8x256x4x4x64.Idx → EReal := m ((c : Thread nD τ).loc main_arg0)
/-- The context keys. -/
abbrev kc : S8x256x4x64.Idx → EReal := m ((c : Thread nD τ).loc main_arg1)
/-- The context values. -/
abbrev vc : S8x256x4x64.Idx → EReal := m ((c : Thread nD τ).loc main_arg2)
/-- The latent queries. -/
abbrev ql : S8x2048x4x4x64.Idx → EReal := m ((c : Thread nD τ).loc main_arg3)
/-- The latent keys. -/
abbrev kl : S8x2048x4x64.Idx → EReal := m ((c : Thread nD τ).loc main_arg4)
/-- The latent values. -/
abbrev vl : S8x2048x4x64.Idx → EReal := m ((c : Thread nD τ).loc main_arg5)
/-- The cosine table. -/
abbrev cosT : S2048x32.Idx → EReal := m ((c : Thread nD τ).loc main_arg6)
/-- The sine table. -/
abbrev sinT : S2048x32.Idx → EReal := m ((c : Thread nD τ).loc main_arg7)
/-- The sink logits. -/
abbrev sink : S16.Idx → EReal := m ((c : Thread nD τ).loc main_arg8)

/-- The query of head `h` of group `g` at a row: a latent row, or after those a context row. -/
def qAt (b : Fin 8) (g : Fin 4) (h : Fin 4) (row : Fin 2304) (d : Fin 64) : EReal :=
  if hr : row.val < 2048 then ql m c (ix5 b ⟨row.val, hr⟩ g h d) else qc m c (ix5 b ⟨row.val - 2048, by omega⟩ g h d)

/-- The key of group `g` at a row. -/
def kAt (b : Fin 8) (g : Fin 4) (row : Fin 2304) (d : Fin 64) : EReal :=
  if hr : row.val < 2048 then kl m c (ix4 b ⟨row.val, hr⟩ g d) else kc m c (ix4 b ⟨row.val - 2048, by omega⟩ g d)

/-- The value of group `g` at a row. -/
def vAt (b : Fin 8) (g : Fin 4) (row : Fin 2304) (d : Fin 64) : EReal :=
  if hr : row.val < 2048 then vl m c (ix4 b ⟨row.val, hr⟩ g d) else vc m c (ix4 b ⟨row.val - 2048, by omega⟩ g d)

/-! ## The tables -/

/-- The cosine table laid out for four heads of queries. -/
abbrev cosW : S2048x256.Idx → EReal := V m c main_v14
/-- The sine table of the first halves, for four heads. -/
abbrev sinMW : S2048x256.Idx → EReal := V m c main_v15
/-- The sine table of the second halves, for four heads. -/
abbrev sinPW : S2048x256.Idx → EReal := V m c main_v16
/-- The cosine table laid out for a key and a value. -/
abbrev cosK : S2048x128.Idx → EReal := V m c main_v17
/-- The sine table of the first halves, for a key and a value. -/
abbrev sinMK : S2048x128.Idx → EReal := V m c main_v18
/-- The sine table of the second halves, for a key and a value. -/
abbrev sinPK : S2048x128.Idx → EReal := V m c main_v19
/-- The queries, keys and values laid out by groups. -/
abbrev qkv : S8x2304x1536.Idx → EReal := V m c main_v6

/-- A table entry depends on its column's number alone. -/
theorem entry_congr (f : S2048x32.Idx → EReal) (r : Fin 2048) {a b : Nat} (ha : a < 32) (hb : b < 32) (h : a = b) : f (ix2 r ⟨a, ha⟩) = f (ix2 r ⟨b, hb⟩) := by
  subst h
  rfl

/-- A head's columns of the cosine table. -/
theorem cosW_at (r : Fin 2048) (h : Fin 4) (d : Fin 64) : cosW m c (ix2 r (col h d)) = tabC (fun x => cosT m c (ix2 r x)) d := by
  unfold cosW V tabC
  after_reads_at
  after_reads_at
  have hc : (col h d).val = 64 * h.val + d.val := rfl
  by_cases hd : d.val < 32 <;> simp only [hd, dif_pos, dif_neg, not_false_eq_true] <;>
    split_ifs <;> first | omega | exact entry_congr (cosT m c) r _ _ (by omega)

/-- A head's columns of the first sine table. -/
theorem sinMW_at (r : Fin 2048) (h : Fin 4) (d : Fin 64) : sinMW m c (ix2 r (col h d)) = tabM (fun x => sinT m c (ix2 r x)) d := by
  unfold sinMW V tabM
  after_reads_at
  after_reads_at
  have hc : (col h d).val = 64 * h.val + d.val := rfl
  by_cases hd : d.val < 32 <;> simp only [hd, dif_pos, dif_neg, not_false_eq_true] <;>
    split_ifs <;> first | omega | rfl | exact congrArg (fun x : EReal => -x) (entry_congr (sinT m c) r _ _ (by omega))

/-- A head's columns of the second sine table. -/
theorem sinPW_at (r : Fin 2048) (h : Fin 4) (d : Fin 64) : sinPW m c (ix2 r (col h d)) = tabP (fun x => sinT m c (ix2 r x)) d := by
  unfold sinPW V tabP
  after_reads_at
  after_reads_at
  have hc : (col h d).val = 64 * h.val + d.val := rfl
  by_cases hd : d.val < 32 <;> simp only [hd, if_true, if_false] <;>
    split_ifs <;> first | omega | rfl | exact entry_congr (sinT m c) r _ _ (by omega)

/-- The key's columns of the cosine table. -/
theorem cosK_lo (r : Fin 2048) (d : Fin 64) : cosK m c (ix2 r (lo d)) = tabC (fun x => cosT m c (ix2 r x)) d := by
  unfold cosK V tabC
  after_reads_at
  after_reads_at
  have hc : (lo d).val = d.val := rfl
  by_cases hd : d.val < 32 <;> simp only [hd, dif_pos, dif_neg, not_false_eq_true] <;>
    split_ifs <;> first | omega | exact entry_congr (cosT m c) r _ _ (by omega)

/-- The key's columns of the first sine table. -/
theorem sinMK_lo (r : Fin 2048) (d : Fin 64) : sinMK m c (ix2 r (lo d)) = tabM (fun x => sinT m c (ix2 r x)) d := by
  unfold sinMK V tabM
  after_reads_at
  after_reads_at
  have hc : (lo d).val = d.val := rfl
  by_cases hd : d.val < 32 <;> simp only [hd, dif_pos, dif_neg, not_false_eq_true] <;>
    split_ifs <;> first | omega | rfl

/-- The key's columns of the second sine table. -/
theorem sinPK_lo (r : Fin 2048) (d : Fin 64) : sinPK m c (ix2 r (lo d)) = tabP (fun x => sinT m c (ix2 r x)) d := by
  unfold sinPK V tabP
  after_reads_at
  after_reads_at
  have hc : (lo d).val = d.val := rfl
  by_cases hd : d.val < 32 <;> simp only [hd, if_true, if_false] <;>
    split_ifs <;> first | omega | rfl

/-- The value's columns of the cosine table are ones. -/
theorem cosK_hi (r : Fin 2048) (d : Fin 64) : cosK m c (ix2 r (hi d)) = 1 := by
  unfold cosK V
  after_reads_at
  exact dif_neg (by simp [hi])

/-- The value's columns of the first sine table are zeros. -/
theorem sinMK_hi (r : Fin 2048) (d : Fin 64) : sinMK m c (ix2 r (hi d)) = 0 := by
  unfold sinMK V
  after_reads_at
  exact dif_neg (by simp [hi])

/-- The value's columns of the second sine table are zeros. -/
theorem sinPK_hi (r : Fin 2048) (d : Fin 64) : sinPK m c (ix2 r (hi d)) = 0 := by
  unfold sinPK V
  after_reads_at
  exact dif_neg (by simp [hi])

/-! ## The rows -/

/-- A group's query columns. -/
theorem qkv_q (b : Fin 8) (row : Fin 2304) (g h : Fin 4) (d : Fin 64) :
    qkv m c (ix3 b row ⟨384 * g.val + (64 * h.val + d.val), by omega⟩) = qAt m c b g h row d := by
  unfold qkv V qAt
  after_reads_at
  after_reads_at
  have e1 : (384 * g.val + (64 * h.val + d.val)) / 384 = g.val := by omega
  rw [dif_pos (by omega)]
  simp only [e1, Fin.eta]
  rfl

/-- A group's key columns. -/
theorem qkv_k (b : Fin 8) (row : Fin 2304) (g : Fin 4) (d : Fin 64) :
    qkv m c (ix3 b row ⟨384 * g.val + (256 + d.val), by omega⟩) = kAt m c b g row d := by
  unfold qkv V kAt
  after_reads_at
  after_reads_at
  have e1 : (384 * g.val + (256 + d.val)) / 384 = g.val := by omega
  have e2 : (384 * g.val + (256 + d.val)) % 384 - 256 = d.val := by omega
  rw [dif_neg (by omega), dif_pos (by omega)]
  simp only [e1, e2, Fin.eta]

/-- A group's value columns. -/
theorem qkv_v (b : Fin 8) (row : Fin 2304) (g : Fin 4) (d : Fin 64) :
    qkv m c (ix3 b row ⟨384 * g.val + (320 + d.val), by omega⟩) = vAt m c b g row d := by
  unfold qkv V vAt
  after_reads_at
  after_reads_at
  have e1 : (384 * g.val + (320 + d.val)) / 384 = g.val := by omega
  have e2 : (384 * g.val + (320 + d.val)) % 384 - 256 - 64 = d.val := by omega
  rw [dif_neg (by omega), dif_neg (by omega)]
  simp only [e1, e2, Fin.eta]

end Cert.SwaIdeal.Blocks

end
-- ==== Proof.SwaArray.lean ====
module

public import proofs.«01_k».proof.Proof.SwaHost
public import proofs.«01_k».proof.Proof.SwaRun
public import Idealize.ShloMosaic.Lib.Pipeline.Value

/-! The attention kernel's result array after its run, entry by entry: the specified attention of every batch entry's heads. -/

@[expose] public section

set_option maxRecDepth 16384

noncomputable section

namespace Cert.SwaIdeal.Blocks

open Cert.SwaIdeal Cert.SwaIdeal.Gen Idealize.ShloMosaic Idealize.ShloMosaic.TcCoe Idealize.SL.Sem

variable (m : (ℓ : Loc nD τ sig) → Buf (Elt Ideal) ℓ) (c : Dev nD)

/-! ## The blocks of a grid point -/

/-- Where the blocks of grid point `t` lie: batch entry `t / 4`, group `t % 4`; the tables and the sink logits are whole. -/
theorem index_of : ∀ t : Fin cfg0.N, win0_0.index t = ![t.val / 4, 0, t.val % 4] ∧ win0_1.index t = ![0, 0] ∧ win0_2.index t = ![0, 0] ∧ win0_3.index t = ![0, 0]
    ∧ win0_4.index t = ![0, 0] ∧ win0_5.index t = ![0, 0] ∧ win0_6.index t = ![0, 0] ∧ win0_7.index t = ![0] ∧ win0_8.index t = ![t.val / 4, 0, t.val % 4]
    ∧ (grid0.coords t 1).val = t.val % 4 :=
  (by decide +kernel : ∀ t : Fin grid0.N, _)

variable (t : Fin cfg0.N)

/-- The cosine table of the queries is one block. -/
theorem blk1 : (iblk m c 1 t : S2048x256.Idx → EReal) = cosW m c := by
  obtain ⟨-, hi, -⟩ := index_of t
  funext x
  unfold iblk
  rw [View.read_apply]
  refine (cast_eq _ _).trans (congrArg (cosW m c) (funext fun a => Fin.ext ?_))
  match a with
  | ⟨0, _⟩ => show win0_1.index t 0 * 2048 + 1 * (x 0).val = (x 0).val; rw [hi]; show 0 * 2048 + _ = _; omega
  | ⟨1, _⟩ => show win0_1.index t 1 * 256 + 1 * (x 1).val = (x 1).val; rw [hi]; show 0 * 256 + _ = _; omega

/-- So is the minus sine table of the queries. -/
theorem blk2 : (iblk m c 2 t : S2048x256.Idx → EReal) = sinMW m c := by
  obtain ⟨-, -, hi, -⟩ := index_of t
  funext x
  unfold iblk
  rw [View.read_apply]
  refine (cast_eq _ _).trans (congrArg (sinMW m c) (funext fun a => Fin.ext ?_))
  match a with
  | ⟨0, _⟩ => show win0_2.index t 0 * 2048 + 1 * (x 0).val = (x 0).val; rw [hi]; show 0 * 2048 + _ = _; omega
  | ⟨1, _⟩ => show win0_2.index t 1 * 256 + 1 * (x 1).val = (x 1).val; rw [hi]; show 0 * 256 + _ = _; omega

/-- The plus sine table of the queries. -/
theorem blk3 : (iblk m c 3 t : S2048x256.Idx → EReal) = sinPW m c := by
  obtain ⟨-, -, -, hi, -⟩ := index_of t
  funext x
  unfold iblk
  rw [View.read_apply]
  refine (cast_eq _ _).trans (congrArg (sinPW m c) (funext fun a => Fin.ext ?_))
  match a with
  | ⟨0, _⟩ => show win0_3.index t 0 * 2048 + 1 * (x 0).val = (x 0).val; rw [hi]; show 0 * 2048 + _ = _; omega
  | ⟨1, _⟩ => show win0_3.index t 1 * 256 + 1 * (x 1).val = (x 1).val; rw [hi]; show 0 * 256 + _ = _; omega

/-- The cosine table of the keys. -/
theorem blk4 : (iblk m c 4 t : S2048x128.Idx → EReal) = cosK m c := by
  obtain ⟨-, -, -, -, hi, -⟩ := index_of t
  funext x
  unfold iblk
  rw [View.read_apply]
  refine (cast_eq _ _).trans (congrArg (cosK m c) (funext fun a => Fin.ext ?_))
  match a with
  | ⟨0, _⟩ => show win0_4.index t 0 * 2048 + 1 * (x 0).val = (x 0).val; rw [hi]; show 0 * 2048 + _ = _; omega
  | ⟨1, _⟩ => show win0_4.index t 1 * 128 + 1 * (x 1).val = (x 1).val; rw [hi]; show 0 * 128 + _ = _; omega

/-- The minus sine table of the keys. -/
theorem blk5 : (iblk m c 5 t : S2048x128.Idx → EReal) = sinMK m c := by
  obtain ⟨-, -, -, -, -, hi, -⟩ := index_of t
  funext x
  unfold iblk
  rw [View.read_apply]
  refine (cast_eq _ _).trans (congrArg (sinMK m c) (funext fun a => Fin.ext ?_))
  match a with
  | ⟨0, _⟩ => show win0_5.index t 0 * 2048 + 1 * (x 0).val = (x 0).val; rw [hi]; show 0 * 2048 + _ = _; omega
  | ⟨1, _⟩ => show win0_5.index t 1 * 128 + 1 * (x 1).val = (x 1).val; rw [hi]; show 0 * 128 + _ = _; omega

/-- The plus sine table of the keys. -/
theorem blk6 : (iblk m c 6 t : S2048x128.Idx → EReal) = sinPK m c := by
  obtain ⟨-, -, -, -, -, -, hi, -⟩ := index_of t
  funext x
  unfold iblk
  rw [View.read_apply]
  refine (cast_eq _ _).trans (congrArg (sinPK m c) (funext fun a => Fin.ext ?_))
  match a with
  | ⟨0, _⟩ => show win0_6.index t 0 * 2048 + 1 * (x 0).val = (x 0).val; rw [hi]; show 0 * 2048 + _ = _; omega
  | ⟨1, _⟩ => show win0_6.index t 1 * 128 + 1 * (x 1).val = (x 1).val; rw [hi]; show 0 * 128 + _ = _; omega

/-- The sink logits as the region finds them. -/
abbrev sinkW : S16.Idx → EReal := V m c main_arg8

/-- The whole window's place of an entry is the entry's own. -/
theorem blk7_coord (x : S16.Idx) : ((((cfg0.win 7).blk t).view.emb x : S16.Idx) 0).val = (x 0).val := by
  obtain ⟨-, -, -, -, -, -, -, hi, -⟩ := index_of t
  show win0_7.index t 0 * 16 + 1 * (x 0).val = (x 0).val; rw [hi]; show 0 * 16 + _ = _; omega

/-- The sink block lies at the start of its array. -/
theorem blk7_place (x : S16.Idx) : (((cfg0.win 7).blk t).view.emb x : S16.Idx) = x := by
  funext a
  match a with
  | ⟨0, _⟩ => exact Fin.ext (blk7_coord t x)

/-- The sink block is the whole array. -/
theorem blk7 (x : S16.Idx) : (iblk m c 7 t : S16.Idx → EReal) x = sinkW m c x := by
  unfold iblk
  rw [View.read_apply]
  refine (cast_eq _ _).trans ?_
  rw [blk7_place]

/-- The array the sink window reads is the ninth argument. -/
theorem sinkW_eq : sinkW m c = sink m c := V_main_arg8 m c

/-- A grid point's block of queries, keys and values: its batch entry's rows and its group's 384 columns. -/
theorem blk0 (b : Fin 8) (g : Fin 4) (hb : t.val / 4 = b.val) (hg : t.val % 4 = g.val) (z : Fin 1) (row : Fin 2304) (e : Fin 384) :
    (iblk m c 0 t : S1x2304x384.Idx → EReal) (ix3 z row e) = qkv m c (ix3 b row ⟨384 * g.val + e.val, by omega⟩) := by
  obtain ⟨hi, -⟩ := index_of t
  unfold iblk
  rw [View.read_apply]
  refine (cast_eq _ _).trans (congrArg (qkv m c) (funext fun a => Fin.ext ?_))
  match a with
  | ⟨0, _⟩ => show win0_0.index t 0 * 1 + 1 * z.val = b.val; rw [hi]; show t.val / 4 * 1 + _ = _; omega
  | ⟨1, _⟩ => show win0_0.index t 1 * 2304 + 1 * row.val = row.val; rw [hi]; show 0 * 2304 + _ = _; omega
  | ⟨2, _⟩ => show win0_0.index t 2 * 384 + 1 * e.val = 384 * g.val + e.val; rw [hi]; show t.val % 4 * 384 + _ = _; omega

/-- The input blocks of a grid point hold its batch entry's and group's rows and the tables. -/
theorem inputs (b : Fin 8) (g : Fin 4) (hb : t.val / 4 = b.val) (hg : t.val % 4 = g.val) :
    Inputs (iblk m c 0 t) (iblk m c 1 t) (iblk m c 2 t) (iblk m c 3 t) (iblk m c 4 t) (iblk m c 5 t) (iblk m c 6 t)
      (qAt m c b g) (kAt m c b g) (vAt m c b g) (fun r x => cosT m c (ix2 r x)) (fun r x => sinT m c (ix2 r x)) where
  hq h row d := (blk0 m c t b g hb hg 0 row _).trans (qkv_q m c b row g h d)
  hk row d := (blk0 m c t b g hb hg 0 row _).trans (qkv_k m c b row g d)
  hv row d := (blk0 m c t b g hb hg 0 row _).trans (qkv_v m c b row g d)
  h1 r h d := (congrFun (blk1 m c t) _).trans (cosW_at m c r h d)
  h2 r h d := (congrFun (blk2 m c t) _).trans (sinMW_at m c r h d)
  h3 r h d := (congrFun (blk3 m c t) _).trans (sinPW_at m c r h d)
  h4 r d := (congrFun (blk4 m c t) _).trans (cosK_lo m c r d)
  h4' r d := (congrFun (blk4 m c t) _).trans (cosK_hi m c r d)
  h5 r d := (congrFun (blk5 m c t) _).trans (sinMK_lo m c r d)
  h5' r d := (congrFun (blk5 m c t) _).trans (sinMK_hi m c r d)
  h6 r d := (congrFun (blk6 m c t) _).trans (sinPK_lo m c r d)
  h6' r d := (congrFun (blk6 m c t) _).trans (sinPK_hi m c r d)

/-! ## The result array -/

/-- The sink logits of a group's heads. -/
def sinkAt (g h : Fin 4) : EReal := sink m c (ix1 ⟨4 * g.val + h.val, by omega⟩)

/-- What the result array ends holding: at batch entry `b`, row and column, the specified output of the column's group and head. -/
def G8 : S8x2304x1024.Idx → EReal := fun i =>
  have h2 : (i 2).val < 1024 := (i 2).isLt
  outAtIdx (qAt m c (i 0) ⟨(i 2).val / 256, by omega⟩) (kAt m c (i 0) ⟨(i 2).val / 256, by omega⟩) (vAt m c (i 0) ⟨(i 2).val / 256, by omega⟩)
    (fun r x => cosT m c (ix2 r x)) (fun r x => sinT m c (ix2 r x)) (sinkAt m c ⟨(i 2).val / 256, by omega⟩) (ix3 0 (i 1) ⟨(i 2).val % 256, by omega⟩)

/-- What a grid point leaves in its result block. -/
theorem outAt_eq (b : Fin 8) (g : Fin 4) (hb : t.val / 4 = b.val) (hg : t.val % 4 = g.val) (y : S1x2304x256.Idx) :
    outAt m c t y = outAtIdx (qAt m c b g) (kAt m c b g) (vAt m c b g) (fun r x => cosT m c (ix2 r x)) (fun r x => sinT m c (ix2 r x)) (sinkAt m c g) y := by
  unfold outAt
  rw [Out_at _ (inputs m c t b g hb hg)]
  refine congrArg (fun σ => outAtIdx _ _ _ _ _ σ y) (funext fun h => ?_)
  rw [sink_at]
  refine ((blk7 m c t _).trans (congrFun (sinkW_eq m c) _)).trans (congrArg (sink m c) (congrArg ix1 (Fin.ext ?_)))
  have := (index_of t).2.2.2.2.2.2.2.2.2
  show 4 * (grid0.coords t 1).val + h.val = 4 * g.val + h.val
  omega

/-- The launch's data for the result window is the point's result block. -/
theorem after8 : (data m 0 c).after 8 t = outAt m c t := by
  dsimp only [data]

/-- What a point writes back is its block of the array. -/
theorem flushed8_eq : (data m 0 c).flushed 8 t = ((cfg0.win 8).blk t).view.read (Elt Ideal) (G8 m c) := by
  have hN : t.val < 32 := lt_of_lt_of_eq t.isLt N_0
  obtain ⟨-, -, -, -, -, -, -, -, hi, -⟩ := index_of t
  show (cfg0.win 8).cut (grid0.coords t) ((data m 0 c).after 8 t) = _
  rw [after8]
  funext y
  have hy0 : (y 0).val < 1 := (y 0).isLt
  have hy1 : (y 1).val < 2304 := (y 1).isLt
  have hy2 : (y 2).val < 256 := (y 2).isLt
  show outAt m c t ((cfg0.win 8).xinj (grid0.coords t) y) = G8 m c (((cfg0.win 8).blk t).view.emb y)
  have hb0 : (((cfg0.win 8).blk t).view.emb y 0).val = t.val / 4 := by
    show win0_8.index t 0 * 1 + 1 * (y 0).val = _
    rw [hi]; show t.val / 4 * 1 + _ = _; omega
  have hb1 : (((cfg0.win 8).blk t).view.emb y 1).val = (y 1).val := by
    show win0_8.index t 1 * 2304 + 1 * (y 1).val = _
    rw [hi]; show 0 * 2304 + _ = _; omega
  have hb2 : (((cfg0.win 8).blk t).view.emb y 2).val = t.val % 4 * 256 + (y 2).val := by
    show win0_8.index t 2 * 256 + 1 * (y 2).val = _
    rw [hi]; show t.val % 4 * 256 + _ = _; omega
  generalize ((cfg0.win 8).blk t).view.emb y = i at hb0 hb1 hb2
  rw [outAt_eq m c t ⟨t.val / 4, by omega⟩ ⟨t.val % 4, by omega⟩ rfl rfl]
  have e0 : (i 0 : Fin 8) = ⟨t.val / 4, by omega⟩ := Fin.ext hb0
  have e1 : (i 2).val / 256 = t.val % 4 := by omega
  unfold G8
  simp only [e0, e1]
  refine congrArg (outAtIdx _ _ _ _ _ _) (funext fun a => Fin.ext ?_)
  match a with
  | ⟨0, _⟩ => show (y 0).val = 0; omega
  | ⟨1, _⟩ => exact hb1.symm
  | ⟨2, _⟩ => show (y 2).val = (i 2).val % 256; omega

/-- An index is in a point's block where each coordinate is in the block's range. -/
theorem mem_blk8 (i : S8x2304x1024.Idx) :
    i ∈ ((cfg0.win 8).blk t).view.set ↔ ∀ a : Fin 3, win0_8.index t a * S1x2304x256.size a ≤ (i a).val ∧ (i a).val < win0_8.index t a * S1x2304x256.size a + S1x2304x256.size a := by
  show i ∈ ((View.whole main_v20).slice (win0_8.rect t)).set ↔ _
  rw [View.set_slice_whole, Rect.mem_set_unit]
  exact Iff.rfl

/-- The result array after the run. -/
theorem final8 : (data m 0 c).arrAt 8 cfg0.N = G8 m c :=
  (data m 0 c).arrAt_eq_of_cover 8 _ (fun t _ => flushed8_eq m c t) (fun i => by
    have h0 : (i 0).val < 8 := (i 0).isLt
    have h1 : (i 1).val < 2304 := (i 1).isLt
    have h2 : (i 2).val < 1024 := (i 2).isLt
    refine ⟨⟨4 * (i 0).val + (i 2).val / 256, lt_of_lt_of_eq (by omega) N_0.symm⟩, flush0_8 _, ?_⟩
    obtain ⟨-, -, -, -, -, -, -, -, hi, -⟩ := index_of ⟨4 * (i 0).val + (i 2).val / 256, lt_of_lt_of_eq (by omega) N_0.symm⟩
    refine (mem_blk8 _ i).2 fun a => ?_
    match a with
    | ⟨0, _⟩ => show win0_8.index _ 0 * 1 ≤ (i 0).val ∧ (i 0).val < win0_8.index _ 0 * 1 + 1; rw [hi]; show (4 * (i 0).val + (i 2).val / 256) / 4 * 1 ≤ _ ∧ _ < (4 * (i 0).val + (i 2).val / 256) / 4 * 1 + 1; omega
    | ⟨1, _⟩ => show win0_8.index _ 1 * 2304 ≤ (i 1).val ∧ (i 1).val < win0_8.index _ 1 * 2304 + 2304; rw [hi]; show 0 * 2304 ≤ _ ∧ _ < 0 * 2304 + 2304; omega
    | ⟨2, _⟩ => show win0_8.index _ 2 * 256 ≤ (i 2).val ∧ (i 2).val < win0_8.index _ 2 * 256 + 256; rw [hi]; show (4 * (i 0).val + (i 2).val / 256) % 4 * 256 ≤ _ ∧ _ < (4 * (i 0).val + (i 2).val / 256) % 4 * 256 + 256; omega)

/-- Every run ends with the result array at the specified attention and the nine arguments as they were. -/
theorem run_value (ρ : Dev nD → PrngReg) : θ_run defs (onTc (τ := τ) (main (F := Ideal))) ⟨m, fun _ => 0, ρ⟩ (fun r => ∀ c : Dev nD,
      r.2.mem ((c.tc : Thread nD τ).loc main_v20) = G8 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨((h.2.1 c).1 8).trans (final8 m c), h.1.1 c⟩) (θ_run_and (args_kept m ρ) (run_all m ρ))

end Cert.SwaIdeal.Blocks

end
-- ==== Proof.SwaRef.lean ====
module

public import proofs.«01_k».proof.Proof.SwaScores
public import proofs.«01_k».proof.Proof.Gen.SwaRefIdeal.Read
public import Idealize.ShloMosaic.Lib.Pointwise

/-! The reference attention's stages, entry by entry: the rotated rows, the scores, the row of scores with the sink logit, its
    softmax and the weighted values. -/

@[expose] public section

set_option maxRecDepth 16384

noncomputable section

namespace Cert.SwaRefIdeal.At

open Cert.SwaRefIdeal Cert.SwaRefIdeal.Read Idealize.ShloMosaic

variable (x0 : S8x256x4x4x64.Idx → EReal) (x1 x2 : S8x256x4x64.Idx → EReal) (x3 : S8x2048x4x4x64.Idx → EReal) (x4 x5 : S8x2048x4x64.Idx → EReal)
  (x6 x7 : S2048x32.Idx → EReal) (x8 : S16.Idx → EReal)

/-! ## The rotated rows -/

/-- The rotated query of a sequence row. -/
def q (b : Fin 8) (L : Fin 2048) (g h : Fin 4) : Fin 64 → EReal := Swa.rope (fun e => x6 (ix2 L e)) (fun e => x7 (ix2 L e)) (fun e => x3 (ix5 b L g h e))

/-- The rotated key of a sequence row. -/
def k (b : Fin 8) (L : Fin 2048) (g : Fin 4) : Fin 64 → EReal := Swa.rope (fun e => x6 (ix2 L e)) (fun e => x7 (ix2 L e)) (fun e => x4 (ix4 b L g e))

/-- The rotated queries. -/
theorem v14_at (b : Fin 8) (L : Fin 2048) (g h : Fin 4) (d : Fin 64) : val_main_v14 (F := Ideal) x3 x6 x7 (ix5 b L g h d) = q x3 x6 x7 b L g h d := by
  unfold q Swa.rope
  pointwise [val_main_v14, val_main_v13, val_main_v12, val_main_v11, val_main_v10, val_main_v9, val_main_v8, val_main_v7, val_main_v6, val_main_v5, val_main_v4, val_main_v3, val_main_v2, val_main_v1, val_main_v0]
  split
  · simp only [add_comm 32]
  · have e : 32 + (d.val - 32) = d.val := by omega
    simp only [e, Fin.eta]

/-- The rotated keys. -/
theorem v29_at (b : Fin 8) (L : Fin 2048) (g : Fin 4) (d : Fin 64) : val_main_v29 (F := Ideal) x4 x6 x7 (ix4 b L g d) = k x4 x6 x7 b L g d := by
  unfold k Swa.rope
  pointwise [val_main_v29, val_main_v28, val_main_v27, val_main_v26, val_main_v25, val_main_v24, val_main_v23, val_main_v22, val_main_v21, val_main_v20, val_main_v19, val_main_v18, val_main_v17, val_main_v16, val_main_v15]
  split
  · simp only [add_comm 32]
  · have e : 32 + (d.val - 32) = d.val := by omega
    simp only [e, Fin.eta]

/-! ## The scores -/

/-- The scores against the context. -/
theorem v39_at (b : Fin 8) (g h : Fin 4) (L : Fin 2048) (j : Fin 256) :
    val_main_v39 (F := Ideal) x1 x3 x6 x7 (ix5 b g h L j) = Swa.score (q x3 x6 x7 b L g h) (fun d => x1 (ix4 b j g d)) := by
  pointwise [val_main_v39, val_main_v38, val_main_v37, val_main_v36, val_main_cst]
  simp only [v14_at]
  exact congrArg (· * Swa.scale) (Finset.sum_congr rfl fun _ _ => mul_comm _ _)

/-- The scores against the sequence. -/
theorem v43_at (b : Fin 8) (g h : Fin 4) (L j : Fin 2048) :
    val_main_v43 (F := Ideal) x3 x4 x6 x7 (ix5 b g h L j) = Swa.score (q x3 x6 x7 b L g h) (k x4 x6 x7 b j g) := by
  pointwise [val_main_v43, val_main_v42, val_main_v41, val_main_v40, val_main_cst_0]
  simp only [v14_at, v29_at]
  exact congrArg (· * Swa.scale) (Finset.sum_congr rfl fun _ _ => mul_comm _ _)

/-- The band of positions within the window. -/
theorem v35_at (i j : Fin 2048) : val_main_v35 (F := Ideal) (ix2 i j) = BitVec.ofBool (decide (Swa.near i j)) := by
  pointwise [val_main_v35, val_main_v34, val_main_v33, val_main_v32, val_main_v31, val_main_v30, val_main_c]
  exact Cert.SwaIdeal.Blocks.near_bit i j (by omega) (by omega)

/-- The scores outside the band are minus infinity. -/
theorem v44_at (b : Fin 8) (g h : Fin 4) (L j : Fin 2048) :
    val_main_v44 (F := Ideal) x3 x4 x6 x7 (ix5 b g h L j) = if Swa.near L j then Swa.score (q x3 x6 x7 b L g h) (k x4 x6 x7 b j g) else ⊥ := by
  pointwise [val_main_v44, val_main_call0_v2, val_main_call0_v1, val_main_call0_v0, val_main_cst_1]
  rw [v35_at, v43_at, show id (constant (F := Ideal) S_ FTy.f32 4286578688#32) ix0 = ⊥ from Swa.seed_eq]
  by_cases hn : Swa.near L j
  · simp only [hn, decide_true, if_true]; rfl
  · simp only [hn, decide_false, if_false]; rfl

/-- The context scores stand before the sequence scores. -/
theorem v45_at (b : Fin 8) (g h : Fin 4) (L : Fin 2048) (j : Fin 2304) :
    val_main_v45 (F := Ideal) x1 x3 x4 x6 x7 (ix5 b g h L j) = if hj : j.val < 256 then val_main_v39 (F := Ideal) x1 x3 x6 x7 (ix5 b g h L ⟨j.val, hj⟩)
      else val_main_v44 (F := Ideal) x3 x4 x6 x7 (ix5 b g h L ⟨j.val - 256, by omega⟩) := by
  pointwise [val_main_v45]

/-- The sink column holds the head's sink logit. -/
theorem v47_at (b : Fin 8) (g h : Fin 4) (L : Fin 2048) (z : Fin 1) : val_main_v47 (F := Ideal) x8 (ix5 b g h L z) = x8 (ix1 ⟨4 * g.val + h.val, by omega⟩) := by
  pointwise [val_main_v47, val_main_v46]
  simp only [mul_comm]

/-- The sink column stands last. -/
theorem v48_at (b : Fin 8) (g h : Fin 4) (L : Fin 2048) (j : Fin 2305) :
    val_main_v48 (F := Ideal) x1 x3 x4 x6 x7 x8 (ix5 b g h L j) = if hj : j.val < 2304 then val_main_v45 (F := Ideal) x1 x3 x4 x6 x7 (ix5 b g h L ⟨j.val, hj⟩)
      else val_main_v47 (F := Ideal) x8 (ix5 b g h L 0) := by
  pointwise [val_main_v48]
  split
  · rfl
  · exact congrArg (fun z => val_main_v47 (F := Ideal) x8 (ix5 b g h L z)) (Subsingleton.elim _ _)
/-! ## The softmax -/

/-- The row of scores of a sequence query: the context, the sequence, and last the sink. -/
def S (b : Fin 8) (g h : Fin 4) (L : Fin 2048) (j : Fin 2305) : EReal := val_main_v48 (F := Ideal) x1 x3 x4 x6 x7 x8 (ix5 b g h L j)

/-- The maximum of a row of scores. -/
theorem v49_at (b : Fin 8) (g h : Fin 4) (L : Fin 2048) :
    val_main_v49 (F := Ideal) x1 x3 x4 x6 x7 x8 (ix4 b g h L) = Finset.univ.sup (S x1 x3 x4 x6 x7 x8 b g h L) := by
  unfold val_main_v49 S
  generalize val_main_v48 (F := Ideal) x1 x3 x4 x6 x7 x8 = y
  refine (Host.reduce_eq_fold_single (α := EReal) max y _ Gen.reducesTo_S8x4x4x2048x2305_S8x4x4x2048_d4 (by decide) Gen.h_S_ (ix4 b g h L)).trans ?_
  rw [val_main_cst_2_apply, show FloatOps.ofBits (F := Ideal) FTy.f32 0xFF800000#32 = ⊥ from Swa.seed_eq]
  refine (Swa.fold_max (n := 2305) _).trans (Finset.sup_congr rfl fun j _ => congrArg y (funext fun a => Fin.ext ?_))
  match a with
  | ⟨0, _⟩ => rfl
  | ⟨1, _⟩ => rfl
  | ⟨2, _⟩ => rfl
  | ⟨3, _⟩ => rfl
  | ⟨4, _⟩ => rfl

/-- The maximum, once more against minus infinity. -/
theorem v51_at (b : Fin 8) (g h : Fin 4) (L : Fin 2048) :
    val_main_v51 (F := Ideal) x1 x3 x4 x6 x7 x8 (ix4 b g h L) = Finset.univ.sup (S x1 x3 x4 x6 x7 x8 b g h L) := by
  rw [val_main_v51_apply, v49_at]
  pointwise [val_main_v50, val_main_cst_3]
  rw [Swa.seed_eq, max_eq_right bot_le]

/-- The exponentials of a row. -/
theorem v55_at (b : Fin 8) (g h : Fin 4) (L : Fin 2048) (j : Fin 2305) :
    val_main_v55 (F := Ideal) x1 x3 x4 x6 x7 x8 (ix5 b g h L j) = Ideal.exp (S x1 x3 x4 x6 x7 x8 b g h L j - Finset.univ.sup (S x1 x3 x4 x6 x7 x8 b g h L)) := by
  pointwise [val_main_v55, val_main_v54, val_main_v53, val_main_v52]
  rw [v51_at]; rfl

/-- The weights: each exponential over their total. -/
theorem v59_at (b : Fin 8) (g h : Fin 4) (L : Fin 2048) (j : Fin 2305) :
    val_main_v59 (F := Ideal) x1 x3 x4 x6 x7 x8 (ix5 b g h L j) = Ideal.div (val_main_v55 (F := Ideal) x1 x3 x4 x6 x7 x8 (ix5 b g h L j)) (∑ j, val_main_v55 (F := Ideal) x1 x3 x4 x6 x7 x8 (ix5 b g h L j)) := by
  pointwise [val_main_v59, val_main_v58, val_main_v57, val_main_v56, val_main_cst_4]

/-- The weighted values of the context and of the sequence. -/
theorem v67_at (b : Fin 8) (L : Fin 2048) (g h : Fin 4) (d : Fin 64) :
    val_main_v67 (F := Ideal) x1 x2 x3 x4 x5 x6 x7 x8 (ix5 b L g h d) =
      ∑ j : Fin 256, x2 (ix4 b j g d) * val_main_v59 (F := Ideal) x1 x3 x4 x6 x7 x8 (ix5 b g h L ⟨j.val, by omega⟩)
      + ∑ j : Fin 2048, x5 (ix4 b j g d) * val_main_v59 (F := Ideal) x1 x3 x4 x6 x7 x8 (ix5 b g h L ⟨256 + j.val, by omega⟩) := by
  pointwise [val_main_v67, val_main_v66, val_main_v65, val_main_v64, val_main_v63, val_main_v62, val_main_v61, val_main_v60]

/-! ## A sequence row -/

/-- A row of scores at a context key. -/
theorem S_ctx (b : Fin 8) (g h : Fin 4) (L : Fin 2048) (j : Fin 256) :
    S x1 x3 x4 x6 x7 x8 b g h L ⟨j.val, by omega⟩ = Swa.score (q x3 x6 x7 b L g h) (fun d => x1 (ix4 b j g d)) := by
  rw [S, v48_at, dif_pos (by dsimp only; omega), v45_at, dif_pos j.isLt, v39_at]

/-- A row of scores at a sequence key. -/
theorem S_seq (b : Fin 8) (g h : Fin 4) (L j : Fin 2048) :
    S x1 x3 x4 x6 x7 x8 b g h L ⟨256 + j.val, by omega⟩ = if Swa.near L j then Swa.score (q x3 x6 x7 b L g h) (k x4 x6 x7 b j g) else ⊥ := by
  rw [S, v48_at, dif_pos (by dsimp only; omega), v45_at, dif_neg (by dsimp only; omega), ← v44_at]
  exact congrArg (fun j => val_main_v44 (F := Ideal) x3 x4 x6 x7 (ix5 b g h L j)) (Fin.ext (by dsimp only; omega))

/-- A row of scores at the sink. -/
theorem S_sink (b : Fin 8) (g h : Fin 4) (L : Fin 2048) (j : Fin 2305) (hj : j.val = 2304) :
    S x1 x3 x4 x6 x7 x8 b g h L j = x8 (ix1 ⟨4 * g.val + h.val, by omega⟩) := by
  rw [S, v48_at, dif_neg (by omega), v47_at]

/-- The reference's sequence row is the specification's, where the scores are finite. -/
theorem latent_at (h1 : ∀ i, Swa.Real' (x1 i)) (h3 : ∀ i, Swa.Real' (x3 i)) (h4 : ∀ i, Swa.Real' (x4 i)) (h6 : ∀ i, Swa.Real' (x6 i))
    (h7 : ∀ i, Swa.Real' (x7 i)) (h8 : ∀ i, Swa.Real' (x8 i)) (b : Fin 8) (L : Fin 2048) (g h : Fin 4) (d : Fin 64) :
    val_main_v67 (F := Ideal) x1 x2 x3 x4 x5 x6 x7 x8 (ix5 b L g h d)
      = Swa.latent (fun e => x3 (ix5 b L g h e)) L (fun j e => x1 (ix4 b j g e)) (fun j e => x2 (ix4 b j g e)) (fun j e => x4 (ix4 b j g e))
          (fun j e => x5 (ix4 b j g e)) (fun i e => x6 (ix2 i e)) (fun i e => x7 (ix2 i e)) (x8 (ix1 ⟨4 * g.val + h.val, by omega⟩)) d := by
  have hq : ∀ d, Swa.Real' (q x3 x6 x7 b L g h d) := Swa.rope_real (fun _ => h6 _) (fun _ => h7 _) (fun _ => h3 _)
  rw [v67_at]
  simp only [v59_at, v55_at, S_ctx, S_seq]
  exact Swa.softmax_latent (S x1 x3 x4 x6 x7 x8 b g h L) _ (fun j => x2 (ix4 b j g d)) _ (fun j => x5 (ix4 b j g d)) _
    (fun j => S_ctx x1 x3 x4 x6 x7 x8 b g h L j) (fun j => S_seq x1 x3 x4 x6 x7 x8 b g h L j) (S_sink x1 x3 x4 x6 x7 x8 b g h L _ rfl)
    (h8 _).1 (h8 _).2 (fun j => (Swa.score_real hq fun d => h1 _).2) fun j => by
      split
      · exact (Swa.score_real hq (Swa.rope_real (fun _ => h6 _) (fun _ => h7 _) (fun _ => h4 _))).2
      · exact bot_ne_top

end Cert.SwaRefIdeal.At

end
-- ==== Proof.SwaRefOut.lean ====
module

public import proofs.«01_k».proof.Proof.SwaRef
public import proofs.«01_k».proof.Proof.Gen.SwaRefIdeal.Read
public import Idealize.ShloMosaic.Lib.Pointwise

/-! The reference attention's context rows, entry by entry, and its result: the sequence rows above the context rows, the heads side
    by side. -/

@[expose] public section

set_option maxRecDepth 16384

noncomputable section

namespace Cert.SwaRefIdeal.At

open Cert.SwaRefIdeal Cert.SwaRefIdeal.Read Idealize.ShloMosaic

variable (x0 : S8x256x4x4x64.Idx → EReal) (x1 x2 : S8x256x4x64.Idx → EReal) (x3 : S8x2048x4x4x64.Idx → EReal) (x4 x5 : S8x2048x4x64.Idx → EReal)
  (x6 x7 : S2048x32.Idx → EReal) (x8 : S16.Idx → EReal)

/-! ## The context scores -/

/-- The scores of the context queries against the context keys. -/
theorem v71_at (b : Fin 8) (g h : Fin 4) (i j : Fin 256) :
    val_main_v71 (F := Ideal) x0 x1 (ix5 b g h i j) = Swa.score (fun d => x0 (ix5 b i g h d)) (fun d => x1 (ix4 b j g d)) := by
  pointwise [val_main_v71, val_main_v70, val_main_v69, val_main_v68, val_main_cst_5]
  exact congrArg (· * Swa.scale) (Finset.sum_congr rfl fun _ _ => mul_comm _ _)

/-- The sink column holds the head's sink logit. -/
theorem v73_at (b : Fin 8) (g h : Fin 4) (i : Fin 256) (z : Fin 1) : val_main_v73 (F := Ideal) x8 (ix5 b g h i z) = x8 (ix1 ⟨4 * g.val + h.val, by omega⟩) := by
  pointwise [val_main_v73, val_main_v72]
  simp only [mul_comm]

/-- The sink column stands last. -/
theorem v74_at (b : Fin 8) (g h : Fin 4) (i : Fin 256) (j : Fin 257) :
    val_main_v74 (F := Ideal) x0 x1 x8 (ix5 b g h i j) = if hj : j.val < 256 then val_main_v71 (F := Ideal) x0 x1 (ix5 b g h i ⟨j.val, hj⟩)
      else val_main_v73 (F := Ideal) x8 (ix5 b g h i 0) := by
  pointwise [val_main_v74]
  split
  · rfl
  · exact congrArg (fun z => val_main_v73 (F := Ideal) x8 (ix5 b g h i z)) (Subsingleton.elim _ _)

/-- The row of scores of a context query: the context, and last the sink. -/
def C (b : Fin 8) (g h : Fin 4) (i : Fin 256) (j : Fin 257) : EReal := val_main_v74 (F := Ideal) x0 x1 x8 (ix5 b g h i j)

/-- A row of scores at a context key. -/
theorem C_ctx (b : Fin 8) (g h : Fin 4) (i j : Fin 256) :
    C x0 x1 x8 b g h i ⟨j.val, by omega⟩ = Swa.score (fun d => x0 (ix5 b i g h d)) (fun d => x1 (ix4 b j g d)) := by
  rw [C, v74_at, dif_pos j.isLt, v71_at]

/-- A row of scores at the sink. -/
theorem C_sink (b : Fin 8) (g h : Fin 4) (i : Fin 256) (j : Fin 257) (hj : j.val = 256) :
    C x0 x1 x8 b g h i j = x8 (ix1 ⟨4 * g.val + h.val, by omega⟩) := by
  rw [C, v74_at, dif_neg (by omega), v73_at]

/-! ## Their softmax -/

/-- The maximum of a row of scores. -/
theorem v75_at (b : Fin 8) (g h : Fin 4) (i : Fin 256) :
    val_main_v75 (F := Ideal) x0 x1 x8 (ix4 b g h i) = Finset.univ.sup (C x0 x1 x8 b g h i) := by
  unfold val_main_v75 C
  generalize val_main_v74 (F := Ideal) x0 x1 x8 = y
  refine (Host.reduce_eq_fold_single (α := EReal) max y _ Gen.reducesTo_S8x4x4x256x257_S8x4x4x256_d4 (by decide) Gen.h_S_ (ix4 b g h i)).trans ?_
  rw [val_main_cst_6_apply, show FloatOps.ofBits (F := Ideal) FTy.f32 0xFF800000#32 = ⊥ from Swa.seed_eq]
  refine (Swa.fold_max (n := 257) _).trans (Finset.sup_congr rfl fun j _ => congrArg y (funext fun a => Fin.ext ?_))
  match a with
  | ⟨0, _⟩ => rfl
  | ⟨1, _⟩ => rfl
  | ⟨2, _⟩ => rfl
  | ⟨3, _⟩ => rfl
  | ⟨4, _⟩ => rfl

/-- The maximum, once more against minus infinity. -/
theorem v77_at (b : Fin 8) (g h : Fin 4) (i : Fin 256) :
    val_main_v77 (F := Ideal) x0 x1 x8 (ix4 b g h i) = Finset.univ.sup (C x0 x1 x8 b g h i) := by
  rw [val_main_v77_apply, v75_at]
  pointwise [val_main_v76, val_main_cst_7]
  rw [Swa.seed_eq, max_eq_right bot_le]

/-- The exponentials of a row. -/
theorem v81_at (b : Fin 8) (g h : Fin 4) (i : Fin 256) (j : Fin 257) :
    val_main_v81 (F := Ideal) x0 x1 x8 (ix5 b g h i j) = Ideal.exp (C x0 x1 x8 b g h i j - Finset.univ.sup (C x0 x1 x8 b g h i)) := by
  pointwise [val_main_v81, val_main_v80, val_main_v79, val_main_v78]
  rw [v77_at]; rfl

/-- The weights: each exponential over their total. -/
theorem v85_at (b : Fin 8) (g h : Fin 4) (i : Fin 256) (j : Fin 257) :
    val_main_v85 (F := Ideal) x0 x1 x8 (ix5 b g h i j)
      = Ideal.div (val_main_v81 (F := Ideal) x0 x1 x8 (ix5 b g h i j)) (∑ j, val_main_v81 (F := Ideal) x0 x1 x8 (ix5 b g h i j)) := by
  pointwise [val_main_v85, val_main_v84, val_main_v83, val_main_v82, val_main_cst_8]

/-- The weighted values of the context. -/
theorem v88_at (b : Fin 8) (i : Fin 256) (g h : Fin 4) (d : Fin 64) :
    val_main_v88 (F := Ideal) x0 x1 x2 x8 (ix5 b i g h d) = ∑ j : Fin 256, x2 (ix4 b j g d) * val_main_v85 (F := Ideal) x0 x1 x8 (ix5 b g h i ⟨j.val, by omega⟩) := by
  pointwise [val_main_v88, val_main_v87, val_main_v86]

/-- The reference's context row is the specification's, where the scores are finite. -/
theorem context_at (h0 : ∀ i, Swa.Real' (x0 i)) (h1 : ∀ i, Swa.Real' (x1 i)) (h8 : ∀ i, Swa.Real' (x8 i)) (b : Fin 8) (i : Fin 256)
    (g h : Fin 4) (d : Fin 64) :
    val_main_v88 (F := Ideal) x0 x1 x2 x8 (ix5 b i g h d)
      = Swa.context (fun e => x0 (ix5 b i g h e)) (fun j e => x1 (ix4 b j g e)) (fun j e => x2 (ix4 b j g e)) (x8 (ix1 ⟨4 * g.val + h.val, by omega⟩)) d := by
  rw [v88_at]
  simp only [v85_at, v81_at, C_ctx]
  exact Swa.softmax_context (C x0 x1 x8 b g h i) _ (fun j => x2 (ix4 b j g d)) _ (fun j => C_ctx x0 x1 x8 b g h i j)
    (C_sink x0 x1 x8 b g h i _ rfl) (h8 _).1 (h8 _).2 fun j => (Swa.score_real (fun d => h0 _) fun d => h1 _).2

/-! ## The result -/

/-- A row of the result is a sequence row above, a context row below; a column is a group, a head in it and a value column. -/
theorem v91_at (b : Fin 8) (r : Fin 2304) (g h : Fin 4) (d : Fin 64) :
    val_main_v91 (F := Ideal) x0 x1 x2 x3 x4 x5 x6 x7 x8 (ix3 b r ⟨256 * g.val + 64 * h.val + d.val, by omega⟩)
      = if hr : r.val < 2048 then val_main_v67 (F := Ideal) x1 x2 x3 x4 x5 x6 x7 x8 (ix5 b ⟨r.val, hr⟩ g h d)
        else val_main_v88 (F := Ideal) x0 x1 x2 x8 (ix5 b ⟨r.val - 2048, by omega⟩ g h d) := by
  pointwise [val_main_v91, val_main_v90, val_main_v89]

end Cert.SwaRefIdeal.At

end
-- ==== Proof.SwaPre.lean ====
module

public import proofs.«01_k».proof.Pre_finite_scores
public import proofs.«01_k».proof.Proof.SwaMath
public import Idealize.ShloMosaic.Lib.ReduceAll
public import Idealize.ShloMosaic.Lib.Pointwise

/-! The precondition of the attention's value claim, read back: the queries, the keys, the tables and the sink logits are finite. -/

@[expose] public section

noncomputable section

namespace Cert.Pre_finite_scores

open Idealize.ShloMosaic Facts

/-- The shape relations the predicate states. -/
instance facts : Facts where
  bcast_S_S8x256x4x4x64 := by decide
  reducesTo_S8x256x4x4x64_S_d0_1_2_3_4 := by decide
  h_S_ := by decide
  bcast_S_S8x256x4x64 := by decide
  reducesTo_S8x256x4x64_S_d0_1_2_3 := by decide
  bcast_S_S8x2048x4x4x64 := by decide
  reducesTo_S8x2048x4x4x64_S_d0_1_2_3_4 := by decide
  bcast_S_S8x2048x4x64 := by decide
  reducesTo_S8x2048x4x64_S_d0_1_2_3 := by decide
  bcast_S_S2048x32 := by decide
  reducesTo_S2048x32_S_d0_1 := by decide
  bcast_S_S16 := by decide
  reducesTo_S16_S_d0 := by decide

/-- A magnitude below plus infinity is that of a finite value. -/
theorem real_of_abs (x : EReal) (h : Ideal.cmp .olt (max x (-x)) (Ideal.ofBits FTy.f32 0x7F800000#32) = 1#1) : Swa.Real' x := by
  have ht : Ideal.ofBits FTy.f32 0x7F800000#32 = ⊤ := by simp [Ideal.ofBits, Ideal.ieee]
  rw [ht] at h
  induction x with
  | bot => simp [Ideal.cmp] at h
  | top => simp [Ideal.cmp] at h
  | coe r => exact ⟨EReal.coe_ne_bot r, EReal.coe_ne_top r⟩

/-- An array whose test of finiteness is passed has finite entries. -/
theorem real_of_all {s : Shape} {axes : List (Fin s.rank)} (x : s.Idx → EReal) (h : s.ReducesTo axes S_) (hb : S_.BroadcastsInDim s (![] : Fin 0 → Fin s.rank))
    (hu : 0 < S_.numel) (e : Host.reduce IntOp.andi (cmpf (F := Ideal) (φ := .f32) .olt (Host.absf (F := Ideal) (φ := .f32) x)
      (broadcastInDim s ![] hb (constant (F := Ideal) S_ .f32 0x7F800000#32))) (constantI S_ 1 1#1) h hu ix0 = 1#1) (i : s.Idx) : Swa.Real' (x i) := by
  have : Subsingleton S_.Idx := ⟨fun a b => funext fun k => k.elim0⟩
  exact real_of_abs (x i) (Host.reduce_andi_all _ _ h hu ix0 e i)

/-- The seven arrays the precondition tests have finite entries. -/
theorem decode (x0 : S8x256x4x4x64.Idx → EReal) (x1 x2 : S8x256x4x64.Idx → EReal) (x3 : S8x2048x4x4x64.Idx → EReal) (x4 x5 : S8x2048x4x64.Idx → EReal)
    (x6 x7 : S2048x32.Idx → EReal) (x8 : S16.Idx → EReal) (h : fn (F := Ideal) x0 x1 x2 x3 x4 x5 x6 x7 x8 = fun _ => 1#1) :
    (∀ i, Swa.Real' (x0 i)) ∧ (∀ i, Swa.Real' (x1 i)) ∧ (∀ i, Swa.Real' (x3 i)) ∧ (∀ i, Swa.Real' (x4 i)) ∧ (∀ i, Swa.Real' (x6 i))
      ∧ (∀ i, Swa.Real' (x7 i)) ∧ (∀ i, Swa.Real' (x8 i)) := by
  have e := congrFun h ix0
  unfold fn fn_part1 at e
  obtain ⟨e, h8⟩ := IntOp.andi_eq_one.1 e
  obtain ⟨e, h7⟩ := IntOp.andi_eq_one.1 e
  obtain ⟨e, h6⟩ := IntOp.andi_eq_one.1 e
  obtain ⟨e, h4⟩ := IntOp.andi_eq_one.1 e
  obtain ⟨e, h3⟩ := IntOp.andi_eq_one.1 e
  obtain ⟨h0, h1⟩ := IntOp.andi_eq_one.1 e
  exact ⟨real_of_all x0 _ _ _ h0, real_of_all x1 _ _ _ h1, real_of_all x3 _ _ _ h3, real_of_all x4 _ _ _ h4, real_of_all x6 _ _ _ h6,
    real_of_all x7 _ _ _ h7, real_of_all x8 _ _ _ h8⟩

end Cert.Pre_finite_scores

end
-- ==== Proof.SwaClaim.lean ====
module

public import proofs.«01_k».proof.Defs
public import proofs.«01_k».proof.Proof.SwaArray
public import proofs.«01_k».proof.Proof.SwaRefOut
public import proofs.«01_k».proof.Proof.SwaPre
public import proofs.«01_k».proof.Proof.Gen.SwaRefIdeal.Run

/-! The value claim of the attention: from finite queries, keys, tables and sink logits the kernel's result is the reference's. -/

@[expose] public section

set_option maxRecDepth 16384

noncomputable section

namespace Cert.SwaIdeal.Blocks

open Cert.SwaIdeal Idealize.ShloMosaic Idealize.ShloMosaic.TcCoe Idealize.SL.Sem

variable (m : (ℓ : Loc nD τ sig) → Buf (Elt Ideal) ℓ) (c : Dev nD)

/-! ## The rows the kernel reads -/

/-- The query of a sequence row. -/
theorem qAt_row (b : Fin 8) (g h : Fin 4) (L : Fin 2048) : qAt m c b g h (row L) = fun e => ql m c (ix5 b L g h e) :=
  funext fun _ => dif_pos L.isLt

/-- The query of a context row. -/
theorem qAt_crow (b : Fin 8) (g h : Fin 4) (j : Fin 256) : qAt m c b g h (crow j) = fun e => qc m c (ix5 b j g h e) :=
  funext fun e => (dif_neg (by dsimp only [crow]; omega)).trans (congrArg (fun j => qc m c (ix5 b j g h e)) (Fin.ext (by dsimp only [crow]; omega)))

/-- The key of a sequence row. -/
theorem kAt_row (b : Fin 8) (g : Fin 4) (L : Fin 2048) : kAt m c b g (row L) = fun e => kl m c (ix4 b L g e) :=
  funext fun _ => dif_pos L.isLt

/-- The key of a context row. -/
theorem kAt_crow (b : Fin 8) (g : Fin 4) (j : Fin 256) : kAt m c b g (crow j) = fun e => kc m c (ix4 b j g e) :=
  funext fun e => (dif_neg (by dsimp only [crow]; omega)).trans (congrArg (fun j => kc m c (ix4 b j g e)) (Fin.ext (by dsimp only [crow]; omega)))

/-- The value of a sequence row. -/
theorem vAt_row (b : Fin 8) (g : Fin 4) (L : Fin 2048) : vAt m c b g (row L) = fun e => vl m c (ix4 b L g e) :=
  funext fun _ => dif_pos L.isLt

/-- The value of a context row. -/
theorem vAt_crow (b : Fin 8) (g : Fin 4) (j : Fin 256) : vAt m c b g (crow j) = fun e => vc m c (ix4 b j g e) :=
  funext fun e => (dif_neg (by dsimp only [crow]; omega)).trans (congrArg (fun j => vc m c (ix4 b j g e)) (Fin.ext (by dsimp only [crow]; omega)))

/-! ## The kernel's result at an index -/

/-- A column's group. -/
theorem group_of (g h : Fin 4) (d : Fin 64) (p : (256 * g.val + 64 * h.val + d.val) / 256 < 4) :
    (⟨(256 * g.val + 64 * h.val + d.val) / 256, p⟩ : Fin 4) = g := Fin.ext (by dsimp only; omega)

/-- The result at a column of group `g`, head `h`: that group's block. -/
theorem G8_at (b : Fin 8) (r : Fin 2304) (g h : Fin 4) (d : Fin 64) :
    G8 m c (ix3 b r ⟨256 * g.val + 64 * h.val + d.val, by omega⟩)
      = outAtIdx (qAt m c b g) (kAt m c b g) (vAt m c b g) (fun r x => cosT m c (ix2 r x)) (fun r x => sinT m c (ix2 r x)) (sinkAt m c g)
          (ix3 0 r ⟨64 * h.val + d.val, by omega⟩) := by
  exact congrArg₂ (fun (g : Fin 4) (s : Fin 256) => outAtIdx (qAt m c b g) (kAt m c b g) (vAt m c b g) (fun r x => cosT m c (ix2 r x))
    (fun r x => sinT m c (ix2 r x)) (sinkAt m c g) (ix3 0 r s)) (group_of g h d (by omega))
    (Fin.ext (show (256 * g.val + 64 * h.val + d.val) % 256 = 64 * h.val + d.val by omega))

/-- The result at a sequence row is the specified attention of the arguments' rows. -/
theorem G8_latent (b : Fin 8) (L : Fin 2048) (g h : Fin 4) (d : Fin 64) (r : Fin 2304) (hr : r.val = L.val) :
    G8 m c (ix3 b r ⟨256 * g.val + 64 * h.val + d.val, by omega⟩)
      = Swa.latent (fun e => ql m c (ix5 b L g h e)) L (fun j e => kc m c (ix4 b j g e)) (fun j e => vc m c (ix4 b j g e)) (fun j e => kl m c (ix4 b j g e))
          (fun j e => vl m c (ix4 b j g e)) (fun i e => cosT m c (ix2 i e)) (fun i e => sinT m c (ix2 i e)) (sink m c (ix1 ⟨4 * g.val + h.val, by omega⟩)) d := by
  rw [G8_at, out_latent _ _ L h d hr rfl]
  unfold latentAt
  simp only [qAt_row, kAt_row, kAt_crow, vAt_row, vAt_crow]
  rfl

/-- The result at a context row, likewise. -/
theorem G8_context (b : Fin 8) (j : Fin 256) (g h : Fin 4) (d : Fin 64) (r : Fin 2304) (hr : r.val = 2048 + j.val) :
    G8 m c (ix3 b r ⟨256 * g.val + 64 * h.val + d.val, by omega⟩)
      = Swa.context (fun e => qc m c (ix5 b j g h e)) (fun j e => kc m c (ix4 b j g e)) (fun j e => vc m c (ix4 b j g e))
          (sink m c (ix1 ⟨4 * g.val + h.val, by omega⟩)) d := by
  rw [G8_at, out_context _ _ j h d hr rfl]
  unfold contextAt
  simp only [qAt_crow, kAt_crow, vAt_crow]
  rfl

/-! ## The claim -/

/-- Under the precondition the reference's result, as a function of the nine arguments, is the kernel's array. -/
theorem reference_eq (hp : Cert.Pre_finite_scores.fn (F := Ideal) (qc m c) (kc m c) (vc m c) (ql m c) (kl m c) (vl m c) (cosT m c) (sinT m c) (sink m c) = fun _ => 1#1) :
    Cert.SwaRefIdeal.Read.val_main_v91 (F := Ideal) (qc m c) (kc m c) (vc m c) (ql m c) (kl m c) (vl m c) (cosT m c) (sinT m c) (sink m c) = G8 m c := by
  obtain ⟨h0, h1, h3, h4, h6, h7, h8⟩ := Cert.Pre_finite_scores.decode _ _ _ _ _ _ _ _ _ hp
  funext i
  obtain ⟨b, r, x, rfl⟩ : ∃ (b : Fin 8) (r : Fin 2304) (x : Fin 1024), i = ix3 b r x := ⟨i 0, i 1, i 2, eq_ix3 i⟩
  obtain ⟨g, h, d, rfl⟩ : ∃ (g h : Fin 4) (d : Fin 64), x = ⟨256 * g.val + 64 * h.val + d.val, by omega⟩ :=
    ⟨⟨x.val / 256, by omega⟩, ⟨x.val % 256 / 64, by omega⟩, ⟨x.val % 64, by omega⟩, Fin.ext (by dsimp only; omega)⟩
  rw [Cert.SwaRefIdeal.At.v91_at]
  by_cases hr : r.val < 2048
  · rw [dif_pos hr, Cert.SwaRefIdeal.At.latent_at _ _ _ _ _ _ _ _ h1 h3 h4 h6 h7 h8]
    exact (G8_latent m c b ⟨r.val, hr⟩ g h d r rfl).symm
  · rw [dif_neg hr, Cert.SwaRefIdeal.At.context_at _ _ _ _ h0 h1 h8]
    exact (G8_context m c b ⟨r.val - 2048, by omega⟩ g h d r (by dsimp only; omega)).symm

/-- Every weakly fair execution of the kernel and of the reference ends with the same array. -/
theorem algebraic : Cert.algebraic_SwaIdeal_SwaRefIdeal_pre_finite_scores := fun m ρ m' ρ' hp hag =>
  ⟨fun c => G8 m c, run_value m ρ,
    (θ_run _ _ _).mono (fun r h c => by
      obtain ⟨h0, hrest⟩ := h c
      obtain ⟨a0, a1, a2, a3, a4, a5, a6, a7, a8⟩ := hag c
      refine ⟨h0.trans ?_, hrest⟩
      rw [Cert.SwaRefIdeal.Read.val_main_v91_eq, a0, a1, a2, a3, a4, a5, a6, a7, a8]
      exact reference_eq m c (hp c))
      (Cert.SwaRefIdeal.Value.run m' ρ')⟩

end Cert.SwaIdeal.Blocks

end
-- ==== Proof.FfnFrames.lean ====
module

public import proofs.«01_k».proof.Defs
public import proofs.«01_k».proof.Proof.Gen.Ffn.Frame
public import proofs.«01_k».proof.Proof.Gen.FfnIdeal.Frame
public import proofs.«01_k».proof.Proof.Gen.FfnRefIdeal.Run

/-! The frame claims of the routed experts' programs: each terminates without a fault, at rest, with its arguments kept. -/

@[expose] public section

noncomputable section

namespace Ffn.Claims

open Idealize.ShloMosaic Idealize.SL.Sem

/-- The kernel at the machine's formats. -/
theorem kernel : Cert.quiescent_Ffn := fun m ρ _ => Cert.Ffn.Gen.frame m ρ

/-- The kernel over the extended reals. -/
theorem ideal : Cert.quiescent_FfnIdeal := fun m ρ _ => Cert.FfnIdeal.Gen.frame m ρ

/-- The reference over the extended reals. -/
theorem reference : Cert.quiescent_FfnRefIdeal := fun m ρ _ =>
  (θ_run _ _ _).mono (fun r h => ⟨fun c => (h c).2.2, sem_eq_zero_of_no_sems (by decide) r.2⟩) (Cert.FfnRefIdeal.Value.run m ρ)

end Ffn.Claims

end
-- ==== Proof.FfnBlocks.lean ====
module

public import proofs.«01_k».proof.Proof.Gen.FfnIdeal.Value
public import Idealize.ShloMosaic.Lib.Pointwise
public import Idealize.ShloMosaic.Lib.Tactic

/-! What one grid point of the experts' kernel leaves in its scratch buffers and in its two output blocks, as the
    body's own vector expressions of the blocks it reads. The kernel's cases: the first of an expert's four points
    (A), a middle point (B), the last one (C). -/

@[expose] public section

set_option maxRecDepth 16384

noncomputable section

namespace Cert.FfnIdeal.Blocks

open Cert.FfnIdeal Cert.FfnIdeal.Gen Idealize.ShloMosaic Idealize.ShloMosaic.TcCoe Idealize.SL.Sem

variable {F : FTy → Type} [FloatOps F]

/-- The zero offset of two axes. -/
theorem hz2 : (![0, 0] : Fin 2 → Nat) = fun _ => 0 := funext fun a => by fin_cases a <;> rfl
/-- The zero offset of four axes. -/
theorem hz4 : (![0, 0, 0, 0] : Fin 4 → Nat) = fun _ => 0 := funext fun a => by fin_cases a <;> rfl

/-- A whole read of a buffer that stores have filled is the stores' contents. -/
theorem read_whole (L : List (View.Piece (Elt F) S2304x1024 .bf16)) (inb : ∀ a, (![0, 0] : Fin 2 → Nat) a + S2304x1024.size a ≤ S2304x1024.size a) :
    scM0_0.view.readCov L (Rect.unit ![0, 0] S2304x1024.size inb).toLoadRect = View.canon L :=
  (View.readCov_eq_canon' _ _ _).trans (View.ld_unit_zero (S := S2304x1024) hz2 _ _)

section

variable (c : Dev nD) (t : Fin cfg0.N) (x0 : Vec F S8x1x256x1024 .bf16) (x1 : Vec F S8x1x32x1024 .bf16)
  (x2 x3 : Vec F S1x1x1024x256 .f32) (x4 : Vec F S1x1x256x1024 .f32) (xs0 : Vec F S2304x1024 .bf16)
  (xs1 : Vec F S2304x1024 .f32)

/-- The token rows as the kernel stages them: the latent rows of all samples first, then the context rows. -/
def rows (x0 : Vec F S8x1x256x1024 .bf16) (x1 : Vec F S8x1x32x1024 .bf16) : Vec F S2304x1024 .bf16 :=
  View.canon [⟨Rect.unit ![2048, 0] S256x1024.size inb_S2304x1024_S256x1024_2048_0, k0_pay5 x1⟩,
    ⟨Rect.unit ![0, 0] S2048x1024.size inb_S2304x1024_S2048x1024_0_0, k0_pay4 x0⟩]

/-- Case A stages the token rows. -/
theorem rows_A (hc0 : cond0_0 (grid0.coords t)) (hc1 : ¬cond0_1 (grid0.coords t)) :
    sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) hc0 hc1 x0 x1 x2 x3 x4 = rows x0 x1 := by
  unfold sout0_A_0
  rw [View.read_writes_eq_canon _ _ _ (scover0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) hc0 hc1 x0 x1 x2 x3 x4)]
  unfold kernelRun0_A
  dsimp only
  sl_unfold_words
  simp only [View.readAt_eq_ld, View.readCov_unit_zero (S := S2304x1024) _ hz2, (hs0_0 t).read_unread, (hs0_1 t).read_unread,
    (hs0_2 t).read_unread, (hs0_3 t).read_unread, (hs0_4 t).read_unread, (Memref.isWhole_whole cc0_scratch0).read_unread, (Memref.isWhole_whole cc0_scratch1).read_unread,
    View.ld_unit_zero (S := S8x1x256x1024) hz4, View.ld_unit_zero (S := S8x1x32x1024) hz4, View.ld_unit_zero (S := S1x1x1024x256) hz4,
    View.ld_unit_zero (S := S1x1x256x1024) hz4, View.ld_unit_zero (S := S2304x1024) hz2]
  rfl

/-- Case A clears the accumulator and adds the point's part of the product to it. -/
theorem acc_A (hc0 : cond0_0 (grid0.coords t)) (hc1 : ¬cond0_1 (grid0.coords t)) :
    sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) hc0 hc1 x0 x1 x2 x3 x4 = k0_pay7 (rows x0 x1) x2 x3 k0_pay6 x4 := by
  unfold sout0_A_1
  rw [View.read_writes_eq_canon _ _ _ (scover0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) hc0 hc1 x0 x1 x2 x3 x4)]
  unfold kernelRun0_A
  dsimp only
  sl_unfold_words
  rw [View.canon_cons_unit_zero (S := S2304x1024) hz2]
  simp only [View.readAt_eq_ld, View.readCov_unit_zero (S := S2304x1024) _ hz2, (hs0_0 t).read_unread, (hs0_1 t).read_unread,
    (hs0_2 t).read_unread, (hs0_3 t).read_unread, (hs0_4 t).read_unread, (Memref.isWhole_whole cc0_scratch0).read_unread, (Memref.isWhole_whole cc0_scratch1).read_unread,
    View.ld_unit_zero (S := S8x1x256x1024) hz4, View.ld_unit_zero (S := S8x1x32x1024) hz4, View.ld_unit_zero (S := S1x1x1024x256) hz4,
    View.ld_unit_zero (S := S1x1x256x1024) hz4, View.ld_unit_zero (S := S2304x1024) hz2]
  exact congrArg (fun r => k0_pay7 r x2 x3 k0_pay6 x4) (read_whole _ _)

/-- Case B adds the point's part to what the accumulator held. -/
theorem acc_B (hc0 : ¬cond0_0 (grid0.coords t)) (hc1 : ¬cond0_1 (grid0.coords t)) :
    sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) hc0 hc1 x0 x1 x2 x3 x4 xs0 xs1 = k0_pay7 xs0 x2 x3 xs1 x4 := by
  unfold sout0_B_1
  rw [View.read_writes_eq_canon _ _ _ (scover0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) hc0 hc1 x0 x1 x2 x3 x4 xs0 xs1)]
  unfold kernelRun0_B
  dsimp only
  sl_unfold_words
  rw [View.canon_cons_unit_zero (S := S2304x1024) hz2]
  simp only [View.readAt_eq_ld, View.readCov_unit_zero (S := S2304x1024) _ hz2, (hs0_0 t).read_unread, (hs0_1 t).read_unread,
    (hs0_2 t).read_unread, (hs0_3 t).read_unread, (hs0_4 t).read_unread, (Memref.isWhole_whole cc0_scratch0).read_unread, (Memref.isWhole_whole cc0_scratch1).read_unread,
    View.ld_unit_zero (S := S8x1x256x1024) hz4, View.ld_unit_zero (S := S8x1x32x1024) hz4, View.ld_unit_zero (S := S1x1x1024x256) hz4,
    View.ld_unit_zero (S := S1x1x256x1024) hz4, View.ld_unit_zero (S := S2304x1024) hz2]

/-- Case C likewise. -/
theorem acc_C (hc0 : ¬cond0_0 (grid0.coords t)) (hc1 : cond0_1 (grid0.coords t)) :
    sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) hc0 hc1 x0 x1 x2 x3 x4 xs0 xs1 = k0_pay7 xs0 x2 x3 xs1 x4 := by
  unfold sout0_C_1
  rw [View.read_writes_eq_canon _ _ _ (scover0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) hc0 hc1 x0 x1 x2 x3 x4 xs0 xs1)]
  unfold kernelRun0_C
  dsimp only
  sl_unfold_words
  rw [View.canon_cons_unit_zero (S := S2304x1024) hz2]
  simp only [View.readAt_eq_ld, View.readCov_unit_zero (S := S2304x1024) _ hz2, (hs0_0 t).read_unread, (hs0_1 t).read_unread,
    (hs0_2 t).read_unread, (hs0_3 t).read_unread, (hs0_4 t).read_unread, (Memref.isWhole_whole cc0_scratch0).read_unread, (Memref.isWhole_whole cc0_scratch1).read_unread,
    View.ld_unit_zero (S := S8x1x256x1024) hz4, View.ld_unit_zero (S := S8x1x32x1024) hz4, View.ld_unit_zero (S := S1x1x1024x256) hz4,
    View.ld_unit_zero (S := S1x1x256x1024) hz4, View.ld_unit_zero (S := S2304x1024) hz2]

/-- Case C writes the latent rows of the finished accumulator out. -/
theorem out5_C (hc0 : ¬cond0_0 (grid0.coords t)) (hc1 : cond0_1 (grid0.coords t)) :
    out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) hc0 hc1 x0 x1 x2 x3 x4 xs0 xs1 = k0_pay2 (k0_pay7 xs0 x2 x3 xs1 x4) := by
  unfold out0_C_5
  rw [View.read_writes_eq_canon _ _ _ (cover0_C_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) hc0 hc1 x0 x1 x2 x3 x4 xs0 xs1)]
  unfold kernelRun0_C
  dsimp only
  sl_unfold_words
  rw [View.canon_cons_unit_zero (S := S8x1x256x1024) hz4]
  simp only [View.readAt_eq_ld, View.readCov_unit_zero (S := S2304x1024) _ hz2, (hs0_0 t).read_unread, (hs0_1 t).read_unread,
    (hs0_2 t).read_unread, (hs0_3 t).read_unread, (hs0_4 t).read_unread, (Memref.isWhole_whole cc0_scratch0).read_unread, (Memref.isWhole_whole cc0_scratch1).read_unread,
    View.ld_unit_zero (S := S8x1x256x1024) hz4, View.ld_unit_zero (S := S8x1x32x1024) hz4, View.ld_unit_zero (S := S1x1x1024x256) hz4,
    View.ld_unit_zero (S := S1x1x256x1024) hz4, View.ld_unit_zero (S := S2304x1024) hz2]

/-- Case C writes the context rows of the finished accumulator out. -/
theorem out6_C (hc0 : ¬cond0_0 (grid0.coords t)) (hc1 : cond0_1 (grid0.coords t)) :
    out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) hc0 hc1 x0 x1 x2 x3 x4 xs0 xs1 = k0_pay3 (k0_pay7 xs0 x2 x3 xs1 x4) := by
  unfold out0_C_6
  rw [View.read_writes_eq_canon _ _ _ (cover0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) hc0 hc1 x0 x1 x2 x3 x4 xs0 xs1)]
  unfold kernelRun0_C
  dsimp only
  sl_unfold_words
  rw [View.canon_cons_unit_zero (S := S8x1x32x1024) hz4]
  simp only [View.readAt_eq_ld, View.readCov_unit_zero (S := S2304x1024) _ hz2, (hs0_0 t).read_unread, (hs0_1 t).read_unread,
    (hs0_2 t).read_unread, (hs0_3 t).read_unread, (hs0_4 t).read_unread, (Memref.isWhole_whole cc0_scratch0).read_unread, (Memref.isWhole_whole cc0_scratch1).read_unread,
    View.ld_unit_zero (S := S8x1x256x1024) hz4, View.ld_unit_zero (S := S8x1x32x1024) hz4, View.ld_unit_zero (S := S1x1x1024x256) hz4,
    View.ld_unit_zero (S := S1x1x256x1024) hz4, View.ld_unit_zero (S := S2304x1024) hz2]

end

end Cert.FfnIdeal.Blocks

end
-- ==== Proof.FfnMath.lean ====
module

public import Idealize.ShloMosaic.PureOps.Ideal
public import Idealize.ShloMosaic.PureOps.Ideal.Laws
public import Idealize.ShloMosaic.Lib.Pointwise

/-! One expert of the routed feed-forward layer over the extended reals: the gate written by `tanh` and by the
    logistic quotient, the expert's formula for one token, and its sum over the hidden units cut in blocks. -/

@[expose] public section

noncomputable section

namespace Ffn

open Idealize.ShloMosaic

/-- The SiLU gate, as the reference writes it. -/
def silu (a : EReal) : EReal := a * Ideal.div 1 (1 + Ideal.exp (-a))

/-- One half, as the kernel's constant reads. -/
theorem half_eq : Ideal.ofBits FTy.f32 1056964608#32 = ((1 / 2 : ℝ) : EReal) := by
  simp [Ideal.ofBits, Ideal.ieee, -EReal.coe_mul]; norm_num

/-- On the reals, half a hyperbolic tangent and a half make the logistic function. -/
theorem tanh_logistic (r : ℝ) : 1 / 2 * Real.tanh (1 / 2 * r) + 1 / 2 = 1 * (1 + Real.exp (-r))⁻¹ := by
  have h1 : (0 : ℝ) < Real.exp (1 / 2 * r) := Real.exp_pos _
  have h2 : Real.exp (-(1 / 2 * r)) = (Real.exp (1 / 2 * r))⁻¹ := Real.exp_neg _
  have h3 : Real.exp (-r) = (Real.exp (1 / 2 * r))⁻¹ * (Real.exp (1 / 2 * r))⁻¹ := by
    rw [← h2, ← Real.exp_add]; congr 1; ring
  rw [Real.tanh_eq_sinh_div_cosh, Real.sinh_eq, Real.cosh_eq, h2, h3]
  generalize Real.exp (1 / 2 * r) = y at h1
  have : y ≠ 0 := h1.ne'
  field_simp
  ring

/-- The kernel's gate is the reference's, at every extended real. -/
theorem gate (a : EReal) :
    a * (Ideal.ofBits FTy.f32 1056964608#32 * Ideal.tanh (Ideal.ofBits FTy.f32 1056964608#32 * a)
      + Ideal.ofBits FTy.f32 1056964608#32) = silu a := by
  rw [half_eq]
  unfold silu
  induction a with
  | bot =>
    rw [EReal.coe_mul_bot_of_pos (by norm_num)]
    simp only [Ideal.tanh_bot, EReal.neg_bot, Ideal.exp_top]
    rw [show (1 : EReal) + ⊤ = ⊤ from rfl]
    simp only [Ideal.div, EReal.top_ne_zero, if_false, EReal.inv_top, mul_zero]
    rw [show (-1 : EReal) = ((-1 : ℝ) : EReal) by norm_num, ← EReal.coe_mul, ← EReal.coe_add]
    norm_num
  | top =>
    rw [EReal.coe_mul_top_of_pos (by norm_num)]
    simp only [Ideal.tanh_top, EReal.neg_top, Ideal.exp_bot, mul_one, add_zero]
    rw [← EReal.coe_add, EReal.top_mul_coe_of_pos (by norm_num)]
    simp [Ideal.div]
  | coe r =>
    rw [← EReal.coe_mul, Ideal.tanh_coe, ← EReal.coe_mul, ← EReal.coe_add, ← EReal.coe_mul, ← EReal.coe_neg, Ideal.exp_coe]
    have h : (1 : EReal) + ((Real.exp (-r) : ℝ) : EReal) = ((1 + Real.exp (-r) : ℝ) : EReal) := by norm_num
    have hp : (1 + Real.exp (-r) : ℝ) ≠ 0 := by positivity
    rw [h, Ideal.div, if_neg (by exact_mod_cast hp), ← EReal.coe_inv, tanh_logistic, one_mul, one_mul, ← EReal.coe_mul]

/-- The hidden unit of a token: gate times up-projection, from the token's row and the unit's two weight columns. -/
def hidden (x wg wu : Fin 1024 → EReal) : EReal :=
  silu (∑ c, x c * wg c) * ∑ c, x c * wu c

/-- One expert at a token and an output feature: the sum over the hidden units. -/
def expert (x : Fin 1024 → EReal) (wg wu : Fin 1024 → Fin 1024 → EReal) (wd : Fin 1024 → EReal) : EReal :=
  ∑ f : Fin 1024, hidden x (fun c => wg c f) (fun c => wu c f) * wd f

/-- A sum over 1024 units is the sum of four sums over 256. -/
theorem sum_blocks (g : Fin 1024 → EReal) :
    ∑ f : Fin 1024, g f = ∑ s ∈ Finset.range 4, ∑ k : Fin 256, if h : 256 * s + k.val < 1024 then g ⟨256 * s + k.val, h⟩ else 0 := by
  rw [Finset.sum_range, ← Fintype.sum_prod_type']
  rw [← (finProdFinEquiv (m := 4) (n := 256)).sum_comp g]
  refine Finset.sum_congr rfl fun p _ => ?_
  rw [dif_pos (by have := p.1.isLt; have := p.2.isLt; omega)]
  congr 1
  ext
  simp [finProdFinEquiv]
  ring

end Ffn

end
-- ==== Proof.FfnValue.lean ====
module

public import proofs.«01_k».proof.Proof.FfnBlocks
public import proofs.«01_k».proof.Proof.FfnMath

/-! The experts' kernel over the extended reals: its accumulator after each of an expert's four points, and the two
    result arrays, as the expert's formula at each token row. -/

@[expose] public section

set_option maxRecDepth 16384

noncomputable section

namespace Cert.FfnIdeal.Blocks

open Cert.FfnIdeal Cert.FfnIdeal.Gen Cert.FfnIdeal.Value Idealize.ShloMosaic Idealize.ShloMosaic.TcCoe Idealize.SL.Sem

variable (m : (ℓ : Loc nD τ sig) → Buf (Elt Ideal) ℓ) (c : Dev nD)

/-! ## The arrays and the rows of one expert -/

/-- The latent tokens, the context tokens and the three weight arrays the region is launched over. -/
abbrev lat : S8x16x256x1024.Idx → EReal := m ((c : Thread nD τ).loc main_arg0)
/-- The gathered context rows. -/
abbrev ctx : S8x16x32x1024.Idx → EReal := m ((c : Thread nD τ).loc main_arg1)
/-- The gate weights of the four layers. -/
abbrev wgt : S4x16x1024x1024.Idx → EReal := m ((c : Thread nD τ).loc main_arg2)
/-- The up weights. -/
abbrev wup : S4x16x1024x1024.Idx → EReal := m ((c : Thread nD τ).loc main_arg3)
/-- The down weights. -/
abbrev wdn : S4x16x1024x1024.Idx → EReal := m ((c : Thread nD τ).loc main_arg4)

/-- Row `r` of expert `e`'s staged tokens: the samples' latent tokens, then their context tokens. -/
def row (e : Fin 16) (r : Fin 2304) (k : Fin 1024) : EReal :=
  if h : r.val < 2048 then lat m c (ix4 ⟨r.val / 256, by omega⟩ e ⟨r.val % 256, by omega⟩ k)
  else ctx m c (ix4 ⟨(r.val - 2048) / 32, by omega⟩ e ⟨(r.val - 2048) % 32, by omega⟩ k)

/-- Hidden unit `f` of row `r` of expert `e`. -/
def unit (e : Fin 16) (r : Fin 2304) (f : Fin 1024) : EReal :=
  Ffn.hidden (row m c e r) (fun k => wgt m c (ix4 3 e k f)) (fun k => wup m c (ix4 3 e k f))

/-- What hidden units `256 s` to `256 s + 255` add to output feature `d` of the row. -/
def part (e : Fin 16) (r : Fin 2304) (d : Fin 1024) (s : ℕ) : EReal :=
  ∑ k : Fin 256, if h : 256 * s + k.val < 1024 then unit m c e r ⟨256 * s + k.val, h⟩ * wdn m c (ix4 3 e ⟨256 * s + k.val, h⟩ d) else 0

/-! ## The input blocks of a point -/

/-- The blocks a point reads: its expert's tokens, and its quarter of the expert's hidden units. -/
theorem index_of : ∀ t : Fin cfg0.N, win0_0.index t = ![0, t.val / 4, 0, 0] ∧ win0_1.index t = ![0, t.val / 4, 0, 0]
    ∧ win0_2.index t = ![3, t.val / 4, 0, t.val % 4] ∧ win0_3.index t = ![3, t.val / 4, 0, t.val % 4]
    ∧ win0_4.index t = ![3, t.val / 4, t.val % 4, 0] :=
  (by decide +kernel : ∀ t : Fin grid0.N, _)

/-- The grid has 64 points. -/
theorem lt_N (t : Fin cfg0.N) : t.val < 64 := lt_of_lt_of_eq t.isLt (show cfg0.N = 64 from N_0)

variable (t : Fin cfg0.N) (e : Fin 16) (he : t.val / 4 = e.val)
include he

/-- A grid point's block of latent rows: its expert's. -/
theorem blk0 (b : Fin 8) (z : Fin 1) (r : Fin 256) (k : Fin 1024) :
    (iblk m c 0 t : S8x1x256x1024.Idx → EReal) (ix4 b z r k) = lat m c (ix4 b e r k) := by
  have hi := (index_of t).1
  unfold iblk
  rw [View.read_apply]
  show V m c main_arg0 _ = _
  unfold V
  refine congrArg (m (c.tc.loc main_arg0)) (funext fun a => Fin.ext ?_)
  match a with
  | ⟨0, _⟩ => show win0_0.index t 0 * 8 + 1 * b.val = b.val; rw [hi]; show 0 * 8 + _ = _; omega
  | ⟨1, _⟩ => show win0_0.index t 1 * 1 + 1 * z.val = e.val; rw [hi]; show (t.val / 4) * 1 + _ = _; omega
  | ⟨2, _⟩ => show win0_0.index t 2 * 256 + 1 * r.val = r.val; rw [hi]; show 0 * 256 + _ = _; omega
  | ⟨3, _⟩ => show win0_0.index t 3 * 1024 + 1 * k.val = k.val; rw [hi]; show 0 * 1024 + _ = _; omega

/-- A grid point's block of context rows: its expert's. -/
theorem blk1 (b : Fin 8) (z : Fin 1) (r : Fin 32) (k : Fin 1024) :
    (iblk m c 1 t : S8x1x32x1024.Idx → EReal) (ix4 b z r k) = ctx m c (ix4 b e r k) := by
  have hi := (index_of t).2.1
  unfold iblk
  rw [View.read_apply]
  show V m c main_arg1 _ = _
  unfold V
  refine congrArg (m (c.tc.loc main_arg1)) (funext fun a => Fin.ext ?_)
  match a with
  | ⟨0, _⟩ => show win0_1.index t 0 * 8 + 1 * b.val = b.val; rw [hi]; show 0 * 8 + _ = _; omega
  | ⟨1, _⟩ => show win0_1.index t 1 * 1 + 1 * z.val = e.val; rw [hi]; show (t.val / 4) * 1 + _ = _; omega
  | ⟨2, _⟩ => show win0_1.index t 2 * 32 + 1 * r.val = r.val; rw [hi]; show 0 * 32 + _ = _; omega
  | ⟨3, _⟩ => show win0_1.index t 3 * 1024 + 1 * k.val = k.val; rw [hi]; show 0 * 1024 + _ = _; omega

variable (s : ℕ) (hs : t.val % 4 = s) (hlt : ∀ f : Fin 256, 256 * s + f.val < 1024)
include hs

/-- A grid point's gate block: its expert's, 256 hidden columns of it. -/
theorem blk2 (k : Fin 1024) (f : Fin 256) :
    (iblk m c 2 t : S1x1x1024x256.Idx → EReal) (ix4 0 0 k f) = wgt m c (ix4 3 e k ⟨256 * s + f.val, hlt f⟩) := by
  have hi := (index_of t).2.2.1
  unfold iblk
  rw [View.read_apply]
  show V m c main_arg2 _ = _
  unfold V
  refine congrArg (m (c.tc.loc main_arg2)) (funext fun a => Fin.ext ?_)
  match a with
  | ⟨0, _⟩ => show win0_2.index t 0 * 1 + 1 * 0 = 3; rw [hi]; rfl
  | ⟨1, _⟩ => show win0_2.index t 1 * 1 + 1 * 0 = e.val; rw [hi]; show (t.val / 4) * 1 + _ = _; omega
  | ⟨2, _⟩ => show win0_2.index t 2 * 1024 + 1 * k.val = k.val; rw [hi]; show 0 * 1024 + _ = _; omega
  | ⟨3, _⟩ => show win0_2.index t 3 * 256 + 1 * f.val = 256 * s + f.val; rw [hi]; show (t.val % 4) * 256 + _ = _; omega

/-- The up block alike. -/
theorem blk3 (k : Fin 1024) (f : Fin 256) :
    (iblk m c 3 t : S1x1x1024x256.Idx → EReal) (ix4 0 0 k f) = wup m c (ix4 3 e k ⟨256 * s + f.val, hlt f⟩) := by
  have hi := (index_of t).2.2.2.1
  unfold iblk
  rw [View.read_apply]
  show V m c main_arg3 _ = _
  unfold V
  refine congrArg (m (c.tc.loc main_arg3)) (funext fun a => Fin.ext ?_)
  match a with
  | ⟨0, _⟩ => show win0_3.index t 0 * 1 + 1 * 0 = 3; rw [hi]; rfl
  | ⟨1, _⟩ => show win0_3.index t 1 * 1 + 1 * 0 = e.val; rw [hi]; show (t.val / 4) * 1 + _ = _; omega
  | ⟨2, _⟩ => show win0_3.index t 2 * 1024 + 1 * k.val = k.val; rw [hi]; show 0 * 1024 + _ = _; omega
  | ⟨3, _⟩ => show win0_3.index t 3 * 256 + 1 * f.val = 256 * s + f.val; rw [hi]; show (t.val % 4) * 256 + _ = _; omega

/-- The down block: 256 hidden rows of it. -/
theorem blk4 (f : Fin 256) (d : Fin 1024) :
    (iblk m c 4 t : S1x1x256x1024.Idx → EReal) (ix4 0 0 f d) = wdn m c (ix4 3 e ⟨256 * s + f.val, hlt f⟩ d) := by
  have hi := (index_of t).2.2.2.2
  unfold iblk
  rw [View.read_apply]
  show V m c main_arg4 _ = _
  unfold V
  refine congrArg (m (c.tc.loc main_arg4)) (funext fun a => Fin.ext ?_)
  match a with
  | ⟨0, _⟩ => show win0_4.index t 0 * 1 + 1 * 0 = 3; rw [hi]; rfl
  | ⟨1, _⟩ => show win0_4.index t 1 * 1 + 1 * 0 = e.val; rw [hi]; show (t.val / 4) * 1 + _ = _; omega
  | ⟨2, _⟩ => show win0_4.index t 2 * 256 + 1 * f.val = 256 * s + f.val; rw [hi]; show (t.val % 4) * 256 + _ = _; omega
  | ⟨3, _⟩ => show win0_4.index t 3 * 1024 + 1 * d.val = d.val; rw [hi]; show 0 * 1024 + _ = _; omega

omit hs

/-- The rows a point of expert `e` would stage are the expert's rows. -/
theorem rows_apply (r : Fin 2304) (k : Fin 1024) : rows (iblk m c 0 t) (iblk m c 1 t) (ix2 r k) = row m c e r k := by
  unfold rows row
  split
  · next h =>
    rw [View.canon_cons_of_not_mem _ _ (by
      rw [Rect.mem_set_unit]
      intro hm
      have h2 : 2048 ≤ r.val := (hm 0).1
      omega)]
    have hx : (ix2 r k : S2304x1024.Idx) = (Rect.unit (s := S2304x1024) ![0, 0] S2048x1024.size inb_S2304x1024_S2048x1024_0_0).emb (ix2 ⟨r.val, h⟩ k) := by
      funext a
      apply Fin.ext
      match a with
      | ⟨0, _⟩ => show r.val = 0 + 1 * r.val; omega
      | ⟨1, _⟩ => show k.val = 0 + 1 * k.val; omega
    rw [hx, View.canon_cons_emb]
    pointwise [k0_pay4]
    exact blk0 m c t e he _ _ _ _
  · next h =>
    have hx : (ix2 r k : S2304x1024.Idx) = (Rect.unit (s := S2304x1024) ![2048, 0] S256x1024.size inb_S2304x1024_S256x1024_2048_0).emb (ix2 ⟨r.val - 2048, by omega⟩ k) := by
      funext a
      apply Fin.ext
      match a with
      | ⟨0, _⟩ => show r.val = 2048 + 1 * (r.val - 2048); omega
      | ⟨1, _⟩ => show k.val = 0 + 1 * k.val; omega
    rw [hx, View.canon_cons_emb]
    pointwise [k0_pay5]
    exact blk1 m c t e he _ _ _ _

include hs

/-- A point of expert `e` at quarter `s` adds that quarter's part to the accumulator. -/
theorem step (X : Vec Ideal S2304x1024 .bf16) (hX : ∀ r k, X (ix2 r k) = row m c e r k) (acc : Vec Ideal S2304x1024 .f32)
    (r : Fin 2304) (d : Fin 1024) :
    k0_pay7 X (iblk m c 2 t) (iblk m c 3 t) acc (iblk m c 4 t) (ix2 r d) = acc (ix2 r d) + part m c e r d s := by
  have hlt : ∀ f : Fin 256, 256 * s + f.val < 1024 := fun f => by have := f.isLt; omega
  pointwise [k0_pay7]
  refine congrArg (acc (ix2 r d) + ·) (Finset.sum_congr rfl fun f _ => ?_)
  rw [dif_pos (hlt f), blk4 m c t e he s hs hlt]
  simp only [blk2 m c t e he s hs hlt, blk3 m c t e he s hs hlt, hX]
  rw [Ffn.gate]
  rfl

omit he hs in
/-- AFTER A POINT: the staged rows are the expert's, and the accumulator holds the parts of the quarters so far. -/
theorem state (e : Fin 16) : ∀ (s : ℕ) (h : 4 * e.val + s < cfg0.N), s < 4 →
    (∀ r k, (outsAt0 m c (4 * e.val + s) h).2.2.1 (ix2 r k) = row m c e r k)
    ∧ ∀ r d, (outsAt0 m c (4 * e.val + s) h).2.2.2 (ix2 r d) = ∑ q ∈ Finset.range (s + 1), part m c e r d q
  | 0, h, _ => by
    have h0 : (⟨4 * e.val + 0, h⟩ : Fin cfg0.N).val % 4 = 0 := by dsimp only; omega
    have h1 : ¬(⟨4 * e.val + 0, h⟩ : Fin cfg0.N).val % 4 = 3 := by dsimp only; omega
    have hd : (⟨4 * e.val + 0, h⟩ : Fin cfg0.N).val / 4 = e.val := by dsimp only; omega
    rw [outsAt0_A m c ⟨4 * e.val + 0, h⟩ h0 h1]
    dsimp only
    rw [rows_A, acc_A]
    refine ⟨fun r k => rows_apply m c _ e hd r k, fun r d => ?_⟩
    rw [step m c _ e hd 0 h0 _ (fun r k => rows_apply m c _ e hd r k)]
    rw [Finset.sum_range_one]
    pointwise [k0_pay6]
  | s + 1, h, h4 => by
    obtain ⟨ih1, ih2⟩ := state e s (by omega) (by omega)
    have h0 : ¬(⟨4 * e.val + (s + 1), h⟩ : Fin cfg0.N).val % 4 = 0 := by dsimp only; omega
    have hm : (⟨4 * e.val + (s + 1), h⟩ : Fin cfg0.N).val % 4 = s + 1 := by dsimp only; omega
    have hd : (⟨4 * e.val + (s + 1), h⟩ : Fin cfg0.N).val / 4 = e.val := by dsimp only; omega
    by_cases h1 : (⟨4 * e.val + (s + 1), h⟩ : Fin cfg0.N).val % 4 = 3
    · rw [outsAt0_C m c ⟨4 * e.val + (s + 1), h⟩ h0 h1]
      dsimp only
      rw [acc_C]
      refine ⟨fun r k => ih1 r k, fun r d => (step m c _ e hd (s + 1) hm _ ih1 _ r d).trans ?_⟩
      rw [Finset.sum_range_succ _ (s + 1)]
      exact congrArg (· + part m c e r d (s + 1)) (ih2 r d)
    · rw [outsAt0_B m c ⟨4 * e.val + (s + 1), h⟩ h0 h1]
      dsimp only
      rw [acc_B]
      refine ⟨fun r k => ih1 r k, fun r d => (step m c _ e hd (s + 1) hm _ ih1 _ r d).trans ?_⟩
      rw [Finset.sum_range_succ _ (s + 1)]
      exact congrArg (· + part m c e r d (s + 1)) (ih2 r d)

omit he hs in
/-- The four quarters' parts add up to the expert's formula. -/
theorem parts (e : Fin 16) (r : Fin 2304) (d : Fin 1024) : ∑ q ∈ Finset.range (3 + 1), part m c e r d q
    = Ffn.expert (row m c e r) (fun k f => wgt m c (ix4 3 e k f)) (fun k f => wup m c (ix4 3 e k f)) (fun f => wdn m c (ix4 3 e f d)) := by
  unfold Ffn.expert part
  rw [Ffn.sum_blocks]
  rfl

omit he hs in
/-- What an expert's last point writes back: its latent rows' and its context rows' outputs. -/
theorem last (e : Fin 16) (h : 4 * e.val + 3 < cfg0.N) :
    (∀ b r d, (outsAt0 m c (4 * e.val + 3) h).1 (ix4 b 0 r d)
      = Ffn.expert (fun k => lat m c (ix4 b e r k)) (fun k f => wgt m c (ix4 3 e k f)) (fun k f => wup m c (ix4 3 e k f)) (fun f => wdn m c (ix4 3 e f d)))
    ∧ ∀ b r d, (outsAt0 m c (4 * e.val + 3) h).2.1 (ix4 b 0 r d)
      = Ffn.expert (fun k => ctx m c (ix4 b e r k)) (fun k f => wgt m c (ix4 3 e k f)) (fun k f => wup m c (ix4 3 e k f)) (fun f => wdn m c (ix4 3 e f d)) := by
  have h0 : ¬(⟨4 * e.val + 3, h⟩ : Fin cfg0.N).val % 4 = 0 := by dsimp only; omega
  have h1 : (⟨4 * e.val + 3, h⟩ : Fin cfg0.N).val % 4 = 3 := by dsimp only; omega
  have hs := (state m c e 3 h (by omega)).2
  have h5 := outsAt0_C m c ⟨4 * e.val + 3, h⟩ h0 h1
  rw [h5] at hs ⊢
  dsimp only at hs ⊢
  rw [acc_C] at hs
  rw [out5_C, out6_C]
  generalize k0_pay7 (F := Ideal) _ _ _ _ _ = acc at hs ⊢
  refine ⟨fun b r d => ?_, fun b r d => ?_⟩
  · have := b.isLt; have := r.isLt
    pointwise [k0_pay2, k0_pay1]
    rw [hs, parts]
    refine congrArg (fun x => Ffn.expert x _ _ _) (funext fun k => ?_)
    unfold row
    rw [dif_pos (by dsimp only; omega)]
    refine congrArg₂ (fun x y => lat m c (ix4 x e y k)) (Fin.ext ?_) (Fin.ext ?_)
    · show (b.val * 256 + r.val) / 256 = b.val; omega
    · show (b.val * 256 + r.val) % 256 = r.val; omega
  · have := b.isLt; have := r.isLt
    pointwise [k0_pay3, k0_pay1]
    rw [hs, parts]
    refine congrArg (fun x => Ffn.expert x _ _ _) (funext fun k => ?_)
    unfold row
    rw [dif_neg (by dsimp only; omega)]
    refine congrArg₂ (fun x y => ctx m c (ix4 x e y k)) (Fin.ext ?_) (Fin.ext ?_)
    · show (2048 + (b.val * 32 + r.val) - 2048) / 32 = b.val; omega
    · show (2048 + (b.val * 32 + r.val) - 2048) % 32 = r.val; omega

omit he hs in
/-- THE LATENT RESULT: every token of every expert at the expert's formula. -/
theorem latent (b : Fin 8) (e : Fin 16) (r : Fin 256) (d : Fin 1024) : G5 m c (ix4 b e r d)
    = Ffn.expert (fun k => lat m c (ix4 b e r k)) (fun k f => wgt m c (ix4 3 e k f)) (fun k f => wup m c (ix4 3 e k f)) (fun f => wdn m c (ix4 3 e f d)) := by
  have hp : pt5Of (ix4 b e r d : S8x16x256x1024.Idx) = 4 * e.val + 3 := by
    show 4 * (16 * (b.val / 8 - 0) + 1 * (e.val / 1 - 0) + 1 * (r.val / 256 - 0) + 1 * (d.val / 1024 - 0)) + 3 = _
    omega
  have hN : 4 * e.val + 3 < cfg0.N := lt_of_lt_of_eq (by omega) (show cfg0.N = 64 from N_0).symm
  have hl : loc5Of (ix4 b e r d : S8x16x256x1024.Idx) = ix4 b 0 r d := by
    funext a
    apply Fin.ext
    match a with
    | ⟨0, _⟩ => show b.val % 8 = b.val; omega
    | ⟨1, _⟩ => show e.val % 1 = 0; omega
    | ⟨2, _⟩ => show r.val % 256 = r.val; omega
    | ⟨3, _⟩ => show d.val % 1024 = d.val; omega
  unfold G5
  rw [dif_pos (by rw [hp]; exact hN), hl, fold0_congr m c _ _ _ (by rw [Nat.zero_add]; exact hN) hp, ← outsAt0_sweep m c _ hN]
  exact (last m c e hN).1 b r d

omit he hs in
/-- THE CONTEXT RESULT likewise. -/
theorem context (b : Fin 8) (e : Fin 16) (r : Fin 32) (d : Fin 1024) : G6 m c (ix4 b e r d)
    = Ffn.expert (fun k => ctx m c (ix4 b e r k)) (fun k f => wgt m c (ix4 3 e k f)) (fun k f => wup m c (ix4 3 e k f)) (fun f => wdn m c (ix4 3 e f d)) := by
  have hp : pt6Of (ix4 b e r d : S8x16x32x1024.Idx) = 4 * e.val + 3 := by
    show 4 * (16 * (b.val / 8 - 0) + 1 * (e.val / 1 - 0) + 1 * (r.val / 32 - 0) + 1 * (d.val / 1024 - 0)) + 3 = _
    omega
  have hN : 4 * e.val + 3 < cfg0.N := lt_of_lt_of_eq (by omega) (show cfg0.N = 64 from N_0).symm
  have hl : loc6Of (ix4 b e r d : S8x16x32x1024.Idx) = ix4 b 0 r d := by
    funext a
    apply Fin.ext
    match a with
    | ⟨0, _⟩ => show b.val % 8 = b.val; omega
    | ⟨1, _⟩ => show e.val % 1 = 0; omega
    | ⟨2, _⟩ => show r.val % 32 = r.val; omega
    | ⟨3, _⟩ => show d.val % 1024 = d.val; omega
  unfold G6
  rw [dif_pos (by rw [hp]; exact hN), hl, fold0_congr m c _ _ _ (by rw [Nat.zero_add]; exact hN) hp, ← outsAt0_sweep m c _ hN]
  exact (last m c e hN).2 b r d

end Cert.FfnIdeal.Blocks

end
-- ==== Proof.FfnRef.lean ====
module

public import proofs.«01_k».proof.Proof.FfnMath
public import proofs.«01_k».proof.Proof.Gen.FfnRefIdeal.Read

/-! The reference's two results of the routed experts, read at an index: one expert's formula for one token row. -/

@[expose] public section

set_option maxRecDepth 16384

noncomputable section

namespace Cert.FfnRefIdeal.At

open Cert.FfnRefIdeal Cert.FfnRefIdeal.Read Idealize.ShloMosaic

/-- A latent token's output is its expert's formula, over the fourth layer's weights. -/
theorem latent (A : (⟨S8x16x256x1024, .bf16⟩ : BufTy).Contents (Elt Ideal))
    (G U D : (⟨S4x16x1024x1024, .f32⟩ : BufTy).Contents (Elt Ideal)) (b : Fin 8) (e : Fin 16) (r : Fin 256) (d : Fin 1024) :
    val_main_v15 A G U D (ix4 b e r d)
      = Ffn.expert (fun k => A (ix4 b e r k)) (fun k f => G (ix4 3 e k f)) (fun k f => U (ix4 3 e k f)) (fun f => D (ix4 3 e f d)) := by
  pointwise [val_main_v0, val_main_v1, val_main_v2, val_main_v3, val_main_v4, val_main_v5, val_main_v6, val_main_v7, val_main_v8,
    val_main_call0_v0, val_main_call0_v1, val_main_call0_cst, val_main_call0_v2, val_main_call0_v3, val_main_call0_cst_0,
    val_main_call0_v4, val_main_call0_v5, val_main_v9, val_main_v10, val_main_v11, val_main_v12, val_main_v13, val_main_v14, val_main_v15]
  unfold Ffn.expert Ffn.hidden Ffn.silu
  refine Finset.sum_congr rfl fun f _ => ?_
  simp only [mul_comm (G _), mul_comm (U _)]
  rw [mul_comm]

/-- A context token's output likewise. -/
theorem context (A : (⟨S8x16x32x1024, .bf16⟩ : BufTy).Contents (Elt Ideal))
    (G U D : (⟨S4x16x1024x1024, .f32⟩ : BufTy).Contents (Elt Ideal)) (b : Fin 8) (e : Fin 16) (r : Fin 32) (d : Fin 1024) :
    val_main_v31 A G U D (ix4 b e r d)
      = Ffn.expert (fun k => A (ix4 b e r k)) (fun k f => G (ix4 3 e k f)) (fun k f => U (ix4 3 e k f)) (fun f => D (ix4 3 e f d)) := by
  pointwise [val_main_v16, val_main_v17, val_main_v18, val_main_v19, val_main_v20, val_main_v21, val_main_v22, val_main_v23, val_main_v24,
    val_main_call1_v0, val_main_call1_v1, val_main_call1_cst, val_main_call1_v2, val_main_call1_v3, val_main_call1_cst_0,
    val_main_call1_v4, val_main_call1_v5, val_main_v25, val_main_v26, val_main_v27, val_main_v28, val_main_v29, val_main_v30, val_main_v31]
  unfold Ffn.expert Ffn.hidden Ffn.silu
  refine Finset.sum_congr rfl fun f _ => ?_
  simp only [mul_comm (G _), mul_comm (U _)]
  rw [mul_comm]

end Cert.FfnRefIdeal.At

end
-- ==== Proof.FfnClaim.lean ====
module

public import proofs.«01_k».proof.Defs
public import proofs.«01_k».proof.Proof.FfnValue
public import proofs.«01_k».proof.Proof.FfnRef

/-! The value claim of the routed experts: the kernel's two results are the reference's, from any memory. -/

@[expose] public section

set_option maxRecDepth 16384

noncomputable section

namespace Cert.FfnIdeal.Blocks

open Cert.FfnIdeal Cert.FfnIdeal.Value Idealize.ShloMosaic Idealize.ShloMosaic.TcCoe Idealize.SL.Sem

/-- Every weakly fair execution of the kernel and of the reference ends with the same two arrays. -/
theorem algebraic : Cert.algebraic_FfnIdeal_FfnRefIdeal := fun m ρ m' ρ' _ hag =>
  ⟨fun c => G5 m c, fun c => G6 m c, Cert.FfnIdeal.Value.run m ρ,
    (θ_run _ _ _).mono (fun r h c => by
      obtain ⟨h0, h1, hrest⟩ := h c
      obtain ⟨a0, a1, a2, a3, a4⟩ := hag c
      refine ⟨h0.trans ?_, h1.trans ?_, hrest⟩
      · rw [Cert.FfnRefIdeal.Read.val_main_v15_eq, a0, a2, a3, a4]
        funext i
        obtain ⟨b, e, r, d, rfl⟩ : ∃ (b : Fin 8) (e : Fin 16) (r : Fin 256) (d : Fin 1024), i = ix4 b e r d := ⟨i 0, i 1, i 2, i 3, eq_ix4 i⟩
        exact (Cert.FfnRefIdeal.At.latent _ _ _ _ b e r d).trans (latent m c b e r d).symm
      · rw [Cert.FfnRefIdeal.Read.val_main_v31_eq, a1, a2, a3, a4]
        funext i
        obtain ⟨b, e, r, d, rfl⟩ : ∃ (b : Fin 8) (e : Fin 16) (r : Fin 32) (d : Fin 1024), i = ix4 b e r d := ⟨i 0, i 1, i 2, i 3, eq_ix4 i⟩
        exact (Cert.FfnRefIdeal.At.context _ _ _ _ b e r d).trans (context m c b e r d).symm)
      (Cert.FfnRefIdeal.Value.run m' ρ')⟩

end Cert.FfnIdeal.Blocks

end
-- ==== Proof.HgInFrames.lean ====
module

public import proofs.«01_k».proof.Defs
public import proofs.«01_k».proof.Proof.Gen.HgIn.Frame
public import proofs.«01_k».proof.Proof.Gen.HgInIdeal.Frame
public import proofs.«01_k».proof.Proof.Gen.HgInRefIdeal.Run

/-! The frame claims of HGRN2's input projection: each terminates without a fault, at rest, with its arguments kept. -/

@[expose] public section

noncomputable section

namespace HgIn.Claims

open Idealize.ShloMosaic Idealize.SL.Sem

/-- The kernel at the machine's formats. -/
theorem kernel : Cert.quiescent_HgIn := fun m ρ _ => Cert.HgIn.Gen.frame m ρ

/-- The kernel over the extended reals. -/
theorem ideal : Cert.quiescent_HgInIdeal := fun m ρ _ => Cert.HgInIdeal.Gen.frame m ρ

/-- The reference over the extended reals. -/
theorem reference : Cert.quiescent_HgInRefIdeal := fun m ρ _ =>
  (θ_run _ _ _).mono (fun r h => ⟨fun c => (h c).2, sem_eq_zero_of_no_sems (by decide) r.2⟩) (Cert.HgInRefIdeal.Value.run m ρ)

end HgIn.Claims

end
-- ==== Proof.InMath.lean ====
module

public import Idealize.ShloMosaic.PureOps.Ideal
public import Idealize.ShloMosaic.PureOps.Ideal.Laws
public import Idealize.ShloMosaic.Lib.Pointwise

/-! The norm, modulation and projection in front of a mixer over the extended reals, at one token and one output column. -/

@[expose] public section

noncomputable section

namespace InProj

open Idealize.ShloMosaic

/-- A token's feature after the root-mean-square norm. -/
def normed (x : Fin 1024 → EReal) (k : Fin 1024) : EReal :=
  x k * Ideal.rsqrt (Ideal.div (∑ j, x j * x j) (Ideal.ofBits FTy.f32 1149239296#32) + Ideal.ofBits FTy.f32 897988541#32)

/-- The modulated feature: the normed one times its weight and one plus the scale, plus the shift. -/
def modulated (x nw sh sc : Fin 1024 → EReal) (k : Fin 1024) : EReal :=
  normed x k * nw k * (1 + sc k) + sh k

/-- An output column of the projection at a token. -/
def proj (x nw sh sc w : Fin 1024 → EReal) : EReal := ∑ k, modulated x nw sh sc k * w k

/-- The weight may be multiplied into the scale first. -/
theorem modulated_eq (x nw sh sc : Fin 1024 → EReal) (k : Fin 1024) :
    normed x k * (nw k * (1 + sc k)) + sh k = modulated x nw sh sc k := by
  unfold modulated
  rw [mul_assoc]

/-- Equal rows, weights, shifts and scales give equal modulated features. -/
theorem modulated_congr {x x' nw nw' sh sh' sc sc' : Fin 1024 → EReal} (hx : ∀ k, x k = x' k) (hn : ∀ k, nw k = nw' k)
    (hs : ∀ k, sh k = sh' k) (hc : ∀ k, sc k = sc' k) (k : Fin 1024) : modulated x nw sh sc k = modulated x' nw' sh' sc' k := by
  rw [funext hx, funext hn, funext hs, funext hc]

/-- A row of 4128 weights filled with zeros to 4608, the next multiple of 512. -/
def padded (w : Fin 4128 → EReal) (q : Fin 4608) : EReal := if h : q.val < 4128 then w ⟨q.val, h⟩ else 0

/-- The weight's column behind an output column. The output has four groups of 384 columns: four query heads, a key head and a
    value head; the weights have all queries first, then all keys, then all values. -/
def source (q : Fin 1536) : Fin 1536 :=
  if q.val % 384 < 256 then ⟨q.val / 384 * 256 + q.val % 384, by omega⟩
  else if q.val % 384 - 256 < 64 then ⟨1024 + (q.val / 384 * 64 + (q.val % 384 - 256)), by omega⟩
  else ⟨1280 + (q.val / 384 * 64 + (q.val % 384 - 256 - 64)), by omega⟩

end InProj

end
-- ==== Proof.InRows.lean ====
module

public import proofs.«01_k».proof.Proof.Gen.HgInIdeal.Skeleton
public import proofs.«01_k».proof.Proof.InMath
public import Idealize.ShloMosaic.Lib.Pointwise
public import Idealize.ShloMosaic.Lib.Tactic

/-! The input projection's staged rows and output block as expressions of the blocks a point reads, and both entry by entry. Nothing here
    depends on the number of output columns: the projections into all four mixers share it. -/

@[expose] public section

set_option maxRecDepth 16384

noncomputable section

namespace InProj

open Cert.HgInIdeal Cert.HgInIdeal.Gen Idealize.ShloMosaic Idealize.ShloMosaic.TcCoe Idealize.SL.Sem

/-! ## The formula over the arguments -/

variable (X : S8x2048x1024.Idx → EReal) (C : S8x256x1024.Idx → EReal) (N : S1024.Idx → EReal) (L : S8x6144.Idx → EReal) (D : S6144.Idx → EReal)

/-- Row `r` of sample `b`: a sequence row, or after those a context row. -/
def token (b : Fin 8) (r : Fin 2304) (k : Fin 1024) : EReal :=
  if h : r.val < 2048 then X (ix3 b ⟨r.val, h⟩ k) else C (ix3 b ⟨r.val - 2048, by omega⟩ k)

/-- A sequence row. -/
theorem token_lat (b : Fin 8) (r : Fin 2304) (h : r.val < 2048) (k : Fin 1024) : token X C b r k = X (ix3 b ⟨r.val, h⟩ k) := dif_pos h

/-- A context row. -/
theorem token_ctx (b : Fin 8) (r : Fin 2304) (h : ¬r.val < 2048) (k : Fin 1024) : token X C b r k = C (ix3 b ⟨r.val - 2048, by omega⟩ k) := dif_neg h

/-- Column `q` of the modulation of row `r` of sample `b`: the sample's, or the context's. -/
def modOf (b : Fin 8) (r : Fin 2304) (q : Fin 6144) : EReal :=
  if r.val < 2048 then L (ix2 b q) else D (ix1 q)

/-- The modulated row. -/
def row (b : Fin 8) (r : Fin 2304) (k : Fin 1024) : EReal :=
  modulated (token X C b r) (fun k => N (ix1 k)) (fun k => modOf L D b r ⟨k.val, by omega⟩) (fun k => modOf L D b r ⟨1024 + k.val, by omega⟩) k

/-- A modulated sequence row. -/
theorem row_lat (b : Fin 8) (r : Fin 2304) (h : r.val < 2048) (k : Fin 1024) :
    row X C N L D b r k = modulated (fun k => X (ix3 b ⟨r.val, h⟩ k)) (fun k => N (ix1 k)) (fun k => L (ix2 b ⟨k.val, by omega⟩)) (fun k => L (ix2 b ⟨1024 + k.val, by omega⟩)) k :=
  modulated_congr (fun k => token_lat X C b r h k) (fun _ => rfl) (fun _ => if_pos h) (fun _ => if_pos h) k

/-- A modulated context row. -/
theorem row_ctx (b : Fin 8) (r : Fin 2304) (h : ¬r.val < 2048) (k : Fin 1024) :
    row X C N L D b r k = modulated (fun k => C (ix3 b ⟨r.val - 2048, by omega⟩ k)) (fun k => N (ix1 k)) (fun k => D (ix1 ⟨k.val, by omega⟩)) (fun k => D (ix1 ⟨1024 + k.val, by omega⟩)) k :=
  modulated_congr (fun k => token_ctx X C b r h k) (fun _ => rfl) (fun _ => if_neg h) (fun _ => if_neg h) k

/-! ## The blocks -/

section

variable {F : FTy → Type} [FloatOps F]

/-- The zero offset of two axes. -/
theorem hz2 : (![0, 0] : Fin 2 → Nat) = fun _ => 0 := funext fun a => by fin_cases a <;> rfl
/-- The zero offset of three axes. -/
theorem hz3 : (![0, 0, 0] : Fin 3 → Nat) = fun _ => 0 := funext fun a => by fin_cases a <;> rfl

/-- The sample's modulated rows as the kernel stages them: the sequence's rows, then the context's. -/
def staged (off : Fin 2 → Nat) (inb : ∀ a, off a + S1x1024.size a ≤ S16x1024.size a) (x0 : Vec F S1x2304x1024 .f32) (x1 : Vec F S1x1024 .f32) (x2 x3 : Vec F S16x1024 .f32) : Vec F S2304x1024 .bf16 :=
  View.canon
    [⟨Rect.unit ![2048, 0] S256x1024.size inb_S2304x1024_S256x1024_2048_0,
      k0_pay1 (k0_pay4 (View.ld x0 (Rect.unit ![0, 2048, 0] S1x256x1024.size inb_S1x2304x1024_S1x256x1024_0_2048_0)))
        (k0_pay5 (View.ld x0 (Rect.unit ![0, 2048, 0] S1x256x1024.size inb_S1x2304x1024_S1x256x1024_0_2048_0))) x1
        (View.ld x3 (Rect.unit ![8, 0] S1x1024.size inb_S16x1024_S1x1024_8_0))
        (View.ld x2 (Rect.unit ![8, 0] S1x1024.size inb_S16x1024_S1x1024_8_0))⟩,
    ⟨Rect.unit ![0, 0] S2048x1024.size inb_S2304x1024_S2048x1024_0_0,
      k0_pay3 (View.ld x0 (Rect.unit ![0, 0, 0] S1x2048x1024.size inb_S1x2304x1024_S1x2048x1024_0_0_0)) x1
        (View.ld x3 (Rect.unit off S1x1024.size inb))
        (View.ld x2 (Rect.unit off S1x1024.size inb))⟩]

/-- A point's output block: the staged rows times its block of weights, plus its block of the bias. -/
def columns (X : Vec F S2304x1024 .bf16) (w : Vec F S1024x512 .bf16) (z : Vec F S1x512 .f32) : Vec F S1x2304x512 .bf16 := k0_pay2 X w z

end

/-- The modulation row a point reads for its sequence rows. -/
theorem ld_lat (X : Vec Ideal S16x1024 .f32) (b : Fin 8) (off : Fin 2 → Nat) (inb : ∀ a, off a + S1x1024.size a ≤ S16x1024.size a) (ho : off = ![b.val, 0]) (k : Fin 1024) :
    View.ld (Val := Elt Ideal) X (Rect.unit off S1x1024.size inb) (ix2 0 k) = X (ix2 ⟨b.val, by omega⟩ k) := by
  subst ho
  refine congrArg X (funext fun a => Fin.ext ?_)
  match a with
  | ⟨0, _⟩ => show b.val + 1 * 0 = b.val; omega
  | ⟨1, _⟩ => show 0 + 1 * k.val = k.val; omega

/-- The modulation row it reads for its context rows. -/
theorem ld_ctx (X : Vec Ideal S16x1024 .f32) (k : Fin 1024) :
    View.ld (Val := Elt Ideal) X (Rect.unit ![8, 0] S1x1024.size inb_S16x1024_S1x1024_8_0) (ix2 0 k) = X (ix2 8 k) := by
  refine congrArg X (funext fun a => Fin.ext ?_)
  match a with
  | ⟨0, _⟩ => show 8 + 1 * 0 = 8; rfl
  | ⟨1, _⟩ => show 0 + 1 * k.val = k.val; omega

/-- A point's sequence rows, read. -/
theorem ld_rows (X : Vec Ideal S1x2304x1024 .f32) (r : Fin 2048) (k : Fin 1024) :
    View.ld (Val := Elt Ideal) X (Rect.unit ![0, 0, 0] S1x2048x1024.size inb_S1x2304x1024_S1x2048x1024_0_0_0) (ix3 0 r k) = X (ix3 0 ⟨r.val, by omega⟩ k) := by
  refine congrArg X (funext fun a => Fin.ext ?_)
  match a with
  | ⟨0, _⟩ => rfl
  | ⟨1, _⟩ => show 0 + 1 * r.val = r.val; omega
  | ⟨2, _⟩ => show 0 + 1 * k.val = k.val; omega

/-- Its context rows, read. -/
theorem ld_crows (X : Vec Ideal S1x2304x1024 .f32) (r : Fin 256) (k : Fin 1024) :
    View.ld (Val := Elt Ideal) X (Rect.unit ![0, 2048, 0] S1x256x1024.size inb_S1x2304x1024_S1x256x1024_0_2048_0) (ix3 0 r k) = X (ix3 0 ⟨2048 + r.val, by omega⟩ k) := by
  refine congrArg X (funext fun a => Fin.ext ?_)
  match a with
  | ⟨0, _⟩ => rfl
  | ⟨1, _⟩ => show 2048 + 1 * r.val = 2048 + r.val; omega
  | ⟨2, _⟩ => show 0 + 1 * k.val = k.val; omega

/-- The modulated sequence rows as a formula. -/
theorem pay3_at (X : Vec Ideal S1x2048x1024 .f32) (w sc sh : Vec Ideal S1x1024 .f32) (r : Fin 2048) (k : Fin 1024) :
    k0_pay3 X w sc sh (ix2 r k) = modulated (fun k => X (ix3 0 r k)) (fun k => w (ix2 0 k)) (fun k => sh (ix2 0 k)) (fun k => sc (ix2 0 k)) k := by
  pointwise [k0_pay3]
  refine Eq.trans ?_ (modulated_eq _ _ _ _ k)
  unfold normed
  rfl

/-- The modulated context rows alike. -/
theorem pay1_at (X : Vec Ideal S1x256x1024 .f32) (w sc sh : Vec Ideal S1x1024 .f32) (r : Fin 256) (k : Fin 1024) :
    k0_pay1 (k0_pay4 X) (k0_pay5 X) w sc sh (ix2 r k) = modulated (fun k => X (ix3 0 r k)) (fun k => w (ix2 0 k)) (fun k => sh (ix2 0 k)) (fun k => sc (ix2 0 k)) k := by
  pointwise [k0_pay1, k0_pay4, k0_pay5]
  refine Eq.trans ?_ (modulated_eq _ _ _ _ k)
  unfold normed
  rfl

/-- A point's output block over staged rows: the projection's formula. -/
theorem pay2_at (X : Vec Ideal S2304x1024 .bf16) (w : Vec Ideal S1024x512 .bf16) (z : Vec Ideal S1x512 .f32) (r : Fin 2304) (q : Fin 512) :
    columns X w z (ix3 0 r q) = (∑ k, X (ix2 r k) * w (ix2 k q)) + z (ix2 0 q) := by
  pointwise [columns, k0_pay2]

/-- The staged rows of a point of sample `b`, over blocks read entry by entry: the modulated rows. -/
theorem staged_at (b : Fin 8) (off : Fin 2 → Nat) (inb : ∀ a, off a + S1x1024.size a ≤ S16x1024.size a) (ho : off = ![b.val, 0])
    (x0 : Vec Ideal S1x2304x1024 .f32) (x1 : Vec Ideal S1x1024 .f32) (x2 x3 : Vec Ideal S16x1024 .f32)
    (h0 : ∀ r k, x0 (ix3 0 r k) = token X C b r k) (h1 : ∀ k, x1 (ix2 0 k) = N (ix1 k))
    (h2 : ∀ k : Fin 1024, x2 (ix2 ⟨b.val, by omega⟩ k) = L (ix2 b ⟨k.val, by omega⟩)) (h2' : ∀ k : Fin 1024, x2 (ix2 8 k) = D (ix1 ⟨k.val, by omega⟩))
    (h3 : ∀ k : Fin 1024, x3 (ix2 ⟨b.val, by omega⟩ k) = L (ix2 b ⟨1024 + k.val, by omega⟩)) (h3' : ∀ k : Fin 1024, x3 (ix2 8 k) = D (ix1 ⟨1024 + k.val, by omega⟩))
    (r : Fin 2304) (k : Fin 1024) : staged off inb x0 x1 x2 x3 (ix2 r k) = row X C N L D b r k := by
  unfold staged
  by_cases h : r.val < 2048
  · rw [View.canon_cons_of_not_mem _ _ (by
      rw [Rect.mem_set_unit]
      intro hm
      have h2 : 2048 ≤ r.val := (hm 0).1
      omega)]
    rw [show (ix2 r k : S2304x1024.Idx) = (Rect.unit (s := S2304x1024) ![0, 0] S2048x1024.size inb_S2304x1024_S2048x1024_0_0).emb (ix2 ⟨r.val, h⟩ k) by
      funext a
      apply Fin.ext
      match a with
      | ⟨0, _⟩ => show r.val = 0 + 1 * r.val; omega
      | ⟨1, _⟩ => show k.val = 0 + 1 * k.val; omega, View.canon_cons_emb, row_lat X C N L D b r h]
    exact (pay3_at _ _ _ _ _ _).trans (modulated_congr (fun k => (ld_rows _ _ _).trans ((h0 r k).trans (token_lat X C b r h k))) h1
      (fun k => (ld_lat _ b _ _ ho k).trans (h2 k)) (fun k => (ld_lat _ b _ _ ho k).trans (h3 k)) k)
  · rw [show (ix2 r k : S2304x1024.Idx) = (Rect.unit (s := S2304x1024) ![2048, 0] S256x1024.size inb_S2304x1024_S256x1024_2048_0).emb (ix2 ⟨r.val - 2048, by omega⟩ k) by
      funext a
      apply Fin.ext
      match a with
      | ⟨0, _⟩ => show r.val = 2048 + 1 * (r.val - 2048); omega
      | ⟨1, _⟩ => show k.val = 0 + 1 * k.val; omega, View.canon_cons_emb, row_ctx X C N L D b r h]
    have hr : (⟨2048 + (r.val - 2048), by omega⟩ : Fin 2304) = r := Fin.ext (by dsimp only; omega)
    exact (pay1_at _ _ _ _ _ _).trans (modulated_congr (fun k => (ld_crows _ _ _).trans (((congrArg (fun r => x0 (ix3 0 r k)) hr).trans (h0 r k)).trans (token_ctx X C b r h k))) h1
      (fun k => (ld_ctx _ k).trans (h2' k)) (fun k => (ld_ctx _ k).trans (h3' k)) k)

end InProj

end
-- ==== Proof.HgInBlocks.lean ====
module

public import proofs.«01_k».proof.Proof.Gen.HgInIdeal.Value
public import proofs.«01_k».proof.Proof.InRows
public import Idealize.ShloMosaic.Lib.Tactic

/-! What one grid point of HGRN2's input projection leaves in its scratch buffer and in its output block, as the body's own vector
    expressions of the blocks it reads. The kernel's cases: a sample's first column block (A) and the others (B). -/

@[expose] public section

set_option maxRecDepth 16384

noncomputable section

namespace Cert.HgInIdeal.Blocks

open Cert.HgInIdeal Cert.HgInIdeal.Gen Idealize.ShloMosaic Idealize.ShloMosaic.TcCoe Idealize.SL.Sem

variable {F : FTy → Type} [FloatOps F]

/-- A whole read of a buffer that stores have filled is the stores' contents. -/
theorem read_whole (L : List (View.Piece (Elt F) S2304x1024 .bf16)) (inb : ∀ a, (![0, 0] : Fin 2 → Nat) a + S2304x1024.size a ≤ S2304x1024.size a) :
    scM0_0.view.readCov L (Rect.unit ![0, 0] S2304x1024.size inb).toLoadRect = View.canon L :=
  (View.readCov_eq_canon' _ _ _).trans (View.ld_unit_zero (S := S2304x1024) InProj.hz2 _ _)

section

variable (c : Dev nD) (t : Fin cfg0.N) (x0 : Vec F S1x2304x1024 .f32) (x1 : Vec F S1x1024 .f32)
  (x2 x3 : Vec F S16x1024 .f32) (x4 : Vec F S1024x512 .bf16) (x5 : Vec F S1x512 .f32) (xs0 : Vec F S2304x1024 .bf16)

/-- Case A stages the modulated rows. -/
theorem rows_A (hc0 : cond0_0 (grid0.coords t)) : sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) hc0 x0 x1 x2 x3 x4 x5 = InProj.staged (k0_off1 (grid0.coords t)) (k0_off1_inb _ hc0) x0 x1 x2 x3 := by
  unfold sout0_A_0
  rw [View.read_writes_eq_canon _ _ _ (scover0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) hc0 x0 x1 x2 x3 x4 x5)]
  unfold kernelRun0_A
  dsimp only
  sl_unfold_words
  simp only [View.readAt_eq_ld, View.readCov_unit_zero (S := S2304x1024) _ InProj.hz2, (hs0_0 t).read_unread, (hs0_1 t).read_unread,
    (hs0_2 t).read_unread, (hs0_3 t).read_unread, (hs0_4 t).read_unread, (hs0_5 t).read_unread, (Memref.isWhole_whole cc0_scratch0).read_unread,
    View.ld_unit_zero (S := S1x1024) InProj.hz2, View.ld_unit_zero (S := S1024x512) InProj.hz2, View.ld_unit_zero (S := S1x512) InProj.hz2,
    View.ld_unit_zero (S := S2304x1024) InProj.hz2]
  rfl

/-- Case A's output block: the staged rows times the block of weights, plus the bias. -/
theorem out_A (hc0 : cond0_0 (grid0.coords t)) : out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) hc0 x0 x1 x2 x3 x4 x5 = InProj.columns (InProj.staged (k0_off1 (grid0.coords t)) (k0_off1_inb _ hc0) x0 x1 x2 x3) x4 x5 := by
  unfold out0_A_6
  rw [View.read_writes_eq_canon _ _ _ (cover0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) hc0 x0 x1 x2 x3 x4 x5)]
  unfold kernelRun0_A
  dsimp only
  sl_unfold_words
  rw [View.canon_cons_unit_zero (S := S1x2304x512) InProj.hz3]
  simp only [View.readAt_eq_ld, View.readCov_unit_zero (S := S2304x1024) _ InProj.hz2, (hs0_0 t).read_unread, (hs0_1 t).read_unread,
    (hs0_2 t).read_unread, (hs0_3 t).read_unread, (hs0_4 t).read_unread, (hs0_5 t).read_unread, (Memref.isWhole_whole cc0_scratch0).read_unread,
    View.ld_unit_zero (S := S1x1024) InProj.hz2, View.ld_unit_zero (S := S1024x512) InProj.hz2, View.ld_unit_zero (S := S1x512) InProj.hz2,
    View.ld_unit_zero (S := S2304x1024) InProj.hz2]
  exact congrArg (fun r => InProj.columns r x4 x5) (read_whole _ _)

/-- Case B's output block: what the scratch held, times its block of weights, plus the bias. -/
theorem out_B (hc0 : ¬cond0_0 (grid0.coords t)) : out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) hc0 x0 x1 x2 x3 x4 x5 xs0 = InProj.columns xs0 x4 x5 := by
  unfold out0_B_6
  rw [View.read_writes_eq_canon _ _ _ (cover0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) hc0 x0 x1 x2 x3 x4 x5 xs0)]
  unfold kernelRun0_B
  dsimp only
  rw [View.canon_cons_unit_zero (S := S1x2304x512) InProj.hz3]
  simp only [View.readAt_eq_ld, View.readCov_unit_zero (S := S2304x1024) _ InProj.hz2, (hs0_0 t).read_unread, (hs0_1 t).read_unread,
    (hs0_2 t).read_unread, (hs0_3 t).read_unread, (hs0_4 t).read_unread, (hs0_5 t).read_unread, (Memref.isWhole_whole cc0_scratch0).read_unread,
    View.ld_unit_zero (S := S1x1024) InProj.hz2, View.ld_unit_zero (S := S1024x512) InProj.hz2, View.ld_unit_zero (S := S1x512) InProj.hz2,
    View.ld_unit_zero (S := S2304x1024) InProj.hz2]
  rfl

end

end Cert.HgInIdeal.Blocks

end
-- ==== Proof.HgInHost.lean ====
module

public import proofs.«01_k».proof.Proof.HgInBlocks
public import Idealize.ShloMosaic.Lib.StableHlo.ReadAt

/-! The arrays HGRN2's input projection is launched over, entry by entry, from the arguments, and the blocks a grid point reads of
    them. -/

@[expose] public section

set_option maxRecDepth 16384

noncomputable section

namespace Cert.HgInIdeal.Blocks

open Cert.HgInIdeal Cert.HgInIdeal.Gen Idealize.ShloMosaic Idealize.ShloMosaic.TcCoe Idealize.SL.Sem

variable (m : (ℓ : Loc nD τ sig) → Buf (Elt Ideal) ℓ) (c : Dev nD)

/-- The sequence's rows. -/
abbrev lat : S8x2048x1024.Idx → EReal := m ((c : Thread nD τ).loc main_arg0)
/-- The context's rows. -/
abbrev ctx : S8x256x1024.Idx → EReal := m ((c : Thread nD τ).loc main_arg1)
/-- The norm's weights. -/
abbrev nw : S1024.Idx → EReal := m ((c : Thread nD τ).loc main_arg2)
/-- The samples' modulation. -/
abbrev modL : S8x6144.Idx → EReal := m ((c : Thread nD τ).loc main_arg3)
/-- The context's modulation. -/
abbrev modC : S6144.Idx → EReal := m ((c : Thread nD τ).loc main_arg4)
/-- The projection's weights. -/
abbrev wgt : S1024x5120.Idx → EReal := m ((c : Thread nD τ).loc main_arg5)

/-- The weight of a feature in an output column. -/
def col (k : Fin 1024) (q : Fin 5120) : EReal := wgt m c (ix2 k q)
/-- The bias of an output column: none. -/
def bias (_ : Fin 5120) : EReal := 0

/-- The modulated row of a token. -/
abbrev row (b : Fin 8) (r : Fin 2304) (k : Fin 1024) : EReal := InProj.row (lat m c) (ctx m c) (nw m c) (modL m c) (modC m c) b r k

/-! ## The arrays -/

/-- Sequence and context rows stand one after the other. -/
theorem xs_at (b : Fin 8) (r : Fin 2304) (k : Fin 1024) : (V m c main_v0 : S8x2304x1024.Idx → EReal) (ix3 b r k) = InProj.token (lat m c) (ctx m c) b r k := by
  unfold V InProj.token
  after_reads_at

/-- The first eight rows of the modulation table are the samples'. -/
theorem mod_lat (b : Fin 8) (q : Fin 6144) : (V m c main_v3 : S16x6144.Idx → EReal) (ix2 ⟨b.val, by omega⟩ q) = modL m c (ix2 b q) := by
  unfold V
  after_reads_at

/-- The ninth is the context's. -/
theorem mod_ctx (q : Fin 6144) : (V m c main_v3 : S16x6144.Idx → EReal) (ix2 8 q) = modC m c (ix1 q) := by
  unfold V
  after_reads_at
  after_reads_at

/-- The norm's weights as one row. -/
theorem nw_at (k : Fin 1024) : (V m c main_v6 : S1x1024.Idx → EReal) (ix2 0 k) = nw m c (ix1 k) := by
  unfold V
  after_reads_at

/-- The weights, column by column. -/
theorem w_at (k : Fin 1024) (q : Fin 5120) : (V m c main_v4 : S1024x5120.Idx → EReal) (ix2 k q) = col m c k q := by
  unfold V col
  after_reads_at

/-- The bias, column by column. -/
theorem bias_at (q : Fin 5120) : (V m c main_v7 : S1x5120.Idx → EReal) (ix2 0 q) = bias q := by
  unfold V bias
  after_reads_at

/-! ## The blocks of a point -/

/-- Where a point's blocks lie: its sample's rows, the shift's and the scale's columns of the modulation, and its 512 output columns. -/
theorem index_of : ∀ t : Fin cfg0.N, win0_0.index t = ![t.val / 10, 0, 0] ∧ win0_1.index t = ![0, 0] ∧ win0_2.index t = ![0, 0]
    ∧ win0_3.index t = ![0, 1] ∧ win0_4.index t = ![0, t.val % 10] ∧ win0_5.index t = ![0, t.val % 10]
    ∧ k0_off1 (grid0.coords t) = ![t.val / 10, 0] :=
  (by decide +kernel : ∀ t : Fin grid0.N, _)

variable (t : Fin cfg0.N)

/-- A point's rows are its sample's. -/
theorem blk0 (b : Fin 8) (hb : t.val / 10 = b.val) (r : Fin 2304) (k : Fin 1024) :
    (iblk m c 0 t : S1x2304x1024.Idx → EReal) (ix3 0 r k) = InProj.token (lat m c) (ctx m c) b r k := by
  have hi := (index_of t).1
  unfold iblk
  rw [View.read_apply]
  refine (cast_eq _ _).trans (Eq.trans (congrArg (V m c main_v0) (funext fun a => Fin.ext ?_)) (xs_at m c b r k))
  match a with
  | ⟨0, _⟩ => show win0_0.index t 0 * 1 + 1 * 0 = b.val; rw [hi]; show (t.val / 10) * 1 + _ = _; omega
  | ⟨1, _⟩ => show win0_0.index t 1 * 2304 + 1 * r.val = r.val; rw [hi]; show 0 * 2304 + _ = _; omega
  | ⟨2, _⟩ => show win0_0.index t 2 * 1024 + 1 * k.val = k.val; rw [hi]; show 0 * 1024 + _ = _; omega

/-- The norm's weights. -/
theorem blk1 (k : Fin 1024) : (iblk m c 1 t : S1x1024.Idx → EReal) (ix2 0 k) = nw m c (ix1 k) := by
  have hi := (index_of t).2.1
  unfold iblk
  rw [View.read_apply]
  refine (cast_eq _ _).trans (Eq.trans (congrArg (V m c main_v6) (funext fun a => Fin.ext ?_)) (nw_at m c k))
  match a with
  | ⟨0, _⟩ => show win0_1.index t 0 * 1 + 1 * 0 = 0; rw [hi]; rfl
  | ⟨1, _⟩ => show win0_1.index t 1 * 1024 + 1 * k.val = k.val; rw [hi]; show 0 * 1024 + _ = _; omega

/-- The shifts are the modulation's first 1024 columns. -/
theorem blk2 (r : Fin 16) (k : Fin 1024) :
    (iblk m c 2 t : S16x1024.Idx → EReal) (ix2 r k) = (V m c main_v3 : S16x6144.Idx → EReal) (ix2 r ⟨k.val, by omega⟩) := by
  have hi := (index_of t).2.2.1
  unfold iblk
  rw [View.read_apply]
  refine (cast_eq _ _).trans (congrArg (V m c main_v3) (funext fun a => Fin.ext ?_))
  match a with
  | ⟨0, _⟩ => show win0_2.index t 0 * 16 + 1 * r.val = r.val; rw [hi]; show 0 * 16 + _ = _; omega
  | ⟨1, _⟩ => show win0_2.index t 1 * 1024 + 1 * k.val = k.val; rw [hi]; show 0 * 1024 + _ = _; omega

/-- The scales are the next 1024. -/
theorem blk3 (r : Fin 16) (k : Fin 1024) :
    (iblk m c 3 t : S16x1024.Idx → EReal) (ix2 r k) = (V m c main_v3 : S16x6144.Idx → EReal) (ix2 r ⟨1024 + k.val, by omega⟩) := by
  have hi := (index_of t).2.2.2.1
  unfold iblk
  rw [View.read_apply]
  refine (cast_eq _ _).trans (congrArg (V m c main_v3) (funext fun a => Fin.ext ?_))
  match a with
  | ⟨0, _⟩ => show win0_3.index t 0 * 16 + 1 * r.val = r.val; rw [hi]; show 0 * 16 + _ = _; omega
  | ⟨1, _⟩ => show win0_3.index t 1 * 1024 + 1 * k.val = 1024 + k.val; rw [hi]; show 1 * 1024 + _ = _; omega

variable (j : ℕ) (hj : t.val % 10 = j) (hlt : ∀ q : Fin 512, 512 * j + q.val < 5120)
include hj

/-- A point's block of weights: its 512 columns. -/
theorem blk4 (k : Fin 1024) (q : Fin 512) :
    (iblk m c 4 t : S1024x512.Idx → EReal) (ix2 k q) = col m c k ⟨512 * j + q.val, hlt q⟩ := by
  have hi := (index_of t).2.2.2.2.1
  unfold iblk
  rw [View.read_apply]
  refine (cast_eq _ _).trans (Eq.trans (congrArg (V m c main_v4) (funext fun a => Fin.ext ?_)) (w_at m c k ⟨512 * j + q.val, hlt q⟩))
  match a with
  | ⟨0, _⟩ => show win0_4.index t 0 * 1024 + 1 * k.val = k.val; rw [hi]; show 0 * 1024 + _ = _; omega
  | ⟨1, _⟩ => show win0_4.index t 1 * 512 + 1 * q.val = 512 * j + q.val; rw [hi]; show (t.val % 10) * 512 + _ = _; omega

/-- Its block of the bias. -/
theorem blk5 (q : Fin 512) : (iblk m c 5 t : S1x512.Idx → EReal) (ix2 0 q) = bias ⟨512 * j + q.val, hlt q⟩ := by
  have hi := (index_of t).2.2.2.2.2.1
  unfold iblk
  rw [View.read_apply]
  refine (cast_eq _ _).trans (Eq.trans (congrArg (V m c main_v7) (funext fun a => Fin.ext ?_)) (bias_at m c ⟨512 * j + q.val, hlt q⟩))
  match a with
  | ⟨0, _⟩ => show win0_5.index t 0 * 1 + 1 * 0 = 0; rw [hi]; rfl
  | ⟨1, _⟩ => show win0_5.index t 1 * 512 + 1 * q.val = 512 * j + q.val; rw [hi]; show (t.val % 10) * 512 + _ = _; omega

end Cert.HgInIdeal.Blocks

end
-- ==== Proof.HgInValue.lean ====
module

public import proofs.«01_k».proof.Proof.HgInHost

/-! HGRN2's input projection over the extended reals: what its scratch holds after each point, and its result array, as the
    projection's formula at each token. -/

@[expose] public section

set_option maxRecDepth 16384

noncomputable section

namespace Cert.HgInIdeal.Blocks

open Cert.HgInIdeal Cert.HgInIdeal.Gen Cert.HgInIdeal.Value Idealize.ShloMosaic Idealize.ShloMosaic.TcCoe Idealize.SL.Sem

variable (m : (ℓ : Loc nD τ sig) → Buf (Elt Ideal) ℓ) (c : Dev nD)

/-- The result at a token and a column. -/
def outOf (b : Fin 8) (r : Fin 2304) (q : Fin 5120) : EReal := (∑ k, row m c b r k * col m c k q) + bias q

/-- What a sample's first point stages is the sample's modulated rows. -/
theorem staged_row (t : Fin cfg0.N) (b : Fin 8) (hb : t.val / 10 = b.val) (h0 : cond0_0 (grid0.coords t)) (r : Fin 2304) (k : Fin 1024) :
    InProj.staged (F := Ideal) (k0_off1 (grid0.coords t)) (k0_off1_inb _ h0) (iblk m c 0 t) (iblk m c 1 t) (iblk m c 2 t) (iblk m c 3 t) (ix2 r k) = row m c b r k :=
  InProj.staged_at _ _ _ _ _ b _ _ ((index_of t).2.2.2.2.2.2.trans (by rw [hb])) _ _ _ _ (blk0 m c t b hb) (blk1 m c t)
    (fun k => (blk2 m c t _ k).trans (mod_lat m c b _)) (fun k => (blk2 m c t 8 k).trans (mod_ctx m c _))
    (fun k => (blk3 m c t _ k).trans (mod_lat m c b _)) (fun k => (blk3 m c t 8 k).trans (mod_ctx m c _)) r k

/-- The output block of a point of sample `b` at column block `j`. -/
theorem block_at (t : Fin cfg0.N) (b : Fin 8) (j : ℕ) (hj : t.val % 10 = j) (hlt : ∀ q : Fin 512, 512 * j + q.val < 5120) (X : Vec Ideal S2304x1024 .bf16) (hX : ∀ r k, X (ix2 r k) = row m c b r k) (r : Fin 2304) (q : Fin 512) :
    InProj.columns X (iblk m c 4 t) (iblk m c 5 t) (ix3 0 r q) = outOf m c b r ⟨512 * j + q.val, hlt q⟩ := by
  rw [InProj.pay2_at, blk5 m c t j hj hlt]
  simp only [blk4 m c t j hj hlt, hX]
  rfl

/-- AFTER A POINT: the scratch holds the sample's modulated rows, and the output block its 512 columns. -/
theorem state (b : Fin 8) : ∀ (j : ℕ) (h : 10 * b.val + j < cfg0.N) (_ : j < 10),
    (∀ r k, (outsAt0 m c (10 * b.val + j) h).2 (ix2 r k) = row m c b r k)
    ∧ ∀ r (q : Fin 512), (outsAt0 m c (10 * b.val + j) h).1 (ix3 0 r q) = outOf m c b r ⟨512 * j + q.val, by omega⟩
  | 0, h, _ => by
    have h0 : (⟨10 * b.val + 0, h⟩ : Fin cfg0.N).val % 10 = 0 := by dsimp only; omega
    have hd : (⟨10 * b.val + 0, h⟩ : Fin cfg0.N).val / 10 = b.val := by dsimp only; omega
    rw [outsAt0_A m c ⟨10 * b.val + 0, h⟩ h0]
    dsimp only
    rw [rows_A, out_A]
    have hX := staged_row m c _ b hd ((hcond0_0 _).mpr h0)
    exact ⟨hX, fun r q => block_at m c _ b 0 h0 (fun q => by omega) _ hX r q⟩
  | j + 1, h, hj => by
    obtain ⟨ih, -⟩ := state b j (by omega) (by omega)
    have h0 : ¬(⟨10 * b.val + (j + 1), h⟩ : Fin cfg0.N).val % 10 = 0 := by dsimp only; omega
    have hm : (⟨10 * b.val + (j + 1), h⟩ : Fin cfg0.N).val % 10 = j + 1 := by dsimp only; omega
    have hd : (⟨10 * b.val + (j + 1), h⟩ : Fin cfg0.N).val / 10 = b.val := by dsimp only; omega
    rw [outsAt0_B m c ⟨10 * b.val + (j + 1), h⟩ h0]
    dsimp only
    rw [out_B]
    exact ⟨fun r k => ih r k, fun r q => block_at m c _ b (j + 1) hm (fun q => by omega) _ ih r q⟩

/-- THE RESULT: every token at every column at the projection's formula. -/
theorem G6_at (b : Fin 8) (r : Fin 2304) (q : Fin 5120) : G6 m c (ix3 b r q) = outOf m c b r q := by
  have hp : pt6Of (ix3 b r q : S8x2304x5120.Idx) = 10 * b.val + q.val / 512 := by
    show 10 * (b.val / 1 - 0) + 10 * (r.val / 2304 - 0) + 1 * (q.val / 512 - 0) = _
    omega
  have hN : 10 * b.val + q.val / 512 < cfg0.N := lt_of_lt_of_eq (by omega) (show cfg0.N = 80 from N_0).symm
  have hl : loc6Of (ix3 b r q : S8x2304x5120.Idx) = ix3 0 r ⟨q.val % 512, by omega⟩ := by
    funext a
    apply Fin.ext
    match a with
    | ⟨0, _⟩ => show b.val % 1 = 0; omega
    | ⟨1, _⟩ => show r.val % 2304 = r.val; omega
    | ⟨2, _⟩ => rfl
  unfold G6
  rw [dif_pos (by rw [hp]; exact hN), hl, fold0_congr m c _ _ _ (by rw [Nat.zero_add]; exact hN) hp, ← outsAt0_sweep m c _ hN]
  exact ((state m c b (q.val / 512) hN (by omega)).2 r _).trans (congrArg (outOf m c b r) (Fin.ext (Nat.div_add_mod q.val 512)))

end Cert.HgInIdeal.Blocks

end
-- ==== Proof.HgInRef.lean ====
module

public import proofs.«01_k».proof.Proof.Gen.HgInRefIdeal.Read
public import proofs.«01_k».proof.Proof.InMath

/-! The reference of HGRN2's input projection over the extended reals, read at a token and a column. -/

@[expose] public section

set_option maxRecDepth 16384

noncomputable section

namespace Cert.HgInRefIdeal.At

open Cert.HgInRefIdeal Cert.HgInRefIdeal.Gen Cert.HgInRefIdeal.Read Idealize.ShloMosaic Idealize.SL.Sem

variable (X : (⟨S8x2048x1024, .f32⟩ : BufTy).Contents (Elt Ideal)) (C : (⟨S8x256x1024, .f32⟩ : BufTy).Contents (Elt Ideal))
  (N : (⟨S1024, .f32⟩ : BufTy).Contents (Elt Ideal)) (L : (⟨S8x6144, .f32⟩ : BufTy).Contents (Elt Ideal))
  (D : (⟨S6144, .f32⟩ : BufTy).Contents (Elt Ideal)) (W : (⟨S1024x5120, .f32⟩ : BufTy).Contents (Elt Ideal))

/-- A modulated sequence row. -/
theorem lat_row (b : Fin 8) (r : Fin 2048) (k : Fin 1024) :
    val_main_v36 X N L (ix3 b r k) = InProj.modulated (fun k => X (ix3 b r k)) (fun k => N (ix1 k)) (fun k => L (ix2 b ⟨k.val, by omega⟩)) (fun k => L (ix2 b ⟨1024 + k.val, by omega⟩)) k := by
  pointwise [val_main_v36, val_main_v35, val_main_v34, val_main_v33, val_main_v32, val_main_v31, val_main_cst_2, val_main_v30, val_main_v29, val_main_v28, val_main_v27, val_main_v26, val_main_v25, val_main_v24, val_main_v23, val_main_cst_1, val_main_v22, val_main_v21, val_main_cst_0, val_main_v20, val_main_v19, val_main_cst, val_main_v18, val_main_v7, val_main_v1, val_main_v6, val_main_v0]
  unfold InProj.modulated InProj.normed
  rfl

/-- A modulated context row. -/
theorem ctx_row (b : Fin 8) (r : Fin 256) (k : Fin 1024) :
    val_main_v57 C N D (ix3 b r k) = InProj.modulated (fun k => C (ix3 b r k)) (fun k => N (ix1 k)) (fun k => D (ix1 ⟨k.val, by omega⟩)) (fun k => D (ix1 ⟨1024 + k.val, by omega⟩)) k := by
  pointwise [val_main_v57, val_main_v56, val_main_v55, val_main_v54, val_main_v53, val_main_v52, val_main_v51, val_main_v50, val_main_cst_6, val_main_v49, val_main_v48, val_main_v47, val_main_v46, val_main_v45, val_main_v44, val_main_v43, val_main_v42, val_main_cst_5, val_main_v41, val_main_v40, val_main_cst_4, val_main_v39, val_main_v38, val_main_cst_3, val_main_v37, val_main_v13, val_main_v12]
  unfold InProj.modulated InProj.normed
  rfl

/-- A sequence row's result. -/
theorem lat (b : Fin 8) (r : Fin 2048) (q : Fin 5120) :
    val_main_v61 X C N L D W (ix3 b ⟨r.val, by omega⟩ q) = ∑ k, val_main_v36 X N L (ix3 b r k) * W (ix2 k q) := by
  pointwise [val_main_v61, val_main_v60, val_main_v58]

/-- A context row's result. -/
theorem ctx (b : Fin 8) (r : Fin 256) (q : Fin 5120) :
    val_main_v61 X C N L D W (ix3 b ⟨2048 + r.val, by omega⟩ q) = ∑ k, val_main_v57 C N D (ix3 b r k) * W (ix2 k q) := by
  pointwise [val_main_v61, val_main_v60, val_main_v59]

end Cert.HgInRefIdeal.At

end
-- ==== Proof.HgInClaim.lean ====
module

public import proofs.«01_k».proof.Defs
public import proofs.«01_k».proof.Proof.HgInValue
public import proofs.«01_k».proof.Proof.HgInRef

/-! The value claim of HGRN2's input projection: the kernel's result is the reference's, from any memory. -/

@[expose] public section

set_option maxRecDepth 16384

noncomputable section

namespace Cert.HgInIdeal.Blocks

open Cert.HgInIdeal Cert.HgInIdeal.Value Cert.HgInRefIdeal.Read Idealize.ShloMosaic Idealize.ShloMosaic.TcCoe Idealize.SL.Sem

variable (m : (ℓ : Loc nD τ sig) → Buf (Elt Ideal) ℓ) (c : Dev nD)

/-- The reference's array over the kernel's arguments, at a token and a column, is the kernel's. -/
theorem ref_eq (b : Fin 8) (r : Fin 2304) (q : Fin 5120) :
    val_main_v61 (F := Ideal) (lat m c) (ctx m c) (nw m c) (modL m c) (modC m c) (wgt m c) (ix3 b r q) = outOf m c b r q := by
  unfold outOf row
  by_cases h : r.val < 2048
  · simp only [InProj.row_lat _ _ _ _ _ b r h]
    refine (Cert.HgInRefIdeal.At.lat _ _ _ _ _ _ b ⟨r.val, h⟩ q).trans ?_
    exact (Finset.sum_congr rfl fun k _ => congrArg (· * _) (Cert.HgInRefIdeal.At.lat_row _ _ _ b _ k)).trans (add_zero _).symm
  · simp only [InProj.row_ctx _ _ _ _ _ b r h]
    have hr : (⟨2048 + (r.val - 2048), by omega⟩ : Fin 2304) = r := Fin.ext (by dsimp only; omega)
    refine Eq.trans (by rw [hr]) ((Cert.HgInRefIdeal.At.ctx _ _ _ _ _ _ b ⟨r.val - 2048, by omega⟩ q).trans ?_)
    exact (Finset.sum_congr rfl fun k _ => congrArg (· * _) (Cert.HgInRefIdeal.At.ctx_row _ _ _ b _ k)).trans (add_zero _).symm

/-- Every weakly fair execution of the kernel and of the reference ends with the same array. -/
theorem algebraic : Cert.algebraic_HgInIdeal_HgInRefIdeal := fun m ρ m' ρ' _ hag =>
  ⟨fun c => G6 m c, Cert.HgInIdeal.Value.run m ρ,
    (θ_run _ _ _).mono (fun r h c => by
      obtain ⟨h0, hrest⟩ := h c
      obtain ⟨a0, a1, a2, a3, a4, a5⟩ := hag c
      refine ⟨h0.trans ?_, hrest⟩
      rw [val_main_v61_eq, a0, a1, a2, a3, a4, a5]
      funext i
      obtain ⟨b, r, q, rfl⟩ : ∃ (b : Fin 8) (r : Fin 2304) (q : Fin 5120), i = ix3 b r q := ⟨i 0, i 1, i 2, eq_ix3 i⟩
      exact (ref_eq m c b r q).trans (G6_at m c b r q).symm)
      (Cert.HgInRefIdeal.Value.run m' ρ')⟩

end Cert.HgInIdeal.Blocks

end
-- ==== Proof.GdInFrames.lean ====
module

public import proofs.«01_k».proof.Defs
public import proofs.«01_k».proof.Proof.Gen.GdIn.Frame
public import proofs.«01_k».proof.Proof.Gen.GdInIdeal.Frame
public import proofs.«01_k».proof.Proof.Gen.GdInRefIdeal.Run

/-! The frame claims of the gated delta rule's input projection: each terminates without a fault, at rest, with its arguments kept. -/

@[expose] public section

noncomputable section

namespace GdIn.Claims

open Idealize.ShloMosaic Idealize.SL.Sem

/-- The kernel at the machine's formats. -/
theorem kernel : Cert.quiescent_GdIn := fun m ρ _ => Cert.GdIn.Gen.frame m ρ

/-- The kernel over the extended reals. -/
theorem ideal : Cert.quiescent_GdInIdeal := fun m ρ _ => Cert.GdInIdeal.Gen.frame m ρ

/-- The reference over the extended reals. -/
theorem reference : Cert.quiescent_GdInRefIdeal := fun m ρ _ =>
  (θ_run _ _ _).mono (fun r h => ⟨fun c => (h c).2, sem_eq_zero_of_no_sems (by decide) r.2⟩) (Cert.GdInRefIdeal.Value.run m ρ)

end GdIn.Claims

end
-- ==== Proof.GdInBlocks.lean ====
module

public import proofs.«01_k».proof.Proof.Gen.GdInIdeal.Value
public import proofs.«01_k».proof.Proof.InRows
public import Idealize.ShloMosaic.Lib.Tactic

/-! What one grid point of the gated delta rule's input projection leaves in its scratch buffer and in its output block, as the body's own vector
    expressions of the blocks it reads. The kernel's cases: a sample's first column block (A) and the others (B). -/

@[expose] public section

set_option maxRecDepth 16384

noncomputable section

namespace Cert.GdInIdeal.Blocks

open Cert.GdInIdeal Cert.GdInIdeal.Gen Idealize.ShloMosaic Idealize.ShloMosaic.TcCoe Idealize.SL.Sem

variable {F : FTy → Type} [FloatOps F]

/-- A whole read of a buffer that stores have filled is the stores' contents. -/
theorem read_whole (L : List (View.Piece (Elt F) S2304x1024 .bf16)) (inb : ∀ a, (![0, 0] : Fin 2 → Nat) a + S2304x1024.size a ≤ S2304x1024.size a) :
    scM0_0.view.readCov L (Rect.unit ![0, 0] S2304x1024.size inb).toLoadRect = View.canon L :=
  (View.readCov_eq_canon' _ _ _).trans (View.ld_unit_zero (S := S2304x1024) InProj.hz2 _ _)

section

variable (c : Dev nD) (t : Fin cfg0.N) (x0 : Vec F S1x2304x1024 .f32) (x1 : Vec F S1x1024 .f32)
  (x2 x3 : Vec F S16x1024 .f32) (x4 : Vec F S1024x512 .bf16) (x5 : Vec F S1x512 .f32) (xs0 : Vec F S2304x1024 .bf16)

/-- Case A stages the modulated rows. -/
theorem rows_A (hc0 : cond0_0 (grid0.coords t)) : sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) hc0 x0 x1 x2 x3 x4 x5 = InProj.staged (k0_off1 (grid0.coords t)) (k0_off1_inb _ hc0) x0 x1 x2 x3 := by
  unfold sout0_A_0
  rw [View.read_writes_eq_canon _ _ _ (scover0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) hc0 x0 x1 x2 x3 x4 x5)]
  unfold kernelRun0_A
  dsimp only
  sl_unfold_words
  simp only [View.readAt_eq_ld, View.readCov_unit_zero (S := S2304x1024) _ InProj.hz2, (hs0_0 t).read_unread, (hs0_1 t).read_unread,
    (hs0_2 t).read_unread, (hs0_3 t).read_unread, (hs0_4 t).read_unread, (hs0_5 t).read_unread, (Memref.isWhole_whole cc0_scratch0).read_unread,
    View.ld_unit_zero (S := S1x1024) InProj.hz2, View.ld_unit_zero (S := S1024x512) InProj.hz2, View.ld_unit_zero (S := S1x512) InProj.hz2,
    View.ld_unit_zero (S := S2304x1024) InProj.hz2]
  rfl

/-- Case A's output block: the staged rows times the block of weights, plus the bias. -/
theorem out_A (hc0 : cond0_0 (grid0.coords t)) : out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) hc0 x0 x1 x2 x3 x4 x5 = InProj.columns (InProj.staged (k0_off1 (grid0.coords t)) (k0_off1_inb _ hc0) x0 x1 x2 x3) x4 x5 := by
  unfold out0_A_6
  rw [View.read_writes_eq_canon _ _ _ (cover0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) hc0 x0 x1 x2 x3 x4 x5)]
  unfold kernelRun0_A
  dsimp only
  sl_unfold_words
  rw [View.canon_cons_unit_zero (S := S1x2304x512) InProj.hz3]
  simp only [View.readAt_eq_ld, View.readCov_unit_zero (S := S2304x1024) _ InProj.hz2, (hs0_0 t).read_unread, (hs0_1 t).read_unread,
    (hs0_2 t).read_unread, (hs0_3 t).read_unread, (hs0_4 t).read_unread, (hs0_5 t).read_unread, (Memref.isWhole_whole cc0_scratch0).read_unread,
    View.ld_unit_zero (S := S1x1024) InProj.hz2, View.ld_unit_zero (S := S1024x512) InProj.hz2, View.ld_unit_zero (S := S1x512) InProj.hz2,
    View.ld_unit_zero (S := S2304x1024) InProj.hz2]
  exact congrArg (fun r => InProj.columns r x4 x5) (read_whole _ _)

/-- Case B's output block: what the scratch held, times its block of weights, plus the bias. -/
theorem out_B (hc0 : ¬cond0_0 (grid0.coords t)) : out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) hc0 x0 x1 x2 x3 x4 x5 xs0 = InProj.columns xs0 x4 x5 := by
  unfold out0_B_6
  rw [View.read_writes_eq_canon _ _ _ (cover0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) hc0 x0 x1 x2 x3 x4 x5 xs0)]
  unfold kernelRun0_B
  dsimp only
  rw [View.canon_cons_unit_zero (S := S1x2304x512) InProj.hz3]
  simp only [View.readAt_eq_ld, View.readCov_unit_zero (S := S2304x1024) _ InProj.hz2, (hs0_0 t).read_unread, (hs0_1 t).read_unread,
    (hs0_2 t).read_unread, (hs0_3 t).read_unread, (hs0_4 t).read_unread, (hs0_5 t).read_unread, (Memref.isWhole_whole cc0_scratch0).read_unread,
    View.ld_unit_zero (S := S1x1024) InProj.hz2, View.ld_unit_zero (S := S1024x512) InProj.hz2, View.ld_unit_zero (S := S1x512) InProj.hz2,
    View.ld_unit_zero (S := S2304x1024) InProj.hz2]
  rfl

end

end Cert.GdInIdeal.Blocks

end
-- ==== Proof.GdInHost.lean ====
module

public import proofs.«01_k».proof.Proof.GdInBlocks
public import Idealize.ShloMosaic.Lib.StableHlo.ReadAt

/-! The arrays the gated delta rule's input projection is launched over, entry by entry, from the arguments, and the blocks a grid point reads of
    them. -/

@[expose] public section

set_option maxRecDepth 16384

noncomputable section

namespace Cert.GdInIdeal.Blocks

open Cert.GdInIdeal Cert.GdInIdeal.Gen Idealize.ShloMosaic Idealize.ShloMosaic.TcCoe Idealize.SL.Sem

variable (m : (ℓ : Loc nD τ sig) → Buf (Elt Ideal) ℓ) (c : Dev nD)

/-- The sequence's rows. -/
abbrev lat : S8x2048x1024.Idx → EReal := m ((c : Thread nD τ).loc main_arg0)
/-- The context's rows. -/
abbrev ctx : S8x256x1024.Idx → EReal := m ((c : Thread nD τ).loc main_arg1)
/-- The norm's weights. -/
abbrev nw : S1024.Idx → EReal := m ((c : Thread nD τ).loc main_arg2)
/-- The samples' modulation. -/
abbrev modL : S8x6144.Idx → EReal := m ((c : Thread nD τ).loc main_arg3)
/-- The context's modulation. -/
abbrev modC : S6144.Idx → EReal := m ((c : Thread nD τ).loc main_arg4)
/-- The projection's weights. -/
abbrev wgt : S1024x4128.Idx → EReal := m ((c : Thread nD τ).loc main_arg5)

/-- The weight of a feature in an output column: zero in the columns that fill the last block. -/
def col (k : Fin 1024) (q : Fin 4608) : EReal := InProj.padded (fun q => wgt m c (ix2 k q)) q
/-- The bias of an output column: none. -/
def bias (_ : Fin 4608) : EReal := 0

/-- The modulated row of a token. -/
abbrev row (b : Fin 8) (r : Fin 2304) (k : Fin 1024) : EReal := InProj.row (lat m c) (ctx m c) (nw m c) (modL m c) (modC m c) b r k

/-! ## The arrays -/

/-- Sequence and context rows stand one after the other. -/
theorem xs_at (b : Fin 8) (r : Fin 2304) (k : Fin 1024) : (V m c main_v0 : S8x2304x1024.Idx → EReal) (ix3 b r k) = InProj.token (lat m c) (ctx m c) b r k := by
  unfold V InProj.token
  after_reads_at

/-- The first eight rows of the modulation table are the samples'. -/
theorem mod_lat (b : Fin 8) (q : Fin 6144) : (V m c main_v3 : S16x6144.Idx → EReal) (ix2 ⟨b.val, by omega⟩ q) = modL m c (ix2 b q) := by
  unfold V
  after_reads_at

/-- The ninth is the context's. -/
theorem mod_ctx (q : Fin 6144) : (V m c main_v3 : S16x6144.Idx → EReal) (ix2 8 q) = modC m c (ix1 q) := by
  unfold V
  after_reads_at
  after_reads_at

/-- The norm's weights as one row. -/
theorem nw_at (k : Fin 1024) : (V m c main_v7 : S1x1024.Idx → EReal) (ix2 0 k) = nw m c (ix1 k) := by
  unfold V
  after_reads_at

/-- The weights, column by column. -/
theorem w_at (k : Fin 1024) (q : Fin 4608) : (V m c main_v5 : S1024x4608.Idx → EReal) (ix2 k q) = col m c k q := by
  unfold V col InProj.padded
  after_reads_at
  refine dite_congr rfl (fun _ => rfl) (fun _ => ?_)
  show ((((0#32 : BitVec 32).toInt : ℝ)) : EReal) = 0
  norm_num

/-- The bias, column by column. -/
theorem bias_at (q : Fin 4608) : (V m c main_v8 : S1x4608.Idx → EReal) (ix2 0 q) = bias q := by
  unfold V bias
  after_reads_at

/-! ## The blocks of a point -/

/-- Where a point's blocks lie: its sample's rows, the shift's and the scale's columns of the modulation, and its 512 output columns. -/
theorem index_of : ∀ t : Fin cfg0.N, win0_0.index t = ![t.val / 9, 0, 0] ∧ win0_1.index t = ![0, 0] ∧ win0_2.index t = ![0, 0]
    ∧ win0_3.index t = ![0, 1] ∧ win0_4.index t = ![0, t.val % 9] ∧ win0_5.index t = ![0, t.val % 9]
    ∧ k0_off1 (grid0.coords t) = ![t.val / 9, 0] :=
  (by decide +kernel : ∀ t : Fin grid0.N, _)

variable (t : Fin cfg0.N)

/-- A point's rows are its sample's. -/
theorem blk0 (b : Fin 8) (hb : t.val / 9 = b.val) (r : Fin 2304) (k : Fin 1024) :
    (iblk m c 0 t : S1x2304x1024.Idx → EReal) (ix3 0 r k) = InProj.token (lat m c) (ctx m c) b r k := by
  have hi := (index_of t).1
  unfold iblk
  rw [View.read_apply]
  refine (cast_eq _ _).trans (Eq.trans (congrArg (V m c main_v0) (funext fun a => Fin.ext ?_)) (xs_at m c b r k))
  match a with
  | ⟨0, _⟩ => show win0_0.index t 0 * 1 + 1 * 0 = b.val; rw [hi]; show (t.val / 9) * 1 + _ = _; omega
  | ⟨1, _⟩ => show win0_0.index t 1 * 2304 + 1 * r.val = r.val; rw [hi]; show 0 * 2304 + _ = _; omega
  | ⟨2, _⟩ => show win0_0.index t 2 * 1024 + 1 * k.val = k.val; rw [hi]; show 0 * 1024 + _ = _; omega

/-- The norm's weights. -/
theorem blk1 (k : Fin 1024) : (iblk m c 1 t : S1x1024.Idx → EReal) (ix2 0 k) = nw m c (ix1 k) := by
  have hi := (index_of t).2.1
  unfold iblk
  rw [View.read_apply]
  refine (cast_eq _ _).trans (Eq.trans (congrArg (V m c main_v7) (funext fun a => Fin.ext ?_)) (nw_at m c k))
  match a with
  | ⟨0, _⟩ => show win0_1.index t 0 * 1 + 1 * 0 = 0; rw [hi]; rfl
  | ⟨1, _⟩ => show win0_1.index t 1 * 1024 + 1 * k.val = k.val; rw [hi]; show 0 * 1024 + _ = _; omega

/-- The shifts are the modulation's first 1024 columns. -/
theorem blk2 (r : Fin 16) (k : Fin 1024) :
    (iblk m c 2 t : S16x1024.Idx → EReal) (ix2 r k) = (V m c main_v3 : S16x6144.Idx → EReal) (ix2 r ⟨k.val, by omega⟩) := by
  have hi := (index_of t).2.2.1
  unfold iblk
  rw [View.read_apply]
  refine (cast_eq _ _).trans (congrArg (V m c main_v3) (funext fun a => Fin.ext ?_))
  match a with
  | ⟨0, _⟩ => show win0_2.index t 0 * 16 + 1 * r.val = r.val; rw [hi]; show 0 * 16 + _ = _; omega
  | ⟨1, _⟩ => show win0_2.index t 1 * 1024 + 1 * k.val = k.val; rw [hi]; show 0 * 1024 + _ = _; omega

/-- The scales are the next 1024. -/
theorem blk3 (r : Fin 16) (k : Fin 1024) :
    (iblk m c 3 t : S16x1024.Idx → EReal) (ix2 r k) = (V m c main_v3 : S16x6144.Idx → EReal) (ix2 r ⟨1024 + k.val, by omega⟩) := by
  have hi := (index_of t).2.2.2.1
  unfold iblk
  rw [View.read_apply]
  refine (cast_eq _ _).trans (congrArg (V m c main_v3) (funext fun a => Fin.ext ?_))
  match a with
  | ⟨0, _⟩ => show win0_3.index t 0 * 16 + 1 * r.val = r.val; rw [hi]; show 0 * 16 + _ = _; omega
  | ⟨1, _⟩ => show win0_3.index t 1 * 1024 + 1 * k.val = 1024 + k.val; rw [hi]; show 1 * 1024 + _ = _; omega

variable (j : ℕ) (hj : t.val % 9 = j) (hlt : ∀ q : Fin 512, 512 * j + q.val < 4608)
include hj

/-- A point's block of weights: its 512 columns. -/
theorem blk4 (k : Fin 1024) (q : Fin 512) :
    (iblk m c 4 t : S1024x512.Idx → EReal) (ix2 k q) = col m c k ⟨512 * j + q.val, hlt q⟩ := by
  have hi := (index_of t).2.2.2.2.1
  unfold iblk
  rw [View.read_apply]
  refine (cast_eq _ _).trans (Eq.trans (congrArg (V m c main_v5) (funext fun a => Fin.ext ?_)) (w_at m c k ⟨512 * j + q.val, hlt q⟩))
  match a with
  | ⟨0, _⟩ => show win0_4.index t 0 * 1024 + 1 * k.val = k.val; rw [hi]; show 0 * 1024 + _ = _; omega
  | ⟨1, _⟩ => show win0_4.index t 1 * 512 + 1 * q.val = 512 * j + q.val; rw [hi]; show (t.val % 9) * 512 + _ = _; omega

/-- Its block of the bias. -/
theorem blk5 (q : Fin 512) : (iblk m c 5 t : S1x512.Idx → EReal) (ix2 0 q) = bias ⟨512 * j + q.val, hlt q⟩ := by
  have hi := (index_of t).2.2.2.2.2.1
  unfold iblk
  rw [View.read_apply]
  refine (cast_eq _ _).trans (Eq.trans (congrArg (V m c main_v8) (funext fun a => Fin.ext ?_)) (bias_at m c ⟨512 * j + q.val, hlt q⟩))
  match a with
  | ⟨0, _⟩ => show win0_5.index t 0 * 1 + 1 * 0 = 0; rw [hi]; rfl
  | ⟨1, _⟩ => show win0_5.index t 1 * 512 + 1 * q.val = 512 * j + q.val; rw [hi]; show (t.val % 9) * 512 + _ = _; omega

end Cert.GdInIdeal.Blocks

end
-- ==== Proof.GdInValue.lean ====
module

public import proofs.«01_k».proof.Proof.GdInHost

/-! the gated delta rule's input projection over the extended reals: what its scratch holds after each point, and its result array, as the
    projection's formula at each token. -/

@[expose] public section

set_option maxRecDepth 16384

noncomputable section

namespace Cert.GdInIdeal.Blocks

open Cert.GdInIdeal Cert.GdInIdeal.Gen Cert.GdInIdeal.Value Idealize.ShloMosaic Idealize.ShloMosaic.TcCoe Idealize.SL.Sem

variable (m : (ℓ : Loc nD τ sig) → Buf (Elt Ideal) ℓ) (c : Dev nD)

/-- The result at a token and a column. -/
def outOf (b : Fin 8) (r : Fin 2304) (q : Fin 4608) : EReal := (∑ k, row m c b r k * col m c k q) + bias q

/-- What a sample's first point stages is the sample's modulated rows. -/
theorem staged_row (t : Fin cfg0.N) (b : Fin 8) (hb : t.val / 9 = b.val) (h0 : cond0_0 (grid0.coords t)) (r : Fin 2304) (k : Fin 1024) :
    InProj.staged (F := Ideal) (k0_off1 (grid0.coords t)) (k0_off1_inb _ h0) (iblk m c 0 t) (iblk m c 1 t) (iblk m c 2 t) (iblk m c 3 t) (ix2 r k) = row m c b r k :=
  InProj.staged_at _ _ _ _ _ b _ _ ((index_of t).2.2.2.2.2.2.trans (by rw [hb])) _ _ _ _ (blk0 m c t b hb) (blk1 m c t)
    (fun k => (blk2 m c t _ k).trans (mod_lat m c b _)) (fun k => (blk2 m c t 8 k).trans (mod_ctx m c _))
    (fun k => (blk3 m c t _ k).trans (mod_lat m c b _)) (fun k => (blk3 m c t 8 k).trans (mod_ctx m c _)) r k

/-- The output block of a point of sample `b` at column block `j`. -/
theorem block_at (t : Fin cfg0.N) (b : Fin 8) (j : ℕ) (hj : t.val % 9 = j) (hlt : ∀ q : Fin 512, 512 * j + q.val < 4608) (X : Vec Ideal S2304x1024 .bf16) (hX : ∀ r k, X (ix2 r k) = row m c b r k) (r : Fin 2304) (q : Fin 512) :
    InProj.columns X (iblk m c 4 t) (iblk m c 5 t) (ix3 0 r q) = outOf m c b r ⟨512 * j + q.val, hlt q⟩ := by
  rw [InProj.pay2_at, blk5 m c t j hj hlt]
  simp only [blk4 m c t j hj hlt, hX]
  rfl

/-- AFTER A POINT: the scratch holds the sample's modulated rows, and the output block its 512 columns. -/
theorem state (b : Fin 8) : ∀ (j : ℕ) (h : 9 * b.val + j < cfg0.N) (_ : j < 9),
    (∀ r k, (outsAt0 m c (9 * b.val + j) h).2 (ix2 r k) = row m c b r k)
    ∧ ∀ r (q : Fin 512), (outsAt0 m c (9 * b.val + j) h).1 (ix3 0 r q) = outOf m c b r ⟨512 * j + q.val, by omega⟩
  | 0, h, _ => by
    have h0 : (⟨9 * b.val + 0, h⟩ : Fin cfg0.N).val % 9 = 0 := by dsimp only; omega
    have hd : (⟨9 * b.val + 0, h⟩ : Fin cfg0.N).val / 9 = b.val := by dsimp only; omega
    rw [outsAt0_A m c ⟨9 * b.val + 0, h⟩ h0]
    dsimp only
    rw [rows_A, out_A]
    have hX := staged_row m c _ b hd ((hcond0_0 _).mpr h0)
    exact ⟨hX, fun r q => block_at m c _ b 0 h0 (fun q => by omega) _ hX r q⟩
  | j + 1, h, hj => by
    obtain ⟨ih, -⟩ := state b j (by omega) (by omega)
    have h0 : ¬(⟨9 * b.val + (j + 1), h⟩ : Fin cfg0.N).val % 9 = 0 := by dsimp only; omega
    have hm : (⟨9 * b.val + (j + 1), h⟩ : Fin cfg0.N).val % 9 = j + 1 := by dsimp only; omega
    have hd : (⟨9 * b.val + (j + 1), h⟩ : Fin cfg0.N).val / 9 = b.val := by dsimp only; omega
    rw [outsAt0_B m c ⟨9 * b.val + (j + 1), h⟩ h0]
    dsimp only
    rw [out_B]
    exact ⟨fun r k => ih r k, fun r q => block_at m c _ b (j + 1) hm (fun q => by omega) _ ih r q⟩

/-- THE RESULT: every token at every column at the projection's formula. -/
theorem G6_at (b : Fin 8) (r : Fin 2304) (q : Fin 4608) : G6 m c (ix3 b r q) = outOf m c b r q := by
  have hp : pt6Of (ix3 b r q : S8x2304x4608.Idx) = 9 * b.val + q.val / 512 := by
    show 9 * (b.val / 1 - 0) + 9 * (r.val / 2304 - 0) + 1 * (q.val / 512 - 0) = _
    omega
  have hN : 9 * b.val + q.val / 512 < cfg0.N := lt_of_lt_of_eq (by omega) (show cfg0.N = 72 from N_0).symm
  have hl : loc6Of (ix3 b r q : S8x2304x4608.Idx) = ix3 0 r ⟨q.val % 512, by omega⟩ := by
    funext a
    apply Fin.ext
    match a with
    | ⟨0, _⟩ => show b.val % 1 = 0; omega
    | ⟨1, _⟩ => show r.val % 2304 = r.val; omega
    | ⟨2, _⟩ => rfl
  unfold G6
  rw [dif_pos (by rw [hp]; exact hN), hl, fold0_congr m c _ _ _ (by rw [Nat.zero_add]; exact hN) hp, ← outsAt0_sweep m c _ hN]
  exact ((state m c b (q.val / 512) hN (by omega)).2 r _).trans (congrArg (outOf m c b r) (Fin.ext (Nat.div_add_mod q.val 512)))

end Cert.GdInIdeal.Blocks

end
-- ==== Proof.GdInRef.lean ====
module

public import proofs.«01_k».proof.Proof.Gen.GdInRefIdeal.Read
public import proofs.«01_k».proof.Proof.HgInRef

/-! The reference of the gated delta rule's input projection over the extended reals, read at a token and a column. -/

@[expose] public section

set_option maxRecDepth 16384

noncomputable section

namespace Cert.GdInRefIdeal.At

open Cert.GdInRefIdeal Cert.GdInRefIdeal.Gen Cert.GdInRefIdeal.Read Idealize.ShloMosaic Idealize.SL.Sem

variable (X : (⟨S8x2048x1024, .f32⟩ : BufTy).Contents (Elt Ideal)) (C : (⟨S8x256x1024, .f32⟩ : BufTy).Contents (Elt Ideal))
  (N : (⟨S1024, .f32⟩ : BufTy).Contents (Elt Ideal)) (L : (⟨S8x6144, .f32⟩ : BufTy).Contents (Elt Ideal))
  (D : (⟨S6144, .f32⟩ : BufTy).Contents (Elt Ideal)) (W : (⟨S1024x4128, .f32⟩ : BufTy).Contents (Elt Ideal))

/-- A modulated sequence row. -/
theorem lat_row (b : Fin 8) (r : Fin 2048) (k : Fin 1024) :
    val_main_v36 X N L (ix3 b r k) = InProj.modulated (fun k => X (ix3 b r k)) (fun k => N (ix1 k)) (fun k => L (ix2 b ⟨k.val, by omega⟩)) (fun k => L (ix2 b ⟨1024 + k.val, by omega⟩)) k :=
  Cert.HgInRefIdeal.At.lat_row X N L b r k

/-- A modulated context row. -/
theorem ctx_row (b : Fin 8) (r : Fin 256) (k : Fin 1024) :
    val_main_v57 C N D (ix3 b r k) = InProj.modulated (fun k => C (ix3 b r k)) (fun k => N (ix1 k)) (fun k => D (ix1 ⟨k.val, by omega⟩)) (fun k => D (ix1 ⟨1024 + k.val, by omega⟩)) k :=
  Cert.HgInRefIdeal.At.ctx_row C N D b r k

/-- A sequence row's result. -/
theorem lat (b : Fin 8) (r : Fin 2048) (q : Fin 4608) :
    val_main_v62 X C N L D W (ix3 b ⟨r.val, by omega⟩ q) = ∑ k, val_main_v36 X N L (ix3 b r k) * InProj.padded (fun q => W (ix2 k q)) q := by
  pointwise [val_main_v62, val_main_v61, val_main_v60, val_main_v58]
  unfold InProj.padded
  by_cases h : q.val < 4128
  · rw [dif_pos ⟨by omega, h⟩]
    exact Finset.sum_congr rfl fun k _ => by rw [dif_pos h]
  · rw [dif_neg (fun e => h e.2)]
    refine Eq.trans ?_ (Finset.sum_eq_zero fun k _ => by rw [dif_neg h, mul_zero]).symm
    show ((((0#32 : BitVec 32).toInt : ℝ)) : EReal) = 0
    norm_num

/-- A context row's result. -/
theorem ctx (b : Fin 8) (r : Fin 256) (q : Fin 4608) :
    val_main_v62 X C N L D W (ix3 b ⟨2048 + r.val, by omega⟩ q) = ∑ k, val_main_v57 C N D (ix3 b r k) * InProj.padded (fun q => W (ix2 k q)) q := by
  pointwise [val_main_v62, val_main_v61, val_main_v60, val_main_v59]
  unfold InProj.padded
  by_cases h : q.val < 4128
  · rw [dif_pos ⟨by omega, h⟩]
    exact Finset.sum_congr rfl fun k _ => by rw [dif_pos h]
  · rw [dif_neg (fun e => h e.2)]
    refine Eq.trans ?_ (Finset.sum_eq_zero fun k _ => by rw [dif_neg h, mul_zero]).symm
    show ((((0#32 : BitVec 32).toInt : ℝ)) : EReal) = 0
    norm_num

end Cert.GdInRefIdeal.At

end
-- ==== Proof.GdInClaim.lean ====
module

public import proofs.«01_k».proof.Defs
public import proofs.«01_k».proof.Proof.GdInValue
public import proofs.«01_k».proof.Proof.GdInRef

/-! The value claim of the gated delta rule's input projection: the kernel's result is the reference's, from any memory. -/

@[expose] public section

set_option maxRecDepth 16384

noncomputable section

namespace Cert.GdInIdeal.Blocks

open Cert.GdInIdeal Cert.GdInIdeal.Value Cert.GdInRefIdeal.Read Idealize.ShloMosaic Idealize.ShloMosaic.TcCoe Idealize.SL.Sem

variable (m : (ℓ : Loc nD τ sig) → Buf (Elt Ideal) ℓ) (c : Dev nD)

/-- The reference's array over the kernel's arguments, at a token and a column, is the kernel's. -/
theorem ref_eq (b : Fin 8) (r : Fin 2304) (q : Fin 4608) :
    val_main_v62 (F := Ideal) (lat m c) (ctx m c) (nw m c) (modL m c) (modC m c) (wgt m c) (ix3 b r q) = outOf m c b r q := by
  unfold outOf row
  by_cases h : r.val < 2048
  · simp only [InProj.row_lat _ _ _ _ _ b r h]
    refine (Cert.GdInRefIdeal.At.lat _ _ _ _ _ _ b ⟨r.val, h⟩ q).trans ?_
    exact (Finset.sum_congr rfl fun k _ => congrArg (· * _) (Cert.GdInRefIdeal.At.lat_row _ _ _ b _ k)).trans (add_zero _).symm
  · simp only [InProj.row_ctx _ _ _ _ _ b r h]
    have hr : (⟨2048 + (r.val - 2048), by omega⟩ : Fin 2304) = r := Fin.ext (by dsimp only; omega)
    refine Eq.trans (by rw [hr]) ((Cert.GdInRefIdeal.At.ctx _ _ _ _ _ _ b ⟨r.val - 2048, by omega⟩ q).trans ?_)
    exact (Finset.sum_congr rfl fun k _ => congrArg (· * _) (Cert.GdInRefIdeal.At.ctx_row _ _ _ b _ k)).trans (add_zero _).symm

/-- Every weakly fair execution of the kernel and of the reference ends with the same array. -/
theorem algebraic : Cert.algebraic_GdInIdeal_GdInRefIdeal := fun m ρ m' ρ' _ hag =>
  ⟨fun c => G6 m c, Cert.GdInIdeal.Value.run m ρ,
    (θ_run _ _ _).mono (fun r h c => by
      obtain ⟨h0, hrest⟩ := h c
      obtain ⟨a0, a1, a2, a3, a4, a5⟩ := hag c
      refine ⟨h0.trans ?_, hrest⟩
      rw [val_main_v62_eq, a0, a1, a2, a3, a4, a5]
      funext i
      obtain ⟨b, r, q, rfl⟩ : ∃ (b : Fin 8) (r : Fin 2304) (q : Fin 4608), i = ix3 b r q := ⟨i 0, i 1, i 2, eq_ix3 i⟩
      exact (ref_eq m c b r q).trans (G6_at m c b r q).symm)
      (Cert.GdInRefIdeal.Value.run m' ρ')⟩

end Cert.GdInIdeal.Blocks

end
-- ==== Proof.HyInFrames.lean ====
module

public import proofs.«01_k».proof.Defs
public import proofs.«01_k».proof.Proof.Gen.HyIn.Frame
public import proofs.«01_k».proof.Proof.Gen.HyInIdeal.Frame
public import proofs.«01_k».proof.Proof.Gen.HyInRefIdeal.Run

/-! The frame claims of Hyena's input projection: each terminates without a fault, at rest, with its arguments kept. -/

@[expose] public section

noncomputable section

namespace HyIn.Claims

open Idealize.ShloMosaic Idealize.SL.Sem

/-- The kernel at the machine's formats. -/
theorem kernel : Cert.quiescent_HyIn := fun m ρ _ => Cert.HyIn.Gen.frame m ρ

/-- The kernel over the extended reals. -/
theorem ideal : Cert.quiescent_HyInIdeal := fun m ρ _ => Cert.HyInIdeal.Gen.frame m ρ

/-- The reference over the extended reals. -/
theorem reference : Cert.quiescent_HyInRefIdeal := fun m ρ _ =>
  (θ_run _ _ _).mono (fun r h => ⟨fun c => (h c).2, sem_eq_zero_of_no_sems (by decide) r.2⟩) (Cert.HyInRefIdeal.Value.run m ρ)

end HyIn.Claims

end
-- ==== Proof.HyInBlocks.lean ====
module

public import proofs.«01_k».proof.Proof.Gen.HyInIdeal.Value
public import proofs.«01_k».proof.Proof.InRows
public import Idealize.ShloMosaic.Lib.Tactic

/-! What one grid point of Hyena's input projection leaves in its scratch buffer and in its output block, as the body's own vector
    expressions of the blocks it reads. The kernel's cases: a sample's first column block (A) and the others (B). -/

@[expose] public section

set_option maxRecDepth 16384

noncomputable section

namespace Cert.HyInIdeal.Blocks

open Cert.HyInIdeal Cert.HyInIdeal.Gen Idealize.ShloMosaic Idealize.ShloMosaic.TcCoe Idealize.SL.Sem

variable {F : FTy → Type} [FloatOps F]

/-- A whole read of a buffer that stores have filled is the stores' contents. -/
theorem read_whole (L : List (View.Piece (Elt F) S2304x1024 .bf16)) (inb : ∀ a, (![0, 0] : Fin 2 → Nat) a + S2304x1024.size a ≤ S2304x1024.size a) :
    scM0_0.view.readCov L (Rect.unit ![0, 0] S2304x1024.size inb).toLoadRect = View.canon L :=
  (View.readCov_eq_canon' _ _ _).trans (View.ld_unit_zero (S := S2304x1024) InProj.hz2 _ _)

section

variable (c : Dev nD) (t : Fin cfg0.N) (x0 : Vec F S1x2304x1024 .f32) (x1 : Vec F S1x1024 .f32)
  (x2 x3 : Vec F S16x1024 .f32) (x4 : Vec F S1024x512 .bf16) (x5 : Vec F S1x512 .f32) (xs0 : Vec F S2304x1024 .bf16)

/-- Case A stages the modulated rows. -/
theorem rows_A (hc0 : cond0_0 (grid0.coords t)) : sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) hc0 x0 x1 x2 x3 x4 x5 = InProj.staged (k0_off1 (grid0.coords t)) (k0_off1_inb _ hc0) x0 x1 x2 x3 := by
  unfold sout0_A_0
  rw [View.read_writes_eq_canon _ _ _ (scover0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) hc0 x0 x1 x2 x3 x4 x5)]
  unfold kernelRun0_A
  dsimp only
  sl_unfold_words
  simp only [View.readAt_eq_ld, View.readCov_unit_zero (S := S2304x1024) _ InProj.hz2, (hs0_0 t).read_unread, (hs0_1 t).read_unread,
    (hs0_2 t).read_unread, (hs0_3 t).read_unread, (hs0_4 t).read_unread, (hs0_5 t).read_unread, (Memref.isWhole_whole cc0_scratch0).read_unread,
    View.ld_unit_zero (S := S1x1024) InProj.hz2, View.ld_unit_zero (S := S1024x512) InProj.hz2, View.ld_unit_zero (S := S1x512) InProj.hz2,
    View.ld_unit_zero (S := S2304x1024) InProj.hz2]
  rfl

/-- Case A's output block: the staged rows times the block of weights, plus the bias. -/
theorem out_A (hc0 : cond0_0 (grid0.coords t)) : out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) hc0 x0 x1 x2 x3 x4 x5 = InProj.columns (InProj.staged (k0_off1 (grid0.coords t)) (k0_off1_inb _ hc0) x0 x1 x2 x3) x4 x5 := by
  unfold out0_A_6
  rw [View.read_writes_eq_canon _ _ _ (cover0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) hc0 x0 x1 x2 x3 x4 x5)]
  unfold kernelRun0_A
  dsimp only
  sl_unfold_words
  rw [View.canon_cons_unit_zero (S := S1x2304x512) InProj.hz3]
  simp only [View.readAt_eq_ld, View.readCov_unit_zero (S := S2304x1024) _ InProj.hz2, (hs0_0 t).read_unread, (hs0_1 t).read_unread,
    (hs0_2 t).read_unread, (hs0_3 t).read_unread, (hs0_4 t).read_unread, (hs0_5 t).read_unread, (Memref.isWhole_whole cc0_scratch0).read_unread,
    View.ld_unit_zero (S := S1x1024) InProj.hz2, View.ld_unit_zero (S := S1024x512) InProj.hz2, View.ld_unit_zero (S := S1x512) InProj.hz2,
    View.ld_unit_zero (S := S2304x1024) InProj.hz2]
  exact congrArg (fun r => InProj.columns r x4 x5) (read_whole _ _)

/-- Case B's output block: what the scratch held, times its block of weights, plus the bias. -/
theorem out_B (hc0 : ¬cond0_0 (grid0.coords t)) : out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) hc0 x0 x1 x2 x3 x4 x5 xs0 = InProj.columns xs0 x4 x5 := by
  unfold out0_B_6
  rw [View.read_writes_eq_canon _ _ _ (cover0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) hc0 x0 x1 x2 x3 x4 x5 xs0)]
  unfold kernelRun0_B
  dsimp only
  rw [View.canon_cons_unit_zero (S := S1x2304x512) InProj.hz3]
  simp only [View.readAt_eq_ld, View.readCov_unit_zero (S := S2304x1024) _ InProj.hz2, (hs0_0 t).read_unread, (hs0_1 t).read_unread,
    (hs0_2 t).read_unread, (hs0_3 t).read_unread, (hs0_4 t).read_unread, (hs0_5 t).read_unread, (Memref.isWhole_whole cc0_scratch0).read_unread,
    View.ld_unit_zero (S := S1x1024) InProj.hz2, View.ld_unit_zero (S := S1024x512) InProj.hz2, View.ld_unit_zero (S := S1x512) InProj.hz2,
    View.ld_unit_zero (S := S2304x1024) InProj.hz2]
  rfl

end

end Cert.HyInIdeal.Blocks

end
-- ==== Proof.HyInHost.lean ====
module

public import proofs.«01_k».proof.Proof.HyInBlocks
public import Idealize.ShloMosaic.Lib.StableHlo.ReadAt

/-! The arrays Hyena's input projection is launched over, entry by entry, from the arguments, and the blocks a grid point reads of
    them. -/

@[expose] public section

set_option maxRecDepth 16384

noncomputable section

namespace Cert.HyInIdeal.Blocks

open Cert.HyInIdeal Cert.HyInIdeal.Gen Idealize.ShloMosaic Idealize.ShloMosaic.TcCoe Idealize.SL.Sem

variable (m : (ℓ : Loc nD τ sig) → Buf (Elt Ideal) ℓ) (c : Dev nD)

/-- The sequence's rows. -/
abbrev lat : S8x2048x1024.Idx → EReal := m ((c : Thread nD τ).loc main_arg0)
/-- The context's rows. -/
abbrev ctx : S8x256x1024.Idx → EReal := m ((c : Thread nD τ).loc main_arg1)
/-- The norm's weights. -/
abbrev nw : S1024.Idx → EReal := m ((c : Thread nD τ).loc main_arg2)
/-- The samples' modulation. -/
abbrev modL : S8x6144.Idx → EReal := m ((c : Thread nD τ).loc main_arg3)
/-- The context's modulation. -/
abbrev modC : S6144.Idx → EReal := m ((c : Thread nD τ).loc main_arg4)
/-- The projection's weights. -/
abbrev wgt : S1024x3072.Idx → EReal := m ((c : Thread nD τ).loc main_arg5)

/-- The bias, as an array. -/
abbrev bia : S3072.Idx → EReal := m ((c : Thread nD τ).loc main_arg6)
/-- The weight of a feature in an output column. -/
def col (k : Fin 1024) (q : Fin 3072) : EReal := wgt m c (ix2 k q)
/-- The bias of an output column. -/
def bias (q : Fin 3072) : EReal := bia m c (ix1 q)

/-- The modulated row of a token. -/
abbrev row (b : Fin 8) (r : Fin 2304) (k : Fin 1024) : EReal := InProj.row (lat m c) (ctx m c) (nw m c) (modL m c) (modC m c) b r k

/-! ## The arrays -/

/-- Sequence and context rows stand one after the other. -/
theorem xs_at (b : Fin 8) (r : Fin 2304) (k : Fin 1024) : (V m c main_v0 : S8x2304x1024.Idx → EReal) (ix3 b r k) = InProj.token (lat m c) (ctx m c) b r k := by
  unfold V InProj.token
  after_reads_at

/-- The first eight rows of the modulation table are the samples'. -/
theorem mod_lat (b : Fin 8) (q : Fin 6144) : (V m c main_v3 : S16x6144.Idx → EReal) (ix2 ⟨b.val, by omega⟩ q) = modL m c (ix2 b q) := by
  unfold V
  after_reads_at

/-- The ninth is the context's. -/
theorem mod_ctx (q : Fin 6144) : (V m c main_v3 : S16x6144.Idx → EReal) (ix2 8 q) = modC m c (ix1 q) := by
  unfold V
  after_reads_at
  after_reads_at

/-- The norm's weights as one row. -/
theorem nw_at (k : Fin 1024) : (V m c main_v5 : S1x1024.Idx → EReal) (ix2 0 k) = nw m c (ix1 k) := by
  unfold V
  after_reads_at

/-- The weights, column by column. -/
theorem w_at (k : Fin 1024) (q : Fin 3072) : (V m c main_v4 : S1024x3072.Idx → EReal) (ix2 k q) = col m c k q := by
  unfold V col
  after_reads_at

/-- The bias, column by column. -/
theorem bias_at (q : Fin 3072) : (V m c main_v6 : S1x3072.Idx → EReal) (ix2 0 q) = bias m c q := by
  unfold V bias
  after_reads_at

/-! ## The blocks of a point -/

/-- Where a point's blocks lie: its sample's rows, the shift's and the scale's columns of the modulation, and its 512 output columns. -/
theorem index_of : ∀ t : Fin cfg0.N, win0_0.index t = ![t.val / 6, 0, 0] ∧ win0_1.index t = ![0, 0] ∧ win0_2.index t = ![0, 0]
    ∧ win0_3.index t = ![0, 1] ∧ win0_4.index t = ![0, t.val % 6] ∧ win0_5.index t = ![0, t.val % 6]
    ∧ k0_off1 (grid0.coords t) = ![t.val / 6, 0] :=
  (by decide +kernel : ∀ t : Fin grid0.N, _)

variable (t : Fin cfg0.N)

/-- A point's rows are its sample's. -/
theorem blk0 (b : Fin 8) (hb : t.val / 6 = b.val) (r : Fin 2304) (k : Fin 1024) :
    (iblk m c 0 t : S1x2304x1024.Idx → EReal) (ix3 0 r k) = InProj.token (lat m c) (ctx m c) b r k := by
  have hi := (index_of t).1
  unfold iblk
  rw [View.read_apply]
  refine (cast_eq _ _).trans (Eq.trans (congrArg (V m c main_v0) (funext fun a => Fin.ext ?_)) (xs_at m c b r k))
  match a with
  | ⟨0, _⟩ => show win0_0.index t 0 * 1 + 1 * 0 = b.val; rw [hi]; show (t.val / 6) * 1 + _ = _; omega
  | ⟨1, _⟩ => show win0_0.index t 1 * 2304 + 1 * r.val = r.val; rw [hi]; show 0 * 2304 + _ = _; omega
  | ⟨2, _⟩ => show win0_0.index t 2 * 1024 + 1 * k.val = k.val; rw [hi]; show 0 * 1024 + _ = _; omega

/-- The norm's weights. -/
theorem blk1 (k : Fin 1024) : (iblk m c 1 t : S1x1024.Idx → EReal) (ix2 0 k) = nw m c (ix1 k) := by
  have hi := (index_of t).2.1
  unfold iblk
  rw [View.read_apply]
  refine (cast_eq _ _).trans (Eq.trans (congrArg (V m c main_v5) (funext fun a => Fin.ext ?_)) (nw_at m c k))
  match a with
  | ⟨0, _⟩ => show win0_1.index t 0 * 1 + 1 * 0 = 0; rw [hi]; rfl
  | ⟨1, _⟩ => show win0_1.index t 1 * 1024 + 1 * k.val = k.val; rw [hi]; show 0 * 1024 + _ = _; omega

/-- The shifts are the modulation's first 1024 columns. -/
theorem blk2 (r : Fin 16) (k : Fin 1024) :
    (iblk m c 2 t : S16x1024.Idx → EReal) (ix2 r k) = (V m c main_v3 : S16x6144.Idx → EReal) (ix2 r ⟨k.val, by omega⟩) := by
  have hi := (index_of t).2.2.1
  unfold iblk
  rw [View.read_apply]
  refine (cast_eq _ _).trans (congrArg (V m c main_v3) (funext fun a => Fin.ext ?_))
  match a with
  | ⟨0, _⟩ => show win0_2.index t 0 * 16 + 1 * r.val = r.val; rw [hi]; show 0 * 16 + _ = _; omega
  | ⟨1, _⟩ => show win0_2.index t 1 * 1024 + 1 * k.val = k.val; rw [hi]; show 0 * 1024 + _ = _; omega

/-- The scales are the next 1024. -/
theorem blk3 (r : Fin 16) (k : Fin 1024) :
    (iblk m c 3 t : S16x1024.Idx → EReal) (ix2 r k) = (V m c main_v3 : S16x6144.Idx → EReal) (ix2 r ⟨1024 + k.val, by omega⟩) := by
  have hi := (index_of t).2.2.2.1
  unfold iblk
  rw [View.read_apply]
  refine (cast_eq _ _).trans (congrArg (V m c main_v3) (funext fun a => Fin.ext ?_))
  match a with
  | ⟨0, _⟩ => show win0_3.index t 0 * 16 + 1 * r.val = r.val; rw [hi]; show 0 * 16 + _ = _; omega
  | ⟨1, _⟩ => show win0_3.index t 1 * 1024 + 1 * k.val = 1024 + k.val; rw [hi]; show 1 * 1024 + _ = _; omega

variable (j : ℕ) (hj : t.val % 6 = j) (hlt : ∀ q : Fin 512, 512 * j + q.val < 3072)
include hj

/-- A point's block of weights: its 512 columns. -/
theorem blk4 (k : Fin 1024) (q : Fin 512) :
    (iblk m c 4 t : S1024x512.Idx → EReal) (ix2 k q) = col m c k ⟨512 * j + q.val, hlt q⟩ := by
  have hi := (index_of t).2.2.2.2.1
  unfold iblk
  rw [View.read_apply]
  refine (cast_eq _ _).trans (Eq.trans (congrArg (V m c main_v4) (funext fun a => Fin.ext ?_)) (w_at m c k ⟨512 * j + q.val, hlt q⟩))
  match a with
  | ⟨0, _⟩ => show win0_4.index t 0 * 1024 + 1 * k.val = k.val; rw [hi]; show 0 * 1024 + _ = _; omega
  | ⟨1, _⟩ => show win0_4.index t 1 * 512 + 1 * q.val = 512 * j + q.val; rw [hi]; show (t.val % 6) * 512 + _ = _; omega

/-- Its block of the bias. -/
theorem blk5 (q : Fin 512) : (iblk m c 5 t : S1x512.Idx → EReal) (ix2 0 q) = bias m c ⟨512 * j + q.val, hlt q⟩ := by
  have hi := (index_of t).2.2.2.2.2.1
  unfold iblk
  rw [View.read_apply]
  refine (cast_eq _ _).trans (Eq.trans (congrArg (V m c main_v6) (funext fun a => Fin.ext ?_)) (bias_at m c ⟨512 * j + q.val, hlt q⟩))
  match a with
  | ⟨0, _⟩ => show win0_5.index t 0 * 1 + 1 * 0 = 0; rw [hi]; rfl
  | ⟨1, _⟩ => show win0_5.index t 1 * 512 + 1 * q.val = 512 * j + q.val; rw [hi]; show (t.val % 6) * 512 + _ = _; omega

end Cert.HyInIdeal.Blocks

end
-- ==== Proof.HyInValue.lean ====
module

public import proofs.«01_k».proof.Proof.HyInHost

/-! Hyena's input projection over the extended reals: what its scratch holds after each point, and its result array, as the
    projection's formula at each token. -/

@[expose] public section

set_option maxRecDepth 16384

noncomputable section

namespace Cert.HyInIdeal.Blocks

open Cert.HyInIdeal Cert.HyInIdeal.Gen Cert.HyInIdeal.Value Idealize.ShloMosaic Idealize.ShloMosaic.TcCoe Idealize.SL.Sem

variable (m : (ℓ : Loc nD τ sig) → Buf (Elt Ideal) ℓ) (c : Dev nD)

/-- The result at a token and a column. -/
def outOf (b : Fin 8) (r : Fin 2304) (q : Fin 3072) : EReal := (∑ k, row m c b r k * col m c k q) + bias m c q

/-- What a sample's first point stages is the sample's modulated rows. -/
theorem staged_row (t : Fin cfg0.N) (b : Fin 8) (hb : t.val / 6 = b.val) (h0 : cond0_0 (grid0.coords t)) (r : Fin 2304) (k : Fin 1024) :
    InProj.staged (F := Ideal) (k0_off1 (grid0.coords t)) (k0_off1_inb _ h0) (iblk m c 0 t) (iblk m c 1 t) (iblk m c 2 t) (iblk m c 3 t) (ix2 r k) = row m c b r k :=
  InProj.staged_at _ _ _ _ _ b _ _ ((index_of t).2.2.2.2.2.2.trans (by rw [hb])) _ _ _ _ (blk0 m c t b hb) (blk1 m c t)
    (fun k => (blk2 m c t _ k).trans (mod_lat m c b _)) (fun k => (blk2 m c t 8 k).trans (mod_ctx m c _))
    (fun k => (blk3 m c t _ k).trans (mod_lat m c b _)) (fun k => (blk3 m c t 8 k).trans (mod_ctx m c _)) r k

/-- The output block of a point of sample `b` at column block `j`. -/
theorem block_at (t : Fin cfg0.N) (b : Fin 8) (j : ℕ) (hj : t.val % 6 = j) (hlt : ∀ q : Fin 512, 512 * j + q.val < 3072) (X : Vec Ideal S2304x1024 .bf16) (hX : ∀ r k, X (ix2 r k) = row m c b r k) (r : Fin 2304) (q : Fin 512) :
    InProj.columns X (iblk m c 4 t) (iblk m c 5 t) (ix3 0 r q) = outOf m c b r ⟨512 * j + q.val, hlt q⟩ := by
  rw [InProj.pay2_at, blk5 m c t j hj hlt]
  simp only [blk4 m c t j hj hlt, hX]
  rfl

/-- AFTER A POINT: the scratch holds the sample's modulated rows, and the output block its 512 columns. -/
theorem state (b : Fin 8) : ∀ (j : ℕ) (h : 6 * b.val + j < cfg0.N) (_ : j < 6),
    (∀ r k, (outsAt0 m c (6 * b.val + j) h).2 (ix2 r k) = row m c b r k)
    ∧ ∀ r (q : Fin 512), (outsAt0 m c (6 * b.val + j) h).1 (ix3 0 r q) = outOf m c b r ⟨512 * j + q.val, by omega⟩
  | 0, h, _ => by
    have h0 : (⟨6 * b.val + 0, h⟩ : Fin cfg0.N).val % 6 = 0 := by dsimp only; omega
    have hd : (⟨6 * b.val + 0, h⟩ : Fin cfg0.N).val / 6 = b.val := by dsimp only; omega
    rw [outsAt0_A m c ⟨6 * b.val + 0, h⟩ h0]
    dsimp only
    rw [rows_A, out_A]
    have hX := staged_row m c _ b hd ((hcond0_0 _).mpr h0)
    exact ⟨hX, fun r q => block_at m c _ b 0 h0 (fun q => by omega) _ hX r q⟩
  | j + 1, h, hj => by
    obtain ⟨ih, -⟩ := state b j (by omega) (by omega)
    have h0 : ¬(⟨6 * b.val + (j + 1), h⟩ : Fin cfg0.N).val % 6 = 0 := by dsimp only; omega
    have hm : (⟨6 * b.val + (j + 1), h⟩ : Fin cfg0.N).val % 6 = j + 1 := by dsimp only; omega
    have hd : (⟨6 * b.val + (j + 1), h⟩ : Fin cfg0.N).val / 6 = b.val := by dsimp only; omega
    rw [outsAt0_B m c ⟨6 * b.val + (j + 1), h⟩ h0]
    dsimp only
    rw [out_B]
    exact ⟨fun r k => ih r k, fun r q => block_at m c _ b (j + 1) hm (fun q => by omega) _ ih r q⟩

/-- THE RESULT: every token at every column at the projection's formula. -/
theorem G6_at (b : Fin 8) (r : Fin 2304) (q : Fin 3072) : G6 m c (ix3 b r q) = outOf m c b r q := by
  have hp : pt6Of (ix3 b r q : S8x2304x3072.Idx) = 6 * b.val + q.val / 512 := by
    show 6 * (b.val / 1 - 0) + 6 * (r.val / 2304 - 0) + 1 * (q.val / 512 - 0) = _
    omega
  have hN : 6 * b.val + q.val / 512 < cfg0.N := lt_of_lt_of_eq (by omega) (show cfg0.N = 48 from N_0).symm
  have hl : loc6Of (ix3 b r q : S8x2304x3072.Idx) = ix3 0 r ⟨q.val % 512, by omega⟩ := by
    funext a
    apply Fin.ext
    match a with
    | ⟨0, _⟩ => show b.val % 1 = 0; omega
    | ⟨1, _⟩ => show r.val % 2304 = r.val; omega
    | ⟨2, _⟩ => rfl
  unfold G6
  rw [dif_pos (by rw [hp]; exact hN), hl, fold0_congr m c _ _ _ (by rw [Nat.zero_add]; exact hN) hp, ← outsAt0_sweep m c _ hN]
  exact ((state m c b (q.val / 512) hN (by omega)).2 r _).trans (congrArg (outOf m c b r) (Fin.ext (Nat.div_add_mod q.val 512)))

end Cert.HyInIdeal.Blocks

end
-- ==== Proof.HyInRef.lean ====
module

public import proofs.«01_k».proof.Proof.Gen.HyInRefIdeal.Read
public import proofs.«01_k».proof.Proof.HgInRef

/-! The reference of Hyena's input projection over the extended reals, read at a token and a column. -/

@[expose] public section

set_option maxRecDepth 16384

noncomputable section

namespace Cert.HyInRefIdeal.At

open Cert.HyInRefIdeal Cert.HyInRefIdeal.Gen Cert.HyInRefIdeal.Read Idealize.ShloMosaic Idealize.SL.Sem

variable (X : (⟨S8x2048x1024, .f32⟩ : BufTy).Contents (Elt Ideal)) (C : (⟨S8x256x1024, .f32⟩ : BufTy).Contents (Elt Ideal))
  (N : (⟨S1024, .f32⟩ : BufTy).Contents (Elt Ideal)) (L : (⟨S8x6144, .f32⟩ : BufTy).Contents (Elt Ideal))
  (B : (⟨S3072, .f32⟩ : BufTy).Contents (Elt Ideal)) (D : (⟨S6144, .f32⟩ : BufTy).Contents (Elt Ideal)) (W : (⟨S1024x3072, .f32⟩ : BufTy).Contents (Elt Ideal))

/-- A modulated sequence row. -/
theorem lat_row (b : Fin 8) (r : Fin 2048) (k : Fin 1024) :
    val_main_v36 X N L (ix3 b r k) = InProj.modulated (fun k => X (ix3 b r k)) (fun k => N (ix1 k)) (fun k => L (ix2 b ⟨k.val, by omega⟩)) (fun k => L (ix2 b ⟨1024 + k.val, by omega⟩)) k :=
  Cert.HgInRefIdeal.At.lat_row X N L b r k

/-- A modulated context row. -/
theorem ctx_row (b : Fin 8) (r : Fin 256) (k : Fin 1024) :
    val_main_v57 C N D (ix3 b r k) = InProj.modulated (fun k => C (ix3 b r k)) (fun k => N (ix1 k)) (fun k => D (ix1 ⟨k.val, by omega⟩)) (fun k => D (ix1 ⟨1024 + k.val, by omega⟩)) k :=
  Cert.HgInRefIdeal.At.ctx_row C N D b r k

/-- A sequence row's result. -/
theorem lat (b : Fin 8) (r : Fin 2048) (q : Fin 3072) :
    val_main_v67 X C N L D W B (ix3 b ⟨r.val, by omega⟩ q) = (∑ k, val_main_v36 X N L (ix3 b r k) * W (ix2 k q)) + B (ix1 q) := by
  pointwise [val_main_v67, val_main_v66, val_main_v61, val_main_v60, val_main_v59, val_main_v58]

/-- A context row's result. -/
theorem ctx (b : Fin 8) (r : Fin 256) (q : Fin 3072) :
    val_main_v67 X C N L D W B (ix3 b ⟨2048 + r.val, by omega⟩ q) = (∑ k, val_main_v57 C N D (ix3 b r k) * W (ix2 k q)) + B (ix1 q) := by
  pointwise [val_main_v67, val_main_v66, val_main_v65, val_main_v64, val_main_v63, val_main_v62]

end Cert.HyInRefIdeal.At

end
-- ==== Proof.HyInClaim.lean ====
module

public import proofs.«01_k».proof.Defs
public import proofs.«01_k».proof.Proof.HyInValue
public import proofs.«01_k».proof.Proof.HyInRef

/-! The value claim of Hyena's input projection: the kernel's result is the reference's, from any memory. -/

@[expose] public section

set_option maxRecDepth 16384

noncomputable section

namespace Cert.HyInIdeal.Blocks

open Cert.HyInIdeal Cert.HyInIdeal.Value Cert.HyInRefIdeal.Read Idealize.ShloMosaic Idealize.ShloMosaic.TcCoe Idealize.SL.Sem

variable (m : (ℓ : Loc nD τ sig) → Buf (Elt Ideal) ℓ) (c : Dev nD)

/-- The reference's array over the kernel's arguments, at a token and a column, is the kernel's. -/
theorem ref_eq (b : Fin 8) (r : Fin 2304) (q : Fin 3072) :
    val_main_v67 (F := Ideal) (lat m c) (ctx m c) (nw m c) (modL m c) (modC m c) (wgt m c) (bia m c) (ix3 b r q) = outOf m c b r q := by
  unfold outOf row
  by_cases h : r.val < 2048
  · simp only [InProj.row_lat _ _ _ _ _ b r h]
    refine (Cert.HyInRefIdeal.At.lat _ _ _ _ _ _ _ b ⟨r.val, h⟩ q).trans ?_
    exact congrArg (· + _) (Finset.sum_congr rfl fun k _ => congrArg (· * _) (Cert.HyInRefIdeal.At.lat_row _ _ _ b _ k))
  · simp only [InProj.row_ctx _ _ _ _ _ b r h]
    have hr : (⟨2048 + (r.val - 2048), by omega⟩ : Fin 2304) = r := Fin.ext (by dsimp only; omega)
    refine Eq.trans (by rw [hr]) ((Cert.HyInRefIdeal.At.ctx _ _ _ _ _ _ _ b ⟨r.val - 2048, by omega⟩ q).trans ?_)
    exact congrArg (· + _) (Finset.sum_congr rfl fun k _ => congrArg (· * _) (Cert.HyInRefIdeal.At.ctx_row _ _ _ b _ k))

/-- Every weakly fair execution of the kernel and of the reference ends with the same array. -/
theorem algebraic : Cert.algebraic_HyInIdeal_HyInRefIdeal := fun m ρ m' ρ' _ hag =>
  ⟨fun c => G6 m c, Cert.HyInIdeal.Value.run m ρ,
    (θ_run _ _ _).mono (fun r h c => by
      obtain ⟨h0, hrest⟩ := h c
      obtain ⟨a0, a1, a2, a3, a4, a5, a6⟩ := hag c
      refine ⟨h0.trans ?_, hrest⟩
      rw [val_main_v67_eq, a0, a1, a2, a3, a4, a5, a6]
      funext i
      obtain ⟨b, r, q, rfl⟩ : ∃ (b : Fin 8) (r : Fin 2304) (q : Fin 3072), i = ix3 b r q := ⟨i 0, i 1, i 2, eq_ix3 i⟩
      exact (ref_eq m c b r q).trans (G6_at m c b r q).symm)
      (Cert.HyInRefIdeal.Value.run m' ρ')⟩

end Cert.HyInIdeal.Blocks

end
-- ==== Proof.SwInFrames.lean ====
module

public import proofs.«01_k».proof.Defs
public import proofs.«01_k».proof.Proof.Gen.SwIn.Frame
public import proofs.«01_k».proof.Proof.Gen.SwInIdeal.Frame
public import proofs.«01_k».proof.Proof.Gen.SwInRefIdeal.Run

/-! The frame claims of the windowed attention's input projection: each terminates without a fault, at rest, with its arguments kept. -/

@[expose] public section

noncomputable section

namespace SwIn.Claims

open Idealize.ShloMosaic Idealize.SL.Sem

/-- The kernel at the machine's formats. -/
theorem kernel : Cert.quiescent_SwIn := fun m ρ _ => Cert.SwIn.Gen.frame m ρ

/-- The kernel over the extended reals. -/
theorem ideal : Cert.quiescent_SwInIdeal := fun m ρ _ => Cert.SwInIdeal.Gen.frame m ρ

/-- The reference over the extended reals. -/
theorem reference : Cert.quiescent_SwInRefIdeal := fun m ρ _ =>
  (θ_run _ _ _).mono (fun r h => ⟨fun c => (h c).2, sem_eq_zero_of_no_sems (by decide) r.2⟩) (Cert.SwInRefIdeal.Value.run m ρ)

end SwIn.Claims

end
-- ==== Proof.SwInBlocks.lean ====
module

public import proofs.«01_k».proof.Proof.Gen.SwInIdeal.Value
public import proofs.«01_k».proof.Proof.InRows
public import Idealize.ShloMosaic.Lib.Tactic

/-! What one grid point of the windowed attention's input projection leaves in its scratch buffer and in its output block, as the body's own vector
    expressions of the blocks it reads. The kernel's cases: a sample's first column block (A) and the others (B). -/

@[expose] public section

set_option maxRecDepth 16384

noncomputable section

namespace Cert.SwInIdeal.Blocks

open Cert.SwInIdeal Cert.SwInIdeal.Gen Idealize.ShloMosaic Idealize.ShloMosaic.TcCoe Idealize.SL.Sem

variable {F : FTy → Type} [FloatOps F]

/-- A whole read of a buffer that stores have filled is the stores' contents. -/
theorem read_whole (L : List (View.Piece (Elt F) S2304x1024 .bf16)) (inb : ∀ a, (![0, 0] : Fin 2 → Nat) a + S2304x1024.size a ≤ S2304x1024.size a) :
    scM0_0.view.readCov L (Rect.unit ![0, 0] S2304x1024.size inb).toLoadRect = View.canon L :=
  (View.readCov_eq_canon' _ _ _).trans (View.ld_unit_zero (S := S2304x1024) InProj.hz2 _ _)

section

variable (c : Dev nD) (t : Fin cfg0.N) (x0 : Vec F S1x2304x1024 .f32) (x1 : Vec F S1x1024 .f32)
  (x2 x3 : Vec F S16x1024 .f32) (x4 : Vec F S1024x512 .bf16) (x5 : Vec F S1x512 .f32) (xs0 : Vec F S2304x1024 .bf16)

/-- Case A stages the modulated rows. -/
theorem rows_A (hc0 : cond0_0 (grid0.coords t)) : sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) hc0 x0 x1 x2 x3 x4 x5 = InProj.staged (k0_off1 (grid0.coords t)) (k0_off1_inb _ hc0) x0 x1 x2 x3 := by
  unfold sout0_A_0
  rw [View.read_writes_eq_canon _ _ _ (scover0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) hc0 x0 x1 x2 x3 x4 x5)]
  unfold kernelRun0_A
  dsimp only
  sl_unfold_words
  simp only [View.readAt_eq_ld, View.readCov_unit_zero (S := S2304x1024) _ InProj.hz2, (hs0_0 t).read_unread, (hs0_1 t).read_unread,
    (hs0_2 t).read_unread, (hs0_3 t).read_unread, (hs0_4 t).read_unread, (hs0_5 t).read_unread, (Memref.isWhole_whole cc0_scratch0).read_unread,
    View.ld_unit_zero (S := S1x1024) InProj.hz2, View.ld_unit_zero (S := S1024x512) InProj.hz2, View.ld_unit_zero (S := S1x512) InProj.hz2,
    View.ld_unit_zero (S := S2304x1024) InProj.hz2]
  rfl

/-- Case A's output block: the staged rows times the block of weights, plus the bias. -/
theorem out_A (hc0 : cond0_0 (grid0.coords t)) : out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) hc0 x0 x1 x2 x3 x4 x5 = InProj.columns (InProj.staged (k0_off1 (grid0.coords t)) (k0_off1_inb _ hc0) x0 x1 x2 x3) x4 x5 := by
  unfold out0_A_6
  rw [View.read_writes_eq_canon _ _ _ (cover0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) hc0 x0 x1 x2 x3 x4 x5)]
  unfold kernelRun0_A
  dsimp only
  sl_unfold_words
  rw [View.canon_cons_unit_zero (S := S1x2304x512) InProj.hz3]
  simp only [View.readAt_eq_ld, View.readCov_unit_zero (S := S2304x1024) _ InProj.hz2, (hs0_0 t).read_unread, (hs0_1 t).read_unread,
    (hs0_2 t).read_unread, (hs0_3 t).read_unread, (hs0_4 t).read_unread, (hs0_5 t).read_unread, (Memref.isWhole_whole cc0_scratch0).read_unread,
    View.ld_unit_zero (S := S1x1024) InProj.hz2, View.ld_unit_zero (S := S1024x512) InProj.hz2, View.ld_unit_zero (S := S1x512) InProj.hz2,
    View.ld_unit_zero (S := S2304x1024) InProj.hz2]
  exact congrArg (fun r => InProj.columns r x4 x5) (read_whole _ _)

/-- Case B's output block: what the scratch held, times its block of weights, plus the bias. -/
theorem out_B (hc0 : ¬cond0_0 (grid0.coords t)) : out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) hc0 x0 x1 x2 x3 x4 x5 xs0 = InProj.columns xs0 x4 x5 := by
  unfold out0_B_6
  rw [View.read_writes_eq_canon _ _ _ (cover0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) hc0 x0 x1 x2 x3 x4 x5 xs0)]
  unfold kernelRun0_B
  dsimp only
  rw [View.canon_cons_unit_zero (S := S1x2304x512) InProj.hz3]
  simp only [View.readAt_eq_ld, View.readCov_unit_zero (S := S2304x1024) _ InProj.hz2, (hs0_0 t).read_unread, (hs0_1 t).read_unread,
    (hs0_2 t).read_unread, (hs0_3 t).read_unread, (hs0_4 t).read_unread, (hs0_5 t).read_unread, (Memref.isWhole_whole cc0_scratch0).read_unread,
    View.ld_unit_zero (S := S1x1024) InProj.hz2, View.ld_unit_zero (S := S1024x512) InProj.hz2, View.ld_unit_zero (S := S1x512) InProj.hz2,
    View.ld_unit_zero (S := S2304x1024) InProj.hz2]
  rfl

end

end Cert.SwInIdeal.Blocks

end
-- ==== Proof.SwInPerm.lean ====
module

public import proofs.«01_k».proof.Proof.Gen.SwInIdeal.Skeleton
public import proofs.«01_k».proof.Proof.InMath
public import Idealize.ShloMosaic.Lib.ValueIdx

/-! The windowed attention's weights are taken column by column through a table of column numbers: the table's entries, and what taking by it gives. -/

@[expose] public section

set_option maxRecDepth 16384

noncomputable section

namespace Cert.SwInIdeal.Blocks

open Cert.SwInIdeal Cert.SwInIdeal.Gen Idealize.ShloMosaic

/-- The table holds the weight's column behind every output column. -/
theorem table_at : ∀ q : Fin 1536, (lit0 (S1536.rowMajor (ix1 q))).toInt = (InProj.source q).val := by
  decide +kernel

/-- Taking columns by a vector of column numbers. -/
theorem take_at {α : Type} (x : S1024x1536.Idx → α) (idx : IVec S1536x1 32) (k : Fin 1024) (q s : Fin 1536) (hs : (idx (ix2 q 0)).toInt = s.val) :
    Host.gather gather_S1024x1536_S1536x1_S1024x1536_0_1_n_n_1_1_10241 x idx (ix2 k q) = x (ix2 k s) := by
  have hsi : ∀ e, gather_S1024x1536_S1536x1_S1024x1536_0_1_n_n_1_1_10241.siIdx (ix2 k q) e = ix2 q (0 : Fin 1) := fun e => funext fun b => Fin.ext (by
    match b with
    | ⟨0, _⟩ => rfl
    | ⟨1, _⟩ => exact congrArg Fin.val (Subsingleton.elim (α := Fin 1) _ _))
  unfold Host.gather
  refine congrArg x (funext fun a => Fin.ext ?_)
  match a with
  | ⟨0, _⟩ => show 0 + 0 + k.val = k.val; omega
  | ⟨1, _⟩ =>
    show min ((idx (gather_S1024x1536_S1536x1_S1024x1536_0_1_n_n_1_1_10241.siIdx (ix2 k q) _)).toInt.toNat) 1535 + 0 + 0 = s.val
    rw [hsi, hs]
    have := s.isLt
    omega

end Cert.SwInIdeal.Blocks

end
-- ==== Proof.SwInHost.lean ====
module

public import proofs.«01_k».proof.Proof.SwInBlocks
public import proofs.«01_k».proof.Proof.SwInPerm
public import Idealize.ShloMosaic.Lib.StableHlo.ReadAt

/-! The arrays the windowed attention's input projection is launched over, entry by entry, from the arguments, and the blocks a grid point reads of
    them. -/

@[expose] public section

set_option maxRecDepth 16384

noncomputable section

namespace Cert.SwInIdeal.Blocks

open Cert.SwInIdeal Cert.SwInIdeal.Gen Idealize.ShloMosaic Idealize.ShloMosaic.TcCoe Idealize.SL.Sem

variable (m : (ℓ : Loc nD τ sig) → Buf (Elt Ideal) ℓ) (c : Dev nD)

/-- The sequence's rows. -/
abbrev lat : S8x2048x1024.Idx → EReal := m ((c : Thread nD τ).loc main_arg0)
/-- The context's rows. -/
abbrev ctx : S8x256x1024.Idx → EReal := m ((c : Thread nD τ).loc main_arg1)
/-- The norm's weights. -/
abbrev nw : S1024.Idx → EReal := m ((c : Thread nD τ).loc main_arg2)
/-- The samples' modulation. -/
abbrev modL : S8x6144.Idx → EReal := m ((c : Thread nD τ).loc main_arg3)
/-- The context's modulation. -/
abbrev modC : S6144.Idx → EReal := m ((c : Thread nD τ).loc main_arg4)
/-- The projection's weights. -/
abbrev wgt : S1024x1536.Idx → EReal := m ((c : Thread nD τ).loc main_arg5)

/-- The weight of a feature in an output column. -/
def col (k : Fin 1024) (q : Fin 1536) : EReal := wgt m c (ix2 k (InProj.source q))
/-- The bias of an output column: none. -/
def bias (_ : Fin 1536) : EReal := 0

/-- The modulated row of a token. -/
abbrev row (b : Fin 8) (r : Fin 2304) (k : Fin 1024) : EReal := InProj.row (lat m c) (ctx m c) (nw m c) (modL m c) (modC m c) b r k

/-! ## The arrays -/

/-- Sequence and context rows stand one after the other. -/
theorem xs_at (b : Fin 8) (r : Fin 2304) (k : Fin 1024) : (V m c main_v0 : S8x2304x1024.Idx → EReal) (ix3 b r k) = InProj.token (lat m c) (ctx m c) b r k := by
  unfold V InProj.token
  after_reads_at

/-- The first eight rows of the modulation table are the samples'. -/
theorem mod_lat (b : Fin 8) (q : Fin 6144) : (V m c main_v3 : S16x6144.Idx → EReal) (ix2 ⟨b.val, by omega⟩ q) = modL m c (ix2 b q) := by
  unfold V
  after_reads_at

/-- The ninth is the context's. -/
theorem mod_ctx (q : Fin 6144) : (V m c main_v3 : S16x6144.Idx → EReal) (ix2 8 q) = modC m c (ix1 q) := by
  unfold V
  after_reads_at
  after_reads_at

/-- The norm's weights as one row. -/
theorem nw_at (k : Fin 1024) : (V m c main_v11 : S1x1024.Idx → EReal) (ix2 0 k) = nw m c (ix1 k) := by
  unfold V
  after_reads_at

/-- The weights, column by column. -/
theorem w_at (k : Fin 1024) (q : Fin 1536) : (V m c main_v9 : S1024x1536.Idx → EReal) (ix2 k q) = col m c k q := by
  unfold V col
  after_reads_at
  refine take_at (wgt m c) _ k q (InProj.source q) ?_
  pointwise
  exact table_at q

/-- The bias, column by column. -/
theorem bias_at (q : Fin 1536) : (V m c main_v12 : S1x1536.Idx → EReal) (ix2 0 q) = bias q := by
  unfold V bias
  after_reads_at

/-! ## The blocks of a point -/

/-- Where a point's blocks lie: its sample's rows, the shift's and the scale's columns of the modulation, and its 512 output columns. -/
theorem index_of : ∀ t : Fin cfg0.N, win0_0.index t = ![t.val / 3, 0, 0] ∧ win0_1.index t = ![0, 0] ∧ win0_2.index t = ![0, 0]
    ∧ win0_3.index t = ![0, 1] ∧ win0_4.index t = ![0, t.val % 3] ∧ win0_5.index t = ![0, t.val % 3]
    ∧ k0_off1 (grid0.coords t) = ![t.val / 3, 0] :=
  (by decide +kernel : ∀ t : Fin grid0.N, _)

variable (t : Fin cfg0.N)

/-- A point's rows are its sample's. -/
theorem blk0 (b : Fin 8) (hb : t.val / 3 = b.val) (r : Fin 2304) (k : Fin 1024) :
    (iblk m c 0 t : S1x2304x1024.Idx → EReal) (ix3 0 r k) = InProj.token (lat m c) (ctx m c) b r k := by
  have hi := (index_of t).1
  unfold iblk
  rw [View.read_apply]
  refine (cast_eq _ _).trans (Eq.trans (congrArg (V m c main_v0) (funext fun a => Fin.ext ?_)) (xs_at m c b r k))
  match a with
  | ⟨0, _⟩ => show win0_0.index t 0 * 1 + 1 * 0 = b.val; rw [hi]; show (t.val / 3) * 1 + _ = _; omega
  | ⟨1, _⟩ => show win0_0.index t 1 * 2304 + 1 * r.val = r.val; rw [hi]; show 0 * 2304 + _ = _; omega
  | ⟨2, _⟩ => show win0_0.index t 2 * 1024 + 1 * k.val = k.val; rw [hi]; show 0 * 1024 + _ = _; omega

/-- The norm's weights. -/
theorem blk1 (k : Fin 1024) : (iblk m c 1 t : S1x1024.Idx → EReal) (ix2 0 k) = nw m c (ix1 k) := by
  have hi := (index_of t).2.1
  unfold iblk
  rw [View.read_apply]
  refine (cast_eq _ _).trans (Eq.trans (congrArg (V m c main_v11) (funext fun a => Fin.ext ?_)) (nw_at m c k))
  match a with
  | ⟨0, _⟩ => show win0_1.index t 0 * 1 + 1 * 0 = 0; rw [hi]; rfl
  | ⟨1, _⟩ => show win0_1.index t 1 * 1024 + 1 * k.val = k.val; rw [hi]; show 0 * 1024 + _ = _; omega

/-- The shifts are the modulation's first 1024 columns. -/
theorem blk2 (r : Fin 16) (k : Fin 1024) :
    (iblk m c 2 t : S16x1024.Idx → EReal) (ix2 r k) = (V m c main_v3 : S16x6144.Idx → EReal) (ix2 r ⟨k.val, by omega⟩) := by
  have hi := (index_of t).2.2.1
  unfold iblk
  rw [View.read_apply]
  refine (cast_eq _ _).trans (congrArg (V m c main_v3) (funext fun a => Fin.ext ?_))
  match a with
  | ⟨0, _⟩ => show win0_2.index t 0 * 16 + 1 * r.val = r.val; rw [hi]; show 0 * 16 + _ = _; omega
  | ⟨1, _⟩ => show win0_2.index t 1 * 1024 + 1 * k.val = k.val; rw [hi]; show 0 * 1024 + _ = _; omega

/-- The scales are the next 1024. -/
theorem blk3 (r : Fin 16) (k : Fin 1024) :
    (iblk m c 3 t : S16x1024.Idx → EReal) (ix2 r k) = (V m c main_v3 : S16x6144.Idx → EReal) (ix2 r ⟨1024 + k.val, by omega⟩) := by
  have hi := (index_of t).2.2.2.1
  unfold iblk
  rw [View.read_apply]
  refine (cast_eq _ _).trans (congrArg (V m c main_v3) (funext fun a => Fin.ext ?_))
  match a with
  | ⟨0, _⟩ => show win0_3.index t 0 * 16 + 1 * r.val = r.val; rw [hi]; show 0 * 16 + _ = _; omega
  | ⟨1, _⟩ => show win0_3.index t 1 * 1024 + 1 * k.val = 1024 + k.val; rw [hi]; show 1 * 1024 + _ = _; omega

variable (j : ℕ) (hj : t.val % 3 = j) (hlt : ∀ q : Fin 512, 512 * j + q.val < 1536)
include hj

/-- A point's block of weights: its 512 columns. -/
theorem blk4 (k : Fin 1024) (q : Fin 512) :
    (iblk m c 4 t : S1024x512.Idx → EReal) (ix2 k q) = col m c k ⟨512 * j + q.val, hlt q⟩ := by
  have hi := (index_of t).2.2.2.2.1
  unfold iblk
  rw [View.read_apply]
  refine (cast_eq _ _).trans (Eq.trans (congrArg (V m c main_v9) (funext fun a => Fin.ext ?_)) (w_at m c k ⟨512 * j + q.val, hlt q⟩))
  match a with
  | ⟨0, _⟩ => show win0_4.index t 0 * 1024 + 1 * k.val = k.val; rw [hi]; show 0 * 1024 + _ = _; omega
  | ⟨1, _⟩ => show win0_4.index t 1 * 512 + 1 * q.val = 512 * j + q.val; rw [hi]; show (t.val % 3) * 512 + _ = _; omega

/-- Its block of the bias. -/
theorem blk5 (q : Fin 512) : (iblk m c 5 t : S1x512.Idx → EReal) (ix2 0 q) = bias ⟨512 * j + q.val, hlt q⟩ := by
  have hi := (index_of t).2.2.2.2.2.1
  unfold iblk
  rw [View.read_apply]
  refine (cast_eq _ _).trans (Eq.trans (congrArg (V m c main_v12) (funext fun a => Fin.ext ?_)) (bias_at m c ⟨512 * j + q.val, hlt q⟩))
  match a with
  | ⟨0, _⟩ => show win0_5.index t 0 * 1 + 1 * 0 = 0; rw [hi]; rfl
  | ⟨1, _⟩ => show win0_5.index t 1 * 512 + 1 * q.val = 512 * j + q.val; rw [hi]; show (t.val % 3) * 512 + _ = _; omega

end Cert.SwInIdeal.Blocks

end
-- ==== Proof.SwInValue.lean ====
module

public import proofs.«01_k».proof.Proof.SwInHost

/-! the windowed attention's input projection over the extended reals: what its scratch holds after each point, and its result array, as the
    projection's formula at each token. -/

@[expose] public section

set_option maxRecDepth 16384

noncomputable section

namespace Cert.SwInIdeal.Blocks

open Cert.SwInIdeal Cert.SwInIdeal.Gen Cert.SwInIdeal.Value Idealize.ShloMosaic Idealize.ShloMosaic.TcCoe Idealize.SL.Sem

variable (m : (ℓ : Loc nD τ sig) → Buf (Elt Ideal) ℓ) (c : Dev nD)

/-- The result at a token and a column. -/
def outOf (b : Fin 8) (r : Fin 2304) (q : Fin 1536) : EReal := (∑ k, row m c b r k * col m c k q) + bias q

/-- What a sample's first point stages is the sample's modulated rows. -/
theorem staged_row (t : Fin cfg0.N) (b : Fin 8) (hb : t.val / 3 = b.val) (h0 : cond0_0 (grid0.coords t)) (r : Fin 2304) (k : Fin 1024) :
    InProj.staged (F := Ideal) (k0_off1 (grid0.coords t)) (k0_off1_inb _ h0) (iblk m c 0 t) (iblk m c 1 t) (iblk m c 2 t) (iblk m c 3 t) (ix2 r k) = row m c b r k :=
  InProj.staged_at _ _ _ _ _ b _ _ ((index_of t).2.2.2.2.2.2.trans (by rw [hb])) _ _ _ _ (blk0 m c t b hb) (blk1 m c t)
    (fun k => (blk2 m c t _ k).trans (mod_lat m c b _)) (fun k => (blk2 m c t 8 k).trans (mod_ctx m c _))
    (fun k => (blk3 m c t _ k).trans (mod_lat m c b _)) (fun k => (blk3 m c t 8 k).trans (mod_ctx m c _)) r k

/-- The output block of a point of sample `b` at column block `j`. -/
theorem block_at (t : Fin cfg0.N) (b : Fin 8) (j : ℕ) (hj : t.val % 3 = j) (hlt : ∀ q : Fin 512, 512 * j + q.val < 1536) (X : Vec Ideal S2304x1024 .bf16) (hX : ∀ r k, X (ix2 r k) = row m c b r k) (r : Fin 2304) (q : Fin 512) :
    InProj.columns X (iblk m c 4 t) (iblk m c 5 t) (ix3 0 r q) = outOf m c b r ⟨512 * j + q.val, hlt q⟩ := by
  rw [InProj.pay2_at, blk5 m c t j hj hlt]
  simp only [blk4 m c t j hj hlt, hX]
  rfl

/-- AFTER A POINT: the scratch holds the sample's modulated rows, and the output block its 512 columns. -/
theorem state (b : Fin 8) : ∀ (j : ℕ) (h : 3 * b.val + j < cfg0.N) (_ : j < 3),
    (∀ r k, (outsAt0 m c (3 * b.val + j) h).2 (ix2 r k) = row m c b r k)
    ∧ ∀ r (q : Fin 512), (outsAt0 m c (3 * b.val + j) h).1 (ix3 0 r q) = outOf m c b r ⟨512 * j + q.val, by omega⟩
  | 0, h, _ => by
    have h0 : (⟨3 * b.val + 0, h⟩ : Fin cfg0.N).val % 3 = 0 := by dsimp only; omega
    have hd : (⟨3 * b.val + 0, h⟩ : Fin cfg0.N).val / 3 = b.val := by dsimp only; omega
    rw [outsAt0_A m c ⟨3 * b.val + 0, h⟩ h0]
    dsimp only
    rw [rows_A, out_A]
    have hX := staged_row m c _ b hd ((hcond0_0 _).mpr h0)
    exact ⟨hX, fun r q => block_at m c _ b 0 h0 (fun q => by omega) _ hX r q⟩
  | j + 1, h, hj => by
    obtain ⟨ih, -⟩ := state b j (by omega) (by omega)
    have h0 : ¬(⟨3 * b.val + (j + 1), h⟩ : Fin cfg0.N).val % 3 = 0 := by dsimp only; omega
    have hm : (⟨3 * b.val + (j + 1), h⟩ : Fin cfg0.N).val % 3 = j + 1 := by dsimp only; omega
    have hd : (⟨3 * b.val + (j + 1), h⟩ : Fin cfg0.N).val / 3 = b.val := by dsimp only; omega
    rw [outsAt0_B m c ⟨3 * b.val + (j + 1), h⟩ h0]
    dsimp only
    rw [out_B]
    exact ⟨fun r k => ih r k, fun r q => block_at m c _ b (j + 1) hm (fun q => by omega) _ ih r q⟩

/-- THE RESULT: every token at every column at the projection's formula. -/
theorem G6_at (b : Fin 8) (r : Fin 2304) (q : Fin 1536) : G6 m c (ix3 b r q) = outOf m c b r q := by
  have hp : pt6Of (ix3 b r q : S8x2304x1536.Idx) = 3 * b.val + q.val / 512 := by
    show 3 * (b.val / 1 - 0) + 3 * (r.val / 2304 - 0) + 1 * (q.val / 512 - 0) = _
    omega
  have hN : 3 * b.val + q.val / 512 < cfg0.N := lt_of_lt_of_eq (by omega) (show cfg0.N = 24 from N_0).symm
  have hl : loc6Of (ix3 b r q : S8x2304x1536.Idx) = ix3 0 r ⟨q.val % 512, by omega⟩ := by
    funext a
    apply Fin.ext
    match a with
    | ⟨0, _⟩ => show b.val % 1 = 0; omega
    | ⟨1, _⟩ => show r.val % 2304 = r.val; omega
    | ⟨2, _⟩ => rfl
  unfold G6
  rw [dif_pos (by rw [hp]; exact hN), hl, fold0_congr m c _ _ _ (by rw [Nat.zero_add]; exact hN) hp, ← outsAt0_sweep m c _ hN]
  exact ((state m c b (q.val / 512) hN (by omega)).2 r _).trans (congrArg (outOf m c b r) (Fin.ext (Nat.div_add_mod q.val 512)))

end Cert.SwInIdeal.Blocks

end
-- ==== Proof.SwInRef.lean ====
module

public import proofs.«01_k».proof.Proof.Gen.SwInRefIdeal.Read
public import proofs.«01_k».proof.Proof.HgInRef

/-! The reference of the windowed attention's input projection over the extended reals, read at a token and a column. -/

@[expose] public section

set_option maxRecDepth 16384

noncomputable section

namespace Cert.SwInRefIdeal.At

open Cert.SwInRefIdeal Cert.SwInRefIdeal.Gen Cert.SwInRefIdeal.Read Idealize.ShloMosaic Idealize.SL.Sem

variable (X : (⟨S8x2048x1024, .f32⟩ : BufTy).Contents (Elt Ideal)) (C : (⟨S8x256x1024, .f32⟩ : BufTy).Contents (Elt Ideal))
  (N : (⟨S1024, .f32⟩ : BufTy).Contents (Elt Ideal)) (L : (⟨S8x6144, .f32⟩ : BufTy).Contents (Elt Ideal))
  (D : (⟨S6144, .f32⟩ : BufTy).Contents (Elt Ideal)) (W : (⟨S1024x1536, .f32⟩ : BufTy).Contents (Elt Ideal))

/-- A modulated sequence row. -/
theorem lat_row (b : Fin 8) (r : Fin 2048) (k : Fin 1024) :
    val_main_v36 X N L (ix3 b r k) = InProj.modulated (fun k => X (ix3 b r k)) (fun k => N (ix1 k)) (fun k => L (ix2 b ⟨k.val, by omega⟩)) (fun k => L (ix2 b ⟨1024 + k.val, by omega⟩)) k :=
  Cert.HgInRefIdeal.At.lat_row X N L b r k

/-- A modulated context row. -/
theorem ctx_row (b : Fin 8) (r : Fin 256) (k : Fin 1024) :
    val_main_v57 C N D (ix3 b r k) = InProj.modulated (fun k => C (ix3 b r k)) (fun k => N (ix1 k)) (fun k => D (ix1 ⟨k.val, by omega⟩)) (fun k => D (ix1 ⟨1024 + k.val, by omega⟩)) k :=
  Cert.HgInRefIdeal.At.ctx_row C N D b r k

/-- A sequence row's result. -/
theorem lat (b : Fin 8) (r : Fin 2048) (q : Fin 1536) :
    val_main_v77 X C N L D W (ix3 b ⟨r.val, by omega⟩ q) = ∑ k, val_main_v36 X N L (ix3 b r k) * W (ix2 k (InProj.source q)) := by
  pointwise [val_main_v77, val_main_v76, val_main_v66, val_main_v65, val_main_v64, val_main_v63, val_main_v62, val_main_v61, val_main_v60, val_main_v59, val_main_v58]
  unfold InProj.source
  split_ifs <;> rfl

/-- A context row's result. -/
theorem ctx (b : Fin 8) (r : Fin 256) (q : Fin 1536) :
    val_main_v77 X C N L D W (ix3 b ⟨2048 + r.val, by omega⟩ q) = ∑ k, val_main_v57 C N D (ix3 b r k) * W (ix2 k (InProj.source q)) := by
  pointwise [val_main_v77, val_main_v76, val_main_v75, val_main_v74, val_main_v73, val_main_v72, val_main_v71, val_main_v70, val_main_v69, val_main_v68, val_main_v67]
  unfold InProj.source
  split_ifs <;> rfl

end Cert.SwInRefIdeal.At

end
-- ==== Proof.SwInClaim.lean ====
module

public import proofs.«01_k».proof.Defs
public import proofs.«01_k».proof.Proof.SwInValue
public import proofs.«01_k».proof.Proof.SwInRef

/-! The value claim of the windowed attention's input projection: the kernel's result is the reference's, from any memory. -/

@[expose] public section

set_option maxRecDepth 16384

noncomputable section

namespace Cert.SwInIdeal.Blocks

open Cert.SwInIdeal Cert.SwInIdeal.Value Cert.SwInRefIdeal.Read Idealize.ShloMosaic Idealize.ShloMosaic.TcCoe Idealize.SL.Sem

variable (m : (ℓ : Loc nD τ sig) → Buf (Elt Ideal) ℓ) (c : Dev nD)

/-- The reference's array over the kernel's arguments, at a token and a column, is the kernel's. -/
theorem ref_eq (b : Fin 8) (r : Fin 2304) (q : Fin 1536) :
    val_main_v77 (F := Ideal) (lat m c) (ctx m c) (nw m c) (modL m c) (modC m c) (wgt m c) (ix3 b r q) = outOf m c b r q := by
  unfold outOf row
  by_cases h : r.val < 2048
  · simp only [InProj.row_lat _ _ _ _ _ b r h]
    refine (Cert.SwInRefIdeal.At.lat _ _ _ _ _ _ b ⟨r.val, h⟩ q).trans ?_
    exact (Finset.sum_congr rfl fun k _ => congrArg (· * _) (Cert.SwInRefIdeal.At.lat_row _ _ _ b _ k)).trans (add_zero _).symm
  · simp only [InProj.row_ctx _ _ _ _ _ b r h]
    have hr : (⟨2048 + (r.val - 2048), by omega⟩ : Fin 2304) = r := Fin.ext (by dsimp only; omega)
    refine Eq.trans (by rw [hr]) ((Cert.SwInRefIdeal.At.ctx _ _ _ _ _ _ b ⟨r.val - 2048, by omega⟩ q).trans ?_)
    exact (Finset.sum_congr rfl fun k _ => congrArg (· * _) (Cert.SwInRefIdeal.At.ctx_row _ _ _ b _ k)).trans (add_zero _).symm

/-- Every weakly fair execution of the kernel and of the reference ends with the same array. -/
theorem algebraic : Cert.algebraic_SwInIdeal_SwInRefIdeal := fun m ρ m' ρ' _ hag =>
  ⟨fun c => G6 m c, Cert.SwInIdeal.Value.run m ρ,
    (θ_run _ _ _).mono (fun r h c => by
      obtain ⟨h0, hrest⟩ := h c
      obtain ⟨a0, a1, a2, a3, a4, a5⟩ := hag c
      refine ⟨h0.trans ?_, hrest⟩
      rw [val_main_v77_eq, a0, a1, a2, a3, a4, a5]
      funext i
      obtain ⟨b, r, q, rfl⟩ : ∃ (b : Fin 8) (r : Fin 2304) (q : Fin 1536), i = ix3 b r q := ⟨i 0, i 1, i 2, eq_ix3 i⟩
      exact (ref_eq m c b r q).trans (G6_at m c b r q).symm)
      (Cert.SwInRefIdeal.Value.run m' ρ')⟩

end Cert.SwInIdeal.Blocks

end
-- ==== Proof.OutFrames.lean ====
module

public import proofs.«01_k».proof.Defs
public import proofs.«01_k».proof.Proof.Gen.Out.Frame
public import proofs.«01_k».proof.Proof.Gen.OutIdeal.Frame
public import proofs.«01_k».proof.Proof.Gen.OutRefIdeal.Run

/-! The frame claims of the output projection: each terminates without a fault, at rest, with its arguments kept. -/

@[expose] public section

noncomputable section

namespace Out.Claims

open Idealize.ShloMosaic Idealize.SL.Sem

/-- The kernel at the machine's formats. -/
theorem kernel : Cert.quiescent_Out := fun m ρ _ => Cert.Out.Gen.frame m ρ

/-- The kernel over the extended reals. -/
theorem ideal : Cert.quiescent_OutIdeal := fun m ρ _ => Cert.OutIdeal.Gen.frame m ρ

/-- The reference over the extended reals. -/
theorem reference : Cert.quiescent_OutRefIdeal := fun m ρ _ =>
  (θ_run _ _ _).mono (fun r h => ⟨fun c => (h c).2.2, sem_eq_zero_of_no_sems (by decide) r.2⟩) (Cert.OutRefIdeal.Value.run m ρ)

end Out.Claims

end
-- ==== Proof.OutBlocks.lean ====
module

public import proofs.«01_k».proof.Proof.Gen.OutIdeal.Value
public import proofs.«01_k».proof.Proof.InRows
public import Idealize.ShloMosaic.Lib.Pointwise
public import Idealize.ShloMosaic.Lib.Tactic

/-! The output projection: what one grid point leaves in its blocks of the residual and of the modulated rows, as expressions of the
    blocks it reads and entry by entry. -/

@[expose] public section

set_option maxRecDepth 16384

noncomputable section

namespace Cert.OutIdeal.Blocks

open Cert.OutIdeal Cert.OutIdeal.Gen Idealize.ShloMosaic Idealize.ShloMosaic.TcCoe Idealize.SL.Sem

/-! ## Entry by entry -/

/-- The kernel's test for a context row: row `r` of block `p` is row `768 p + r` of its sample. -/
theorem context_word : ∀ (p : Fin 3) (r : Fin 768),
    IntOp.cmpi CmpIPredicate.sge (IntOp.addi (Scalar.muli (BitVec.ofNat 32 p.val) 768#32) (BitVec.ofNat 32 r.val)) 2048#32
      = if 2048 ≤ 768 * p.val + r.val then 1#1 else 0#1 := by
  decide +kernel

/-- What the kernel selects by that test. -/
theorem select_row (p : Fin 3) (r : Fin 768) (a b : EReal) :
    Scalar.select (IntOp.cmpi CmpIPredicate.sge (IntOp.addi (Scalar.muli (BitVec.ofNat 32 p.val) 768#32) (BitVec.ofNat 32 r.val)) 2048#32) a b
      = if 768 * p.val + r.val < 2048 then b else a := by
  rw [context_word]
  unfold Scalar.select
  by_cases h : 2048 ≤ 768 * p.val + r.val
  · rw [if_pos h, if_neg (by omega : ¬ 768 * p.val + r.val < 2048)]
    exact if_pos rfl
  · rw [if_neg h, if_pos (by omega : 768 * p.val + r.val < 2048)]
    exact if_neg (by decide)

/-- The residual: the row, plus its gate times its projection. -/
theorem pay4_at (i : grid0.Coords) (y : Vec Ideal S1x768x1024 .f32) (w : Vec Ideal S1024x1024 .bf16) (z : Vec Ideal S1x1024 .f32)
    (x : Vec Ideal S1x768x1024 .f32) (gc gl : Vec Ideal S1x1024 .f32) (r : Fin 768) (k : Fin 1024) :
    k0_pay3 i y w z x gc gl (ix2 r k)
      = x (ix3 0 r k) + (if 768 * (i 1).val + r.val < 2048 then gl (ix2 0 k) else gc (ix2 0 k)) * ((∑ j, y (ix3 0 r j) * w (ix2 j k)) + z (ix2 0 k)) := by
  pointwise [k0_pay3]
  rw [select_row (i 1) r]

/-- The modulated rows of a residual. -/
theorem pay5_at (p : Fin 3) (x : FVec Ideal S768x1024 .f32) (w shc shl scc scl : Vec Ideal S1x1024 .f32) (r : Fin 768) (k : Fin 1024) :
    k0_pay5 (BitVec.ofNat 32 p.val) x w shc shl scc scl (ix2 r k)
      = InProj.modulated (fun k => x (ix2 r k)) (fun k => w (ix2 0 k)) (fun k => if 768 * p.val + r.val < 2048 then shl (ix2 0 k) else shc (ix2 0 k))
          (fun k => if 768 * p.val + r.val < 2048 then scl (ix2 0 k) else scc (ix2 0 k)) k := by
  pointwise [k0_pay5]
  rw [select_row p r, select_row p r]
  unfold InProj.modulated InProj.normed
  rfl

/-! ## The blocks -/

variable {F : FTy → Type} [FloatOps F]

/-- The residual rows of a point, from its input blocks. -/
def resid (i : grid0.Coords) (x0 : Vec F S1x768x1024 .f32) (x1 : Vec F S1024x1024 .bf16) (x2 : Vec F S1x1024 .f32) (x3 : Vec F S1x768x1024 .f32) (x4 : Vec F S16x1024 .f32) : FVec F S768x1024 .f32 :=
  k0_pay3 i x0 x1 x2 x3 (View.ld x4 (Rect.unit ![8, 0] S1x1024.size inb_S16x1024_S1x1024_8_0))
    (View.ld x4 (Rect.unit (k0_off1 i) S1x1024.size (k0_off1_inb i)))

/-- The modulated rows of a point, from its residual rows. -/
def modded (i : grid0.Coords) (x : FVec F S768x1024 .f32) (x5 : Vec F S1x1024 .f32) (x6 x7 : Vec F S16x1024 .f32) : FVec F S768x1024 .bf16 :=
  k0_pay6 (BitVec.ofNat 32 (i 1).val) x x5 (View.ld x6 (Rect.unit ![8, 0] S1x1024.size inb_S16x1024_S1x1024_8_0))
    (View.ld x6 (Rect.unit (k0_off1 i) S1x1024.size (k0_off1_inb i)))
    (View.ld x7 (Rect.unit ![8, 0] S1x1024.size inb_S16x1024_S1x1024_8_0))
    (View.ld x7 (Rect.unit (k0_off1 i) S1x1024.size (k0_off1_inb i)))

section

variable (c : Dev nD) (t : Fin cfg0.N) (x0 : Vec F S1x768x1024 .f32) (x1 : Vec F S1024x1024 .bf16) (x2 : Vec F S1x1024 .f32)
  (x3 : Vec F S1x768x1024 .f32) (x4 : Vec F S16x1024 .f32) (x5 : Vec F S1x1024 .f32) (x6 x7 : Vec F S16x1024 .f32) (x8 : Vec F S1024x256 .bf16)

/-- A point's first output block is its residual rows. -/
theorem out_x : out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) x0 x1 x2 x3 x4 x5 x6 x7 x8
    = shapeCast S1x768x1024 (resid (grid0.coords t) x0 x1 x2 x3 x4) shapeCasts_S768x1024_S1x768x1024 := by
  unfold out0_A_9
  rw [View.read_writes_eq_canon _ _ _ (cover0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) x0 x1 x2 x3 x4 x5 x6 x7 x8)]
  unfold kernelRun0_A
  dsimp only
  sl_unfold_words
  rw [View.canon_cons_unit_zero (S := S1x768x1024) InProj.hz3]
  simp only [View.readAt_eq_ld, (hs0_0 t).read_unread, (hs0_1 t).read_unread, (hs0_2 t).read_unread, (hs0_3 t).read_unread, (hs0_4 t).read_unread,
    View.ld_unit_zero (S := S1x768x1024) InProj.hz3, View.ld_unit_zero (S := S1024x1024) InProj.hz2, View.ld_unit_zero (S := S1x1024) InProj.hz2]
  rfl

/-- Its second is those rows modulated. -/
theorem out_h : out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) x0 x1 x2 x3 x4 x5 x6 x7 x8
    = shapeCast S1x768x1024 (modded (grid0.coords t) (resid (grid0.coords t) x0 x1 x2 x3 x4) x5 x6 x7) shapeCasts_S768x1024_S1x768x1024 := by
  unfold out0_A_10
  rw [View.read_writes_eq_canon _ _ _ (cover0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) x0 x1 x2 x3 x4 x5 x6 x7 x8)]
  unfold kernelRun0_A
  dsimp only
  sl_unfold_words
  rw [View.canon_cons_unit_zero (S := S1x768x1024) InProj.hz3]
  simp only [View.readAt_eq_ld, (hs0_0 t).read_unread, (hs0_1 t).read_unread, (hs0_2 t).read_unread, (hs0_3 t).read_unread, (hs0_4 t).read_unread,
    (hs0_5 t).read_unread, (hs0_6 t).read_unread, (hs0_7 t).read_unread, View.ld_unit_zero (S := S1x768x1024) InProj.hz3,
    View.ld_unit_zero (S := S1024x1024) InProj.hz2, View.ld_unit_zero (S := S1x1024) InProj.hz2]
  rfl

end

/-- A block's entry at a row. -/
theorem block_row {φ : FTy} (v : FVec Ideal S768x1024 φ) (r : Fin 768) (k : Fin 1024) :
    shapeCast S1x768x1024 v shapeCasts_S768x1024_S1x768x1024 (ix3 0 r k) = v (ix2 r k) := by
  pointwise

/-- The modulated rows of a point, entry by entry. -/
theorem modded_at (i : grid0.Coords) (x : FVec Ideal S768x1024 .f32) (x5 : Vec Ideal S1x1024 .f32) (x6 x7 : Vec Ideal S16x1024 .f32) (r : Fin 768) (k : Fin 1024) :
    modded i x x5 x6 x7 (ix2 r k) = k0_pay5 (BitVec.ofNat 32 (i 1).val) x x5 (View.ld x6 (Rect.unit ![8, 0] S1x1024.size inb_S16x1024_S1x1024_8_0))
      (View.ld x6 (Rect.unit (k0_off1 i) S1x1024.size (k0_off1_inb i)))
      (View.ld x7 (Rect.unit ![8, 0] S1x1024.size inb_S16x1024_S1x1024_8_0))
      (View.ld x7 (Rect.unit (k0_off1 i) S1x1024.size (k0_off1_inb i))) (ix2 r k) := rfl

end Cert.OutIdeal.Blocks

end
-- ==== Proof.OutRows.lean ====
module

public import proofs.«01_k».proof.Proof.InRows

/-! The output projection's formula over its arguments: the residual row of a token, and that row modulated for the experts. -/

@[expose] public section

noncomputable section

namespace OutProj

open Cert.HgInIdeal Cert.HgInIdeal.Gen Idealize.ShloMosaic Idealize.SL.Sem

variable (X : S8x2048x1024.Idx → EReal) (C : S8x256x1024.Idx → EReal) (Y : S8x2048x1024.Idx → EReal) (Z : S8x256x1024.Idx → EReal)
  (W : Fin 1024 → Fin 1024 → EReal) (B N : S1024.Idx → EReal) (L : S8x6144.Idx → EReal) (D : S6144.Idx → EReal)

/-- A feature of a residual row: the token's, plus its gate times the mixer's row projected. -/
def resid (b : Fin 8) (r : Fin 2304) (k : Fin 1024) : EReal :=
  InProj.token X C b r k + InProj.modOf L D b r ⟨2048 + k.val, by omega⟩ * ((∑ j, InProj.token Y Z b r j * W j k) + B (ix1 k))

/-- A feature of the residual row modulated by the layer's second shift and scale. -/
def modded (b : Fin 8) (r : Fin 2304) (k : Fin 1024) : EReal :=
  InProj.modulated (resid X C Y Z W B L D b r) (fun k => N (ix1 k)) (fun k => InProj.modOf L D b r ⟨3072 + k.val, by omega⟩)
    (fun k => InProj.modOf L D b r ⟨4096 + k.val, by omega⟩) k

/-- The residual of a sequence row. -/
theorem resid_lat (b : Fin 8) (r : Fin 2304) (h : r.val < 2048) (k : Fin 1024) : resid X C Y Z W B L D b r k
    = X (ix3 b ⟨r.val, h⟩ k) + L (ix2 b ⟨2048 + k.val, by omega⟩) * ((∑ j, Y (ix3 b ⟨r.val, h⟩ j) * W j k) + B (ix1 k)) := by
  unfold resid InProj.modOf
  rw [InProj.token_lat X C b r h, if_pos h]
  simp only [InProj.token_lat Y Z b r h]

/-- The residual of a context row. -/
theorem resid_ctx (b : Fin 8) (r : Fin 2304) (h : ¬r.val < 2048) (k : Fin 1024) : resid X C Y Z W B L D b r k
    = C (ix3 b ⟨r.val - 2048, by omega⟩ k) + D (ix1 ⟨2048 + k.val, by omega⟩) * ((∑ j, Z (ix3 b ⟨r.val - 2048, by omega⟩ j) * W j k) + B (ix1 k)) := by
  unfold resid InProj.modOf
  rw [InProj.token_ctx X C b r h, if_neg h]
  simp only [InProj.token_ctx Y Z b r h]

end OutProj

end
-- ==== Proof.OutHost.lean ====
module

public import proofs.«01_k».proof.Proof.OutBlocks
public import proofs.«01_k».proof.Proof.OutRows
public import Idealize.ShloMosaic.Lib.StableHlo.ReadAt

/-! The arrays the output projection is launched over, entry by entry, from the arguments, and the blocks a grid point reads of them. -/

@[expose] public section

set_option maxRecDepth 16384

noncomputable section

namespace Cert.OutIdeal.Blocks

open Cert.OutIdeal Cert.OutIdeal.Gen Idealize.ShloMosaic Idealize.ShloMosaic.TcCoe Idealize.SL.Sem

variable (m : (ℓ : Loc nD τ sig) → Buf (Elt Ideal) ℓ) (c : Dev nD)

/-- The sequence's rows. -/
abbrev lat : S8x2048x1024.Idx → EReal := m ((c : Thread nD τ).loc main_arg0)
/-- The context's rows. -/
abbrev ctx : S8x256x1024.Idx → EReal := m ((c : Thread nD τ).loc main_arg1)
/-- The mixer's sequence rows. -/
abbrev yLat : S8x2048x1024.Idx → EReal := m ((c : Thread nD τ).loc main_arg2)
/-- The mixer's context rows. -/
abbrev yCtx : S8x256x1024.Idx → EReal := m ((c : Thread nD τ).loc main_arg3)
/-- The projection's weights. -/
abbrev wgt : S1024x1024.Idx → EReal := m ((c : Thread nD τ).loc main_arg4)
/-- Its bias. -/
abbrev bias : S1024.Idx → EReal := m ((c : Thread nD τ).loc main_arg5)
/-- The second norm's weights. -/
abbrev nw : S1024.Idx → EReal := m ((c : Thread nD τ).loc main_arg6)
/-- The samples' modulation. -/
abbrev modL : S8x6144.Idx → EReal := m ((c : Thread nD τ).loc main_arg7)
/-- The context's modulation. -/
abbrev modC : S6144.Idx → EReal := m ((c : Thread nD τ).loc main_arg8)

/-- The residual row of a token. -/
abbrev rowX (b : Fin 8) (r : Fin 2304) (k : Fin 1024) : EReal :=
  OutProj.resid (lat m c) (ctx m c) (yLat m c) (yCtx m c) (fun j k => wgt m c (ix2 j k)) (bias m c) (modL m c) (modC m c) b r k

/-- The modulated row of a token. -/
abbrev rowH (b : Fin 8) (r : Fin 2304) (k : Fin 1024) : EReal :=
  OutProj.modded (lat m c) (ctx m c) (yLat m c) (yCtx m c) (fun j k => wgt m c (ix2 j k)) (bias m c) (nw m c) (modL m c) (modC m c) b r k

/-! ## The arrays -/

/-- Sequence and context rows stand one after the other. -/
theorem xs_at (b : Fin 8) (r : Fin 2304) (k : Fin 1024) : (V m c main_v0 : S8x2304x1024.Idx → EReal) (ix3 b r k) = InProj.token (lat m c) (ctx m c) b r k := by
  unfold V InProj.token
  after_reads_at

/-- So do the mixer's. -/
theorem ys_at (b : Fin 8) (r : Fin 2304) (k : Fin 1024) : (V m c main_v4 : S8x2304x1024.Idx → EReal) (ix3 b r k) = InProj.token (yLat m c) (yCtx m c) b r k := by
  unfold V InProj.token
  after_reads_at

/-- The first eight rows of the modulation table are the samples'. -/
theorem mod_lat (b : Fin 8) (q : Fin 6144) : (V m c main_v3 : S16x6144.Idx → EReal) (ix2 ⟨b.val, by omega⟩ q) = modL m c (ix2 b q) := by
  unfold V
  after_reads_at

/-- The ninth is the context's. -/
theorem mod_ctx (q : Fin 6144) : (V m c main_v3 : S16x6144.Idx → EReal) (ix2 8 q) = modC m c (ix1 q) := by
  unfold V
  after_reads_at
  after_reads_at

/-- The weights. -/
theorem w_at (j k : Fin 1024) : (V m c main_v11 : S1024x1024.Idx → EReal) (ix2 j k) = wgt m c (ix2 j k) := by
  unfold V
  after_reads_at

/-- The bias as one row. -/
theorem bias_at (k : Fin 1024) : (V m c main_v12 : S1x1024.Idx → EReal) (ix2 0 k) = bias m c (ix1 k) := by
  unfold V
  after_reads_at

/-- The norm's weights as one row. -/
theorem nw_at (k : Fin 1024) : (V m c main_v13 : S1x1024.Idx → EReal) (ix2 0 k) = nw m c (ix1 k) := by
  unfold V
  after_reads_at

/-! ## The blocks of a point -/

/-- Where a point's blocks lie: its sample's 768 rows, the gate's, the shift's and the scale's columns of the modulation. -/
theorem index_of : ∀ t : Fin cfg0.N, win0_0.index t = ![t.val / 3, t.val % 3, 0] ∧ win0_1.index t = ![0, 0] ∧ win0_2.index t = ![0, 0]
    ∧ win0_3.index t = ![t.val / 3, t.val % 3, 0] ∧ win0_4.index t = ![0, 2] ∧ win0_5.index t = ![0, 0] ∧ win0_6.index t = ![0, 3]
    ∧ win0_7.index t = ![0, 4] ∧ win0_9.index t = ![t.val / 3, t.val % 3, 0] ∧ win0_10.index t = ![t.val / 3, t.val % 3, 0]
    ∧ k0_off1 (grid0.coords t) = ![t.val / 3, 0] ∧ (grid0.coords t 1).val = t.val % 3 :=
  (by decide +kernel : ∀ t : Fin grid0.N, _)

variable (t : Fin cfg0.N)

/-- The weights are one block. -/
theorem blk1 (j k : Fin 1024) : (iblk m c 1 t : S1024x1024.Idx → EReal) (ix2 j k) = wgt m c (ix2 j k) := by
  obtain ⟨-, hi, -⟩ := index_of t
  unfold iblk
  rw [View.read_apply]
  refine (cast_eq _ _).trans (Eq.trans (congrArg (V m c main_v11) (funext fun a => Fin.ext ?_)) (w_at m c j k))
  match a with
  | ⟨0, _⟩ => show win0_1.index t 0 * 1024 + 1 * j.val = j.val; rw [hi]; show 0 * 1024 + _ = _; omega
  | ⟨1, _⟩ => show win0_1.index t 1 * 1024 + 1 * k.val = k.val; rw [hi]; show 0 * 1024 + _ = _; omega

/-- So is the bias. -/
theorem blk2 (k : Fin 1024) : (iblk m c 2 t : S1x1024.Idx → EReal) (ix2 0 k) = bias m c (ix1 k) := by
  obtain ⟨-, -, hi, -⟩ := index_of t
  unfold iblk
  rw [View.read_apply]
  refine (cast_eq _ _).trans (Eq.trans (congrArg (V m c main_v12) (funext fun a => Fin.ext ?_)) (bias_at m c k))
  match a with
  | ⟨0, _⟩ => show win0_2.index t 0 * 1 + 1 * 0 = 0; rw [hi]; rfl
  | ⟨1, _⟩ => show win0_2.index t 1 * 1024 + 1 * k.val = k.val; rw [hi]; show 0 * 1024 + _ = _; omega

/-- And the norm's weights. -/
theorem blk5 (k : Fin 1024) : (iblk m c 5 t : S1x1024.Idx → EReal) (ix2 0 k) = nw m c (ix1 k) := by
  obtain ⟨-, -, -, -, -, hi, -⟩ := index_of t
  unfold iblk
  rw [View.read_apply]
  refine (cast_eq _ _).trans (Eq.trans (congrArg (V m c main_v13) (funext fun a => Fin.ext ?_)) (nw_at m c k))
  match a with
  | ⟨0, _⟩ => show win0_5.index t 0 * 1 + 1 * 0 = 0; rw [hi]; rfl
  | ⟨1, _⟩ => show win0_5.index t 1 * 1024 + 1 * k.val = k.val; rw [hi]; show 0 * 1024 + _ = _; omega

/-- The gates are the modulation's third 1024 columns. -/
theorem blk4 (r : Fin 16) (k : Fin 1024) :
    (iblk m c 4 t : S16x1024.Idx → EReal) (ix2 r k) = (V m c main_v3 : S16x6144.Idx → EReal) (ix2 r ⟨2048 + k.val, by omega⟩) := by
  obtain ⟨-, -, -, -, hi, -⟩ := index_of t
  unfold iblk
  rw [View.read_apply]
  refine (cast_eq _ _).trans (congrArg (V m c main_v3) (funext fun a => Fin.ext ?_))
  match a with
  | ⟨0, _⟩ => show win0_4.index t 0 * 16 + 1 * r.val = r.val; rw [hi]; show 0 * 16 + _ = _; omega
  | ⟨1, _⟩ => show win0_4.index t 1 * 1024 + 1 * k.val = 2048 + k.val; rw [hi]; show 2 * 1024 + _ = _; omega

/-- The shifts are the next 1024. -/
theorem blk6 (r : Fin 16) (k : Fin 1024) :
    (iblk m c 6 t : S16x1024.Idx → EReal) (ix2 r k) = (V m c main_v3 : S16x6144.Idx → EReal) (ix2 r ⟨3072 + k.val, by omega⟩) := by
  obtain ⟨-, -, -, -, -, -, hi, -⟩ := index_of t
  unfold iblk
  rw [View.read_apply]
  refine (cast_eq _ _).trans (congrArg (V m c main_v3) (funext fun a => Fin.ext ?_))
  match a with
  | ⟨0, _⟩ => show win0_6.index t 0 * 16 + 1 * r.val = r.val; rw [hi]; show 0 * 16 + _ = _; omega
  | ⟨1, _⟩ => show win0_6.index t 1 * 1024 + 1 * k.val = 3072 + k.val; rw [hi]; show 3 * 1024 + _ = _; omega

/-- The scales are those after. -/
theorem blk7 (r : Fin 16) (k : Fin 1024) :
    (iblk m c 7 t : S16x1024.Idx → EReal) (ix2 r k) = (V m c main_v3 : S16x6144.Idx → EReal) (ix2 r ⟨4096 + k.val, by omega⟩) := by
  obtain ⟨-, -, -, -, -, -, -, hi, -⟩ := index_of t
  unfold iblk
  rw [View.read_apply]
  refine (cast_eq _ _).trans (congrArg (V m c main_v3) (funext fun a => Fin.ext ?_))
  match a with
  | ⟨0, _⟩ => show win0_7.index t 0 * 16 + 1 * r.val = r.val; rw [hi]; show 0 * 16 + _ = _; omega
  | ⟨1, _⟩ => show win0_7.index t 1 * 1024 + 1 * k.val = 4096 + k.val; rw [hi]; show 4 * 1024 + _ = _; omega

variable (b : Fin 8) (p : Fin 3) (hb : t.val / 3 = b.val) (hp : t.val % 3 = p.val)
include hb hp

/-- A point's mixer rows: its sample's, at its block of 768. -/
theorem blk0 (r : Fin 768) (k : Fin 1024) :
    (iblk m c 0 t : S1x768x1024.Idx → EReal) (ix3 0 r k) = InProj.token (yLat m c) (yCtx m c) b ⟨768 * p.val + r.val, by omega⟩ k := by
  obtain ⟨hi, -⟩ := index_of t
  unfold iblk
  rw [View.read_apply]
  refine (cast_eq _ _).trans (Eq.trans (congrArg (V m c main_v4) (funext fun a => Fin.ext ?_)) (ys_at m c b _ k))
  match a with
  | ⟨0, _⟩ => show win0_0.index t 0 * 1 + 1 * 0 = b.val; rw [hi]; show (t.val / 3) * 1 + _ = _; omega
  | ⟨1, _⟩ => show win0_0.index t 1 * 768 + 1 * r.val = 768 * p.val + r.val; rw [hi]; show (t.val % 3) * 768 + _ = _; omega
  | ⟨2, _⟩ => show win0_0.index t 2 * 1024 + 1 * k.val = k.val; rw [hi]; show 0 * 1024 + _ = _; omega

/-- Its tokens alike. -/
theorem blk3 (r : Fin 768) (k : Fin 1024) :
    (iblk m c 3 t : S1x768x1024.Idx → EReal) (ix3 0 r k) = InProj.token (lat m c) (ctx m c) b ⟨768 * p.val + r.val, by omega⟩ k := by
  obtain ⟨-, -, -, hi, -⟩ := index_of t
  unfold iblk
  rw [View.read_apply]
  refine (cast_eq _ _).trans (Eq.trans (congrArg (V m c main_v0) (funext fun a => Fin.ext ?_)) (xs_at m c b _ k))
  match a with
  | ⟨0, _⟩ => show win0_3.index t 0 * 1 + 1 * 0 = b.val; rw [hi]; show (t.val / 3) * 1 + _ = _; omega
  | ⟨1, _⟩ => show win0_3.index t 1 * 768 + 1 * r.val = 768 * p.val + r.val; rw [hi]; show (t.val % 3) * 768 + _ = _; omega
  | ⟨2, _⟩ => show win0_3.index t 2 * 1024 + 1 * k.val = k.val; rw [hi]; show 0 * 1024 + _ = _; omega

end Cert.OutIdeal.Blocks

end
-- ==== Proof.OutValue.lean ====
module

public import proofs.«01_k».proof.Proof.OutHost
public import Idealize.ShloMosaic.Lib.Pipeline.Value

/-! The output projection over the extended reals: its two result arrays after the run, each token's residual row and that row
    modulated. -/

@[expose] public section

set_option maxRecDepth 16384

noncomputable section

namespace Cert.OutIdeal.Blocks

open Cert.OutIdeal Cert.OutIdeal.Gen Cert.OutIdeal.Value Idealize.ShloMosaic Idealize.ShloMosaic.TcCoe Idealize.SL.Sem

variable (m : (ℓ : Loc nD τ sig) → Buf (Elt Ideal) ℓ) (c : Dev nD)

/-- The first result: the residual rows. -/
def G9 : S8x2304x1024.Idx → EReal := fun i => rowX m c (i 0) (i 1) (i 2)

/-- The second: the modulated rows. -/
def G10 : S8x2304x1024.Idx → EReal := fun i => rowH m c (i 0) (i 1) (i 2)

/-! ## The blocks of a point -/

section

variable (t : Fin cfg0.N) (b : Fin 8) (p : Fin 3) (hb : t.val / 3 = b.val) (hp : t.val % 3 = p.val)
include hb hp

/-- A row of the modulation's columns as a point reads it: the sample's for a sequence row, the context's for a context row. -/
theorem mod_at (X : Vec Ideal S16x1024 .f32) (o : ℕ) (ho : o + 1024 ≤ 6144)
    (hX : ∀ (r : Fin 16) (k : Fin 1024), X (ix2 r k) = (V m c main_v3 : S16x6144.Idx → EReal) (ix2 r ⟨o + k.val, by omega⟩)) (r : Fin 768) (k : Fin 1024) :
    (if 768 * (grid0.coords t 1).val + r.val < 2048
      then View.ld (Val := Elt Ideal) X (Rect.unit (k0_off1 (grid0.coords t)) S1x1024.size (k0_off1_inb (grid0.coords t))) (ix2 0 k)
      else View.ld (Val := Elt Ideal) X (Rect.unit ![8, 0] S1x1024.size inb_S16x1024_S1x1024_8_0) (ix2 0 k))
      = InProj.modOf (modL m c) (modC m c) b ⟨768 * p.val + r.val, by omega⟩ ⟨o + k.val, by omega⟩ := by
  obtain ⟨-, -, -, -, -, -, -, -, -, -, hoff, hc⟩ := index_of t
  unfold InProj.modOf
  rw [hc, hp]
  refine if_congr Iff.rfl ?_ ?_
  · exact (InProj.ld_lat X b _ _ (hoff.trans (by rw [hb])) k).trans ((hX _ k).trans (mod_lat m c b _))
  · exact (InProj.ld_ctx X k).trans ((hX 8 k).trans (mod_ctx m c _))

/-- A point's residual rows. -/
theorem resid_at (r : Fin 768) (k : Fin 1024) :
    resid (F := Ideal) (grid0.coords t) (iblk m c 0 t) (iblk m c 1 t) (iblk m c 2 t) (iblk m c 3 t) (iblk m c 4 t) (ix2 r k) = rowX m c b ⟨768 * p.val + r.val, by omega⟩ k := by
  unfold resid
  refine (pay4_at _ _ _ _ _ _ _ r k).trans ?_
  unfold rowX OutProj.resid
  refine congrArg₂ (· + ·) (blk3 m c t b p hb hp r k) (congrArg₂ (· * ·) (mod_at m c t b p hb hp _ 2048 (by omega) (blk4 m c t) r k) (congrArg₂ (· + ·) ?_ (blk2 m c t k)))
  exact Finset.sum_congr rfl fun j _ => congrArg₂ (· * ·) (blk0 m c t b p hb hp r j) (blk1 m c t j k)

/-- A point's modulated rows. -/
theorem modded_eq (r : Fin 768) (k : Fin 1024) :
    modded (F := Ideal) (grid0.coords t) (resid (F := Ideal) (grid0.coords t) (iblk m c 0 t) (iblk m c 1 t) (iblk m c 2 t) (iblk m c 3 t) (iblk m c 4 t))
      (iblk m c 5 t) (iblk m c 6 t) (iblk m c 7 t) (ix2 r k) = rowH m c b ⟨768 * p.val + r.val, by omega⟩ k := by
  refine (modded_at _ _ _ _ _ r k).trans ((pay5_at (grid0.coords t 1) _ _ _ _ _ _ r k).trans ?_)
  exact InProj.modulated_congr (resid_at m c t b p hb hp r) (blk5 m c t) (mod_at m c t b p hb hp _ 3072 (by omega) (blk6 m c t) r)
    (mod_at m c t b p hb hp _ 4096 (by omega) (blk7 m c t) r) k

end

/-! ## The result arrays -/

variable (t : Fin cfg0.N)

/-- An entry of a block and of its array, where the block's rows are the array's at the block's place. -/
theorem entry_eq {φ : FTy} (v : FVec Ideal S768x1024 φ) (f : Fin 8 → Fin 2304 → Fin 1024 → EReal) (b : Fin 8) (p : Fin 3)
    (hv : ∀ r k, v (ix2 r k) = f b ⟨768 * p.val + r.val, by omega⟩ k) (y : S1x768x1024.Idx) (i : S8x2304x1024.Idx)
    (h0 : (i 0).val = b.val) (h1 : (i 1).val = 768 * p.val + (y 1).val) (h2 : (i 2).val = (y 2).val) :
    shapeCast S1x768x1024 v shapeCasts_S768x1024_S1x768x1024 y = f (i 0) (i 1) (i 2) := by
  obtain ⟨z, r, k, rfl⟩ : ∃ (z : Fin 1) (r : Fin 768) (k : Fin 1024), y = ix3 z r k := ⟨y 0, y 1, y 2, eq_ix3 y⟩
  obtain rfl : z = 0 := Subsingleton.elim _ _
  rw [block_row, hv]
  exact congr (congr (congrArg f (Fin.ext h0.symm)) (Fin.ext h1.symm)) (Fin.ext h2.symm)

/-- What a point writes back to the first result is its block of it. -/
theorem flushed9_eq : (dats m 0 c).flushed 9 t = ((cfg0.win 9).blk t).view.read (Elt Ideal) (G9 m c) := by
  have hN : t.val < 24 := lt_of_lt_of_eq t.isLt N_0
  obtain ⟨-, -, -, -, -, -, -, -, hi, -⟩ := index_of t
  rw [flushed9_A, out_x]
  funext y
  have hy0 : (y 0).val < 1 := (y 0).isLt
  refine entry_eq _ (rowX m c) ⟨t.val / 3, by omega⟩ ⟨t.val % 3, by omega⟩ (resid_at m c t _ _ rfl rfl)
    ((cfg0.win 9).xinj (grid0.coords t) y) (((cfg0.win 9).blk t).view.emb y) ?_ ?_ ?_
  · show win0_9.index t 0 * 1 + 1 * (y 0).val = _
    rw [hi]; show t.val / 3 * 1 + _ = t.val / 3; omega
  · show win0_9.index t 1 * 768 + 1 * (y 1).val = 768 * (t.val % 3) + (y 1).val
    rw [hi]; show t.val % 3 * 768 + _ = _; omega
  · show win0_9.index t 2 * 1024 + 1 * (y 2).val = (y 2).val
    rw [hi]; show 0 * 1024 + _ = _; omega

/-- What it writes back to the second is its block of that. -/
theorem flushed10_eq : (dats m 0 c).flushed 10 t = ((cfg0.win 10).blk t).view.read (Elt Ideal) (G10 m c) := by
  have hN : t.val < 24 := lt_of_lt_of_eq t.isLt N_0
  obtain ⟨-, -, -, -, -, -, -, -, -, hi, -⟩ := index_of t
  rw [flushed10_A, out_h]
  funext y
  have hy0 : (y 0).val < 1 := (y 0).isLt
  refine entry_eq _ (rowH m c) ⟨t.val / 3, by omega⟩ ⟨t.val % 3, by omega⟩ (modded_eq m c t _ _ rfl rfl)
    ((cfg0.win 10).xinj (grid0.coords t) y) (((cfg0.win 10).blk t).view.emb y) ?_ ?_ ?_
  · show win0_10.index t 0 * 1 + 1 * (y 0).val = _
    rw [hi]; show t.val / 3 * 1 + _ = t.val / 3; omega
  · show win0_10.index t 1 * 768 + 1 * (y 1).val = 768 * (t.val % 3) + (y 1).val
    rw [hi]; show t.val % 3 * 768 + _ = _; omega
  · show win0_10.index t 2 * 1024 + 1 * (y 2).val = (y 2).val
    rw [hi]; show 0 * 1024 + _ = _; omega

/-- An entry lies in a point's block of the first result where each coordinate is in the block's range. -/
theorem mem_blk9 (i : S8x2304x1024.Idx) :
    i ∈ ((cfg0.win 9).blk t).view.set ↔ ∀ a : Fin 3, win0_9.index t a * S1x768x1024.size a ≤ (i a).val ∧ (i a).val < win0_9.index t a * S1x768x1024.size a + S1x768x1024.size a := by
  show i ∈ ((View.whole main_v14_0).slice (win0_9.rect t)).set ↔ _
  rw [View.set_slice_whole, Rect.mem_set_unit]
  exact Iff.rfl

/-- The same of the second. -/
theorem mem_blk10 (i : S8x2304x1024.Idx) :
    i ∈ ((cfg0.win 10).blk t).view.set ↔ ∀ a : Fin 3, win0_10.index t a * S1x768x1024.size a ≤ (i a).val ∧ (i a).val < win0_10.index t a * S1x768x1024.size a + S1x768x1024.size a := by
  show i ∈ ((View.whole main_v14_1).slice (win0_10.rect t)).set ↔ _
  rw [View.set_slice_whole, Rect.mem_set_unit]
  exact Iff.rfl

/-- The grid point of an entry: three to a sample, one for each 768 rows. -/
theorem point_of (i : S8x2304x1024.Idx) : ∃ t : Fin cfg0.N, ∀ a : Fin 3,
    (![t.val / 3, t.val % 3, 0] : Fin 3 → ℕ) a * S1x768x1024.size a ≤ (i a).val
      ∧ (i a).val < (![t.val / 3, t.val % 3, 0] : Fin 3 → ℕ) a * S1x768x1024.size a + S1x768x1024.size a := by
  have h0 : (i 0).val < 8 := (i 0).isLt
  have h1 : (i 1).val < 2304 := (i 1).isLt
  have h2 : (i 2).val < 1024 := (i 2).isLt
  refine ⟨⟨3 * (i 0).val + (i 1).val / 768, lt_of_lt_of_eq (by omega) N_0.symm⟩, fun a => ?_⟩
  match a with
  | ⟨0, _⟩ => show (3 * (i 0).val + (i 1).val / 768) / 3 * 1 ≤ (i 0).val ∧ (i 0).val < (3 * (i 0).val + (i 1).val / 768) / 3 * 1 + 1; omega
  | ⟨1, _⟩ => show (3 * (i 0).val + (i 1).val / 768) % 3 * 768 ≤ (i 1).val ∧ (i 1).val < (3 * (i 0).val + (i 1).val / 768) % 3 * 768 + 768; omega
  | ⟨2, _⟩ => show 0 * 1024 ≤ (i 2).val ∧ (i 2).val < 0 * 1024 + 1024; omega

/-- THE FIRST RESULT after the run: every token's residual row. -/
theorem final9 : (dats m 0 c).arrAt 9 cfg0.N = G9 m c :=
  (dats m 0 c).arrAt_eq_of_cover 9 _ (fun t _ => flushed9_eq m c t) (fun i => by
    obtain ⟨t, ht⟩ := point_of i
    obtain ⟨-, -, -, -, -, -, -, -, hi, -⟩ := index_of t
    exact ⟨t, flush0_9 t, (mem_blk9 t i).2 (by rw [hi]; exact ht)⟩)

/-- THE SECOND: every token's modulated row. -/
theorem final10 : (dats m 0 c).arrAt 10 cfg0.N = G10 m c :=
  (dats m 0 c).arrAt_eq_of_cover 10 _ (fun t _ => flushed10_eq m c t) (fun i => by
    obtain ⟨t, ht⟩ := point_of i
    obtain ⟨-, -, -, -, -, -, -, -, -, hi, -⟩ := index_of t
    exact ⟨t, flush0_10 t, (mem_blk10 t i).2 (by rw [hi]; exact ht)⟩)

/-- Every run ends with the two results at those arrays and the arguments as they were. -/
theorem run (ρ : Dev nD → PrngReg) : θ_run defs (onTc (τ := τ) (main (F := Ideal))) ⟨m, fun _ => 0, ρ⟩ fun r => ∀ c : Dev nD,
      r.2.mem ((c : Thread nD τ).loc main_v14_0) = G9 m c
      ∧ r.2.mem ((c : Thread nD τ).loc main_v14_1) = G10 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun _ h c => ⟨(h c).1.trans (final9 m c), (h c).2.1.trans (final10 m c), (h c).2.2.2⟩) (run_blocks m ρ)

end Cert.OutIdeal.Blocks

end
-- ==== Proof.OutRef.lean ====
module

public import proofs.«01_k».proof.Proof.Gen.OutRefIdeal.Read
public import proofs.«01_k».proof.Proof.InMath

/-! The reference of the output projection over the extended reals, read at a token and a feature. -/

@[expose] public section

set_option maxRecDepth 16384

noncomputable section

namespace Cert.OutRefIdeal.At

open Cert.OutRefIdeal Cert.OutRefIdeal.Gen Cert.OutRefIdeal.Read Idealize.ShloMosaic Idealize.SL.Sem

variable (X Y : (⟨S8x2048x1024, .f32⟩ : BufTy).Contents (Elt Ideal)) (C Z : (⟨S8x256x1024, .f32⟩ : BufTy).Contents (Elt Ideal))
  (W : (⟨S1024x1024, .f32⟩ : BufTy).Contents (Elt Ideal)) (B N : (⟨S1024, .f32⟩ : BufTy).Contents (Elt Ideal))
  (L : (⟨S8x6144, .f32⟩ : BufTy).Contents (Elt Ideal)) (D : (⟨S6144, .f32⟩ : BufTy).Contents (Elt Ideal))

/-- A residual sequence row. -/
theorem x_lat (b : Fin 8) (r : Fin 2048) (k : Fin 1024) : val_main_v24 X Y W B L (ix3 b r k)
    = X (ix3 b r k) + L (ix2 b ⟨2048 + k.val, by omega⟩) * ((∑ j, Y (ix3 b r j) * W (ix2 j k)) + B (ix1 k)) := by
  pointwise [val_main_v24, val_main_v23, val_main_v22, val_main_v21, val_main_v20, val_main_v19, val_main_v18, val_main_v8, val_main_v2]

/-- A residual context row. -/
theorem x_ctx (b : Fin 8) (r : Fin 256) (k : Fin 1024) : val_main_v32 C Z W B D (ix3 b r k)
    = C (ix3 b r k) + D (ix1 ⟨2048 + k.val, by omega⟩) * ((∑ j, Z (ix3 b r j) * W (ix2 j k)) + B (ix1 k)) := by
  pointwise [val_main_v32, val_main_v31, val_main_v30, val_main_v29, val_main_v28, val_main_v27, val_main_v26, val_main_v25, val_main_v14]

/-- A modulated sequence row. -/
theorem h_lat (b : Fin 8) (r : Fin 2048) (k : Fin 1024) : val_main_v51 X Y W B N L (ix3 b r k)
    = InProj.modulated (fun k => val_main_v24 X Y W B L (ix3 b r k)) (fun k => N (ix1 k)) (fun k => L (ix2 b ⟨3072 + k.val, by omega⟩))
        (fun k => L (ix2 b ⟨4096 + k.val, by omega⟩)) k := by
  pointwise [val_main_v51, val_main_v50, val_main_v49, val_main_v48, val_main_v47, val_main_v46, val_main_cst_2, val_main_v45, val_main_v44, val_main_v43, val_main_v42, val_main_v41, val_main_v40, val_main_v39, val_main_v38, val_main_cst_1, val_main_v37, val_main_v36, val_main_cst_0, val_main_v35, val_main_v34, val_main_cst, val_main_v33, val_main_v10, val_main_v9, val_main_v4, val_main_v3]
  unfold InProj.modulated InProj.normed
  rfl

/-- A modulated context row. -/
theorem h_ctx (b : Fin 8) (r : Fin 256) (k : Fin 1024) : val_main_v72 C Z W B N D (ix3 b r k)
    = InProj.modulated (fun k => val_main_v32 C Z W B D (ix3 b r k)) (fun k => N (ix1 k)) (fun k => D (ix1 ⟨3072 + k.val, by omega⟩))
        (fun k => D (ix1 ⟨4096 + k.val, by omega⟩)) k := by
  pointwise [val_main_v72, val_main_v71, val_main_v70, val_main_v69, val_main_v68, val_main_v67, val_main_v66, val_main_v65, val_main_cst_6, val_main_v64, val_main_v63, val_main_v62, val_main_v61, val_main_v60, val_main_v59, val_main_v58, val_main_v57, val_main_cst_5, val_main_v56, val_main_v55, val_main_cst_4, val_main_v54, val_main_v53, val_main_cst_3, val_main_v52, val_main_v16, val_main_v15]
  unfold InProj.modulated InProj.normed
  rfl

/-- The first result's sequence rows. -/
theorem res_x_lat (b : Fin 8) (r : Fin 2048) (k : Fin 1024) :
    val_main_v73 X C Y Z W B L D (ix3 b ⟨r.val, by omega⟩ k) = val_main_v24 X Y W B L (ix3 b r k) := by
  pointwise [val_main_v73]

/-- Its context rows. -/
theorem res_x_ctx (b : Fin 8) (r : Fin 256) (k : Fin 1024) :
    val_main_v73 X C Y Z W B L D (ix3 b ⟨2048 + r.val, by omega⟩ k) = val_main_v32 C Z W B D (ix3 b r k) := by
  pointwise [val_main_v73]

/-- The second result's sequence rows. -/
theorem res_h_lat (b : Fin 8) (r : Fin 2048) (k : Fin 1024) :
    val_main_v75 X C Y Z W B N L D (ix3 b ⟨r.val, by omega⟩ k) = val_main_v51 X Y W B N L (ix3 b r k) := by
  pointwise [val_main_v75, val_main_v74]

/-- Its context rows. -/
theorem res_h_ctx (b : Fin 8) (r : Fin 256) (k : Fin 1024) :
    val_main_v75 X C Y Z W B N L D (ix3 b ⟨2048 + r.val, by omega⟩ k) = val_main_v72 C Z W B N D (ix3 b r k) := by
  pointwise [val_main_v75, val_main_v74]

end Cert.OutRefIdeal.At

end
-- ==== Proof.OutClaim.lean ====
module

public import proofs.«01_k».proof.Defs
public import proofs.«01_k».proof.Proof.OutValue
public import proofs.«01_k».proof.Proof.OutRef

/-! The value claim of the output projection: the kernel's two results are the reference's, from any memory. -/

@[expose] public section

set_option maxRecDepth 16384

noncomputable section

namespace Cert.OutIdeal.Blocks

open Cert.OutIdeal Cert.OutRefIdeal.Read Idealize.ShloMosaic Idealize.ShloMosaic.TcCoe Idealize.SL.Sem

variable (m : (ℓ : Loc nD τ sig) → Buf (Elt Ideal) ℓ) (c : Dev nD)

/-- The reference's residual rows over the kernel's arguments are the kernel's. -/
theorem ref_x (b : Fin 8) (r : Fin 2304) (k : Fin 1024) :
    val_main_v73 (F := Ideal) (lat m c) (ctx m c) (yLat m c) (yCtx m c) (wgt m c) (bias m c) (modL m c) (modC m c) (ix3 b r k) = rowX m c b r k := by
  by_cases h : r.val < 2048
  · rw [rowX, OutProj.resid_lat _ _ _ _ _ _ _ _ b r h]
    exact (Cert.OutRefIdeal.At.res_x_lat _ _ _ _ _ _ _ _ b ⟨r.val, h⟩ k).trans (Cert.OutRefIdeal.At.x_lat _ _ _ _ _ b _ k)
  · rw [rowX, OutProj.resid_ctx _ _ _ _ _ _ _ _ b r h]
    have hr : (⟨2048 + (r.val - 2048), by omega⟩ : Fin 2304) = r := Fin.ext (by dsimp only; omega)
    refine Eq.trans (by rw [hr]) ((Cert.OutRefIdeal.At.res_x_ctx _ _ _ _ _ _ _ _ b ⟨r.val - 2048, by omega⟩ k).trans ?_)
    exact Cert.OutRefIdeal.At.x_ctx _ _ _ _ _ b _ k

/-- So are its modulated rows. -/
theorem ref_h (b : Fin 8) (r : Fin 2304) (k : Fin 1024) :
    val_main_v75 (F := Ideal) (lat m c) (ctx m c) (yLat m c) (yCtx m c) (wgt m c) (bias m c) (nw m c) (modL m c) (modC m c) (ix3 b r k) = rowH m c b r k := by
  by_cases h : r.val < 2048
  · refine (Cert.OutRefIdeal.At.res_h_lat _ _ _ _ _ _ _ _ _ b ⟨r.val, h⟩ k).trans ((Cert.OutRefIdeal.At.h_lat _ _ _ _ _ _ b _ k).trans ?_)
    unfold rowH OutProj.modded
    exact InProj.modulated_congr (fun k => (Cert.OutRefIdeal.At.x_lat (lat m c) (yLat m c) (wgt m c) (bias m c) (modL m c) b ⟨r.val, h⟩ k).trans
        (OutProj.resid_lat (lat m c) (ctx m c) (yLat m c) (yCtx m c) (fun j k => wgt m c (ix2 j k)) (bias m c) (modL m c) (modC m c) b r h k).symm)
      (fun _ => rfl) (fun _ => (if_pos h).symm) (fun _ => (if_pos h).symm) k
  · have hr : (⟨2048 + (r.val - 2048), by omega⟩ : Fin 2304) = r := Fin.ext (by dsimp only; omega)
    refine Eq.trans (by rw [hr]) ((Cert.OutRefIdeal.At.res_h_ctx _ _ _ _ _ _ _ _ _ b ⟨r.val - 2048, by omega⟩ k).trans ((Cert.OutRefIdeal.At.h_ctx _ _ _ _ _ _ b _ k).trans ?_))
    unfold rowH OutProj.modded
    exact InProj.modulated_congr (fun k => (Cert.OutRefIdeal.At.x_ctx (ctx m c) (yCtx m c) (wgt m c) (bias m c) (modC m c) b ⟨r.val - 2048, by omega⟩ k).trans
        (OutProj.resid_ctx (lat m c) (ctx m c) (yLat m c) (yCtx m c) (fun j k => wgt m c (ix2 j k)) (bias m c) (modL m c) (modC m c) b r h k).symm)
      (fun _ => rfl) (fun _ => (if_neg h).symm) (fun _ => (if_neg h).symm) k

/-- Every weakly fair execution of the kernel and of the reference ends with the same two arrays. -/
theorem algebraic : Cert.algebraic_OutIdeal_OutRefIdeal := fun m ρ m' ρ' _ hag =>
  ⟨fun c => G9 m c, fun c => G10 m c, run m ρ,
    (θ_run _ _ _).mono (fun r h c => by
      obtain ⟨h0, h1, hrest⟩ := h c
      obtain ⟨a0, a1, a2, a3, a4, a5, a6, a7, a8, a9⟩ := hag c
      refine ⟨h0.trans ?_, h1.trans ?_, hrest⟩
      · rw [val_main_v73_eq, a0, a1, a2, a3, a4, a5, a7, a8]
        funext i
        obtain ⟨b, r, k, rfl⟩ : ∃ (b : Fin 8) (r : Fin 2304) (k : Fin 1024), i = ix3 b r k := ⟨i 0, i 1, i 2, eq_ix3 i⟩
        exact ref_x m c b r k
      · rw [val_main_v75_eq, a0, a1, a2, a3, a4, a5, a6, a7, a8]
        funext i
        obtain ⟨b, r, k, rfl⟩ : ∃ (b : Fin 8) (r : Fin 2304) (k : Fin 1024), i = ix3 b r k := ⟨i 0, i 1, i 2, eq_ix3 i⟩
        exact ref_h m c b r k)
      (Cert.OutRefIdeal.Value.run m' ρ')⟩

end Cert.OutIdeal.Blocks

end
-- ==== Proof.ModFrames.lean ====
module

public import proofs.«01_k».proof.Defs
public import proofs.«01_k».proof.Proof.Gen.Mod.Frame
public import proofs.«01_k».proof.Proof.Gen.ModIdeal.Frame
public import proofs.«01_k».proof.Proof.Gen.ModRefIdeal.Run

/-! The frame claims of the making of the modulation: each terminates without a fault, at rest, with its arguments kept. -/

@[expose] public section

noncomputable section

namespace Mod.Claims

open Idealize.ShloMosaic Idealize.SL.Sem

/-- The kernel at the machine's formats. -/
theorem kernel : Cert.quiescent_Mod := fun m ρ _ => Cert.Mod.Gen.frame m ρ

/-- The kernel over the extended reals. -/
theorem ideal : Cert.quiescent_ModIdeal := fun m ρ _ => Cert.ModIdeal.Gen.frame m ρ

/-- The reference over the extended reals. -/
theorem reference : Cert.quiescent_ModRefIdeal := fun m ρ _ =>
  (θ_run _ _ _).mono (fun r h => ⟨fun c => (h c).2, sem_eq_zero_of_no_sems (by decide) r.2⟩) (Cert.ModRefIdeal.Value.run m ρ)

end Mod.Claims

end
-- ==== Proof.ModScatter.lean ====
module

public import proofs.«01_k».proof.Proof.Gen.ModIdeal.Skeleton
public import Idealize.ShloMosaic.Lib.Routing.OpsSet

/-! The two writes that put the conditioning's table together, read at one entry: the samples' rows from a given row on, and one row. -/

@[expose] public section

noncomputable section

namespace Cert.ModIdeal.Blocks

open Cert.ModIdeal Cert.ModIdeal.Gen Idealize.ShloMosaic Idealize.ShloMosaic.Routing Idealize.ShloMosaic.ValueIdx

/-- Eight rows written from row `i0` on: entry `(a, b)` of them lands `i0` rows below. -/
theorem lands_rows (idx : IVec S1 32) (i0 : Int) (hi : ∀ x, (idx x).toInt = i0) (a : Fin 8) (b : Fin 1024) (r : Fin 16) (k : Fin 1024) :
    scatter_S16x1024_S1_S8x1024_01_n_0_0.resultIdx? (ix2 a b) idx = some (ix2 r k) ↔ i0 + (a.val : Int) = r.val ∧ b = k := by
  have hs0 : scatter_S16x1024_S1_S8x1024_01_n_0_0.start (ix2 a b) idx 0 = i0 := hi _
  have hs1 : scatter_S16x1024_S1_S8x1024_01_n_0_0.start (ix2 a b) idx 1 = 0 := rfl
  have hw0 : scatter_S16x1024_S1_S8x1024_01_n_0_0.window (ix2 a b) 0 = a.val := rfl
  have hw1 : scatter_S16x1024_S1_S8x1024_01_n_0_0.window (ix2 a b) 1 = b.val := rfl
  refine (resultIdx?_ix2 (R := 16) (C := 1024) _ _ _ r k).trans ?_
  rw [hs0, hs1, hw0, hw1, Fin.ext_iff]
  omega

/-- One row written at row `i0`. -/
theorem lands_row (idx : IVec S1 32) (i0 : Int) (hi : ∀ x, (idx x).toInt = i0) (b : Fin 1024) (r : Fin 16) (k : Fin 1024) :
    scatter_S16x1024_S1_S1024_0_0_0_0.resultIdx? (ix1 b) idx = some (ix2 r k) ↔ i0 = r.val ∧ b = k := by
  have hs0 : scatter_S16x1024_S1_S1024_0_0_0_0.start (ix1 b) idx 0 = i0 := hi _
  have hs1 : scatter_S16x1024_S1_S1024_0_0_0_0.start (ix1 b) idx 1 = 0 := rfl
  have hw0 : scatter_S16x1024_S1_S1024_0_0_0_0.window (ix1 b) 0 = 0 := rfl
  have hw1 : scatter_S16x1024_S1_S1024_0_0_0_0.window (ix1 b) 1 = b.val := rfl
  refine (resultIdx?_ix2 (R := 16) (C := 1024) _ _ _ r k).trans ?_
  rw [hs0, hs1, hw0, hw1, Fin.ext_iff]
  omega

variable {α : Type} (x : S16x1024.Idx → α) (idx : IVec S1 32)

/-- The samples written over the first eight rows. -/
theorem rows_at (hi : ∀ x, (idx x).toInt = 0) (u : S8x1024.Idx → α) (r : Fin 16) (k : Fin 1024) :
    Host.scatter scatter_S16x1024_S1_S8x1024_01_n_0_0 (fun _ b => b) x idx u (ix2 r k) = if h : r.val < 8 then u (ix2 ⟨r.val, h⟩ k) else x (ix2 r k) := by
  have lands : ∀ j : S8x1024.Idx, scatter_S16x1024_S1_S8x1024_01_n_0_0.resultIdx? j idx = some (ix2 r k) → (j 0).val = r.val ∧ j 1 = k := fun j hj => by
    obtain ⟨h0, h1⟩ := (lands_rows idx 0 hi (j 0) (j 1) r k).1 ((congrArg (fun t => scatter_S16x1024_S1_S8x1024_01_n_0_0.resultIdx? t idx) (eq_ix2 j).symm).trans hj)
    exact ⟨by omega, h1⟩
  by_cases h : r.val < 8
  · rw [dif_pos h]
    exact scatter_set_hit _ x idx u _ _ (fun j hj => congrArg u ((eq_ix2 j).trans (congr (congrArg ix2 (Fin.ext (lands j hj).1)) (lands j hj).2))) (ix2 ⟨r.val, h⟩ k)
      ((lands_rows idx 0 hi ⟨r.val, h⟩ k r k).2 ⟨by show (0 : Int) + (r.val : Int) = _; omega, rfl⟩)
  · rw [dif_neg h]
    exact scatter_set_miss _ x idx u _ fun j hj => h ((lands j hj).1 ▸ (j 0).isLt)

/-- The context written over row 8. -/
theorem row_at (hi : ∀ x, (idx x).toInt = 8) (u : S1024.Idx → α) (r : Fin 16) (k : Fin 1024) :
    Host.scatter scatter_S16x1024_S1_S1024_0_0_0_0 (fun _ b => b) x idx u (ix2 r k) = if r.val = 8 then u (ix1 k) else x (ix2 r k) := by
  have lands : ∀ j : S1024.Idx, scatter_S16x1024_S1_S1024_0_0_0_0.resultIdx? j idx = some (ix2 r k) → r.val = 8 ∧ j 0 = k := fun j hj => by
    obtain ⟨h0, h1⟩ := (lands_row idx 8 hi (j 0) r k).1 ((congrArg (fun t => scatter_S16x1024_S1_S1024_0_0_0_0.resultIdx? t idx) (eq_ix1 j).symm).trans hj)
    exact ⟨by omega, h1⟩
  by_cases h : r.val = 8
  · rw [if_pos h]
    exact scatter_set_hit _ x idx u _ _ (fun j hj => congrArg u ((eq_ix1 j).trans (congrArg ix1 (lands j hj).2))) (ix1 k)
      ((lands_row idx 8 hi k r k).2 ⟨by omega, rfl⟩)
  · rw [if_neg h]
    exact scatter_set_miss _ x idx u _ fun j hj => h (lands j hj).1

end Cert.ModIdeal.Blocks

end
-- ==== Proof.ModHost.lean ====
module

public import proofs.«01_k».proof.Proof.Gen.ModIdeal.Value
public import proofs.«01_k».proof.Proof.FfnMath
public import proofs.«01_k».proof.Proof.ModScatter
public import Idealize.ShloMosaic.Lib.Pointwise
public import Idealize.ShloMosaic.Lib.StableHlo.ReadAt

/-! The making of the modulation: the arrays it is launched over, entry by entry, the blocks a grid point reads of them, and its output block. -/

@[expose] public section

set_option maxRecDepth 16384

noncomputable section

namespace Cert.ModIdeal.Blocks

open Cert.ModIdeal Cert.ModIdeal.Gen Idealize.ShloMosaic Idealize.ShloMosaic.TcCoe Idealize.SL.Sem

/-! ## The formula -/

/-- An entry of the modulation: the conditioning through SiLU, times a column of weights, plus its bias. -/
def entry (x w : Fin 1024 → EReal) (b : EReal) : EReal := (∑ k, Ffn.silu (x k) * w k) + b

/-- The conditioning of a row of the table: a sample's, then the context's, then none. -/
def condRow (X : S8x1024.Idx → EReal) (C : S1024.Idx → EReal) (r : Fin 16) (k : Fin 1024) : EReal :=
  if h : r.val < 8 then X (ix2 ⟨r.val, h⟩ k) else if r.val < 9 then C (ix1 k) else 0

/-- SiLU of zero is zero. -/
theorem silu_zero : Ffn.silu 0 = 0 := by
  unfold Ffn.silu
  rw [zero_mul]

/-- A sample's row. -/
theorem entry_lat (X : S8x1024.Idx → EReal) (C : S1024.Idx → EReal) (w : Fin 1024 → EReal) (b : EReal) (r : Fin 16) (h : r.val < 8) :
    entry (condRow X C r) w b = entry (fun k => X (ix2 ⟨r.val, h⟩ k)) w b :=
  congrArg (entry · w b) (funext fun k => dif_pos h)

/-- The context's row. -/
theorem entry_ctx (X : S8x1024.Idx → EReal) (C : S1024.Idx → EReal) (w : Fin 1024 → EReal) (b : EReal) (r : Fin 16) (h : ¬r.val < 8) (h' : r.val < 9) :
    entry (condRow X C r) w b = entry (fun k => C (ix1 k)) w b :=
  congrArg (entry · w b) (funext fun k => (dif_neg h).trans (if_pos h'))

/-- The other rows hold the bias. -/
theorem entry_rest (X : S8x1024.Idx → EReal) (C : S1024.Idx → EReal) (w : Fin 1024 → EReal) (b : EReal) (r : Fin 16) (h : ¬r.val < 9) :
    entry (condRow X C r) w b = b := by
  have hc : condRow X C r = fun _ => 0 := funext fun k => (dif_neg (by omega)).trans (if_neg h)
  unfold entry
  rw [hc]
  simp only [silu_zero, zero_mul, Finset.sum_const_zero, zero_add]

/-! ## The output block -/

/-- The zero offset of two axes. -/
theorem hz2 : (![0, 0] : Fin 2 → Nat) = fun _ => 0 := funext fun a => by fin_cases a <;> rfl
/-- The zero offset of three axes. -/
theorem hz3 : (![0, 0, 0] : Fin 3 → Nat) = fun _ => 0 := funext fun a => by fin_cases a <;> rfl

/-- A point's output block, entry by entry. -/
theorem out_at (x : Vec Ideal S16x1024 .f32) (w : Vec Ideal S1x1024x1024 .f32) (b : Vec Ideal S1x1x1024 .f32) (r : Fin 16) (q : Fin 1024) :
    out0_3 x w b (ix3 0 r q) = entry (fun k => x (ix2 r k)) (fun k => w (ix3 0 k q)) (b (ix3 0 0 q)) := by
  unfold out0_3
  rw [View.canon_cons_unit_zero (S := S1x16x1024) hz3, View.ld_unit_zero (S := S16x1024) hz2, View.ld_unit_zero (S := S1x1024x1024) hz3,
    View.ld_unit_zero (S := S1x1x1024) hz3]
  pointwise [k0_pay1]
  unfold entry
  simp only [Ffn.gate]

/-! ## The arrays -/

variable (m : (ℓ : Loc nD τ sig) → Buf (Elt Ideal) ℓ) (c : Dev nD)

/-- The samples' conditioning. -/
abbrev cond : S8x1024.Idx → EReal := m ((c : Thread nD τ).loc main_arg0)
/-- The context's. -/
abbrev cctx : S1024.Idx → EReal := m ((c : Thread nD τ).loc main_arg1)
/-- The weights of every layer. -/
abbrev wgt : S4x1024x6144.Idx → EReal := m ((c : Thread nD τ).loc main_arg2)
/-- Their biases. -/
abbrev bias : S4x6144.Idx → EReal := m ((c : Thread nD τ).loc main_arg3)

/-- The biases, one row to a layer. -/
theorem bias_at (l : Fin 4) (q : Fin 6144) : (V m c main_v5 : S4x1x6144.Idx → EReal) (ix3 l 0 q) = bias m c (ix2 l q) := by
  unfold V
  after_reads_at

/-- The conditioning's rows: the samples', the context's and seven zero rows. -/
theorem cond_at (r : Fin 16) (k : Fin 1024) : (V m c main_v4 : S16x1024.Idx → EReal) (ix2 r k) = condRow (cond m c) (cctx m c) r k := by
  unfold V condRow
  after_reads_at
  refine (row_at _ _ (fun _ => rfl) _ r k).trans ?_
  rw [rows_at _ _ (fun _ => rfl)]
  by_cases h : r.val < 8
  · rw [if_neg (by omega), dif_pos h, dif_pos h]
    rfl
  · rw [dif_neg h, dif_neg h]
    refine ite_congr (propext (by omega)) (fun _ => rfl) fun _ => ?_
    pointwise

/-! ## The blocks of a point -/

/-- Where a point's blocks lie: six points to a layer, one for each 1024 columns. -/
theorem index_of : ∀ t : Fin cfg0.N, win0_0.index t = ![0, 0] ∧ win0_1.index t = ![t.val / 6, 0, t.val % 6] ∧ win0_2.index t = ![t.val / 6, 0, t.val % 6]
    ∧ win0_3.index t = ![t.val / 6, 0, t.val % 6] :=
  (by decide +kernel : ∀ t : Fin grid0.N, _)

variable (t : Fin cfg0.N)

/-- The conditioning's rows are one block. -/
theorem blk0 (r : Fin 16) (k : Fin 1024) : (iblk m c 0 t : S16x1024.Idx → EReal) (ix2 r k) = condRow (cond m c) (cctx m c) r k := by
  obtain ⟨hi, -⟩ := index_of t
  unfold iblk
  rw [View.read_apply]
  refine (cast_eq _ _).trans (Eq.trans (congrArg (V m c main_v4) (funext fun a => Fin.ext ?_)) (cond_at m c r k))
  match a with
  | ⟨0, _⟩ => show win0_0.index t 0 * 16 + 1 * r.val = r.val; rw [hi]; show 0 * 16 + _ = _; omega
  | ⟨1, _⟩ => show win0_0.index t 1 * 1024 + 1 * k.val = k.val; rw [hi]; show 0 * 1024 + _ = _; omega

variable (l : Fin 4) (j : Fin 6) (hl : t.val / 6 = l.val) (hj : t.val % 6 = j.val)
include hl hj

/-- A point's block of weights: its layer's, at its 1024 columns. -/
theorem blk1 (k q : Fin 1024) : (iblk m c 1 t : S1x1024x1024.Idx → EReal) (ix3 0 k q) = wgt m c (ix3 l k ⟨1024 * j.val + q.val, by omega⟩) := by
  obtain ⟨-, hi, -⟩ := index_of t
  unfold iblk
  rw [View.read_apply]
  refine (cast_eq _ _).trans (Eq.trans (congrArg (V m c main_arg2) (funext fun a => Fin.ext ?_)) (congrFun (V_main_arg2 m c) (ix3 l k ⟨1024 * j.val + q.val, by omega⟩)))
  match a with
  | ⟨0, _⟩ => show win0_1.index t 0 * 1 + 1 * 0 = l.val; rw [hi]; show (t.val / 6) * 1 + _ = _; omega
  | ⟨1, _⟩ => show win0_1.index t 1 * 1024 + 1 * k.val = k.val; rw [hi]; show 0 * 1024 + _ = _; omega
  | ⟨2, _⟩ => show win0_1.index t 2 * 1024 + 1 * q.val = 1024 * j.val + q.val; rw [hi]; show (t.val % 6) * 1024 + _ = _; omega

/-- Its block of the biases. -/
theorem blk2 (q : Fin 1024) : (iblk m c 2 t : S1x1x1024.Idx → EReal) (ix3 0 0 q) = bias m c (ix2 l ⟨1024 * j.val + q.val, by omega⟩) := by
  obtain ⟨-, -, hi, -⟩ := index_of t
  unfold iblk
  rw [View.read_apply]
  refine (cast_eq _ _).trans (Eq.trans (congrArg (V m c main_v5) (funext fun a => Fin.ext ?_)) (bias_at m c l ⟨1024 * j.val + q.val, by omega⟩))
  match a with
  | ⟨0, _⟩ => show win0_2.index t 0 * 1 + 1 * 0 = l.val; rw [hi]; show (t.val / 6) * 1 + _ = _; omega
  | ⟨1, _⟩ => show win0_2.index t 1 * 1 + 1 * 0 = 0; rw [hi]; rfl
  | ⟨2, _⟩ => show win0_2.index t 2 * 1024 + 1 * q.val = 1024 * j.val + q.val; rw [hi]; show (t.val % 6) * 1024 + _ = _; omega

end Cert.ModIdeal.Blocks

end
-- ==== Proof.ModValue.lean ====
module

public import proofs.«01_k».proof.Proof.ModHost
public import Idealize.ShloMosaic.Lib.Pipeline.Value

/-! The making of the modulation over the extended reals: its result array after the run, every layer's table. -/

@[expose] public section

set_option maxRecDepth 16384

noncomputable section

namespace Cert.ModIdeal.Blocks

open Cert.ModIdeal Cert.ModIdeal.Gen Cert.ModIdeal.Value Idealize.ShloMosaic Idealize.ShloMosaic.TcCoe Idealize.SL.Sem

variable (m : (ℓ : Loc nD τ sig) → Buf (Elt Ideal) ℓ) (c : Dev nD)

/-- A layer's table at a row and a column. -/
def table (l : Fin 4) (r : Fin 16) (q : Fin 6144) : EReal :=
  entry (condRow (cond m c) (cctx m c) r) (fun k => wgt m c (ix3 l k q)) (bias m c (ix2 l q))

/-- The result array. -/
def G3 : S4x16x6144.Idx → EReal := fun i => table m c (i 0) (i 1) (i 2)

variable (t : Fin cfg0.N)

/-- A point's output block holds its layer's table at its columns. -/
theorem block_at (l : Fin 4) (j : Fin 6) (hl : t.val / 6 = l.val) (hj : t.val % 6 = j.val) (r : Fin 16) (q : Fin 1024) :
    out0_3 (iblk m c 0 t) (iblk m c 1 t) (iblk m c 2 t) (ix3 0 r q) = table m c l r ⟨1024 * j.val + q.val, by omega⟩ := by
  refine (out_at _ _ _ r q).trans ?_
  unfold table
  rw [funext (blk0 m c t r), funext fun k => blk1 m c t l j hl hj k q, blk2 m c t l j hl hj q]

/-- An entry of a point's block and of the array at the block's place. -/
theorem entry_eq (l : Fin 4) (j : Fin 6) (hl : t.val / 6 = l.val) (hj : t.val % 6 = j.val) (y : S1x16x1024.Idx) (i : S4x16x6144.Idx)
    (h0 : (i 0).val = l.val) (h1 : (i 1).val = (y 1).val) (h2 : (i 2).val = 1024 * j.val + (y 2).val) :
    out0_3 (iblk m c 0 t) (iblk m c 1 t) (iblk m c 2 t) y = G3 m c i := by
  obtain ⟨z, r, q, rfl⟩ : ∃ (z : Fin 1) (r : Fin 16) (q : Fin 1024), y = ix3 z r q := ⟨y 0, y 1, y 2, eq_ix3 y⟩
  obtain rfl : z = 0 := Subsingleton.elim _ _
  refine (block_at m c t l j hl hj r q).trans ?_
  unfold G3
  exact congr (congr (congrArg (table m c) (Fin.ext h0.symm)) (Fin.ext h1.symm)) (Fin.ext h2.symm)

/-- What a point writes back is its block of the array. -/
theorem flushed3_eq : (dats m 0 c).flushed 3 t = ((cfg0.win 3).blk t).view.read (Elt Ideal) (G3 m c) := by
  have hN : t.val < 24 := lt_of_lt_of_eq t.isLt N_0
  obtain ⟨-, -, -, hi⟩ := index_of t
  rw [flushed3]
  funext y
  have hy0 : (y 0).val < 1 := (y 0).isLt
  refine entry_eq m c t ⟨t.val / 6, by omega⟩ ⟨t.val % 6, by omega⟩ rfl rfl ((cfg0.win 3).xinj (grid0.coords t) y) (((cfg0.win 3).blk t).view.emb y) ?_ ?_ ?_
  · show win0_3.index t 0 * 1 + 1 * (y 0).val = _
    rw [hi]; show t.val / 6 * 1 + _ = t.val / 6; omega
  · show win0_3.index t 1 * 16 + 1 * (y 1).val = (y 1).val
    rw [hi]; show 0 * 16 + _ = _; omega
  · show win0_3.index t 2 * 1024 + 1 * (y 2).val = 1024 * (t.val % 6) + (y 2).val
    rw [hi]; show t.val % 6 * 1024 + _ = _; omega

/-- An entry lies in a point's block where each coordinate is in the block's range. -/
theorem mem_blk3 (i : S4x16x6144.Idx) :
    i ∈ ((cfg0.win 3).blk t).view.set ↔ ∀ a : Fin 3, win0_3.index t a * S1x16x1024.size a ≤ (i a).val ∧ (i a).val < win0_3.index t a * S1x16x1024.size a + S1x16x1024.size a := by
  show i ∈ ((View.whole main_v6).slice (win0_3.rect t)).set ↔ _
  rw [View.set_slice_whole, Rect.mem_set_unit]
  exact Iff.rfl

/-- THE RESULT after the run: every layer's table. -/
theorem final3 : (dats m 0 c).arrAt 3 cfg0.N = G3 m c :=
  (dats m 0 c).arrAt_eq_of_cover 3 _ (fun t _ => flushed3_eq m c t) (fun i => by
    have h0 : (i 0).val < 4 := (i 0).isLt
    have h1 : (i 1).val < 16 := (i 1).isLt
    have h2 : (i 2).val < 6144 := (i 2).isLt
    refine ⟨⟨6 * (i 0).val + (i 2).val / 1024, lt_of_lt_of_eq (by omega) N_0.symm⟩, flush0_3 _, ?_⟩
    obtain ⟨-, -, -, hi⟩ := index_of ⟨6 * (i 0).val + (i 2).val / 1024, lt_of_lt_of_eq (by omega) N_0.symm⟩
    refine (mem_blk3 _ i).2 fun a => ?_
    rw [hi]
    match a with
    | ⟨0, _⟩ => show (6 * (i 0).val + (i 2).val / 1024) / 6 * 1 ≤ (i 0).val ∧ (i 0).val < (6 * (i 0).val + (i 2).val / 1024) / 6 * 1 + 1; omega
    | ⟨1, _⟩ => show 0 * 16 ≤ (i 1).val ∧ (i 1).val < 0 * 16 + 16; omega
    | ⟨2, _⟩ => show (6 * (i 0).val + (i 2).val / 1024) % 6 * 1024 ≤ (i 2).val ∧ (i 2).val < (6 * (i 0).val + (i 2).val / 1024) % 6 * 1024 + 1024; omega)

/-- Every run ends with the result at that array and the arguments as they were. -/
theorem run (ρ : Dev nD → PrngReg) : θ_run defs (onTc (τ := τ) (main (F := Ideal))) ⟨m, fun _ => 0, ρ⟩ fun r => ∀ c : Dev nD,
      r.2.mem ((c : Thread nD τ).loc main_v6) = G3 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final3 m c), (h c).2⟩) (run_blocks m ρ)

end Cert.ModIdeal.Blocks

end
-- ==== Proof.ModClaim.lean ====
module

public import proofs.«01_k».proof.Defs
public import proofs.«01_k».proof.Proof.ModValue
public import proofs.«01_k».proof.Proof.Gen.ModRefIdeal.Read

/-! The value claim of the making of the modulation: the kernel's table is the reference's, from any memory. -/

@[expose] public section

set_option maxRecDepth 16384

noncomputable section

namespace Cert.ModRefIdeal.At

open Cert.ModRefIdeal Cert.ModRefIdeal.Gen Cert.ModRefIdeal.Read Idealize.ShloMosaic Idealize.SL.Sem

variable (X : (⟨S8x1024, .f32⟩ : BufTy).Contents (Elt Ideal)) (C : (⟨S1024, .f32⟩ : BufTy).Contents (Elt Ideal))
  (W : (⟨S4x1024x6144, .f32⟩ : BufTy).Contents (Elt Ideal)) (B : (⟨S4x6144, .f32⟩ : BufTy).Contents (Elt Ideal))

/-- A sample's modulation. -/
theorem lat (l : Fin 4) (b : Fin 8) (q : Fin 6144) :
    val_main_v12 X C W B (ix3 l ⟨b.val, by omega⟩ q) = Cert.ModIdeal.Blocks.entry (fun k => X (ix2 b k)) (fun k => W (ix3 l k q)) (B (ix2 l q)) := by
  pointwise [val_main_v12, val_main_v5, val_main_v4, val_main_v3, val_main_v2, val_main_v1, val_main_v0, val_main_call0_v0, val_main_call0_v1,
    val_main_call0_cst, val_main_call0_v2, val_main_call0_v3, val_main_call0_cst_0, val_main_call0_v4, val_main_call0_v5]
  unfold Cert.ModIdeal.Blocks.entry Ffn.silu
  rfl

/-- The context's. -/
theorem ctx (l : Fin 4) (q : Fin 6144) :
    val_main_v12 X C W B (ix3 l 8 q) = Cert.ModIdeal.Blocks.entry (fun k => C (ix1 k)) (fun k => W (ix3 l k q)) (B (ix2 l q)) := by
  pointwise [val_main_v12, val_main_v11, val_main_v8, val_main_v7, val_main_v6, val_main_call1_v0, val_main_call1_v1,
    val_main_call1_cst, val_main_call1_v2, val_main_call1_v3, val_main_call1_cst_0, val_main_call1_v4, val_main_call1_v5]
  unfold Cert.ModIdeal.Blocks.entry Ffn.silu
  rfl

/-- The rows that nothing reads. -/
theorem rest (l : Fin 4) (s : Fin 7) (q : Fin 6144) : val_main_v12 X C W B (ix3 l ⟨9 + s.val, by omega⟩ q) = B (ix2 l q) := by
  pointwise [val_main_v12, val_main_v10, val_main_v9]
  rw [dif_neg (by omega), dif_neg (by omega)]

end Cert.ModRefIdeal.At

namespace Cert.ModIdeal.Blocks

open Cert.ModIdeal Cert.ModRefIdeal.Read Idealize.ShloMosaic Idealize.ShloMosaic.TcCoe Idealize.SL.Sem

variable (m : (ℓ : Loc nD τ sig) → Buf (Elt Ideal) ℓ) (c : Dev nD)

/-- The reference's table over the kernel's arguments is the kernel's. -/
theorem ref_eq (l : Fin 4) (r : Fin 16) (q : Fin 6144) :
    val_main_v12 (F := Ideal) (cond m c) (cctx m c) (wgt m c) (bias m c) (ix3 l r q) = table m c l r q := by
  unfold table
  by_cases h : r.val < 8
  · exact (Cert.ModRefIdeal.At.lat _ _ _ _ l ⟨r.val, h⟩ q).trans (entry_lat _ _ _ _ r h).symm
  · by_cases h' : r.val < 9
    · obtain rfl : r = 8 := Fin.ext (by show r.val = 8; omega)
      exact (Cert.ModRefIdeal.At.ctx _ _ _ _ l q).trans (entry_ctx _ _ _ _ 8 h h').symm
    · have hr : (⟨9 + (r.val - 9), by omega⟩ : Fin 16) = r := Fin.ext (by dsimp only; omega)
      refine Eq.trans (by rw [hr]) ((Cert.ModRefIdeal.At.rest (cond m c) (cctx m c) (wgt m c) (bias m c) l ⟨r.val - 9, by omega⟩ q).trans (entry_rest _ _ _ _ r h').symm)

/-- Every weakly fair execution of the kernel and of the reference ends with the same table. -/
theorem algebraic : Cert.algebraic_ModIdeal_ModRefIdeal := fun m ρ m' ρ' _ hag =>
  ⟨fun c => G3 m c, run m ρ,
    (θ_run _ _ _).mono (fun r h c => by
      obtain ⟨h0, hrest⟩ := h c
      obtain ⟨a0, a1, a2, a3⟩ := hag c
      refine ⟨h0.trans ?_, hrest⟩
      rw [val_main_v12_eq, a0, a1, a2, a3]
      funext i
      obtain ⟨l, r, q, rfl⟩ : ∃ (l : Fin 4) (r : Fin 16) (q : Fin 6144), i = ix3 l r q := ⟨i 0, i 1, i 2, eq_ix3 i⟩
      exact ref_eq m c l r q)
      (Cert.ModRefIdeal.Value.run m' ρ')⟩

end Cert.ModIdeal.Blocks

end
-- ==== Proof.lean ====
module

public import proofs.«01_k».proof.Defs
public import proofs.«01_k».proof.Proof.Gen.SwaRefIdeal.Run
public import proofs.«01_k».proof.Proof.Gen.SwaRefIdeal.Read
public import proofs.«01_k».proof.Proof.Gen.Swa
public import proofs.«01_k».proof.Proof.Gen.Swa.Skeleton
public import proofs.«01_k».proof.Proof.Gen.Swa.Launch
public import proofs.«01_k».proof.Proof.Gen.SwaIdeal
public import proofs.«01_k».proof.Proof.Gen.SwaIdeal.Skeleton
public import proofs.«01_k».proof.Proof.Gen.SwaIdeal.Loops
public import proofs.«01_k».proof.Proof.Gen.SwaIdeal.Launch
public import proofs.«01_k».proof.Proof.Gen.SwaIdeal.Points
public import proofs.«01_k».proof.Proof.Gen.SwaIdeal.Frame.Runs
public import proofs.«01_k».proof.Proof.Gen.SwaRefIdeal
public import proofs.«01_k».proof.Proof.SwaFrames
public import proofs.«01_k».proof.Proof.SwaClaim
public import proofs.«01_k».proof.Proof.FfnFrames
public import proofs.«01_k».proof.Proof.FfnClaim
public import proofs.«01_k».proof.Proof.HgInFrames
public import proofs.«01_k».proof.Proof.HgInClaim
public import proofs.«01_k».proof.Proof.GdInFrames
public import proofs.«01_k».proof.Proof.GdInClaim
public import proofs.«01_k».proof.Proof.HyInFrames
public import proofs.«01_k».proof.Proof.HyInClaim
public import proofs.«01_k».proof.Proof.SwInFrames
public import proofs.«01_k».proof.Proof.SwInClaim
public import proofs.«01_k».proof.Proof.OutFrames
public import proofs.«01_k».proof.Proof.OutClaim
public import proofs.«01_k».proof.Proof.ModFrames
public import proofs.«01_k».proof.Proof.ModClaim

/-! The certificate: the windowed attention's kernel, the routed experts' kernel, the input and output projections'
    kernels and the kernel that makes the modulation keep their frames and compute what the layer's own lines compute. -/

@[expose] public section

namespace Cert.Proof

theorem claim : Cert.Claim :=
  ⟨Cert.Swa.Gen.facts, Cert.SwaIdeal.Gen.facts, Cert.SwaRefIdeal.Gen.facts,
    Cert.Ffn.Gen.facts, Cert.FfnIdeal.Gen.facts, Cert.FfnRefIdeal.Gen.facts,
    Cert.HgIn.Gen.facts, Cert.HgInIdeal.Gen.facts, Cert.HgInRefIdeal.Gen.facts,
    Cert.GdIn.Gen.facts, Cert.GdInIdeal.Gen.facts, Cert.GdInRefIdeal.Gen.facts,
    Cert.HyIn.Gen.facts, Cert.HyInIdeal.Gen.facts, Cert.HyInRefIdeal.Gen.facts,
    Cert.SwIn.Gen.facts, Cert.SwInIdeal.Gen.facts, Cert.SwInRefIdeal.Gen.facts,
    Cert.Out.Gen.facts, Cert.OutIdeal.Gen.facts, Cert.OutRefIdeal.Gen.facts,
    Cert.Mod.Gen.facts, Cert.ModIdeal.Gen.facts, Cert.ModRefIdeal.Gen.facts,
    Cert.Pre_finite_scores.facts,
    _root_.Swa.Claims.kernel, _root_.Swa.Claims.ideal, _root_.Swa.Claims.ideal_pre, _root_.Swa.Claims.reference, _root_.Swa.Claims.reference_pre,
    _root_.Ffn.Claims.kernel, _root_.Ffn.Claims.ideal, _root_.Ffn.Claims.reference,
    _root_.HgIn.Claims.kernel, _root_.HgIn.Claims.ideal, _root_.HgIn.Claims.reference,
    _root_.GdIn.Claims.kernel, _root_.GdIn.Claims.ideal, _root_.GdIn.Claims.reference,
    _root_.HyIn.Claims.kernel, _root_.HyIn.Claims.ideal, _root_.HyIn.Claims.reference,
    _root_.SwIn.Claims.kernel, _root_.SwIn.Claims.ideal, _root_.SwIn.Claims.reference,
    _root_.Out.Claims.kernel, _root_.Out.Claims.ideal, _root_.Out.Claims.reference,
    _root_.Mod.Claims.kernel, _root_.Mod.Claims.ideal, _root_.Mod.Claims.reference,
    _root_.Swa.Claims.preserves, Cert.SwaIdeal.Blocks.algebraic, trivial, Cert.FfnIdeal.Blocks.algebraic,
    trivial, Cert.HgInIdeal.Blocks.algebraic,
    trivial, Cert.GdInIdeal.Blocks.algebraic, trivial, Cert.HyInIdeal.Blocks.algebraic, trivial, Cert.SwInIdeal.Blocks.algebraic,
    trivial, Cert.OutIdeal.Blocks.algebraic, trivial, Cert.ModIdeal.Blocks.algebraic⟩

end Cert.Proof

end
